-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11)) (m ((c.tc : Thread Cert.Kernel9Ideal.nD Cert.Kernel9Ideal.τ).loc Cert.Kernel9Ideal.main_arg12))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11)) (m ((c.tc : Thread Cert.Reference9Ideal.nD Cert.Reference9Ideal.τ).loc Cert.Reference9Ideal.main_arg12))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Kernel24Ideal_finite24 [hPre_finite24 : Cert.Pre_finite24.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1))) = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_finite24 [hPre_finite24 : Cert.Pre_finite24.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1))) = (fun _ => 1#1)

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11)
      ∧ r.2.mem ((c.tc : Thread Cert.Kernel9.nD Cert.Kernel9.τ).loc Cert.Kernel9.main_arg12) = m ((c.tc : Thread Cert.Kernel9.nD Cert.Kernel9.τ).loc Cert.Kernel9.main_arg12))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Kernel24Ideal_pre_finite24 [hKernel24Ideal : Cert.Kernel24Ideal.Facts] [hPre_finite24 : Cert.Pre_finite24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal_finite24 m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Reference24Ideal_pre_finite24 [hReference24Ideal : Cert.Reference24Ideal.Facts] [hPre_finite24 : Cert.Pre_finite24.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_finite24 m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)) (v2 : (c : Dev Cert.KernelIdeal.nD) → Buf (Elt Ideal) ((c.tc : Thread Cert.KernelIdeal.nD Cert.KernelIdeal.τ).loc Cert.KernelIdeal.main_v51_2)) (v3 : (c : Dev Cert.KernelIdeal.nD) → Buf (Elt Ideal) ((c.tc : Thread Cert.KernelIdeal.nD Cert.KernelIdeal.τ).loc Cert.KernelIdeal.main_v51_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_v51_2) = v2 c
          ∧ r.2.mem ((c.tc : Thread Cert.KernelIdeal.nD Cert.KernelIdeal.τ).loc Cert.KernelIdeal.main_v51_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_v147) = v1 c
          ∧ r.2.mem ((c.tc : Thread Cert.ReferenceIdeal.nD Cert.ReferenceIdeal.τ).loc Cert.ReferenceIdeal.main_v161) = v2 c
          ∧ r.2.mem ((c.tc : Thread Cert.ReferenceIdeal.nD Cert.ReferenceIdeal.τ).loc Cert.ReferenceIdeal.main_v162) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)
      ∧ m' ((c.tc : Thread Cert.Reference9Ideal.nD Cert.Reference9Ideal.τ).loc Cert.Reference9Ideal.main_arg12) = m ((c.tc : Thread Cert.Kernel9Ideal.nD Cert.Kernel9Ideal.τ).loc Cert.Kernel9Ideal.main_arg12)) →
    ∃ (v0 : (c : Dev Cert.Kernel9Ideal.nD) → Buf (Elt Ideal) ((c.tc : Thread Cert.Kernel9Ideal.nD Cert.Kernel9Ideal.τ).loc Cert.Kernel9Ideal.main_v43_0)) (v1 : (c : Dev Cert.Kernel9Ideal.nD) → Buf (Elt Ideal) ((c.tc : Thread Cert.Kernel9Ideal.nD Cert.Kernel9Ideal.τ).loc Cert.Kernel9Ideal.main_v43_1)) (v2 : (c : Dev Cert.Kernel9Ideal.nD) → Buf (Elt Ideal) ((c.tc : Thread Cert.Kernel9Ideal.nD Cert.Kernel9Ideal.τ).loc Cert.Kernel9Ideal.main_v43_2)) (v3 : (c : Dev Cert.Kernel9Ideal.nD) → Buf (Elt Ideal) ((c.tc : Thread Cert.Kernel9Ideal.nD Cert.Kernel9Ideal.τ).loc Cert.Kernel9Ideal.main_v43_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v43_0) = v0 c
          ∧ r.2.mem ((c.tc : Thread Cert.Kernel9Ideal.nD Cert.Kernel9Ideal.τ).loc Cert.Kernel9Ideal.main_v43_1) = v1 c
          ∧ r.2.mem ((c.tc : Thread Cert.Kernel9Ideal.nD Cert.Kernel9Ideal.τ).loc Cert.Kernel9Ideal.main_v43_2) = v2 c
          ∧ r.2.mem ((c.tc : Thread Cert.Kernel9Ideal.nD Cert.Kernel9Ideal.τ).loc Cert.Kernel9Ideal.main_v43_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
          ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v123) = v0 c
          ∧ r.2.mem ((c.tc : Thread Cert.Reference9Ideal.nD Cert.Reference9Ideal.τ).loc Cert.Reference9Ideal.main_v110) = v1 c
          ∧ r.2.mem ((c.tc : Thread Cert.Reference9Ideal.nD Cert.Reference9Ideal.τ).loc Cert.Reference9Ideal.main_v124) = v2 c
          ∧ r.2.mem ((c.tc : Thread Cert.Reference9Ideal.nD Cert.Reference9Ideal.τ).loc Cert.Reference9Ideal.main_v126) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11)
          ∧ r.2.mem ((c.tc : Thread Cert.Reference9Ideal.nD Cert.Reference9Ideal.τ).loc Cert.Reference9Ideal.main_arg12) = m' ((c.tc : Thread Cert.Reference9Ideal.nD Cert.Reference9Ideal.τ).loc Cert.Reference9Ideal.main_arg12))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)) (v2 : (c : Dev Cert.Kernel11Ideal.nD) → Buf (Elt Ideal) ((c.tc : Thread Cert.Kernel11Ideal.nD Cert.Kernel11Ideal.τ).loc Cert.Kernel11Ideal.main_v2_2)) (v3 : (c : Dev Cert.Kernel11Ideal.nD) → Buf (Elt Ideal) ((c.tc : Thread Cert.Kernel11Ideal.nD Cert.Kernel11Ideal.τ).loc Cert.Kernel11Ideal.main_v2_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_v2_2) = v2 c
          ∧ r.2.mem ((c.tc : Thread Cert.Kernel11Ideal.nD Cert.Kernel11Ideal.τ).loc Cert.Kernel11Ideal.main_v2_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v44) = v1 c
          ∧ r.2.mem ((c.tc : Thread Cert.Reference11Ideal.nD Cert.Reference11Ideal.τ).loc Cert.Reference11Ideal.main_v45) = v2 c
          ∧ r.2.mem ((c.tc : Thread Cert.Reference11Ideal.nD Cert.Reference11Ideal.τ).loc Cert.Reference11Ideal.main_v52) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v14)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v14) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v15) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v14)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v14) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v14) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)) →
    ∃ (v0 : (c : Dev Cert.Kernel10Ideal.nD) → Buf (Elt Ideal) ((c.tc : Thread Cert.Kernel10Ideal.nD Cert.Kernel10Ideal.τ).loc Cert.Kernel10Ideal.main_v77_0)) (v1 : (c : Dev Cert.Kernel10Ideal.nD) → Buf (Elt Ideal) ((c.tc : Thread Cert.Kernel10Ideal.nD Cert.Kernel10Ideal.τ).loc Cert.Kernel10Ideal.main_v77_1)) (v2 : (c : Dev Cert.Kernel10Ideal.nD) → Buf (Elt Ideal) ((c.tc : Thread Cert.Kernel10Ideal.nD Cert.Kernel10Ideal.τ).loc Cert.Kernel10Ideal.main_v77_2)) (v3 : (c : Dev Cert.Kernel10Ideal.nD) → Buf (Elt Ideal) ((c.tc : Thread Cert.Kernel10Ideal.nD Cert.Kernel10Ideal.τ).loc Cert.Kernel10Ideal.main_v77_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v77_0) = v0 c
          ∧ r.2.mem ((c.tc : Thread Cert.Kernel10Ideal.nD Cert.Kernel10Ideal.τ).loc Cert.Kernel10Ideal.main_v77_1) = v1 c
          ∧ r.2.mem ((c.tc : Thread Cert.Kernel10Ideal.nD Cert.Kernel10Ideal.τ).loc Cert.Kernel10Ideal.main_v77_2) = v2 c
          ∧ r.2.mem ((c.tc : Thread Cert.Kernel10Ideal.nD Cert.Kernel10Ideal.τ).loc Cert.Kernel10Ideal.main_v77_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v164) = v0 c
          ∧ r.2.mem ((c.tc : Thread Cert.Reference10Ideal.nD Cert.Reference10Ideal.τ).loc Cert.Reference10Ideal.main_v165) = v1 c
          ∧ r.2.mem ((c.tc : Thread Cert.Reference10Ideal.nD Cert.Reference10Ideal.τ).loc Cert.Reference10Ideal.main_v166) = v2 c
          ∧ r.2.mem ((c.tc : Thread Cert.Reference10Ideal.nD Cert.Reference10Ideal.τ).loc Cert.Reference10Ideal.main_v167) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v6) = v2 c
          ∧ r.2.mem ((c.tc : Thread Cert.Reference14Ideal.nD Cert.Reference14Ideal.τ).loc Cert.Reference14Ideal.main_v12) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_v12) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_v26) = v1 c
          ∧ r.2.mem ((c.tc : Thread Cert.Reference19Ideal.nD Cert.Reference19Ideal.τ).loc Cert.Reference19Ideal.main_v7) = v2 c
          ∧ r.2.mem ((c.tc : Thread Cert.Reference19Ideal.nD Cert.Reference19Ideal.τ).loc Cert.Reference19Ideal.main_v13) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)) (v2 : (c : Dev Cert.Kernel20Ideal.nD) → Buf (Elt Ideal) ((c.tc : Thread Cert.Kernel20Ideal.nD Cert.Kernel20Ideal.τ).loc Cert.Kernel20Ideal.main_v1_2)) (v3 : (c : Dev Cert.Kernel20Ideal.nD) → Buf (Elt Ideal) ((c.tc : Thread Cert.Kernel20Ideal.nD Cert.Kernel20Ideal.τ).loc Cert.Kernel20Ideal.main_v1_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_v1_2) = v2 c
          ∧ r.2.mem ((c.tc : Thread Cert.Kernel20Ideal.nD Cert.Kernel20Ideal.τ).loc Cert.Kernel20Ideal.main_v1_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_v26) = v1 c
          ∧ r.2.mem ((c.tc : Thread Cert.Reference20Ideal.nD Cert.Reference20Ideal.τ).loc Cert.Reference20Ideal.main_v7) = v2 c
          ∧ r.2.mem ((c.tc : Thread Cert.Reference20Ideal.nD Cert.Reference20Ideal.τ).loc Cert.Reference20Ideal.main_v13) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)) →
    ∃ (v0 : (c : Dev Cert.Kernel21Ideal.nD) → Buf (Elt Ideal) ((c.tc : Thread Cert.Kernel21Ideal.nD Cert.Kernel21Ideal.τ).loc Cert.Kernel21Ideal.main_v3_0)) (v1 : (c : Dev Cert.Kernel21Ideal.nD) → Buf (Elt Ideal) ((c.tc : Thread Cert.Kernel21Ideal.nD Cert.Kernel21Ideal.τ).loc Cert.Kernel21Ideal.main_v3_1)) (v2 : (c : Dev Cert.Kernel21Ideal.nD) → Buf (Elt Ideal) ((c.tc : Thread Cert.Kernel21Ideal.nD Cert.Kernel21Ideal.τ).loc Cert.Kernel21Ideal.main_v3_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v3_0) = v0 c
          ∧ r.2.mem ((c.tc : Thread Cert.Kernel21Ideal.nD Cert.Kernel21Ideal.τ).loc Cert.Kernel21Ideal.main_v3_1) = v1 c
          ∧ r.2.mem ((c.tc : Thread Cert.Kernel21Ideal.nD Cert.Kernel21Ideal.τ).loc Cert.Kernel21Ideal.main_v3_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v19) = v0 c
          ∧ r.2.mem ((c.tc : Thread Cert.Reference21Ideal.nD Cert.Reference21Ideal.τ).loc Cert.Reference21Ideal.main_v14) = v1 c
          ∧ r.2.mem ((c.tc : Thread Cert.Reference21Ideal.nD Cert.Reference21Ideal.τ).loc Cert.Reference21Ideal.main_v11) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_v0) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal_pre_finite24 [hKernel24Ideal : Cert.Kernel24Ideal.Facts] [hReference24Ideal : Cert.Reference24Ideal.Facts] [hPre_finite24 : Cert.Pre_finite24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal_finite24 m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_v20) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_v24) = v1 c
          ∧ r.2.mem ((c.tc : Thread Cert.Reference25Ideal.nD Cert.Reference25Ideal.τ).loc Cert.Reference25Ideal.main_v5) = v2 c
          ∧ r.2.mem ((c.tc : Thread Cert.Reference25Ideal.nD Cert.Reference25Ideal.τ).loc Cert.Reference25Ideal.main_v11) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel10 : Cert.Kernel10.Facts) (hKernel10Ideal : Cert.Kernel10Ideal.Facts) (hReference10Ideal : Cert.Reference10Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts) (hPre_finite9 : Cert.Pre_finite9.Facts) (hPre_finite10 : Cert.Pre_finite10.Facts) (hPre_finite24 : Cert.Pre_finite24.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Kernel24Ideal_pre_finite24 (hKernel24Ideal := hKernel24Ideal) (hPre_finite24 := hPre_finite24)
    ∧ quiescent_Reference24Ideal (hReference24Ideal := hReference24Ideal)
    ∧ quiescent_Reference24Ideal_pre_finite24 (hReference24Ideal := hReference24Ideal) (hPre_finite24 := hPre_finite24)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal_pre_finite24 (hKernel24Ideal := hKernel24Ideal) (hReference24Ideal := hReference24Ideal) (hPre_finite24 := hPre_finite24)
    ∧ preserves_Kernel25_Kernel25Ideal
    ∧ algebraic_Kernel25Ideal_Reference25Ideal (hKernel25Ideal := hKernel25Ideal) (hReference25Ideal := hReference25Ideal)
-- ==== Pre_finite.lean ====
abbrev S4096x1024 : Shape := ⟨2, ![4096, 1024]⟩
abbrev S1024x4096 : Shape := ⟨2, ![1024, 4096]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part3 {F : FTy → Type} [FloatOps F] (main_v49 : IVec S_ 1) (main_v50 : FVec F S4096x1024 .f32) : IVec S_ 1 :=
  let main_cst_19 : FVec F S_ .f32 := constant S_ .f32 0x7F800000#32
  let main_v51 : FVec F S4096x1024 .f32 := broadcastInDim S4096x1024 ![] bcast_S_S4096x1024 main_cst_19
  let main_v52 : IVec S4096x1024 1 := cmpf .olt main_v50 main_v51
  let main_c_20 : IVec S_ 1 := constantI S_ 1 1#1
  let main_v53 : IVec S_ 1 := (fun x v => Host.reduce IntOp.andi x v reducesTo_S4096x1024_S_d0_1 h_S_) main_v52 main_c_20
  let main_v54 : IVec S_ 1 := andi main_v49 main_v53
  main_v54

def fn_part2 {F : FTy → Type} [FloatOps F] (main_arg7 : FVec F S1x1024 .f32) (main_arg8 : FVec F S1x1024 .f32) (main_arg9 : FVec F S1x1024 .f32) (main_arg10 : FVec F S4096x1024 .f32) (main_v29 : IVec S_ 1) (main_v32 : IVec S1x1024 1) (main_c_12 : IVec S_ 1) : IVec S_ 1 :=
  let main_v33 : IVec S_ 1 := (fun x v => Host.reduce IntOp.andi x v reducesTo_S1x1024_S_d0_1 h_S_) main_v32 main_c_12
  let main_v34 : IVec S_ 1 := andi main_v29 main_v33
  let main_v35 : FVec F S1x1024 .f32 := Host.absf main_arg7
  let main_cst_13 : FVec F S_ .f32 := constant S_ .f32 0x7F800000#32
  let main_v36 : FVec F S1x1024 .f32 := broadcastInDim S1x1024 ![] bcast_S_S1x1024 main_cst_13
  let main_v37 : IVec S1x1024 1 := cmpf .olt main_v35 main_v36
  let main_c_14 : IVec S_ 1 := constantI S_ 1 1#1
  let main_v38 : IVec S_ 1 := (fun x v => Host.reduce IntOp.andi x v reducesTo_S1x1024_S_d0_1 h_S_) main_v37 main_c_14
  let main_v39 : IVec S_ 1 := andi main_v34 main_v38
  let main_v40 : FVec F S1x1024 .f32 := Host.absf main_arg8
  let main_cst_15 : FVec F S_ .f32 := constant S_ .f32 0x7F800000#32
  let main_v41 : FVec F S1x1024 .f32 := broadcastInDim S1x1024 ![] bcast_S_S1x1024 main_cst_15
  let main_v42 : IVec S1x1024 1 := cmpf .olt main_v40 main_v41
  let main_c_16 : IVec S_ 1 := constantI S_ 1 1#1
  let main_v43 : IVec S_ 1 := (fun x v => Host.reduce IntOp.andi x v reducesTo_S1x1024_S_d0_1 h_S_) main_v42 main_c_16
  let main_v44 : IVec S_ 1 := andi main_v39 main_v43
  let main_v45 : FVec F S1x1024 .f32 := Host.absf main_arg9
  let main_cst_17 : FVec F S_ .f32 := constant S_ .f32 0x7F800000#32
  let main_v46 : FVec F S1x1024 .f32 := broadcastInDim S1x1024 ![] bcast_S_S1x1024 main_cst_17
  let main_v47 : IVec S1x1024 1 := cmpf .olt main_v45 main_v46
  let main_c_18 : IVec S_ 1 := constantI S_ 1 1#1
  let main_v48 : IVec S_ 1 := (fun x v => Host.reduce IntOp.andi x v reducesTo_S1x1024_S_d0_1 h_S_) main_v47 main_c_18
  let main_v49 : IVec S_ 1 := andi main_v44 main_v48
  let main_v50 : FVec F S4096x1024 .f32 := Host.absf main_arg10
  fn_part3 (F := F) main_v49 main_v50

def fn_part1 {F : FTy → Type} [FloatOps F] (main_arg4 : FVec F S1x1024 .f32) (main_arg5 : FVec F S1x1024 .f32) (main_arg6 : FVec F S1x1024 .f32) (main_arg7 : FVec F S1x1024 .f32) (main_arg8 : FVec F S1x1024 .f32) (main_arg9 : FVec F S1x1024 .f32) (main_arg10 : FVec F S4096x1024 .f32) (main_v14 : IVec S_ 1) (main_v15 : FVec F S4096x1024 .f32) (main_cst_5 : FVec F S_ .f32) : IVec S_ 1 :=
  let main_v16 : FVec F S4096x1024 .f32 := broadcastInDim S4096x1024 ![] bcast_S_S4096x1024 main_cst_5
  let main_v17 : IVec S4096x1024 1 := cmpf .olt main_v15 main_v16
  let main_c_6 : IVec S_ 1 := constantI S_ 1 1#1
  let main_v18 : IVec S_ 1 := (fun x v => Host.reduce IntOp.andi x v reducesTo_S4096x1024_S_d0_1 h_S_) main_v17 main_c_6
  let main_v19 : IVec S_ 1 := andi main_v14 main_v18
  let main_v20 : FVec F S1x1024 .f32 := Host.absf main_arg4
  let main_cst_7 : FVec F S_ .f32 := constant S_ .f32 0x7F800000#32
  let main_v21 : FVec F S1x1024 .f32 := broadcastInDim S1x1024 ![] bcast_S_S1x1024 main_cst_7
  let main_v22 : IVec S1x1024 1 := cmpf .olt main_v20 main_v21
  let main_c_8 : IVec S_ 1 := constantI S_ 1 1#1
  let main_v23 : IVec S_ 1 := (fun x v => Host.reduce IntOp.andi x v reducesTo_S1x1024_S_d0_1 h_S_) main_v22 main_c_8
  let main_v24 : IVec S_ 1 := andi main_v19 main_v23
  let main_v25 : FVec F S1x1024 .f32 := Host.absf main_arg5
  let main_cst_9 : FVec F S_ .f32 := constant S_ .f32 0x7F800000#32
  let main_v26 : FVec F S1x1024 .f32 := broadcastInDim S1x1024 ![] bcast_S_S1x1024 main_cst_9
  let main_v27 : IVec S1x1024 1 := cmpf .olt main_v25 main_v26
  let main_c_10 : IVec S_ 1 := constantI S_ 1 1#1
  let main_v28 : IVec S_ 1 := (fun x v => Host.reduce IntOp.andi x v reducesTo_S1x1024_S_d0_1 h_S_) main_v27 main_c_10
  let main_v29 : IVec S_ 1 := andi main_v24 main_v28
  let main_v30 : FVec F S1x1024 .f32 := Host.absf main_arg6
  let main_cst_11 : FVec F S_ .f32 := constant S_ .f32 0x7F800000#32
  let main_v31 : FVec F S1x1024 .f32 := broadcastInDim S1x1024 ![] bcast_S_S1x1024 main_cst_11
  let main_v32 : IVec S1x1024 1 := cmpf .olt main_v30 main_v31
  let main_c_12 : IVec S_ 1 := constantI S_ 1 1#1
  fn_part2 (F := F) main_arg7 main_arg8 main_arg9 main_arg10 main_v29 main_v32 main_c_12

def fn {F : FTy → Type} [FloatOps F] (main_arg0 : FVec F S4096x1024 .f32) (main_arg1 : FVec F S4096x1024 .f32) (main_arg2 : FVec F S1024x4096 .f32) (main_arg3 : FVec F S4096x1024 .f32) (main_arg4 : FVec F S1x1024 .f32) (main_arg5 : FVec F S1x1024 .f32) (main_arg6 : FVec F S1x1024 .f32) (main_arg7 : FVec F S1x1024 .f32) (main_arg8 : FVec F S1x1024 .f32) (main_arg9 : FVec F S1x1024 .f32) (main_arg10 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S4096x1024 .f32 := Host.absf main_arg1
  let main_cst_1 : FVec F S_ .f32 := constant S_ .f32 0x7F800000#32
  let main_v6 : FVec F S4096x1024 .f32 := broadcastInDim S4096x1024 ![] bcast_S_S4096x1024 main_cst_1
  let main_v7 : IVec S4096x1024 1 := cmpf .olt main_v5 main_v6
  let main_c_2 : IVec S_ 1 := constantI S_ 1 1#1
  let main_v8 : IVec S_ 1 := (fun x v => Host.reduce IntOp.andi x v reducesTo_S4096x1024_S_d0_1 h_S_) main_v7 main_c_2
  let main_v9 : IVec S_ 1 := andi main_v4 main_v8
  let main_v10 : FVec F S1024x4096 .f32 := Host.absf main_arg2
  let main_cst_3 : FVec F S_ .f32 := constant S_ .f32 0x7F800000#32
  let main_v11 : FVec F S1024x4096 .f32 := broadcastInDim S1024x4096 ![] bcast_S_S1024x4096 main_cst_3
  let main_v12 : IVec S1024x4096 1 := cmpf .olt main_v10 main_v11
  let main_c_4 : IVec S_ 1 := constantI S_ 1 1#1
  let main_v13 : IVec S_ 1 := (fun x v => Host.reduce IntOp.andi x v reducesTo_S1024x4096_S_d0_1 h_S_) main_v12 main_c_4
  let main_v14 : IVec S_ 1 := andi main_v9 main_v13
  let main_v15 : FVec F S4096x1024 .f32 := Host.absf main_arg3
  let main_cst_5 : FVec F S_ .f32 := constant S_ .f32 0x7F800000#32
  fn_part1 (F := F) main_arg4 main_arg5 main_arg6 main_arg7 main_arg8 main_arg9 main_arg10 main_v14 main_v15 main_cst_5
-- ==== Pre_finite10.lean ====
abbrev S4096x256 : Shape := ⟨2, ![4096, 256]⟩
abbrev S4096x32 : Shape := ⟨2, ![4096, 32]⟩
abbrev S1x256 : Shape := ⟨2, ![1, 256]⟩
abbrev S256x768 : Shape := ⟨2, ![256, 768]⟩
abbrev S256x1024 : Shape := ⟨2, ![256, 1024]⟩
abbrev S4x4096x192 : Shape := ⟨3, ![4, 4096, 192]⟩
abbrev S4x4096x128 : Shape := ⟨3, ![4, 4096, 128]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S1x256 : S_.BroadcastsInDim S1x256 (![] : Fin 0 → Fin S1x256.rank)
  reducesTo_S1x256_S_d0_1 : S1x256.ReducesTo [0, 1] S_
  bcast_S_S256x768 : S_.BroadcastsInDim S256x768 (![] : Fin 0 → Fin S256x768.rank)
  reducesTo_S256x768_S_d0_1 : S256x768.ReducesTo [0, 1] S_
  bcast_S_S256x1024 : S_.BroadcastsInDim S256x1024 (![] : Fin 0 → Fin S256x1024.rank)
  reducesTo_S256x1024_S_d0_1 : S256x1024.ReducesTo [0, 1] S_
  bcast_S_S4x4096x192 : S_.BroadcastsInDim S4x4096x192 (![] : Fin 0 → Fin S4x4096x192.rank)
  reducesTo_S4x4096x192_S_d0_1_2 : S4x4096x192.ReducesTo [0, 1, 2] S_
  bcast_S_S4x4096x128 : S_.BroadcastsInDim S4x4096x128 (![] : Fin 0 → Fin S4x4096x128.rank)
  reducesTo_S4x4096x128_S_d0_1_2 : S4x4096x128.ReducesTo [0, 1, 2] S_

variable [Facts]

def fn_part3 {F : FTy → Type} [FloatOps F] (main_v49 : IVec S_ 1) (main_v50 : FVec F S4x4096x128 .f32) : IVec S_ 1 :=
  let main_cst_19 : FVec F S_ .f32 := constant S_ .f32 0x7F800000#32
  let main_v51 : FVec F S4x4096x128 .f32 := broadcastInDim S4x4096x128 ![] bcast_S_S4x4096x128 main_cst_19
  let main_v52 : IVec S4x4096x128 1 := cmpf .olt main_v50 main_v51
  let main_c_20 : IVec S_ 1 := constantI S_ 1 1#1
  let main_v53 : IVec S_ 1 := (fun x v => Host.reduce IntOp.andi x v reducesTo_S4x4096x128_S_d0_1_2 h_S_) main_v52 main_c_20
  let main_v54 : IVec S_ 1 := andi main_v49 main_v53
  main_v54

def fn_part2 {F : FTy → Type} [FloatOps F] (main_arg7 : FVec F S256x1024 .f32) (main_arg8 : FVec F S4x4096x192 .f32) (main_arg9 : FVec F S4x4096x192 .f32) (main_arg10 : FVec F S4x4096x128 .f32) (main_v29 : IVec S_ 1) (main_v32 : IVec S256x768 1) (main_c_12 : IVec S_ 1) : IVec S_ 1 :=
  let main_v33 : IVec S_ 1 := (fun x v => Host.reduce IntOp.andi x v reducesTo_S256x768_S_d0_1 h_S_) main_v32 main_c_12
  let main_v34 : IVec S_ 1 := andi main_v29 main_v33
  let main_v35 : FVec F S256x1024 .f32 := Host.absf main_arg7
  let main_cst_13 : FVec F S_ .f32 := constant S_ .f32 0x7F800000#32
  let main_v36 : FVec F S256x1024 .f32 := broadcastInDim S256x1024 ![] bcast_S_S256x1024 main_cst_13
  let main_v37 : IVec S256x1024 1 := cmpf .olt main_v35 main_v36
  let main_c_14 : IVec S_ 1 := constantI S_ 1 1#1
  let main_v38 : IVec S_ 1 := (fun x v => Host.reduce IntOp.andi x v reducesTo_S256x1024_S_d0_1 h_S_) main_v37 main_c_14
  let main_v39 : IVec S_ 1 := andi main_v34 main_v38
  let main_v40 : FVec F S4x4096x192 .f32 := Host.absf main_arg8
  let main_cst_15 : FVec F S_ .f32 := constant S_ .f32 0x7F800000#32
  let main_v41 : FVec F S4x4096x192 .f32 := broadcastInDim S4x4096x192 ![] bcast_S_S4x4096x192 main_cst_15
  let main_v42 : IVec S4x4096x192 1 := cmpf .olt main_v40 main_v41
  let main_c_16 : IVec S_ 1 := constantI S_ 1 1#1
  let main_v43 : IVec S_ 1 := (fun x v => Host.reduce IntOp.andi x v reducesTo_S4x4096x192_S_d0_1_2 h_S_) main_v42 main_c_16
  let main_v44 : IVec S_ 1 := andi main_v39 main_v43
  let main_v45 : FVec F S4x4096x192 .f32 := Host.absf main_arg9
  let main_cst_17 : FVec F S_ .f32 := constant S_ .f32 0x7F800000#32
  let main_v46 : FVec F S4x4096x192 .f32 := broadcastInDim S4x4096x192 ![] bcast_S_S4x4096x192 main_cst_17
  let main_v47 : IVec S4x4096x192 1 := cmpf .olt main_v45 main_v46
  let main_c_18 : IVec S_ 1 := constantI S_ 1 1#1
  let main_v48 : IVec S_ 1 := (fun x v => Host.reduce IntOp.andi x v reducesTo_S4x4096x192_S_d0_1_2 h_S_) main_v47 main_c_18
  let main_v49 : IVec S_ 1 := andi main_v44 main_v48
  let main_v50 : FVec F S4x4096x128 .f32 := Host.absf main_arg10
  fn_part3 (F := F) main_v49 main_v50

def fn_part1 {F : FTy → Type} [FloatOps F] (main_arg4 : FVec F S1x256 .f32) (main_arg5 : FVec F S1x256 .f32) (main_arg6 : FVec F S256x768 .f32) (main_arg7 : FVec F S256x1024 .f32) (main_arg8 : FVec F S4x4096x192 .f32) (main_arg9 : FVec F S4x4096x192 .f32) (main_arg10 : FVec F S4x4096x128 .f32) (main_v14 : IVec S_ 1) (main_v15 : FVec F S4096x32 .f32) (main_cst_5 : FVec F S_ .f32) : IVec S_ 1 :=
  let main_v16 : FVec F S4096x32 .f32 := broadcastInDim S4096x32 ![] bcast_S_S4096x32 main_cst_5
  let main_v17 : IVec S4096x32 1 := cmpf .olt main_v15 main_v16
  let main_c_6 : IVec S_ 1 := constantI S_ 1 1#1
  let main_v18 : IVec S_ 1 := (fun x v => Host.reduce IntOp.andi x v reducesTo_S4096x32_S_d0_1 h_S_) main_v17 main_c_6
  let main_v19 : IVec S_ 1 := andi main_v14 main_v18
  let main_v20 : FVec F S1x256 .f32 := Host.absf main_arg4
  let main_cst_7 : FVec F S_ .f32 := constant S_ .f32 0x7F800000#32
  let main_v21 : FVec F S1x256 .f32 := broadcastInDim S1x256 ![] bcast_S_S1x256 main_cst_7
  let main_v22 : IVec S1x256 1 := cmpf .olt main_v20 main_v21
  let main_c_8 : IVec S_ 1 := constantI S_ 1 1#1
  let main_v23 : IVec S_ 1 := (fun x v => Host.reduce IntOp.andi x v reducesTo_S1x256_S_d0_1 h_S_) main_v22 main_c_8
  let main_v24 : IVec S_ 1 := andi main_v19 main_v23
  let main_v25 : FVec F S1x256 .f32 := Host.absf main_arg5
  let main_cst_9 : FVec F S_ .f32 := constant S_ .f32 0x7F800000#32
  let main_v26 : FVec F S1x256 .f32 := broadcastInDim S1x256 ![] bcast_S_S1x256 main_cst_9
  let main_v27 : IVec S1x256 1 := cmpf .olt main_v25 main_v26
  let main_c_10 : IVec S_ 1 := constantI S_ 1 1#1
  let main_v28 : IVec S_ 1 := (fun x v => Host.reduce IntOp.andi x v reducesTo_S1x256_S_d0_1 h_S_) main_v27 main_c_10
  let main_v29 : IVec S_ 1 := andi main_v24 main_v28
  let main_v30 : FVec F S256x768 .f32 := Host.absf main_arg6
  let main_cst_11 : FVec F S_ .f32 := constant S_ .f32 0x7F800000#32
  let main_v31 : FVec F S256x768 .f32 := broadcastInDim S256x768 ![] bcast_S_S256x768 main_cst_11
  let main_v32 : IVec S256x768 1 := cmpf .olt main_v30 main_v31
  let main_c_12 : IVec S_ 1 := constantI S_ 1 1#1
  fn_part2 (F := F) main_arg7 main_arg8 main_arg9 main_arg10 main_v29 main_v32 main_c_12

def fn {F : FTy → Type} [FloatOps F] (main_arg0 : FVec F S4096x256 .f32) (main_arg1 : FVec F S4096x256 .f32) (main_arg2 : FVec F S4096x32 .f32) (main_arg3 : FVec F S4096x32 .f32) (main_arg4 : FVec F S1x256 .f32) (main_arg5 : FVec F S1x256 .f32) (main_arg6 : FVec F S256x768 .f32) (main_arg7 : FVec F S256x1024 .f32) (main_arg8 : FVec F S4x4096x192 .f32) (main_arg9 : FVec F S4x4096x192 .f32) (main_arg10 : FVec F S4x4096x128 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_c_0 : IVec S_ 1 := constantI S_ 1 1#1
  let main_v4 : IVec S_ 1 := andi main_c_0 main_v3
  let main_v5 : FVec F S4096x256 .f32 := Host.absf main_arg1
  let main_cst_1 : FVec F S_ .f32 := constant S_ .f32 0x7F800000#32
  let main_v6 : FVec F S4096x256 .f32 := broadcastInDim S4096x256 ![] bcast_S_S4096x256 main_cst_1
  let main_v7 : IVec S4096x256 1 := cmpf .olt main_v5 main_v6
  let main_c_2 : IVec S_ 1 := constantI S_ 1 1#1
  let main_v8 : IVec S_ 1 := (fun x v => Host.reduce IntOp.andi x v reducesTo_S4096x256_S_d0_1 h_S_) main_v7 main_c_2
  let main_v9 : IVec S_ 1 := andi main_v4 main_v8
  let main_v10 : FVec F S4096x32 .f32 := Host.absf main_arg2
  let main_cst_3 : FVec F S_ .f32 := constant S_ .f32 0x7F800000#32
  let main_v11 : FVec F S4096x32 .f32 := broadcastInDim S4096x32 ![] bcast_S_S4096x32 main_cst_3
  let main_v12 : IVec S4096x32 1 := cmpf .olt main_v10 main_v11
  let main_c_4 : IVec S_ 1 := constantI S_ 1 1#1
  let main_v13 : IVec S_ 1 := (fun x v => Host.reduce IntOp.andi x v reducesTo_S4096x32_S_d0_1 h_S_) main_v12 main_c_4
  let main_v14 : IVec S_ 1 := andi main_v9 main_v13
  let main_v15 : FVec F S4096x32 .f32 := Host.absf main_arg3
  let main_cst_5 : FVec F S_ .f32 := constant S_ .f32 0x7F800000#32
  fn_part1 (F := F) main_arg4 main_arg5 main_arg6 main_arg7 main_arg8 main_arg9 main_arg10 main_v14 main_v15 main_cst_5
-- ==== Pre_finite24.lean ====
abbrev S8x1x11904 : Shape := ⟨3, ![8, 1, 11904]⟩
abbrev S2x512 : Shape := ⟨2, ![2, 512]⟩
abbrev S_ : Shape := ⟨0, ![]⟩

class Facts : Prop where
  bcast_S_S8x1x11904 : S_.BroadcastsInDim S8x1x11904 (![] : Fin 0 → Fin S8x1x11904.rank)
  reducesTo_S8x1x11904_S_d0_1_2 : S8x1x11904.ReducesTo [0, 1, 2] S_
  h_S_ : 0 < S_.numel
  bcast_S_S2x512 : S_.BroadcastsInDim S2x512 (![] : Fin 0 → Fin S2x512.rank)
  reducesTo_S2x512_S_d0_1 : S2x512.ReducesTo [0, 1] S_

variable [Facts]

def fn {F : FTy → Type} [FloatOps F] (main_arg0 : FVec F S8x1x11904 .f32) (main_arg1 : FVec F S2x512 .f32) : IVec S_ 1 :=
  let main_v0 : FVec F S8x1x11904 .f32 := Host.absf main_arg0
  let main_cst : FVec F S_ .f32 := constant S_ .f32 0x7F800000#32
  let main_v1 : FVec F S8x1x11904 .f32 := broadcastInDim S8x1x11904 ![] bcast_S_S8x1x11904 main_cst
  let main_v2 : IVec S8x1x11904 1 := cmpf .olt main_v0 main_v1
  let main_c : IVec S_ 1 := constantI S_ 1 1#1
  let main_v3 : IVec S_ 1 := (fun x v => Host.reduce IntOp.andi x v reducesTo_S8x1x11904_S_d0_1_2 h_S_) main_v2 main_c
  let main_v4 : FVec F S2x512 .f32 := Host.absf main_arg1
  let main_cst_0 : FVec F S_ .f32 := constant S_ .f32 0x7F800000#32
  let main_v5 : FVec F S2x512 .f32 := broadcastInDim S2x512 ![] bcast_S_S2x512 main_cst_0
  let main_v6 : IVec S2x512 1 := cmpf .olt main_v4 main_v5
  let main_c_1 : IVec S_ 1 := constantI S_ 1 1#1
  let main_v7 : IVec S_ 1 := (fun x v => Host.reduce IntOp.andi x v reducesTo_S2x512_S_d0_1 h_S_) main_v6 main_c_1
  let main_v8 : IVec S_ 1 := andi main_v3 main_v7
  main_v8
-- ==== Pre_finite9.lean ====
abbrev S4096x1024 : Shape := ⟨2, ![4096, 1024]⟩
abbrev S1024x4096 : Shape := ⟨2, ![1024, 4096]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part3 {F : FTy → Type} [FloatOps F] (main_arg11 : FVec F S1x1024 .f32) (main_arg12 : FVec F S4096x1024 .f32) (main_v49 : IVec S_ 1) (main_v50 : FVec F S1x1024 .f32) : IVec S_ 1 :=
  let main_cst_19 : FVec F S_ .f32 := constant S_ .f32 0x7F800000#32
  let main_v51 : FVec F S1x1024 .f32 := broadcastInDim S1x1024 ![] bcast_S_S1x1024 main_cst_19
  let main_v52 : IVec S1x1024 1 := cmpf .olt main_v50 main_v51
  let main_c_20 : IVec S_ 1 := constantI S_ 1 1#1
  let main_v53 : IVec S_ 1 := (fun x v => Host.reduce IntOp.andi x v reducesTo_S1x1024_S_d0_1 h_S_) main_v52 main_c_20
  let main_v54 : IVec S_ 1 := andi main_v49 main_v53
  let main_v55 : FVec F S1x1024 .f32 := Host.absf main_arg11
  let main_cst_21 : FVec F S_ .f32 := constant S_ .f32 0x7F800000#32
  let main_v56 : FVec F S1x1024 .f32 := broadcastInDim S1x1024 ![] bcast_S_S1x1024 main_cst_21
  let main_v57 : IVec S1x1024 1 := cmpf .olt main_v55 main_v56
  let main_c_22 : IVec S_ 1 := constantI S_ 1 1#1
  let main_v58 : IVec S_ 1 := (fun x v => Host.reduce IntOp.andi x v reducesTo_S1x1024_S_d0_1 h_S_) main_v57 main_c_22
  let main_v59 : IVec S_ 1 := andi main_v54 main_v58
  let main_v60 : FVec F S4096x1024 .f32 := Host.absf main_arg12
  let main_cst_23 : FVec F S_ .f32 := constant S_ .f32 0x7F800000#32
  let main_v61 : FVec F S4096x1024 .f32 := broadcastInDim S4096x1024 ![] bcast_S_S4096x1024 main_cst_23
  let main_v62 : IVec S4096x1024 1 := cmpf .olt main_v60 main_v61
  let main_c_24 : IVec S_ 1 := constantI S_ 1 1#1
  let main_v63 : IVec S_ 1 := (fun x v => Host.reduce IntOp.andi x v reducesTo_S4096x1024_S_d0_1 h_S_) main_v62 main_c_24
  let main_v64 : IVec S_ 1 := andi main_v59 main_v63
  main_v64

def fn_part2 {F : FTy → Type} [FloatOps F] (main_arg7 : FVec F S1x1024 .f32) (main_arg8 : FVec F S1x1024 .f32) (main_arg9 : FVec F S1x1024 .f32) (main_arg10 : FVec F S1x1024 .f32) (main_arg11 : FVec F S1x1024 .f32) (main_arg12 : FVec F S4096x1024 .f32) (main_v29 : IVec S_ 1) (main_v32 : IVec S1x1024 1) (main_c_12 : IVec S_ 1) : IVec S_ 1 :=
  let main_v33 : IVec S_ 1 := (fun x v => Host.reduce IntOp.andi x v reducesTo_S1x1024_S_d0_1 h_S_) main_v32 main_c_12
  let main_v34 : IVec S_ 1 := andi main_v29 main_v33
  let main_v35 : FVec F S1x1024 .f32 := Host.absf main_arg7
  let main_cst_13 : FVec F S_ .f32 := constant S_ .f32 0x7F800000#32
  let main_v36 : FVec F S1x1024 .f32 := broadcastInDim S1x1024 ![] bcast_S_S1x1024 main_cst_13
  let main_v37 : IVec S1x1024 1 := cmpf .olt main_v35 main_v36
  let main_c_14 : IVec S_ 1 := constantI S_ 1 1#1
  let main_v38 : IVec S_ 1 := (fun x v => Host.reduce IntOp.andi x v reducesTo_S1x1024_S_d0_1 h_S_) main_v37 main_c_14
  let main_v39 : IVec S_ 1 := andi main_v34 main_v38
  let main_v40 : FVec F S1x1024 .f32 := Host.absf main_arg8
  let main_cst_15 : FVec F S_ .f32 := constant S_ .f32 0x7F800000#32
  let main_v41 : FVec F S1x1024 .f32 := broadcastInDim S1x1024 ![] bcast_S_S1x1024 main_cst_15
  let main_v42 : IVec S1x1024 1 := cmpf .olt main_v40 main_v41
  let main_c_16 : IVec S_ 1 := constantI S_ 1 1#1
  let main_v43 : IVec S_ 1 := (fun x v => Host.reduce IntOp.andi x v reducesTo_S1x1024_S_d0_1 h_S_) main_v42 main_c_16
  let main_v44 : IVec S_ 1 := andi main_v39 main_v43
  let main_v45 : FVec F S1x1024 .f32 := Host.absf main_arg9
  let main_cst_17 : FVec F S_ .f32 := constant S_ .f32 0x7F800000#32
  let main_v46 : FVec F S1x1024 .f32 := broadcastInDim S1x1024 ![] bcast_S_S1x1024 main_cst_17
  let main_v47 : IVec S1x1024 1 := cmpf .olt main_v45 main_v46
  let main_c_18 : IVec S_ 1 := constantI S_ 1 1#1
  let main_v48 : IVec S_ 1 := (fun x v => Host.reduce IntOp.andi x v reducesTo_S1x1024_S_d0_1 h_S_) main_v47 main_c_18
  let main_v49 : IVec S_ 1 := andi main_v44 main_v48
  let main_v50 : FVec F S1x1024 .f32 := Host.absf main_arg10
  fn_part3 (F := F) main_arg11 main_arg12 main_v49 main_v50

def fn_part1 {F : FTy → Type} [FloatOps F] (main_arg4 : FVec F S1x1024 .f32) (main_arg5 : FVec F S1x1024 .f32) (main_arg6 : FVec F S1x1024 .f32) (main_arg7 : FVec F S1x1024 .f32) (main_arg8 : FVec F S1x1024 .f32) (main_arg9 : FVec F S1x1024 .f32) (main_arg10 : FVec F S1x1024 .f32) (main_arg11 : FVec F S1x1024 .f32) (main_arg12 : FVec F S4096x1024 .f32) (main_v14 : IVec S_ 1) (main_v15 : FVec F S4096x1024 .f32) (main_cst_5 : FVec F S_ .f32) : IVec S_ 1 :=
  let main_v16 : FVec F S4096x1024 .f32 := broadcastInDim S4096x1024 ![] bcast_S_S4096x1024 main_cst_5
  let main_v17 : IVec S4096x1024 1 := cmpf .olt main_v15 main_v16
  let main_c_6 : IVec S_ 1 := constantI S_ 1 1#1
  let main_v18 : IVec S_ 1 := (fun x v => Host.reduce IntOp.andi x v reducesTo_S4096x1024_S_d0_1 h_S_) main_v17 main_c_6
  let main_v19 : IVec S_ 1 := andi main_v14 main_v18
  let main_v20 : FVec F S1x1024 .f32 := Host.absf main_arg4
  let main_cst_7 : FVec F S_ .f32 := constant S_ .f32 0x7F800000#32
  let main_v21 : FVec F S1x1024 .f32 := broadcastInDim S1x1024 ![] bcast_S_S1x1024 main_cst_7
  let main_v22 : IVec S1x1024 1 := cmpf .olt main_v20 main_v21
  let main_c_8 : IVec S_ 1 := constantI S_ 1 1#1
  let main_v23 : IVec S_ 1 := (fun x v => Host.reduce IntOp.andi x v reducesTo_S1x1024_S_d0_1 h_S_) main_v22 main_c_8
  let main_v24 : IVec S_ 1 := andi main_v19 main_v23
  let main_v25 : FVec F S1x1024 .f32 := Host.absf main_arg5
  let main_cst_9 : FVec F S_ .f32 := constant S_ .f32 0x7F800000#32
  let main_v26 : FVec F S1x1024 .f32 := broadcastInDim S1x1024 ![] bcast_S_S1x1024 main_cst_9
  let main_v27 : IVec S1x1024 1 := cmpf .olt main_v25 main_v26
  let main_c_10 : IVec S_ 1 := constantI S_ 1 1#1
  let main_v28 : IVec S_ 1 := (fun x v => Host.reduce IntOp.andi x v reducesTo_S1x1024_S_d0_1 h_S_) main_v27 main_c_10
  let main_v29 : IVec S_ 1 := andi main_v24 main_v28
  let main_v30 : FVec F S1x1024 .f32 := Host.absf main_arg6
  let main_cst_11 : FVec F S_ .f32 := constant S_ .f32 0x7F800000#32
  let main_v31 : FVec F S1x1024 .f32 := broadcastInDim S1x1024 ![] bcast_S_S1x1024 main_cst_11
  let main_v32 : IVec S1x1024 1 := cmpf .olt main_v30 main_v31
  let main_c_12 : IVec S_ 1 := constantI S_ 1 1#1
  fn_part2 (F := F) main_arg7 main_arg8 main_arg9 main_arg10 main_arg11 main_arg12 main_v29 main_v32 main_c_12

def fn {F : FTy → Type} [FloatOps F] (main_arg0 : FVec F S4096x1024 .f32) (main_arg1 : FVec F S4096x1024 .f32) (main_arg2 : FVec F S1024x4096 .f32) (main_arg3 : FVec F S4096x1024 .f32) (main_arg4 : FVec F S1x1024 .f32) (main_arg5 : FVec F S1x1024 .f32) (main_arg6 : FVec F S1x1024 .f32) (main_arg7 : FVec F S1x1024 .f32) (main_arg8 : FVec F S1x1024 .f32) (main_arg9 : FVec F S1x1024 .f32) (main_arg10 : FVec F S1x1024 .f32) (main_arg11 : FVec F S1x1024 .f32) (main_arg12 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S4096x1024 .f32 := Host.absf main_arg1
  let main_cst_1 : FVec F S_ .f32 := constant S_ .f32 0x7F800000#32
  let main_v6 : FVec F S4096x1024 .f32 := broadcastInDim S4096x1024 ![] bcast_S_S4096x1024 main_cst_1
  let main_v7 : IVec S4096x1024 1 := cmpf .olt main_v5 main_v6
  let main_c_2 : IVec S_ 1 := constantI S_ 1 1#1
  let main_v8 : IVec S_ 1 := (fun x v => Host.reduce IntOp.andi x v reducesTo_S4096x1024_S_d0_1 h_S_) main_v7 main_c_2
  let main_v9 : IVec S_ 1 := andi main_v4 main_v8
  let main_v10 : FVec F S1024x4096 .f32 := Host.absf main_arg2
  let main_cst_3 : FVec F S_ .f32 := constant S_ .f32 0x7F800000#32
  let main_v11 : FVec F S1024x4096 .f32 := broadcastInDim S1024x4096 ![] bcast_S_S1024x4096 main_cst_3
  let main_v12 : IVec S1024x4096 1 := cmpf .olt main_v10 main_v11
  let main_c_4 : IVec S_ 1 := constantI S_ 1 1#1
  let main_v13 : IVec S_ 1 := (fun x v => Host.reduce IntOp.andi x v reducesTo_S1024x4096_S_d0_1 h_S_) main_v12 main_c_4
  let main_v14 : IVec S_ 1 := andi main_v9 main_v13
  let main_v15 : FVec F S4096x1024 .f32 := Host.absf main_arg3
  let main_cst_5 : FVec F S_ .f32 := constant S_ .f32 0x7F800000#32
  fn_part1 (F := F) main_arg4 main_arg5 main_arg6 main_arg7 main_arg8 main_arg9 main_arg10 main_arg11 main_arg12 main_v14 main_v15 main_cst_5
-- ==== Kernel.lean ====
abbrev S4096x1024 : Shape := ⟨2, ![4096, 1024]⟩
abbrev S1024x4096 : Shape := ⟨2, ![1024, 4096]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S512x4096 : Shape := ⟨2, ![512, 4096]⟩
abbrev S512x8x512 : Shape := ⟨3, ![512, 8, 512]⟩
abbrev S8x512x512 : Shape := ⟨3, ![8, 512, 512]⟩
abbrev S8x512x1024 : Shape := ⟨3, ![8, 512, 1024]⟩
abbrev S4096x128 : Shape := ⟨2, ![4096, 128]⟩
abbrev S1x5120 : Shape := ⟨2, ![1, 5120]⟩
abbrev S512x1024 : Shape := ⟨2, ![512, 1024]⟩
abbrev S4x512x512 : Shape := ⟨3, ![4, 512, 512]⟩
abbrev S4x512x1024 : Shape := ⟨3, ![4, 512, 1024]⟩
abbrev S512x2048 : Shape := ⟨2, ![512, 2048]⟩
abbrev S512x128 : Shape := ⟨2, ![512, 128]⟩
abbrev S1x512x1024 : Shape := ⟨3, ![1, 512, 1024]⟩
abbrev S512x512 : Shape := ⟨2, ![512, 512]⟩
abbrev S1x512x512 : Shape := ⟨3, ![1, 512, 512]⟩
abbrev S1024 : Shape := ⟨1, ![1024]⟩
abbrev S512x1 : Shape := ⟨2, ![512, 1]⟩
abbrev S512 : Shape := ⟨1, ![512]⟩

abbrev nBuf : Space → Nat
  | .hbm => 77
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x4096, .f32⟩
  | .hbm, ⟨53, _⟩ => ⟨S_, .f32⟩
  | .hbm, ⟨54, _⟩ => ⟨S4096x4096, .f32⟩
  | .hbm, ⟨55, _⟩ => ⟨S4096x4096, .f32⟩
  | .hbm, ⟨56, _⟩ => ⟨S4096x4096, .bf16⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S4096x1024, .bf16⟩
  | .hbm, ⟨63, _⟩ => ⟨S1024x4096, .bf16⟩
  | .hbm, ⟨64, _⟩ => ⟨S512x4096, .bf16⟩
  | .hbm, ⟨65, _⟩ => ⟨S512x8x512, .bf16⟩
  | .hbm, ⟨66, _⟩ => ⟨S8x512x512, .bf16⟩
  | .hbm, ⟨67, _⟩ => ⟨S512x4096, .bf16⟩
  | .hbm, ⟨68, _⟩ => ⟨S512x8x512, .bf16⟩
  | .hbm, ⟨69, _⟩ => ⟨S8x512x512, .bf16⟩
  | .hbm, ⟨70, _⟩ => ⟨S4096x1024, .bf16⟩
  | .hbm, ⟨71, _⟩ => ⟨S8x512x1024, .bf16⟩
  | .hbm, ⟨72, _⟩ => ⟨S4096x128, .f32⟩
  | .hbm, ⟨73, _⟩ => ⟨S4096x4096, .bf16⟩
  | .hbm, ⟨74, _⟩ => ⟨S4096x1024, .f32⟩
  | .hbm, ⟨75, _⟩ => ⟨S4096x1024, .bf16⟩
  | .hbm, ⟨76, _⟩ => ⟨S1x5120, .f32⟩
  | .local _ .vmem, ⟨0, _⟩ => ⟨S512x1024, .bf16⟩
  | .local _ .vmem, ⟨1, _⟩ => ⟨S512x1024, .bf16⟩
  | .local _ .vmem, ⟨2, _⟩ => ⟨S4x512x512, .bf16⟩
  | .local _ .vmem, ⟨3, _⟩ => ⟨S4x512x512, .bf16⟩
  | .local _ .vmem, ⟨4, _⟩ => ⟨S4x512x512, .bf16⟩
  | .local _ .vmem, ⟨5, _⟩ => ⟨S4x512x512, .bf16⟩
  | .local _ .vmem, ⟨6, _⟩ => ⟨S4x512x1024, .bf16⟩
  | .local _ .vmem, ⟨7, _⟩ => ⟨S4x512x1024, .bf16⟩
  | .local _ .vmem, ⟨8, _⟩ => ⟨S512x2048, .bf16⟩
  | .local _ .vmem, ⟨9, _⟩ => ⟨S512x2048, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x128, .f32⟩
  | .local _ .vmem, ⟨15, _⟩ => ⟨S512x128, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S512x2048, .bf16⟩
  | .local _ .vmem, ⟨23, _⟩ => ⟨S512x2048, .bf16⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | .local _ .vmem, ⟨28, _⟩ => ⟨S1x5120, .f32⟩
  | .local _ .vmem, ⟨29, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call0_cst : Ref sig .tc := ⟨.hbm, 53, rfl⟩
abbrev main_call0_v0 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51_0 : Ref sig .tc := ⟨.hbm, 73, rfl⟩
abbrev main_v51_1 : Ref sig .tc := ⟨.hbm, 74, rfl⟩
abbrev main_v51_2 : Ref sig .tc := ⟨.hbm, 75, rfl⟩
abbrev main_v51_3 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v90 : BitVec 1 := Scalar.cmpi .eq arg1 c1_i32
  let v91 : BitVec 32 := Scalar.extui v90
  let c0_i32_70 : BitVec 32 := 0#32
  let v92 : BitVec 1 := Scalar.cmpi .ne v91 c0_i32_70
  v92

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 1 → Memref sig .tc .vmem S1x5120 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== ReferenceIdeal.lean ====
abbrev S4096x1024 : Shape := ⟨2, ![4096, 1024]⟩
abbrev S1024x4096 : Shape := ⟨2, ![1024, 4096]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩
abbrev S1x5120 : Shape := ⟨2, ![1, 5120]⟩

abbrev nBuf : Space → Nat
  | .hbm => 219
  | .vmem => 0
  | .smem => 0
  | _ => 0

abbrev hbmTy0_0 (i : Nat) : BufTy := match i % 128 with
  | 0 => ⟨S4096x1024, .f32⟩
  | 1 => ⟨S4096x1024, .f32⟩
  | 2 => ⟨S1024x4096, .f32⟩
  | 3 => ⟨S4096x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S4096x1024, .f32⟩
  | 11 => ⟨S_, .f32⟩
  | 12 => ⟨S4096x1024, .f32⟩
  | 13 => ⟨S4096x1024, .f32⟩
  | 14 => ⟨S_, .f32⟩
  | 15 => ⟨S1x1024, .f32⟩
  | 16 => ⟨S1x1024, .f32⟩
  | 17 => ⟨S4096x1024, .f32⟩
  | 18 => ⟨S4096x1024, .f32⟩
  | 19 => ⟨S4096x1024, .f32⟩
  | 20 => ⟨S_, .f32⟩
  | 21 => ⟨S4096, .f32⟩
  | 22 => ⟨S4096x1, .f32⟩
  | 23 => ⟨S_, .f32⟩
  | 24 => ⟨S4096x1, .f32⟩
  | 25 => ⟨S4096x1, .f32⟩
  | 26 => ⟨S4096x1024, .f32⟩
  | 27 => ⟨S4096x1024, .f32⟩
  | 28 => ⟨S4096x1024, .f32⟩
  | 29 => ⟨S_, .f32⟩
  | 30 => ⟨S4096, .f32⟩
  | 31 => ⟨S4096x1, .f32⟩
  | 32 => ⟨S_, .f32⟩
  | 33 => ⟨S4096x1, .f32⟩
  | 34 => ⟨S4096x1, .f32⟩
  | 35 => ⟨S_, .f32⟩
  | 36 => ⟨S4096x1, .f32⟩
  | 37 => ⟨S4096x1, .f32⟩
  | 38 => ⟨S4096x1, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S_, .f32⟩
  | 46 => ⟨S1x1024, .f32⟩
  | 47 => ⟨S1x1024, .f32⟩
  | 48 => ⟨S4096x1024, .f32⟩
  | 49 => ⟨S4096x1024, .f32⟩
  | 50 => ⟨S4096x1024, .f32⟩
  | 51 => ⟨S4096x1024, .f32⟩
  | 52 => ⟨S4096x4096, .f32⟩
  | 53 => ⟨S_, .f32⟩
  | 54 => ⟨S4096x1024, .f32⟩
  | 55 => ⟨S4096x1024, .f32⟩
  | 56 => ⟨S_, .f32⟩
  | 57 => ⟨S1x1024, .f32⟩
  | 58 => ⟨S1x1024, .f32⟩
  | 59 => ⟨S_, .f32⟩
  | 60 => ⟨S4096x4096, .f32⟩
  | 61 => ⟨S4096x4096, .f32⟩
  | 62 => ⟨S_, .f32⟩
  | 63 => ⟨S4096x4096, .f32⟩
  | 64 => ⟨S4096x4096, .i1⟩
  | 65 => ⟨S_, .f32⟩
  | 66 => ⟨S4096x4096, .f32⟩
  | 67 => ⟨S4096x4096, .f32⟩
  | 68 => ⟨S_, .f32⟩
  | 69 => ⟨S4096x4096, .f32⟩
  | 70 => ⟨S4096x4096, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S4096x1024, .f32⟩
  | 77 => ⟨S4096x4096, .f32⟩
  | 78 => ⟨S4096x4096, .f32⟩
  | 79 => ⟨S_, .f32⟩
  | 80 => ⟨S4096x4096, .f32⟩
  | 81 => ⟨S4096x4096, .f32⟩
  | 82 => ⟨S_, .f32⟩
  | 83 => ⟨S4096, .f32⟩
  | 84 => ⟨S4096x1, .f32⟩
  | 85 => ⟨S_, .f32⟩
  | 86 => ⟨S4096x1, .f32⟩
  | 87 => ⟨S4096x1, .f32⟩
  | 88 => ⟨S4096x1024, .f32⟩
  | 89 => ⟨S4096x1024, .f32⟩
  | 90 => ⟨S4096x1024, .f32⟩
  | 91 => ⟨S_, .f32⟩
  | 92 => ⟨S4096, .f32⟩
  | 93 => ⟨S4096x1, .f32⟩
  | 94 => ⟨S_, .f32⟩
  | 95 => ⟨S4096x1, .f32⟩
  | 96 => ⟨S4096x1, .f32⟩
  | 97 => ⟨S_, .f32⟩
  | 98 => ⟨S4096x1, .f32⟩
  | 99 => ⟨S4096x1, .f32⟩
  | 100 => ⟨S4096x1, .f32⟩
  | 101 => ⟨S4096x1, .f32⟩
  | 102 => ⟨S_, .f32⟩
  | 103 => ⟨S4096x1, .f32⟩
  | 104 => ⟨S4096x1, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S_, .f32⟩
  | 112 => ⟨S1x1024, .f32⟩
  | 113 => ⟨S1x1024, .f32⟩
  | 114 => ⟨S4096x1024, .f32⟩
  | 115 => ⟨S4096x1024, .f32⟩
  | 116 => ⟨S4096x1024, .f32⟩
  | 117 => ⟨S4096x1024, .f32⟩
  | 118 => ⟨S4096x4096, .f32⟩
  | 119 => ⟨S_, .f32⟩
  | 120 => ⟨S4096x1024, .f32⟩
  | 121 => ⟨S4096x1024, .f32⟩
  | 122 => ⟨S_, .f32⟩
  | 123 => ⟨S1x1024, .f32⟩
  | 124 => ⟨S1x1024, .f32⟩
  | 125 => ⟨S_, .f32⟩
  | 126 => ⟨S4096x4096, .f32⟩
  | 127 => ⟨S4096x4096, .f32⟩
  | _ => ⟨S4096x1024, .f32⟩

abbrev hbmTy0_1 (i : Nat) : BufTy := match i % 128 with
  | 0 => ⟨S_, .f32⟩
  | 1 => ⟨S4096x4096, .f32⟩
  | 2 => ⟨S4096x4096, .i1⟩
  | 3 => ⟨S_, .f32⟩
  | 4 => ⟨S4096x4096, .f32⟩
  | 5 => ⟨S4096x4096, .f32⟩
  | 6 => ⟨S_, .f32⟩
  | 7 => ⟨S4096x4096, .f32⟩
  | 8 => ⟨S4096x4096, .f32⟩
  | 9 => ⟨S4096x1024, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S4096x4096, .f32⟩
  | 18 => ⟨S4096x4096, .f32⟩
  | 19 => ⟨S_, .f32⟩
  | 20 => ⟨S4096x4096, .f32⟩
  | 21 => ⟨S4096x4096, .f32⟩
  | 22 => ⟨S_, .f32⟩
  | 23 => ⟨S4096x1024, .f32⟩
  | 24 => ⟨S4096x1024, .f32⟩
  | 25 => ⟨S4096x1024, .f32⟩
  | 26 => ⟨S_, .f32⟩
  | 27 => ⟨S1024, .f32⟩
  | 28 => ⟨S1x1024, .f32⟩
  | 29 => ⟨S4096x1024, .f32⟩
  | 30 => ⟨S_, .f32⟩
  | 31 => ⟨S1024, .f32⟩
  | 32 => ⟨S1x1024, .f32⟩
  | 33 => ⟨S4096x1024, .f32⟩
  | 34 => ⟨S4096x1024, .f32⟩
  | 35 => ⟨S4096x1024, .f32⟩
  | 36 => ⟨S_, .f32⟩
  | 37 => ⟨S1024, .f32⟩
  | 38 => ⟨S1x1024, .f32⟩
  | 39 => ⟨S4096x1024, .f32⟩
  | 40 => ⟨S_, .f32⟩
  | 41 => ⟨S1024, .f32⟩
  | 42 => ⟨S1x1024, .f32⟩
  | 43 => ⟨S4096x1024, .f32⟩
  | 44 => ⟨S4096x1024, .f32⟩
  | 45 => ⟨S4096x1024, .f32⟩
  | 46 => ⟨S_, .f32⟩
  | 47 => ⟨S4096, .f32⟩
  | 48 => ⟨S4096x1, .f32⟩
  | 49 => ⟨S4096x1024, .f32⟩
  | 50 => ⟨S4096x1024, .f32⟩
  | 51 => ⟨S4096x1, .f32⟩
  | 52 => ⟨S_, .f32⟩
  | 53 => ⟨S4096x1, .f32⟩
  | 54 => ⟨S4096x1, .f32⟩
  | 55 => ⟨S_, .f32⟩
  | 56 => ⟨S4096, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S_, .f32⟩
  | 64 => ⟨S4096, .f32⟩
  | 65 => ⟨S4096x1, .f32⟩
  | 66 => ⟨S_, .f32⟩
  | 67 => ⟨S4096x1, .f32⟩
  | 68 => ⟨S4096x1, .f32⟩
  | 69 => ⟨S_, .f32⟩
  | 70 => ⟨S4096, .f32⟩
  | 71 => ⟨S4096x1024, .f32⟩
  | 72 => ⟨S4096x1024, .f32⟩
  | 73 => ⟨S_, .f32⟩
  | 74 => ⟨S4096x1024, .f32⟩
  | 75 => ⟨S4096x1024, .f32⟩
  | 76 => ⟨S_, .f32⟩
  | 77 => ⟨S1x1024, .f32⟩
  | 78 => ⟨S1x1024, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | 84 => ⟨S4096x1024, .f32⟩
  | 85 => ⟨S_, .f32⟩
  | 86 => ⟨S1024, .f32⟩
  | 87 => ⟨S1x1024, .f32⟩
  | 88 => ⟨S4096x4096, .bf16⟩
  | 89 => ⟨S4096x1024, .bf16⟩
  | 90 => ⟨S1x5120, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_call0_cst : Ref sig .tc := ⟨.hbm, 59, rfl⟩
abbrev main_call0_v0 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_cst_10 : Ref sig .tc := ⟨.hbm, 65, rfl⟩
abbrev main_v41 : Ref sig .tc := ⟨.hbm, 66, rfl⟩
abbrev main_v42 : Ref sig .tc := ⟨.hbm, 67, rfl⟩
abbrev main_cst_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_cst_13 : Ref sig .tc := ⟨.hbm, 82, rfl⟩
abbrev main_v55 : Ref sig .tc := ⟨.hbm, 83, rfl⟩
abbrev main_v56 : Ref sig .tc := ⟨.hbm, 84, rfl⟩
abbrev main_cst_14 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_15 : Ref sig .tc := ⟨.hbm, 91, rfl⟩
abbrev main_v62 : Ref sig .tc := ⟨.hbm, 92, rfl⟩
abbrev main_v63 : Ref sig .tc := ⟨.hbm, 93, rfl⟩
abbrev main_cst_16 : Ref sig .tc := ⟨.hbm, 94, rfl⟩
abbrev main_v64 : Ref sig .tc := ⟨.hbm, 95, rfl⟩
abbrev main_v65 : Ref sig .tc := ⟨.hbm, 96, rfl⟩
abbrev main_cst_17 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_19 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_20 : Ref sig .tc := ⟨.hbm, 119, rfl⟩
abbrev main_v85 : Ref sig .tc := ⟨.hbm, 120, rfl⟩
abbrev main_v86 : Ref sig .tc := ⟨.hbm, 121, rfl⟩
abbrev main_cst_21 : Ref sig .tc := ⟨.hbm, 122, rfl⟩
abbrev main_v87 : Ref sig .tc := ⟨.hbm, 123, rfl⟩
abbrev main_v88 : Ref sig .tc := ⟨.hbm, 124, rfl⟩
abbrev main_call1_cst : Ref sig .tc := ⟨.hbm, 125, rfl⟩
abbrev main_call1_v0 : Ref sig .tc := ⟨.hbm, 126, rfl⟩
abbrev main_v89 : Ref sig .tc := ⟨.hbm, 127, rfl⟩
abbrev main_cst_22 : Ref sig .tc := ⟨.hbm, 128, rfl⟩
abbrev main_v90 : Ref sig .tc := ⟨.hbm, 129, rfl⟩
abbrev main_v91 : Ref sig .tc := ⟨.hbm, 130, rfl⟩
abbrev main_cst_23 : Ref sig .tc := ⟨.hbm, 131, rfl⟩
abbrev main_v92 : Ref sig .tc := ⟨.hbm, 132, rfl⟩
abbrev main_v93 : Ref sig .tc := ⟨.hbm, 133, rfl⟩
abbrev main_cst_24 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_25 : Ref sig .tc := ⟨.hbm, 147, rfl⟩
abbrev main_v106 : Ref sig .tc := ⟨.hbm, 148, rfl⟩
abbrev main_v107 : Ref sig .tc := ⟨.hbm, 149, rfl⟩
abbrev main_cst_26 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_27 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_28 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_29 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_30 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_31 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_cst_32 : Ref sig .tc := ⟨.hbm, 180, rfl⟩
abbrev main_v132 : Ref sig .tc := ⟨.hbm, 181, rfl⟩
abbrev main_v133 : Ref sig .tc := ⟨.hbm, 182, rfl⟩
abbrev main_cst_33 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_cst_34 : Ref sig .tc := ⟨.hbm, 191, rfl⟩
abbrev main_v141 : Ref sig .tc := ⟨.hbm, 192, rfl⟩
abbrev main_v142 : Ref sig .tc := ⟨.hbm, 193, rfl⟩
abbrev main_cst_35 : Ref sig .tc := ⟨.hbm, 194, rfl⟩
abbrev main_v143 : Ref sig .tc := ⟨.hbm, 195, rfl⟩
abbrev main_v144 : Ref sig .tc := ⟨.hbm, 196, rfl⟩
abbrev main_cst_36 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_cst_37 : Ref sig .tc := ⟨.hbm, 201, rfl⟩
abbrev main_v148 : Ref sig .tc := ⟨.hbm, 202, rfl⟩
abbrev main_v149 : Ref sig .tc := ⟨.hbm, 203, rfl⟩
abbrev main_cst_38 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_cst_39 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩

abbrev nD : Nat := 1
abbrev τ : Topo := Topo.v7x

variable {F : FTy → Type} [FloatOps F]
-- ==== Kernel2.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S2048x1024 : Shape := ⟨2, ![2048, 1024]⟩
abbrev S1024x1024 : Shape := ⟨2, ![1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x1024, .bf16⟩
  | .hbm, ⟨10, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v16 : BitVec 1 := Scalar.cmpi .eq arg2 c1_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel3.lean ====
abbrev S4096x1024 : Shape := ⟨2, ![4096, 1024]⟩
abbrev S1024x4096 : Shape := ⟨2, ![1024, 4096]⟩
abbrev S4096x4096 : Shape := ⟨2, ![4096, 4096]⟩
abbrev S8x1024x512 : Shape := ⟨3, ![8, 1024, 512]⟩
abbrev S2048x1024 : Shape := ⟨2, ![2048, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x1024, .bf16⟩
  | .hbm, ⟨4, _⟩ => ⟨S4096x4096, .bf16⟩
  | .hbm, ⟨5, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S1024x4096 : Shape := ⟨2, ![1024, 4096]⟩
abbrev S4096x4096 : Shape := ⟨2, ![4096, 4096]⟩
abbrev S1024x8x512 : Shape := ⟨3, ![1024, 8, 512]⟩
abbrev S8x1024x512 : Shape := ⟨3, ![8, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x4096, .f32⟩
  | .hbm, ⟨4, _⟩ => ⟨S4096x1024, .f32⟩
  | .hbm, ⟨5, _⟩ => ⟨S1024x4096, .f32⟩
  | .hbm, ⟨6, _⟩ => ⟨S1024x8x512, .f32⟩
  | .hbm, ⟨7, _⟩ => ⟨S8x1024x512, .f32⟩
  | .hbm, ⟨8, _⟩ => ⟨S8x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1024x2048 : Shape := ⟨2, ![1024, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x2048, .f32⟩
  | .hbm, ⟨4, _⟩ => ⟨S4096x2048, .f32⟩
  | .hbm, ⟨5, _⟩ => ⟨S4096x2048, .bf16⟩
  | .hbm, ⟨6, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v21 : BitVec 1 := Scalar.cmpi .eq arg2 c1_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S4096x1024 : Shape := ⟨2, ![4096, 1024]⟩
abbrev S1x1024 : Shape := ⟨2, ![1, 1024]⟩
abbrev S1024x2048 : Shape := ⟨2, ![1024, 2048]⟩
abbrev S4096x2048 : Shape := ⟨2, ![4096, 2048]⟩
abbrev S_ : Shape := ⟨0, ![]⟩
abbrev S2048x1024 : Shape := ⟨2, ![2048, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x2048, .f32⟩
  | .hbm, ⟨4, _⟩ => ⟨S4096x2048, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x2048, .f32⟩
  | .hbm, ⟨13, _⟩ => ⟨S2048x1024, .f32⟩
  | .hbm, ⟨14, _⟩ => ⟨S1024x2048, .f32⟩
  | .hbm, ⟨15, _⟩ => ⟨S2048x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1024x1024 : Shape := ⟨2, ![1024, 1024]⟩
abbrev S2048x1024 : Shape := ⟨2, ![2048, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | .hbm, ⟨6, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v21 : BitVec 1 := Scalar.cmpi .eq arg2 c1_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]
-- ==== Reference5Ideal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x1024, .f32⟩
  | .hbm, ⟨4, _⟩ => ⟨S4096x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1024x1024, .f32⟩
  | .hbm, ⟨14, _⟩ => ⟨S1024x1024, .f32⟩
  | .hbm, ⟨15, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel7.lean ====
abbrev S4096x512 : Shape := ⟨2, ![4096, 512]⟩
abbrev S512x1024 : Shape := ⟨2, ![512, 1024]⟩
abbrev S4096x1024 : Shape := ⟨2, ![4096, 1024]⟩
abbrev S2048x512 : Shape := ⟨2, ![2048, 512]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x512, .bf16⟩
  | .hbm, ⟨4, _⟩ => ⟨S4096x1024, .bf16⟩
  | .hbm, ⟨5, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .f32⟩
  | .hbm, ⟨4, _⟩ => ⟨S1024x512, .f32⟩
  | .hbm, ⟨5, _⟩ => ⟨S512x1024, .f32⟩
  | .hbm, ⟨6, _⟩ => ⟨S512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x512 : Shape := ⟨2, ![4096, 512]⟩
abbrev S512x1024 : Shape := ⟨2, ![512, 1024]⟩
abbrev S4096x1024 : Shape := ⟨2, ![4096, 1024]⟩
abbrev S2048x512 : Shape := ⟨2, ![2048, 512]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .bf16⟩
  | .hbm, ⟨4, _⟩ => ⟨S512x1024, .bf16⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .f32⟩
  | .hbm, ⟨4, _⟩ => ⟨S1024x512, .f32⟩
  | .hbm, ⟨5, _⟩ => ⟨S512x1024, .f32⟩
  | .hbm, ⟨6, _⟩ => ⟨S512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x1024 : Shape := ⟨2, ![4096, 1024]⟩
abbrev S1024x4096 : Shape := ⟨2, ![1024, 4096]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S512x4096 : Shape := ⟨2, ![512, 4096]⟩
abbrev S512x8x512 : Shape := ⟨3, ![512, 8, 512]⟩
abbrev S8x512x512 : Shape := ⟨3, ![8, 512, 512]⟩
abbrev S8x512x1024 : Shape := ⟨3, ![8, 512, 1024]⟩
abbrev S4096x4096 : Shape := ⟨2, ![4096, 4096]⟩
abbrev S1x3200 : Shape := ⟨2, ![1, 3200]⟩
abbrev S512x1024 : Shape := ⟨2, ![512, 1024]⟩
abbrev S4x512x512 : Shape := ⟨3, ![4, 512, 512]⟩
abbrev S4x512x1024 : Shape := ⟨3, ![4, 512, 1024]⟩
abbrev S512x2048 : Shape := ⟨2, ![512, 2048]⟩
abbrev S512x512 : Shape := ⟨2, ![512, 512]⟩
abbrev S1x512x512 : Shape := ⟨3, ![1, 512, 512]⟩
abbrev S1x512x1024 : Shape := ⟨3, ![1, 512, 1024]⟩
abbrev S512 : Shape := ⟨1, ![512]⟩
abbrev S512x1 : Shape := ⟨2, ![512, 1]⟩
abbrev S1x128 : Shape := ⟨2, ![1, 128]⟩
abbrev S1 : Shape := ⟨1, ![1]⟩
abbrev S1x1 : Shape := ⟨2, ![1, 1]⟩
abbrev S1024 : Shape := ⟨1, ![1024]⟩

abbrev nBuf : Space → Nat
  | .hbm => 68
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | .hbm, ⟨55, _⟩ => ⟨S1024x4096, .bf16⟩
  | .hbm, ⟨56, _⟩ => ⟨S512x4096, .bf16⟩
  | .hbm, ⟨57, _⟩ => ⟨S512x8x512, .bf16⟩
  | .hbm, ⟨58, _⟩ => ⟨S8x512x512, .bf16⟩
  | .hbm, ⟨59, _⟩ => ⟨S512x4096, .bf16⟩
  | .hbm, ⟨60, _⟩ => ⟨S512x8x512, .bf16⟩
  | .hbm, ⟨61, _⟩ => ⟨S8x512x512, .bf16⟩
  | .hbm, ⟨62, _⟩ => ⟨S4096x1024, .bf16⟩
  | .hbm, ⟨63, _⟩ => ⟨S8x512x1024, .bf16⟩
  | .hbm, ⟨64, _⟩ => ⟨S4096x4096, .bf16⟩
  | .hbm, ⟨65, _⟩ => ⟨S4096x1024, .f32⟩
  | .hbm, ⟨66, _⟩ => ⟨S4096x1024, .bf16⟩
  | .hbm, ⟨67, _⟩ => ⟨S1x3200, .f32⟩
  | .local _ .vmem, ⟨0, _⟩ => ⟨S512x1024, .bf16⟩
  | .local _ .vmem, ⟨1, _⟩ => ⟨S512x1024, .bf16⟩
  | .local _ .vmem, ⟨2, _⟩ => ⟨S4x512x512, .bf16⟩
  | .local _ .vmem, ⟨3, _⟩ => ⟨S4x512x512, .bf16⟩
  | .local _ .vmem, ⟨4, _⟩ => ⟨S4x512x512, .bf16⟩
  | .local _ .vmem, ⟨5, _⟩ => ⟨S4x512x512, .bf16⟩
  | .local _ .vmem, ⟨6, _⟩ => ⟨S4x512x1024, .bf16⟩
  | .local _ .vmem, ⟨7, _⟩ => ⟨S4x512x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x2048, .bf16⟩
  | .local _ .vmem, ⟨18, _⟩ => ⟨S512x2048, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S1x3200, .f32⟩
  | .local _ .vmem, ⟨24, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_cst_5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43_0 : Ref sig .tc := ⟨.hbm, 64, rfl⟩
abbrev main_v43_1 : Ref sig .tc := ⟨.hbm, 65, rfl⟩
abbrev main_v43_2 : Ref sig .tc := ⟨.hbm, 66, rfl⟩
abbrev main_v43_3 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v90 : BitVec 1 := Scalar.cmpi .eq arg1 c1_i32
  let v91 : BitVec 32 := Scalar.extui v90
  let c0_i32_62 : BitVec 32 := 0#32
  let v92 : BitVec 1 := Scalar.cmpi .ne v91 c0_i32_62
  v92

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S1x3200 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== Reference9Ideal.lean ====
abbrev S4096x1024 : Shape := ⟨2, ![4096, 1024]⟩
abbrev S1024x4096 : Shape := ⟨2, ![1024, 4096]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩
abbrev S1x128 : Shape := ⟨2, ![1, 128]⟩
abbrev S1x3200 : Shape := ⟨2, ![1, 3200]⟩

abbrev nBuf : Space → Nat
  | .hbm => 177
  | .vmem => 0
  | .smem => 0
  | _ => 0

abbrev hbmTy0_0 (i : Nat) : BufTy := match i % 128 with
  | 0 => ⟨S4096x1024, .f32⟩
  | 1 => ⟨S4096x1024, .f32⟩
  | 2 => ⟨S1024x4096, .f32⟩
  | 3 => ⟨S4096x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S4096x1024, .f32⟩
  | 13 => ⟨S_, .f32⟩
  | 14 => ⟨S4096x1024, .f32⟩
  | 15 => ⟨S4096x1024, .f32⟩
  | 16 => ⟨S_, .f32⟩
  | 17 => ⟨S1x1024, .f32⟩
  | 18 => ⟨S1x1024, .f32⟩
  | 19 => ⟨S4096x1024, .f32⟩
  | 20 => ⟨S4096x1024, .f32⟩
  | 21 => ⟨S4096x1024, .f32⟩
  | 22 => ⟨S_, .f32⟩
  | 23 => ⟨S4096, .f32⟩
  | 24 => ⟨S4096x1, .f32⟩
  | 25 => ⟨S_, .f32⟩
  | 26 => ⟨S4096x1, .f32⟩
  | 27 => ⟨S4096x1, .f32⟩
  | 28 => ⟨S4096x1024, .f32⟩
  | 29 => ⟨S4096x1024, .f32⟩
  | 30 => ⟨S4096x1024, .f32⟩
  | 31 => ⟨S_, .f32⟩
  | 32 => ⟨S4096, .f32⟩
  | 33 => ⟨S4096x1, .f32⟩
  | 34 => ⟨S_, .f32⟩
  | 35 => ⟨S4096x1, .f32⟩
  | 36 => ⟨S4096x1, .f32⟩
  | 37 => ⟨S_, .f32⟩
  | 38 => ⟨S4096x1, .f32⟩
  | 39 => ⟨S4096x1, .f32⟩
  | 40 => ⟨S4096x1, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S_, .f32⟩
  | 48 => ⟨S1x1024, .f32⟩
  | 49 => ⟨S1x1024, .f32⟩
  | 50 => ⟨S4096x1024, .f32⟩
  | 51 => ⟨S4096x1024, .f32⟩
  | 52 => ⟨S4096x1024, .f32⟩
  | 53 => ⟨S4096x1024, .f32⟩
  | 54 => ⟨S4096x4096, .f32⟩
  | 55 => ⟨S_, .f32⟩
  | 56 => ⟨S4096x4096, .f32⟩
  | 57 => ⟨S4096x4096, .f32⟩
  | 58 => ⟨S4096x4096, .f32⟩
  | 59 => ⟨S4096x1024, .f32⟩
  | 60 => ⟨S_, .f32⟩
  | 61 => ⟨S4096x1024, .f32⟩
  | 62 => ⟨S4096x1024, .f32⟩
  | 63 => ⟨S_, .f32⟩
  | 64 => ⟨S1x1024, .f32⟩
  | 65 => ⟨S1x1024, .f32⟩
  | 66 => ⟨S4096x1024, .f32⟩
  | 67 => ⟨S4096x1024, .f32⟩
  | 68 => ⟨S4096x1024, .f32⟩
  | 69 => ⟨S_, .f32⟩
  | 70 => ⟨S4096, .f32⟩
  | 71 => ⟨S4096x1, .f32⟩
  | 72 => ⟨S_, .f32⟩
  | 73 => ⟨S4096x1, .f32⟩
  | 74 => ⟨S4096x1, .f32⟩
  | 75 => ⟨S4096x1024, .f32⟩
  | 76 => ⟨S4096x1024, .f32⟩
  | 77 => ⟨S4096x1024, .f32⟩
  | 78 => ⟨S_, .f32⟩
  | 79 => ⟨S4096, .f32⟩
  | 80 => ⟨S4096x1, .f32⟩
  | 81 => ⟨S_, .f32⟩
  | 82 => ⟨S4096x1, .f32⟩
  | 83 => ⟨S4096x1, .f32⟩
  | 84 => ⟨S_, .f32⟩
  | 85 => ⟨S4096x1, .f32⟩
  | 86 => ⟨S4096x1, .f32⟩
  | 87 => ⟨S4096x1, .f32⟩
  | 88 => ⟨S4096x1, .f32⟩
  | 89 => ⟨S_, .f32⟩
  | 90 => ⟨S4096x1, .f32⟩
  | 91 => ⟨S4096x1, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S4096x1024, .f32⟩
  | 99 => ⟨S4096x1024, .f32⟩
  | 100 => ⟨S_, .f32⟩
  | 101 => ⟨S4096x1024, .f32⟩
  | 102 => ⟨S4096x1024, .f32⟩
  | 103 => ⟨S_, .f32⟩
  | 104 => ⟨S4096, .f32⟩
  | 105 => ⟨S_, .f32⟩
  | 106 => ⟨S4096, .f32⟩
  | 107 => ⟨S4096, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S4096, .f32⟩
  | 116 => ⟨S_, .f32⟩
  | 117 => ⟨S4096, .f32⟩
  | 118 => ⟨S4096, .f32⟩
  | 119 => ⟨S4096x1024, .f32⟩
  | 120 => ⟨S4096x1024, .f32⟩
  | 121 => ⟨S_, .f32⟩
  | 122 => ⟨S1024, .f32⟩
  | 123 => ⟨S1x1024, .f32⟩
  | 124 => ⟨S4096x1024, .f32⟩
  | 125 => ⟨S_, .f32⟩
  | 126 => ⟨S1024, .f32⟩
  | 127 => ⟨S1x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S_, .f32⟩
  | 4 => ⟨S4096, .f32⟩
  | 5 => ⟨S4096x1, .f32⟩
  | 6 => ⟨S4096x1024, .f32⟩
  | 7 => ⟨S4096x1024, .f32⟩
  | 8 => ⟨S4096x1, .f32⟩
  | 9 => ⟨S_, .f32⟩
  | 10 => ⟨S4096x1, .f32⟩
  | 11 => ⟨S4096x1, .f32⟩
  | 12 => ⟨S_, .f32⟩
  | 13 => ⟨S4096, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S_, .f32⟩
  | 21 => ⟨S4096, .f32⟩
  | 22 => ⟨S4096x1, .f32⟩
  | 23 => ⟨S_, .f32⟩
  | 24 => ⟨S4096x1, .f32⟩
  | 25 => ⟨S4096x1, .f32⟩
  | 26 => ⟨S_, .f32⟩
  | 27 => ⟨S4096, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S1x1024, .f32⟩
  | 35 => ⟨S1x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S_, .f32⟩
  | 43 => ⟨S1024, .f32⟩
  | 44 => ⟨S1x1024, .f32⟩
  | 45 => ⟨S4096x4096, .bf16⟩
  | 46 => ⟨S4096x1024, .bf16⟩
  | 47 => ⟨S1x128, .f32⟩
  | 48 => ⟨S1x3200, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_cst_5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call0_cst : Ref sig .tc := ⟨.hbm, 55, rfl⟩
abbrev main_call0_v0 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_11 : Ref sig .tc := ⟨.hbm, 78, rfl⟩
abbrev main_v51 : Ref sig .tc := ⟨.hbm, 79, rfl⟩
abbrev main_v52 : Ref sig .tc := ⟨.hbm, 80, rfl⟩
abbrev main_cst_12 : Ref sig .tc := ⟨.hbm, 81, rfl⟩
abbrev main_v53 : Ref sig .tc := ⟨.hbm, 82, rfl⟩
abbrev main_v54 : Ref sig .tc := ⟨.hbm, 83, rfl⟩
abbrev main_cst_13 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_15 : Ref sig .tc := ⟨.hbm, 100, rfl⟩
abbrev main_v69 : Ref sig .tc := ⟨.hbm, 101, rfl⟩
abbrev main_v70 : Ref sig .tc := ⟨.hbm, 102, rfl⟩
abbrev main_cst_16 : Ref sig .tc := ⟨.hbm, 103, rfl⟩
abbrev main_v71 : Ref sig .tc := ⟨.hbm, 104, rfl⟩
abbrev main_cst_17 : Ref sig .tc := ⟨.hbm, 105, rfl⟩
abbrev main_v72 : Ref sig .tc := ⟨.hbm, 106, rfl⟩
abbrev main_v73 : Ref sig .tc := ⟨.hbm, 107, rfl⟩
abbrev main_cst_18 : Ref sig .tc := ⟨.hbm, 108, rfl⟩
abbrev main_v74 : Ref sig .tc := ⟨.hbm, 109, rfl⟩
abbrev main_cst_19 : Ref sig .tc := ⟨.hbm, 110, rfl⟩
abbrev main_v75 : Ref sig .tc := ⟨.hbm, 111, rfl⟩
abbrev main_cst_20 : Ref sig .tc := ⟨.hbm, 112, rfl⟩
abbrev main_cst_21 : Ref sig .tc := ⟨.hbm, 113, rfl⟩
abbrev main_v76 : Ref sig .tc := ⟨.hbm, 114, rfl⟩
abbrev main_v77 : Ref sig .tc := ⟨.hbm, 115, rfl⟩
abbrev main_cst_22 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_23 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_24 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_25 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_26 : Ref sig .tc := ⟨.hbm, 137, rfl⟩
abbrev main_v95 : Ref sig .tc := ⟨.hbm, 138, rfl⟩
abbrev main_v96 : Ref sig .tc := ⟨.hbm, 139, rfl⟩
abbrev main_cst_27 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_28 : Ref sig .tc := ⟨.hbm, 148, rfl⟩
abbrev main_v104 : Ref sig .tc := ⟨.hbm, 149, rfl⟩
abbrev main_v105 : Ref sig .tc := ⟨.hbm, 150, rfl⟩
abbrev main_cst_29 : Ref sig .tc := ⟨.hbm, 151, rfl⟩
abbrev main_v106 : Ref sig .tc := ⟨.hbm, 152, rfl⟩
abbrev main_v107 : Ref sig .tc := ⟨.hbm, 153, rfl⟩
abbrev main_cst_30 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_31 : Ref sig .tc := ⟨.hbm, 158, rfl⟩
abbrev main_v111 : Ref sig .tc := ⟨.hbm, 159, rfl⟩
abbrev main_v112 : Ref sig .tc := ⟨.hbm, 160, rfl⟩
abbrev main_cst_32 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_cst_33 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩

abbrev nD : Nat := 1
abbrev τ : Topo := Topo.v7x

variable {F : FTy → Type} [FloatOps F]
-- ==== Kernel11.lean ====
abbrev S4096x512 : Shape := ⟨2, ![4096, 512]⟩
abbrev S1024x1024 : Shape := ⟨2, ![1024, 1024]⟩
abbrev S4096x1024 : Shape := ⟨2, ![4096, 1024]⟩
abbrev S1x1024 : Shape := ⟨2, ![1, 1024]⟩
abbrev S4096x128 : Shape := ⟨2, ![4096, 128]⟩
abbrev S512x512 : Shape := ⟨2, ![512, 512]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 15
  | .vmem => 20
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1024x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x512, .bf16⟩
  | .hbm, ⟨10, _⟩ => ⟨S1024x1024, .bf16⟩
  | .hbm, ⟨11, _⟩ => ⟨S4096x1024, .f32⟩
  | .hbm, ⟨12, _⟩ => ⟨S4096x1024, .f32⟩
  | .hbm, ⟨13, _⟩ => ⟨S4096x128, .f32⟩
  | .hbm, ⟨14, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x128, .f32⟩
  | .local _ .vmem, ⟨17, _⟩ => ⟨S512x128, .f32⟩
  | .local _ .vmem, ⟨18, _⟩ => ⟨S512x1024, .bf16⟩
  | .local _ .vmem, ⟨19, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference11Ideal.lean ====
abbrev S4096x512 : Shape := ⟨2, ![4096, 512]⟩
abbrev S1024x1024 : Shape := ⟨2, ![1024, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x128 : Shape := ⟨2, ![4096, 128]⟩

abbrev nBuf : Space → Nat
  | .hbm => 75
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1024x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x128, .f32⟩
  | .hbm, ⟨67, _⟩ => ⟨S_, .f32⟩
  | .hbm, ⟨68, _⟩ => ⟨S1x1024, .f32⟩
  | .hbm, ⟨69, _⟩ => ⟨S1x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Kernel12.lean ====
abbrev S4096x256 : Shape := ⟨2, ![4096, 256]⟩
abbrev S1x256 : Shape := ⟨2, ![1, 256]⟩
abbrev S256x2048 : Shape := ⟨2, ![256, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S2048x256 : Shape := ⟨2, ![2048, 256]⟩
abbrev S2048x1024 : Shape := ⟨2, ![2048, 1024]⟩
abbrev S1024x256 : Shape := ⟨2, ![1024, 256]⟩

abbrev nBuf : Space → Nat
  | .hbm => 22
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S1x256, .f32⟩
  | .hbm, ⟨2, _⟩ => ⟨S256x2048, .f32⟩
  | .hbm, ⟨3, _⟩ => ⟨S4096x2048, .f32⟩
  | .hbm, ⟨4, _⟩ => ⟨S4096x2048, .bf16⟩
  | .hbm, ⟨5, _⟩ => ⟨S4096x256, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S4096x256, .f32⟩
  | .hbm, ⟨20, _⟩ => ⟨S4096x256, .bf16⟩
  | .hbm, ⟨21, _⟩ => ⟨S2048x256, .f32⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x256 : Shape := ⟨2, ![4096, 256]⟩
abbrev S1x256 : Shape := ⟨2, ![1, 256]⟩
abbrev S256x2048 : Shape := ⟨2, ![256, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S2048x256 : Shape := ⟨2, ![2048, 256]⟩

abbrev nBuf : Space → Nat
  | .hbm => 23
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S1x256, .f32⟩
  | .hbm, ⟨2, _⟩ => ⟨S256x2048, .f32⟩
  | .hbm, ⟨3, _⟩ => ⟨S4096x2048, .f32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S4096x2048, .f32⟩
  | .hbm, ⟨20, _⟩ => ⟨S2048x256, .f32⟩
  | .hbm, ⟨21, _⟩ => ⟨S256x2048, .f32⟩
  | .hbm, ⟨22, _⟩ => ⟨S2048x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel13.lean ====
abbrev S4096x256 : Shape := ⟨2, ![4096, 256]⟩
abbrev S1x256 : Shape := ⟨2, ![1, 256]⟩
abbrev S256x1536 : Shape := ⟨2, ![256, 1536]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S2048x256 : Shape := ⟨2, ![2048, 256]⟩
abbrev S2048x1536 : Shape := ⟨2, ![2048, 1536]⟩

abbrev nBuf : Space → Nat
  | .hbm => 22
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S1x256, .f32⟩
  | .hbm, ⟨2, _⟩ => ⟨S256x1536, .f32⟩
  | .hbm, ⟨3, _⟩ => ⟨S4096x1536, .f32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S4096x256, .bf16⟩
  | .hbm, ⟨20, _⟩ => ⟨S4096x1536, .bf16⟩
  | .hbm, ⟨21, _⟩ => ⟨S256x1536, .f32⟩
  | .local _ .vmem, ⟨0, _⟩ => ⟨S2048x256, .bf16⟩
  | .local _ .vmem, ⟨1, _⟩ => ⟨S2048x256, .bf16⟩
  | .local _ .vmem, ⟨2, _⟩ => ⟨S2048x1536, .bf16⟩
  | .local _ .vmem, ⟨3, _⟩ => ⟨S2048x1536, .bf16⟩
  | .local _ .vmem, ⟨4, _⟩ => ⟨S256x1536, .f32⟩
  | .local _ .vmem, ⟨5, _⟩ => ⟨S256x1536, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S4096x256 : Shape := ⟨2, ![4096, 256]⟩
abbrev S1x256 : Shape := ⟨2, ![1, 256]⟩
abbrev S256x1536 : Shape := ⟨2, ![256, 1536]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1536x256 : Shape := ⟨2, ![1536, 256]⟩

abbrev nBuf : Space → Nat
  | .hbm => 22
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S1x256, .f32⟩
  | .hbm, ⟨2, _⟩ => ⟨S256x1536, .f32⟩
  | .hbm, ⟨3, _⟩ => ⟨S4096x1536, .f32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S4096x1536, .f32⟩
  | .hbm, ⟨20, _⟩ => ⟨S1536x256, .f32⟩
  | .hbm, ⟨21, _⟩ => ⟨S256x1536, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel10.lean ====
abbrev S4096x256 : Shape := ⟨2, ![4096, 256]⟩
abbrev S4096x32 : Shape := ⟨2, ![4096, 32]⟩
abbrev S1x256 : Shape := ⟨2, ![1, 256]⟩
abbrev S256x768 : Shape := ⟨2, ![256, 768]⟩
abbrev S256x1024 : Shape := ⟨2, ![256, 1024]⟩
abbrev S4x4096x192 : Shape := ⟨3, ![4, 4096, 192]⟩
abbrev S4x4096x128 : Shape := ⟨3, ![4, 4096, 128]⟩
abbrev S_ : Shape := ⟨0, ![]⟩
abbrev S4096x2048 : Shape := ⟨2, ![4096, 2048]⟩
abbrev S4096x512 : Shape := ⟨2, ![4096, 512]⟩
abbrev S4096x3072 : Shape := ⟨2, ![4096, 3072]⟩
abbrev S4096x128 : Shape := ⟨2, ![4096, 128]⟩
abbrev S4096x64 : Shape := ⟨2, ![4096, 64]⟩
abbrev S4x4096x64 : Shape := ⟨3, ![4, 4096, 64]⟩
abbrev S4x4096x256 : Shape := ⟨3, ![4, 4096, 256]⟩
abbrev S768x256 : Shape := ⟨2, ![768, 256]⟩
abbrev S64x256 : Shape := ⟨2, ![64, 256]⟩
abbrev S128x256 : Shape := ⟨2, ![128, 256]⟩
abbrev S192x256 : Shape := ⟨2, ![192, 256]⟩
abbrev S256x256 : Shape := ⟨2, ![256, 256]⟩
abbrev S32x256 : Shape := ⟨2, ![32, 256]⟩
abbrev S2048x256 : Shape := ⟨2, ![2048, 256]⟩
abbrev S256x128 : Shape := ⟨2, ![256, 128]⟩
abbrev S256x4x256 : Shape := ⟨3, ![256, 4, 256]⟩
abbrev S256x1x128 : Shape := ⟨3, ![256, 1, 128]⟩
abbrev S256x1536 : Shape := ⟨2, ![256, 1536]⟩
abbrev S4096x1024 : Shape := ⟨2, ![4096, 1024]⟩
abbrev S4096x1536 : Shape := ⟨2, ![4096, 1536]⟩
abbrev S1x512 : Shape := ⟨2, ![1, 512]⟩
abbrev S4x512x256 : Shape := ⟨3, ![4, 512, 256]⟩
abbrev S4x512x128 : Shape := ⟨3, ![4, 512, 128]⟩
abbrev S512x1024 : Shape := ⟨2, ![512, 1024]⟩
abbrev S512x256 : Shape := ⟨2, ![512, 256]⟩
abbrev S512x2048 : Shape := ⟨2, ![512, 2048]⟩
abbrev S512x1536 : Shape := ⟨2, ![512, 1536]⟩
abbrev S1x512x256 : Shape := ⟨3, ![1, 512, 256]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S256 : Shape := ⟨1, ![256]⟩

abbrev nBuf : Space → Nat
  | .hbm => 101
  | .vmem => 23
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x32, .f32⟩
  | .hbm, ⟨3, _⟩ => ⟨S4096x32, .f32⟩
  | .hbm, ⟨4, _⟩ => ⟨S1x256, .f32⟩
  | .hbm, ⟨5, _⟩ => ⟨S1x256, .f32⟩
  | .hbm, ⟨6, _⟩ => ⟨S256x768, .f32⟩
  | .hbm, ⟨7, _⟩ => ⟨S256x1024, .f32⟩
  | .hbm, ⟨8, _⟩ => ⟨S4x4096x192, .f32⟩
  | .hbm, ⟨9, _⟩ => ⟨S4x4096x192, .f32⟩
  | .hbm, ⟨10, _⟩ => ⟨S4x4096x128, .f32⟩
  | .hbm, ⟨11, _⟩ => ⟨S_, .f32⟩
  | .hbm, ⟨12, _⟩ => ⟨S4096x2048, .f32⟩
  | .hbm, ⟨13, _⟩ => ⟨S_, .f32⟩
  | .hbm, ⟨14, _⟩ => ⟨S4096x512, .f32⟩
  | .hbm, ⟨15, _⟩ => ⟨S4096x3072, .f32⟩
  | .hbm, ⟨16, _⟩ => ⟨S_, .f32⟩
  | .hbm, ⟨17, _⟩ => ⟨S4096x128, .f32⟩
  | .hbm, ⟨18, _⟩ => ⟨S_, .f32⟩
  | .hbm, ⟨19, _⟩ => ⟨S4096x128, .f32⟩
  | .hbm, ⟨20, _⟩ => ⟨S4096x64, .f32⟩
  | .hbm, ⟨21, _⟩ => ⟨S4096x256, .f32⟩
  | .hbm, ⟨22, _⟩ => ⟨S4096x64, .f32⟩
  | .hbm, ⟨23, _⟩ => ⟨S4096x256, .f32⟩
  | .hbm, ⟨24, _⟩ => ⟨S_, .f32⟩
  | .hbm, ⟨25, _⟩ => ⟨S4x4096x64, .f32⟩
  | .hbm, ⟨26, _⟩ => ⟨S4x4096x256, .f32⟩
  | .hbm, ⟨27, _⟩ => ⟨S4x4096x256, .bf16⟩
  | .hbm, ⟨28, _⟩ => ⟨S_, .f32⟩
  | .hbm, ⟨29, _⟩ => ⟨S4x4096x64, .f32⟩
  | .hbm, ⟨30, _⟩ => ⟨S4x4096x256, .f32⟩
  | .hbm, ⟨31, _⟩ => ⟨S4x4096x256, .bf16⟩
  | .hbm, ⟨32, _⟩ => ⟨S4x4096x128, .bf16⟩
  | .hbm, ⟨33, _⟩ => ⟨S768x256, .f32⟩
  | .hbm, ⟨34, _⟩ => ⟨S768x256, .bf16⟩
  | .hbm, ⟨35, _⟩ => ⟨S_, .bf16⟩
  | .hbm, ⟨36, _⟩ => ⟨S64x256, .bf16⟩
  | .hbm, ⟨37, _⟩ => ⟨S_, .bf16⟩
  | .hbm, ⟨38, _⟩ => ⟨S128x256, .bf16⟩
  | .hbm, ⟨39, _⟩ => ⟨S192x256, .bf16⟩
  | .hbm, ⟨40, _⟩ => ⟨S256x256, .bf16⟩
  | .hbm, ⟨41, _⟩ => ⟨S192x256, .bf16⟩
  | .hbm, ⟨42, _⟩ => ⟨S256x256, .bf16⟩
  | .hbm, ⟨43, _⟩ => ⟨S192x256, .bf16⟩
  | .hbm, ⟨44, _⟩ => ⟨S256x256, .bf16⟩
  | .hbm, ⟨45, _⟩ => ⟨S192x256, .bf16⟩
  | .hbm, ⟨46, _⟩ => ⟨S256x256, .bf16⟩
  | .hbm, ⟨47, _⟩ => ⟨S64x256, .bf16⟩
  | .hbm, ⟨48, _⟩ => ⟨S32x256, .bf16⟩
  | .hbm, ⟨49, _⟩ => ⟨S32x256, .bf16⟩
  | .hbm, ⟨50, _⟩ => ⟨S32x256, .bf16⟩
  | .hbm, ⟨51, _⟩ => ⟨S64x256, .bf16⟩
  | .hbm, ⟨52, _⟩ => ⟨S256x256, .bf16⟩
  | .hbm, ⟨53, _⟩ => ⟨S64x256, .bf16⟩
  | .hbm, ⟨54, _⟩ => ⟨S32x256, .bf16⟩
  | .hbm, ⟨55, _⟩ => ⟨S32x256, .bf16⟩
  | .hbm, ⟨56, _⟩ => ⟨S32x256, .bf16⟩
  | .hbm, ⟨57, _⟩ => ⟨S64x256, .bf16⟩
  | .hbm, ⟨58, _⟩ => ⟨S256x256, .bf16⟩
  | .hbm, ⟨59, _⟩ => ⟨S64x256, .bf16⟩
  | .hbm, ⟨60, _⟩ => ⟨S32x256, .bf16⟩
  | .hbm, ⟨61, _⟩ => ⟨S32x256, .bf16⟩
  | .hbm, ⟨62, _⟩ => ⟨S32x256, .bf16⟩
  | .hbm, ⟨63, _⟩ => ⟨S64x256, .bf16⟩
  | .hbm, ⟨64, _⟩ => ⟨S256x256, .bf16⟩
  | .hbm, ⟨65, _⟩ => ⟨S64x256, .bf16⟩
  | .hbm, ⟨66, _⟩ => ⟨S32x256, .bf16⟩
  | .hbm, ⟨67, _⟩ => ⟨S32x256, .bf16⟩
  | .hbm, ⟨68, _⟩ => ⟨S32x256, .bf16⟩
  | .hbm, ⟨69, _⟩ => ⟨S64x256, .bf16⟩
  | .hbm, ⟨70, _⟩ => ⟨S256x256, .bf16⟩
  | .hbm, ⟨71, _⟩ => ⟨S2048x256, .bf16⟩
  | .hbm, ⟨72, _⟩ => ⟨S256x1024, .bf16⟩
  | .hbm, ⟨73, _⟩ => ⟨S_, .bf16⟩
  | .hbm, ⟨74, _⟩ => ⟨S256x128, .bf16⟩
  | .hbm, ⟨75, _⟩ => ⟨S256x4x256, .bf16⟩
  | .hbm, ⟨76, _⟩ => ⟨S256x1x128, .bf16⟩
  | .hbm, ⟨77, _⟩ => ⟨S256x128, .bf16⟩
  | .hbm, ⟨78, _⟩ => ⟨S256x256, .bf16⟩
  | .hbm, ⟨79, _⟩ => ⟨S256x1x128, .bf16⟩
  | .hbm, ⟨80, _⟩ => ⟨S256x128, .bf16⟩
  | .hbm, ⟨81, _⟩ => ⟨S256x256, .bf16⟩
  | .hbm, ⟨82, _⟩ => ⟨S256x1x128, .bf16⟩
  | .hbm, ⟨83, _⟩ => ⟨S256x128, .bf16⟩
  | .hbm, ⟨84, _⟩ => ⟨S256x256, .bf16⟩
  | .hbm, ⟨85, _⟩ => ⟨S256x1x128, .bf16⟩
  | .hbm, ⟨86, _⟩ => ⟨S256x128, .bf16⟩
  | .hbm, ⟨87, _⟩ => ⟨S256x256, .bf16⟩
  | .hbm, ⟨88, _⟩ => ⟨S256x1x128, .bf16⟩
  | .hbm, ⟨89, _⟩ => ⟨S256x128, .bf16⟩
  | .hbm, ⟨90, _⟩ => ⟨S256x1x128, .bf16⟩
  | .hbm, ⟨91, _⟩ => ⟨S256x128, .bf16⟩
  | .hbm, ⟨92, _⟩ => ⟨S256x1x128, .bf16⟩
  | .hbm, ⟨93, _⟩ => ⟨S256x128, .bf16⟩
  | .hbm, ⟨94, _⟩ => ⟨S256x1x128, .bf16⟩
  | .hbm, ⟨95, _⟩ => ⟨S256x128, .bf16⟩
  | .hbm, ⟨96, _⟩ => ⟨S256x1536, .bf16⟩
  | .hbm, ⟨97, _⟩ => ⟨S4096x1024, .bf16⟩
  | .hbm, ⟨98, _⟩ => ⟨S4096x2048, .bf16⟩
  | .hbm, ⟨99, _⟩ => ⟨S4096x1536, .bf16⟩
  | .hbm, ⟨100, _⟩ => ⟨S1x512, .f32⟩
  | .local _ .vmem, ⟨0, _⟩ => ⟨S4x512x256, .bf16⟩
  | .local _ .vmem, ⟨1, _⟩ => ⟨S4x512x256, .bf16⟩
  | .local _ .vmem, ⟨2, _⟩ => ⟨S4x512x256, .bf16⟩
  | .local _ .vmem, ⟨3, _⟩ => ⟨S4x512x256, .bf16⟩
  | .local _ .vmem, ⟨4, _⟩ => ⟨S4x512x128, .bf16⟩
  | .local _ .vmem, ⟨5, _⟩ => ⟨S4x512x128, .bf16⟩
  | .local _ .vmem, ⟨6, _⟩ => ⟨S512x1024, .f32⟩
  | .local _ .vmem, ⟨7, _⟩ => ⟨S512x1024, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S2048x256, .bf16⟩
  | .local _ .vmem, ⟨13, _⟩ => ⟨S256x1536, .bf16⟩
  | .local _ .vmem, ⟨14, _⟩ => ⟨S1x256, .f32⟩
  | .local _ .vmem, ⟨15, _⟩ => ⟨S1x256, .f32⟩
  | .local _ .vmem, ⟨16, _⟩ => ⟨S512x1024, .bf16⟩
  | .local _ .vmem, ⟨17, _⟩ => ⟨S512x1024, .bf16⟩
  | .local _ .vmem, ⟨18, _⟩ => ⟨S512x2048, .bf16⟩
  | .local _ .vmem, ⟨19, _⟩ => ⟨S512x2048, .bf16⟩
  | .local _ .vmem, ⟨20, _⟩ => ⟨S512x1536, .bf16⟩
  | .local _ .vmem, ⟨21, _⟩ => ⟨S512x1536, .bf16⟩
  | .local _ .vmem, ⟨22, _⟩ => ⟨S1x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_cst_2 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_cst_6 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_7 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77_0 : Ref sig .tc := ⟨.hbm, 97, rfl⟩
abbrev main_v77_1 : Ref sig .tc := ⟨.hbm, 98, rfl⟩
abbrev main_v77_2 : Ref sig .tc := ⟨.hbm, 99, rfl⟩
abbrev main_v77_3 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference10Ideal.lean ====
abbrev S4096x256 : Shape := ⟨2, ![4096, 256]⟩
abbrev S4096x32 : Shape := ⟨2, ![4096, 32]⟩
abbrev S1x256 : Shape := ⟨2, ![1, 256]⟩
abbrev S256x768 : Shape := ⟨2, ![256, 768]⟩
abbrev S256x1024 : Shape := ⟨2, ![256, 1024]⟩
abbrev S4x4096x192 : Shape := ⟨3, ![4, 4096, 192]⟩
abbrev S4x4096x128 : Shape := ⟨3, ![4, 4096, 128]⟩
abbrev S4096x4x192 : Shape := ⟨3, ![4096, 4, 192]⟩
abbrev S4096x4x128 : Shape := ⟨3, ![4096, 4, 128]⟩
abbrev S_ : Shape := ⟨0, ![]⟩
abbrev S4096 : Shape := ⟨1, ![4096]⟩
abbrev S4096x1 : Shape := ⟨2, ![4096, 1]⟩
abbrev S4096x768 : Shape := ⟨2, ![4096, 768]⟩
abbrev S4096x4x64 : Shape := ⟨3, ![4096, 4, 64]⟩
abbrev S4096x1x32 : Shape := ⟨3, ![4096, 1, 32]⟩
abbrev S4096x4x32 : Shape := ⟨3, ![4096, 4, 32]⟩
abbrev S256 : Shape := ⟨1, ![256]⟩
abbrev S4096x1024 : Shape := ⟨2, ![4096, 1024]⟩
abbrev S4096x4x256 : Shape := ⟨3, ![4096, 4, 256]⟩
abbrev S4096x64 : Shape := ⟨2, ![4096, 64]⟩
abbrev S4096x1x64 : Shape := ⟨3, ![4096, 1, 64]⟩
abbrev S4096x2048 : Shape := ⟨2, ![4096, 2048]⟩
abbrev S4096x192 : Shape := ⟨2, ![4096, 192]⟩
abbrev S4096x1x192 : Shape := ⟨3, ![4096, 1, 192]⟩
abbrev S4096x1x128 : Shape := ⟨3, ![4096, 1, 128]⟩
abbrev S4096x1x256 : Shape := ⟨3, ![4096, 1, 256]⟩
abbrev S4096x512 : Shape := ⟨2, ![4096, 512]⟩
abbrev S4096x1536 : Shape := ⟨2, ![4096, 1536]⟩
abbrev S1x512 : Shape := ⟨2, ![1, 512]⟩

abbrev nBuf : Space → Nat
  | .hbm => 208
  | .vmem => 0
  | .smem => 0
  | _ => 0

abbrev hbmTy0_0 (i : Nat) : BufTy := match i % 128 with
  | 0 => ⟨S4096x256, .f32⟩
  | 1 => ⟨S4096x256, .f32⟩
  | 2 => ⟨S4096x32, .f32⟩
  | 3 => ⟨S4096x32, .f32⟩
  | 4 => ⟨S1x256, .f32⟩
  | 5 => ⟨S1x256, .f32⟩
  | 6 => ⟨S256x768, .f32⟩
  | 7 => ⟨S256x1024, .f32⟩
  | 8 => ⟨S4x4096x192, .f32⟩
  | 9 => ⟨S4x4096x192, .f32⟩
  | 10 => ⟨S4x4096x128, .f32⟩
  | 11 => ⟨S4096x4x192, .f32⟩
  | 12 => ⟨S4096x4x192, .f32⟩
  | 13 => ⟨S4096x4x128, .f32⟩
  | 14 => ⟨S4096x256, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1, .f32⟩
  | 25 => ⟨S4096x1, .f32⟩
  | 26 => ⟨S_, .f32⟩
  | 27 => ⟨S4096x1, .f32⟩
  | 28 => ⟨S4096x1, .f32⟩
  | 29 => ⟨S4096x256, .f32⟩
  | 30 => ⟨S4096x256, .f32⟩
  | 31 => ⟨S4096x256, .f32⟩
  | 32 => ⟨S4096x256, .f32⟩
  | 33 => ⟨S4096x768, .f32⟩
  | 34 => ⟨S4096x4x192, .f32⟩
  | 35 => ⟨S4096x4x64, .f32⟩
  | 36 => ⟨S4096x1x32, .f32⟩
  | 37 => ⟨S4096x1x32, .f32⟩
  | 38 => ⟨S4096x4x32, .f32⟩
  | 39 => ⟨S4096x4x32, .f32⟩
  | 40 => ⟨S4096x4x32, .f32⟩
  | 41 => ⟨S4096x4x32, .f32⟩
  | 42 => ⟨S4096x4x32, .f32⟩
  | 43 => ⟨S4096x4x32, .f32⟩
  | 44 => ⟨S4096x4x32, .f32⟩
  | 45 => ⟨S4096x4x32, .f32⟩
  | 46 => ⟨S4096x4x32, .f32⟩
  | 47 => ⟨S4096x4x32, .f32⟩
  | 48 => ⟨S4096x4x32, .f32⟩
  | 49 => ⟨S4096x4x32, .f32⟩
  | 50 => ⟨S4096x4x64, .f32⟩
  | 51 => ⟨S4096x4x128, .f32⟩
  | 52 => ⟨S4096x4x192, .f32⟩
  | 53 => ⟨S_, .f32⟩
  | 54 => ⟨S4096x4x192, .f32⟩
  | 55 => ⟨S4096x4x192, .f32⟩
  | 56 => ⟨S_, .f32⟩
  | 57 => ⟨S4096x4x192, .f32⟩
  | 58 => ⟨S4096x4x192, .f32⟩
  | 59 => ⟨S4096x4x128, .f32⟩
  | 60 => ⟨S4096x4x64, .f32⟩
  | 61 => ⟨S_, .f32⟩
  | 62 => ⟨S4096x4x192, .f32⟩
  | 63 => ⟨S4096x4x32, .f32⟩
  | 64 => ⟨S4096x4x32, .f32⟩
  | 65 => ⟨S4096x4x32, .f32⟩
  | 66 => ⟨S4096x4x32, .f32⟩
  | 67 => ⟨S4096x4x32, .f32⟩
  | 68 => ⟨S4096x4x32, .f32⟩
  | 69 => ⟨S4096x4x32, .f32⟩
  | 70 => ⟨S4096x4x32, .f32⟩
  | 71 => ⟨S4096x4x32, .f32⟩
  | 72 => ⟨S4096x4x32, .f32⟩
  | 73 => ⟨S4096x4x32, .f32⟩
  | 74 => ⟨S4096x4x32, .f32⟩
  | 75 => ⟨S4096x4x32, .f32⟩
  | 76 => ⟨S4096x4x64, .f32⟩
  | 77 => ⟨S_, .f32⟩
  | 78 => ⟨S4096x4x192, .f32⟩
  | 79 => ⟨S4096x4x192, .f32⟩
  | 80 => ⟨S4096x768, .f32⟩
  | 81 => ⟨S4096x256, .f32⟩
  | 82 => ⟨S4096x256, .f32⟩
  | 83 => ⟨S_, .f32⟩
  | 84 => ⟨S256, .f32⟩
  | 85 => ⟨S1x256, .f32⟩
  | 86 => ⟨S4096x256, .f32⟩
  | 87 => ⟨S4096x256, .f32⟩
  | 88 => ⟨S4096x256, .f32⟩
  | 89 => ⟨S_, .f32⟩
  | 90 => ⟨S4096, .f32⟩
  | 91 => ⟨S4096x1, .f32⟩
  | 92 => ⟨S4096x256, .f32⟩
  | 93 => ⟨S4096x256, .f32⟩
  | 94 => ⟨S4096x1, .f32⟩
  | 95 => ⟨S_, .f32⟩
  | 96 => ⟨S4096x1, .f32⟩
  | 97 => ⟨S4096x1, .f32⟩
  | 98 => ⟨S_, .f32⟩
  | 99 => ⟨S4096, .f32⟩
  | 100 => ⟨S4096x256, .f32⟩
  | 101 => ⟨S4096x256, .f32⟩
  | 102 => ⟨S4096x256, .f32⟩
  | 103 => ⟨S4096x256, .f32⟩
  | 104 => ⟨S4096x256, .f32⟩
  | 105 => ⟨S4096x256, .f32⟩
  | 106 => ⟨S_, .f32⟩
  | 107 => ⟨S4096, .f32⟩
  | 108 => ⟨S4096x1, .f32⟩
  | 109 => ⟨S_, .f32⟩
  | 110 => ⟨S4096x1, .f32⟩
  | 111 => ⟨S4096x1, .f32⟩
  | 112 => ⟨S_, .f32⟩
  | 113 => ⟨S4096x1, .f32⟩
  | 114 => ⟨S4096x1, .f32⟩
  | 115 => ⟨S4096x1, .f32⟩
  | 116 => ⟨S4096x1, .f32⟩
  | 117 => ⟨S_, .f32⟩
  | 118 => ⟨S4096x1, .f32⟩
  | 119 => ⟨S4096x1, .f32⟩
  | 120 => ⟨S4096x256, .f32⟩
  | 121 => ⟨S4096x256, .f32⟩
  | 122 => ⟨S4096x256, .f32⟩
  | 123 => ⟨S4096x256, .f32⟩
  | 124 => ⟨S4096x1024, .f32⟩
  | 125 => ⟨S4096x4x256, .f32⟩
  | 126 => ⟨S4096x4x128, .f32⟩
  | 127 => ⟨S4096x4x128, .f32⟩
  | _ => ⟨S4096x256, .f32⟩

abbrev hbmTy0_1 (i : Nat) : BufTy := match i % 128 with
  | 0 => ⟨S4096x4x128, .f32⟩
  | 1 => ⟨S_, .f32⟩
  | 2 => ⟨S4096x4x256, .f32⟩
  | 3 => ⟨S_, .f32⟩
  | 4 => ⟨S4096x4x256, .f32⟩
  | 5 => ⟨S4096x4x256, .f32⟩
  | 6 => ⟨S4096x1024, .f32⟩
  | 7 => ⟨S4096x256, .f32⟩
  | 8 => ⟨S4096x256, .f32⟩
  | 9 => ⟨S_, .f32⟩
  | 10 => ⟨S256, .f32⟩
  | 11 => ⟨S1x256, .f32⟩
  | 12 => ⟨S4096x256, .f32⟩
  | 13 => ⟨S4096x256, .f32⟩
  | 14 => ⟨S4096x256, .f32⟩
  | 15 => ⟨S_, .f32⟩
  | 16 => ⟨S4096, .f32⟩
  | 17 => ⟨S4096x1, .f32⟩
  | 18 => ⟨S4096x256, .f32⟩
  | 19 => ⟨S4096x256, .f32⟩
  | 20 => ⟨S4096x1, .f32⟩
  | 21 => ⟨S_, .f32⟩
  | 22 => ⟨S4096x1, .f32⟩
  | 23 => ⟨S4096x1, .f32⟩
  | 24 => ⟨S_, .f32⟩
  | 25 => ⟨S4096, .f32⟩
  | 26 => ⟨S4096x256, .f32⟩
  | 27 => ⟨S4096x256, .f32⟩
  | 28 => ⟨S4096x256, .f32⟩
  | 29 => ⟨S4096x256, .f32⟩
  | 30 => ⟨S4096x256, .f32⟩
  | 31 => ⟨S4096x64, .f32⟩
  | 32 => ⟨S4096x1x64, .f32⟩
  | 33 => ⟨S4096x64, .f32⟩
  | 34 => ⟨S4096x1x64, .f32⟩
  | 35 => ⟨S_, .f32⟩
  | 36 => ⟨S4096x4x192, .f32⟩
  | 37 => ⟨S4096x4x192, .f32⟩
  | 38 => ⟨S4096x4x128, .f32⟩
  | 39 => ⟨S4096x4x64, .f32⟩
  | 40 => ⟨S_, .f32⟩
  | 41 => ⟨S4096x4x64, .f32⟩
  | 42 => ⟨S4096x4x64, .f32⟩
  | 43 => ⟨S4096x4x64, .f32⟩
  | 44 => ⟨S4096x4x256, .f32⟩
  | 45 => ⟨S_, .f32⟩
  | 46 => ⟨S4096x4x128, .f32⟩
  | 47 => ⟨S4096x4x64, .f32⟩
  | 48 => ⟨S4096x4x64, .f32⟩
  | 49 => ⟨S4096x4x256, .f32⟩
  | 50 => ⟨S4096x1024, .f32⟩
  | 51 => ⟨S4096x1024, .f32⟩
  | 52 => ⟨S4096x2048, .f32⟩
  | 53 => ⟨S_, .f32⟩
  | 54 => ⟨S4096x192, .f32⟩
  | 55 => ⟨S4096x1x192, .f32⟩
  | 56 => ⟨S4096x1x128, .f32⟩
  | 57 => ⟨S4096x1x64, .f32⟩
  | 58 => ⟨S_, .f32⟩
  | 59 => ⟨S4096x1x64, .f32⟩
  | 60 => ⟨S4096x1x64, .f32⟩
  | 61 => ⟨S4096x1x256, .f32⟩
  | 62 => ⟨S_, .f32⟩
  | 63 => ⟨S4096x1x128, .f32⟩
  | 64 => ⟨S4096x1x64, .f32⟩
  | 65 => ⟨S4096x1x256, .f32⟩
  | 66 => ⟨S4096x256, .f32⟩
  | 67 => ⟨S4096x256, .f32⟩
  | 68 => ⟨S4096x512, .f32⟩
  | 69 => ⟨S_, .f32⟩
  | 70 => ⟨S4096x4x64, .f32⟩
  | 71 => ⟨S4096x4x256, .f32⟩
  | 72 => ⟨S4096x1024, .f32⟩
  | 73 => ⟨S4096x512, .f32⟩
  | 74 => ⟨S4096x1536, .f32⟩
  | 75 => ⟨S4096x1024, .f32⟩
  | 76 => ⟨S4096x1024, .bf16⟩
  | 77 => ⟨S4096x2048, .bf16⟩
  | 78 => ⟨S4096x1536, .bf16⟩
  | 79 => ⟨S1x512, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_6 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_7 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_8 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_9 : Ref sig .tc := ⟨.hbm, 95, rfl⟩
abbrev main_v74 : Ref sig .tc := ⟨.hbm, 96, rfl⟩
abbrev main_v75 : Ref sig .tc := ⟨.hbm, 97, rfl⟩
abbrev main_cst_10 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_11 : Ref sig .tc := ⟨.hbm, 106, rfl⟩
abbrev main_v83 : Ref sig .tc := ⟨.hbm, 107, rfl⟩
abbrev main_v84 : Ref sig .tc := ⟨.hbm, 108, rfl⟩
abbrev main_cst_12 : Ref sig .tc := ⟨.hbm, 109, rfl⟩
abbrev main_v85 : Ref sig .tc := ⟨.hbm, 110, rfl⟩
abbrev main_v86 : Ref sig .tc := ⟨.hbm, 111, rfl⟩
abbrev main_cst_13 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_14 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_cst_15 : Ref sig .tc := ⟨.hbm, 129, rfl⟩
abbrev main_v102 : Ref sig .tc := ⟨.hbm, 130, rfl⟩
abbrev main_cst_16 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_17 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_18 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_cst_19 : Ref sig .tc := ⟨.hbm, 149, rfl⟩
abbrev main_v118 : Ref sig .tc := ⟨.hbm, 150, rfl⟩
abbrev main_v119 : Ref sig .tc := ⟨.hbm, 151, rfl⟩
abbrev main_cst_20 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_cst_21 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_22 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_cst_23 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_cst_24 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_cst_25 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_cst_26 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_cst_27 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩

abbrev nD : Nat := 1
abbrev τ : Topo := Topo.v7x

variable {F : FTy → Type} [FloatOps F]
-- ==== Kernel14.lean ====
abbrev S8x512x1024 : Shape := ⟨3, ![8, 512, 1024]⟩
abbrev S512x1024 : Shape := ⟨2, ![512, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S8x512x1024 : Shape := ⟨3, ![8, 512, 1024]⟩
abbrev S512x1024 : Shape := ⟨2, ![512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel15.lean ====
abbrev S8x1024x512 : Shape := ⟨3, ![8, 1024, 512]⟩
abbrev S1024x512 : Shape := ⟨2, ![1024, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S8x1024x512 : Shape := ⟨3, ![8, 1024, 512]⟩
abbrev S1024x512 : Shape := ⟨2, ![1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel16.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference16Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x256x128, .bf16⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .local _ .vmem, ⟨0, _⟩ => ⟨S8x256x128, .bf16⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | _, _ => ⟨S8x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference17Ideal.lean ====
abbrev S8x256x128 : Shape := ⟨3, ![8, 256, 128]⟩
abbrev S256x128 : Shape := ⟨2, ![256, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x128, .bf16⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S8x256x128, .f32⟩
  | .hbm, ⟨5, _⟩ => ⟨S_, .f32⟩
  | .hbm, ⟨6, _⟩ => ⟨S256x128, .f32⟩
  | .hbm, ⟨7, _⟩ => ⟨S_, .f32⟩
  | .hbm, ⟨8, _⟩ => ⟨S256x128, .f32⟩
  | .hbm, ⟨9, _⟩ => ⟨S256x128, .f32⟩
  | .hbm, ⟨10, _⟩ => ⟨S_, .f32⟩
  | .hbm, ⟨11, _⟩ => ⟨S256x128, .f32⟩
  | .hbm, ⟨12, _⟩ => ⟨S256x128, .f32⟩
  | .hbm, ⟨13, _⟩ => ⟨S256x128, .f32⟩
  | .hbm, ⟨14, _⟩ => ⟨S_, .f32⟩
  | .hbm, ⟨15, _⟩ => ⟨S256x128, .f32⟩
  | .hbm, ⟨16, _⟩ => ⟨S256x128, .f32⟩
  | .hbm, ⟨17, _⟩ => ⟨S256x128, .f32⟩
  | .hbm, ⟨18, _⟩ => ⟨S_, .f32⟩
  | .hbm, ⟨19, _⟩ => ⟨S256x128, .f32⟩
  | .hbm, ⟨20, _⟩ => ⟨S256x128, .f32⟩
  | .hbm, ⟨21, _⟩ => ⟨S256x128, .f32⟩
  | .hbm, ⟨22, _⟩ => ⟨S_, .f32⟩
  | .hbm, ⟨23, _⟩ => ⟨S256x128, .f32⟩
  | .hbm, ⟨24, _⟩ => ⟨S256x128, .f32⟩
  | .hbm, ⟨25, _⟩ => ⟨S_, .f32⟩
  | .hbm, ⟨26, _⟩ => ⟨S256x128, .f32⟩
  | .hbm, ⟨27, _⟩ => ⟨S256x128, .f32⟩
  | .hbm, ⟨28, _⟩ => ⟨S256x128, .f32⟩
  | .hbm, ⟨29, _⟩ => ⟨S_, .f32⟩
  | .hbm, ⟨30, _⟩ => ⟨S256x128, .f32⟩
  | .hbm, ⟨31, _⟩ => ⟨S256x128, .f32⟩
  | .hbm, ⟨32, _⟩ => ⟨S256x128, .f32⟩
  | .hbm, ⟨33, _⟩ => ⟨S_, .f32⟩
  | .hbm, ⟨34, _⟩ => ⟨S256x128, .f32⟩
  | .hbm, ⟨35, _⟩ => ⟨S256x128, .f32⟩
  | .hbm, ⟨36, _⟩ => ⟨S256x128, .f32⟩
  | .hbm, ⟨37, _⟩ => ⟨S_, .f32⟩
  | .hbm, ⟨38, _⟩ => ⟨S256x128, .f32⟩
  | .hbm, ⟨39, _⟩ => ⟨S256x128, .f32⟩
  | _, _ => ⟨S8x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S8x96x256 : Shape := ⟨3, ![8, 96, 256]⟩
abbrev S96x256 : Shape := ⟨2, ![96, 256]⟩
abbrev S1x96x256 : Shape := ⟨3, ![1, 96, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x96x256, .bf16⟩
  | .hbm, ⟨1, _⟩ => ⟨S96x256, .f32⟩
  | .hbm, ⟨2, _⟩ => ⟨S96x256, .f32⟩
  | .hbm, ⟨3, _⟩ => ⟨S96x256, .f32⟩
  | .hbm, ⟨4, _⟩ => ⟨S96x256, .f32⟩
  | .hbm, ⟨5, _⟩ => ⟨S96x256, .f32⟩
  | .hbm, ⟨6, _⟩ => ⟨S96x256, .f32⟩
  | .hbm, ⟨7, _⟩ => ⟨S96x256, .f32⟩
  | .local _ .vmem, ⟨0, _⟩ => ⟨S8x96x256, .bf16⟩
  | .local _ .vmem, ⟨1, _⟩ => ⟨S96x256, .f32⟩
  | .local _ .vmem, ⟨2, _⟩ => ⟨S96x256, .f32⟩
  | .local _ .vmem, ⟨3, _⟩ => ⟨S96x256, .f32⟩
  | .local _ .vmem, ⟨4, _⟩ => ⟨S96x256, .f32⟩
  | .local _ .vmem, ⟨5, _⟩ => ⟨S96x256, .f32⟩
  | .local _ .vmem, ⟨6, _⟩ => ⟨S96x256, .f32⟩
  | .local _ .vmem, ⟨7, _⟩ => ⟨S96x256, .f32⟩
  | _, _ => ⟨S8x96x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x96x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S96x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S96x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S96x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S96x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S96x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S96x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference18Ideal.lean ====
abbrev S8x96x256 : Shape := ⟨3, ![8, 96, 256]⟩
abbrev S96x256 : Shape := ⟨2, ![96, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x96x256, .bf16⟩
  | .hbm, ⟨1, _⟩ => ⟨S96x256, .f32⟩
  | .hbm, ⟨2, _⟩ => ⟨S96x256, .f32⟩
  | .hbm, ⟨3, _⟩ => ⟨S96x256, .f32⟩
  | .hbm, ⟨4, _⟩ => ⟨S8x96x256, .f32⟩
  | .hbm, ⟨5, _⟩ => ⟨S_, .f32⟩
  | .hbm, ⟨6, _⟩ => ⟨S96x256, .f32⟩
  | .hbm, ⟨7, _⟩ => ⟨S_, .f32⟩
  | .hbm, ⟨8, _⟩ => ⟨S96x256, .f32⟩
  | .hbm, ⟨9, _⟩ => ⟨S96x256, .f32⟩
  | .hbm, ⟨10, _⟩ => ⟨S_, .f32⟩
  | .hbm, ⟨11, _⟩ => ⟨S96x256, .f32⟩
  | .hbm, ⟨12, _⟩ => ⟨S96x256, .f32⟩
  | .hbm, ⟨13, _⟩ => ⟨S96x256, .f32⟩
  | .hbm, ⟨14, _⟩ => ⟨S_, .f32⟩
  | .hbm, ⟨15, _⟩ => ⟨S96x256, .f32⟩
  | .hbm, ⟨16, _⟩ => ⟨S96x256, .f32⟩
  | .hbm, ⟨17, _⟩ => ⟨S96x256, .f32⟩
  | .hbm, ⟨18, _⟩ => ⟨S_, .f32⟩
  | .hbm, ⟨19, _⟩ => ⟨S96x256, .f32⟩
  | .hbm, ⟨20, _⟩ => ⟨S96x256, .f32⟩
  | .hbm, ⟨21, _⟩ => ⟨S96x256, .f32⟩
  | .hbm, ⟨22, _⟩ => ⟨S_, .f32⟩
  | .hbm, ⟨23, _⟩ => ⟨S96x256, .f32⟩
  | .hbm, ⟨24, _⟩ => ⟨S96x256, .f32⟩
  | .hbm, ⟨25, _⟩ => ⟨S_, .f32⟩
  | .hbm, ⟨26, _⟩ => ⟨S96x256, .f32⟩
  | .hbm, ⟨27, _⟩ => ⟨S96x256, .f32⟩
  | .hbm, ⟨28, _⟩ => ⟨S96x256, .f32⟩
  | .hbm, ⟨29, _⟩ => ⟨S_, .f32⟩
  | .hbm, ⟨30, _⟩ => ⟨S96x256, .f32⟩
  | .hbm, ⟨31, _⟩ => ⟨S96x256, .f32⟩
  | .hbm, ⟨32, _⟩ => ⟨S96x256, .f32⟩
  | .hbm, ⟨33, _⟩ => ⟨S_, .f32⟩
  | .hbm, ⟨34, _⟩ => ⟨S96x256, .f32⟩
  | .hbm, ⟨35, _⟩ => ⟨S96x256, .f32⟩
  | .hbm, ⟨36, _⟩ => ⟨S96x256, .f32⟩
  | .hbm, ⟨37, _⟩ => ⟨S_, .f32⟩
  | .hbm, ⟨38, _⟩ => ⟨S96x256, .f32⟩
  | .hbm, ⟨39, _⟩ => ⟨S96x256, .f32⟩
  | _, _ => ⟨S8x96x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S8x336x1024 : Shape := ⟨3, ![8, 336, 1024]⟩
abbrev S328x1024 : Shape := ⟨2, ![328, 1024]⟩
abbrev S1x336x1024 : Shape := ⟨3, ![1, 336, 1024]⟩
abbrev S336x1024 : Shape := ⟨2, ![336, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x336x1024, .bf16⟩
  | .hbm, ⟨1, _⟩ => ⟨S328x1024, .f32⟩
  | .hbm, ⟨2, _⟩ => ⟨S328x1024, .f32⟩
  | .hbm, ⟨3, _⟩ => ⟨S328x1024, .f32⟩
  | .hbm, ⟨4, _⟩ => ⟨S328x1024, .f32⟩
  | .hbm, ⟨5, _⟩ => ⟨S328x1024, .f32⟩
  | .hbm, ⟨6, _⟩ => ⟨S328x1024, .f32⟩
  | .hbm, ⟨7, _⟩ => ⟨S328x1024, .f32⟩
  | .local _ .vmem, ⟨0, _⟩ => ⟨S8x336x1024, .bf16⟩
  | .local _ .vmem, ⟨1, _⟩ => ⟨S328x1024, .f32⟩
  | .local _ .vmem, ⟨2, _⟩ => ⟨S328x1024, .f32⟩
  | .local _ .vmem, ⟨3, _⟩ => ⟨S328x1024, .f32⟩
  | .local _ .vmem, ⟨4, _⟩ => ⟨S328x1024, .f32⟩
  | .local _ .vmem, ⟨5, _⟩ => ⟨S328x1024, .f32⟩
  | .local _ .vmem, ⟨6, _⟩ => ⟨S328x1024, .f32⟩
  | .local _ .vmem, ⟨7, _⟩ => ⟨S328x1024, .f32⟩
  | _, _ => ⟨S8x336x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x336x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S328x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S328x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S328x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S328x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S328x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S328x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S328x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S8x336x1024 : Shape := ⟨3, ![8, 336, 1024]⟩
abbrev S328x1024 : Shape := ⟨2, ![328, 1024]⟩
abbrev S8x328x1024 : Shape := ⟨3, ![8, 328, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x336x1024, .bf16⟩
  | .hbm, ⟨1, _⟩ => ⟨S328x1024, .f32⟩
  | .hbm, ⟨2, _⟩ => ⟨S328x1024, .f32⟩
  | .hbm, ⟨3, _⟩ => ⟨S328x1024, .f32⟩
  | .hbm, ⟨4, _⟩ => ⟨S8x328x1024, .bf16⟩
  | .hbm, ⟨5, _⟩ => ⟨S8x328x1024, .f32⟩
  | .hbm, ⟨6, _⟩ => ⟨S_, .f32⟩
  | .hbm, ⟨7, _⟩ => ⟨S328x1024, .f32⟩
  | .hbm, ⟨8, _⟩ => ⟨S_, .f32⟩
  | .hbm, ⟨9, _⟩ => ⟨S328x1024, .f32⟩
  | .hbm, ⟨10, _⟩ => ⟨S328x1024, .f32⟩
  | .hbm, ⟨11, _⟩ => ⟨S_, .f32⟩
  | .hbm, ⟨12, _⟩ => ⟨S328x1024, .f32⟩
  | .hbm, ⟨13, _⟩ => ⟨S328x1024, .f32⟩
  | .hbm, ⟨14, _⟩ => ⟨S328x1024, .f32⟩
  | .hbm, ⟨15, _⟩ => ⟨S_, .f32⟩
  | .hbm, ⟨16, _⟩ => ⟨S328x1024, .f32⟩
  | .hbm, ⟨17, _⟩ => ⟨S328x1024, .f32⟩
  | .hbm, ⟨18, _⟩ => ⟨S328x1024, .f32⟩
  | .hbm, ⟨19, _⟩ => ⟨S_, .f32⟩
  | .hbm, ⟨20, _⟩ => ⟨S328x1024, .f32⟩
  | .hbm, ⟨21, _⟩ => ⟨S328x1024, .f32⟩
  | .hbm, ⟨22, _⟩ => ⟨S328x1024, .f32⟩
  | .hbm, ⟨23, _⟩ => ⟨S_, .f32⟩
  | .hbm, ⟨24, _⟩ => ⟨S328x1024, .f32⟩
  | .hbm, ⟨25, _⟩ => ⟨S328x1024, .f32⟩
  | .hbm, ⟨26, _⟩ => ⟨S_, .f32⟩
  | .hbm, ⟨27, _⟩ => ⟨S328x1024, .f32⟩
  | .hbm, ⟨28, _⟩ => ⟨S328x1024, .f32⟩
  | .hbm, ⟨29, _⟩ => ⟨S328x1024, .f32⟩
  | .hbm, ⟨30, _⟩ => ⟨S_, .f32⟩
  | .hbm, ⟨31, _⟩ => ⟨S328x1024, .f32⟩
  | .hbm, ⟨32, _⟩ => ⟨S328x1024, .f32⟩
  | .hbm, ⟨33, _⟩ => ⟨S328x1024, .f32⟩
  | .hbm, ⟨34, _⟩ => ⟨S_, .f32⟩
  | .hbm, ⟨35, _⟩ => ⟨S328x1024, .f32⟩
  | .hbm, ⟨36, _⟩ => ⟨S328x1024, .f32⟩
  | .hbm, ⟨37, _⟩ => ⟨S328x1024, .f32⟩
  | .hbm, ⟨38, _⟩ => ⟨S_, .f32⟩
  | .hbm, ⟨39, _⟩ => ⟨S328x1024, .f32⟩
  | .hbm, ⟨40, _⟩ => ⟨S328x1024, .f32⟩
  | _, _ => ⟨S8x336x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel20.lean ====
abbrev S8x1024 : Shape := ⟨2, ![8, 1024]⟩
abbrev S8x768 : Shape := ⟨2, ![8, 768]⟩
abbrev S1024x768 : Shape := ⟨2, ![1024, 768]⟩
abbrev S1024x8 : Shape := ⟨2, ![1024, 8]⟩
abbrev S256x8 : Shape := ⟨2, ![256, 8]⟩
abbrev S256x768 : Shape := ⟨2, ![256, 768]⟩
abbrev S256x1 : Shape := ⟨2, ![256, 1]⟩
abbrev S1x768 : Shape := ⟨2, ![1, 768]⟩

abbrev nBuf : Space → Nat
  | .hbm => 10
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x8, .f32⟩
  | .hbm, ⟨6, _⟩ => ⟨S1024x768, .f32⟩
  | .hbm, ⟨7, _⟩ => ⟨S1024x768, .f32⟩
  | .hbm, ⟨8, _⟩ => ⟨S1024x768, .f32⟩
  | .hbm, ⟨9, _⟩ => ⟨S1024x768, .f32⟩
  | .local _ .vmem, ⟨0, _⟩ => ⟨S256x8, .f32⟩
  | .local _ .vmem, ⟨1, _⟩ => ⟨S256x8, .f32⟩
  | .local _ .vmem, ⟨2, _⟩ => ⟨S8x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference20Ideal.lean ====
abbrev S8x1024 : Shape := ⟨2, ![8, 1024]⟩
abbrev S8x768 : Shape := ⟨2, ![8, 768]⟩
abbrev S1024x768 : Shape := ⟨2, ![1024, 768]⟩
abbrev S768x1024 : Shape := ⟨2, ![768, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S8x768, .f32⟩
  | .hbm, ⟨6, _⟩ => ⟨S768x1024, .f32⟩
  | .hbm, ⟨7, _⟩ => ⟨S1024x768, .f32⟩
  | .hbm, ⟨8, _⟩ => ⟨S_, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S1024x768, .f32⟩
  | .hbm, ⟨23, _⟩ => ⟨S_, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | .hbm, ⟨37, _⟩ => ⟨S1024x768, .f32⟩
  | .hbm, ⟨38, _⟩ => ⟨S_, .f32⟩
  | .hbm, ⟨39, _⟩ => ⟨S1024x768, .f32⟩
  | .hbm, ⟨40, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel21.lean ====
abbrev S4096x1024 : Shape := ⟨2, ![4096, 1024]⟩
abbrev S1x1024 : Shape := ⟨2, ![1, 1024]⟩
abbrev S1024x3072 : Shape := ⟨2, ![1024, 3072]⟩
abbrev S4096x3072 : Shape := ⟨2, ![4096, 3072]⟩
abbrev S4096x2048 : Shape := ⟨2, ![4096, 2048]⟩
abbrev S256x2048 : Shape := ⟨2, ![256, 2048]⟩
abbrev S256x1024 : Shape := ⟨2, ![256, 1024]⟩
abbrev S1024x2048 : Shape := ⟨2, ![1024, 2048]⟩
abbrev S1024x1024 : Shape := ⟨2, ![1024, 1024]⟩
abbrev S1024 : Shape := ⟨1, ![1024]⟩

abbrev nBuf : Space → Nat
  | .hbm => 12
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x3072, .f32⟩
  | .hbm, ⟨4, _⟩ => ⟨S4096x3072, .f32⟩
  | .hbm, ⟨5, _⟩ => ⟨S4096x1024, .f32⟩
  | .hbm, ⟨6, _⟩ => ⟨S4096x2048, .f32⟩
  | .hbm, ⟨7, _⟩ => ⟨S4096x1024, .f32⟩
  | .hbm, ⟨8, _⟩ => ⟨S1024x3072, .bf16⟩
  | .hbm, ⟨9, _⟩ => ⟨S4096x1024, .f32⟩
  | .hbm, ⟨10, _⟩ => ⟨S1x1024, .f32⟩
  | .hbm, ⟨11, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S1024x3072, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference21Ideal.lean ====
abbrev S4096x1024 : Shape := ⟨2, ![4096, 1024]⟩
abbrev S1x1024 : Shape := ⟨2, ![1, 1024]⟩
abbrev S1024x3072 : Shape := ⟨2, ![1024, 3072]⟩
abbrev S4096x3072 : Shape := ⟨2, ![4096, 3072]⟩
abbrev S_ : Shape := ⟨0, ![]⟩
abbrev S1024 : Shape := ⟨1, ![1024]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x3072, .f32⟩
  | .hbm, ⟨4, _⟩ => ⟨S4096x3072, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x3072, .f32⟩
  | .hbm, ⟨17, _⟩ => ⟨S4096x1024, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S4096x1024, .f32⟩
  | .hbm, ⟨22, _⟩ => ⟨S_, .f32⟩
  | .hbm, ⟨23, _⟩ => ⟨S1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel22.lean ====
abbrev S4096x1024 : Shape := ⟨2, ![4096, 1024]⟩
abbrev S1x1024 : Shape := ⟨2, ![1, 1024]⟩
abbrev S1024x3072 : Shape := ⟨2, ![1024, 3072]⟩
abbrev S4096x3072 : Shape := ⟨2, ![4096, 3072]⟩
abbrev S512x1024 : Shape := ⟨2, ![512, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x3072, .f32⟩
  | .hbm, ⟨4, _⟩ => ⟨S1024x3072, .bf16⟩
  | .hbm, ⟨5, _⟩ => ⟨S4096x3072, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_13 : BitVec 32 := 0#32
  let v21 : BitVec 1 := Scalar.cmpi .eq arg2 c0_i32_13
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference22Ideal.lean ====
abbrev S4096x1024 : Shape := ⟨2, ![4096, 1024]⟩
abbrev S1x1024 : Shape := ⟨2, ![1, 1024]⟩
abbrev S1024x3072 : Shape := ⟨2, ![1024, 3072]⟩
abbrev S_ : Shape := ⟨0, ![]⟩
abbrev S4096x3072 : Shape := ⟨2, ![4096, 3072]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x3072, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel23.lean ====
abbrev S8x1024 : Shape := ⟨2, ![8, 1024]⟩
abbrev S1024x768 : Shape := ⟨2, ![1024, 768]⟩
abbrev S1x768 : Shape := ⟨2, ![1, 768]⟩
abbrev S8x768 : Shape := ⟨2, ![8, 768]⟩

abbrev nBuf : Space → Nat
  | .hbm => 5
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x768, .f32⟩
  | .hbm, ⟨4, _⟩ => ⟨S8x1024, .f32⟩
  | .local _ .vmem, ⟨0, _⟩ => ⟨S8x1024, .f32⟩
  | .local _ .vmem, ⟨1, _⟩ => ⟨S1024x768, .f32⟩
  | .local _ .vmem, ⟨2, _⟩ => ⟨S1x768, .f32⟩
  | .local _ .vmem, ⟨3, _⟩ => ⟨S8x768, .f32⟩
  | .local _ .vmem, ⟨4, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference23Ideal.lean ====
abbrev S8x1024 : Shape := ⟨2, ![8, 1024]⟩
abbrev S1024x768 : Shape := ⟨2, ![1024, 768]⟩
abbrev S1x768 : Shape := ⟨2, ![1, 768]⟩
abbrev S_ : Shape := ⟨0, ![]⟩
abbrev S8x768 : Shape := ⟨2, ![8, 768]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x768, .f32⟩
  | .hbm, ⟨13, _⟩ => ⟨S8x768, .f32⟩
  | .hbm, ⟨14, _⟩ => ⟨S8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel24.lean ====
abbrev S8x1x11904 : Shape := ⟨3, ![8, 1, 11904]⟩
abbrev S2x512 : Shape := ⟨2, ![2, 512]⟩
abbrev S1x11904 : Shape := ⟨2, ![1, 11904]⟩
abbrev S1x1x11904 : Shape := ⟨3, ![1, 1, 11904]⟩
abbrev S1x512 : Shape := ⟨2, ![1, 512]⟩

abbrev nBuf : Space → Nat
  | .hbm => 4
  | .vmem => 4
  | .smem => 0
  | _ => 0

abbrev bufTy : (tb : Table) → Fin (tcTables nBuf tb) → BufTy
  | .hbm, ⟨0, _⟩ => ⟨S8x1x11904, .f32⟩
  | .hbm, ⟨1, _⟩ => ⟨S2x512, .f32⟩
  | .hbm, ⟨2, _⟩ => ⟨S1x11904, .f32⟩
  | .hbm, ⟨3, _⟩ => ⟨S2x512, .f32⟩
  | .local _ .vmem, ⟨0, _⟩ => ⟨S8x1x11904, .f32⟩
  | .local _ .vmem, ⟨1, _⟩ => ⟨S2x512, .f32⟩
  | .local _ .vmem, ⟨2, _⟩ => ⟨S1x11904, .f32⟩
  | .local _ .vmem, ⟨3, _⟩ => ⟨S2x512, .f32⟩
  | _, _ => ⟨S8x1x11904, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1x11904 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x11904 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference24Ideal.lean ====
abbrev S8x1x11904 : Shape := ⟨3, ![8, 1, 11904]⟩
abbrev S2x512 : Shape := ⟨2, ![2, 512]⟩
abbrev S_ : Shape := ⟨0, ![]⟩
abbrev S1x11904 : Shape := ⟨2, ![1, 11904]⟩
abbrev S1x512 : Shape := ⟨2, ![1, 512]⟩
abbrev S512 : Shape := ⟨1, ![512]⟩

abbrev nBuf : Space → Nat
  | .hbm => 28
  | .vmem => 0
  | .smem => 0
  | _ => 0

abbrev bufTy : (tb : Table) → Fin (tcTables nBuf tb) → BufTy
  | .hbm, ⟨0, _⟩ => ⟨S8x1x11904, .f32⟩
  | .hbm, ⟨1, _⟩ => ⟨S2x512, .f32⟩
  | .hbm, ⟨2, _⟩ => ⟨S_, .f32⟩
  | .hbm, ⟨3, _⟩ => ⟨S1x11904, .f32⟩
  | .hbm, ⟨4, _⟩ => ⟨S1x512, .f32⟩
  | .hbm, ⟨5, _⟩ => ⟨S1x512, .f32⟩
  | .hbm, ⟨6, _⟩ => ⟨S2x512, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S_, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S_, .f32⟩
  | .hbm, ⟨21, _⟩ => ⟨S512, .f32⟩
  | .hbm, ⟨22, _⟩ => ⟨S2x512, .f32⟩
  | .hbm, ⟨23, _⟩ => ⟨S2x512, .f32⟩
  | .hbm, ⟨24, _⟩ => ⟨S1x512, .f32⟩
  | .hbm, ⟨25, _⟩ => ⟨S_, .f32⟩
  | .hbm, ⟨26, _⟩ => ⟨S2x512, .f32⟩
  | .hbm, ⟨27, _⟩ => ⟨S2x512, .f32⟩
  | _, _ => ⟨S8x1x11904, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel25.lean ====
abbrev S1x1x12288 : Shape := ⟨3, ![1, 1, 12288]⟩
abbrev S1x12288 : Shape := ⟨2, ![1, 12288]⟩

abbrev nBuf : Space → Nat
  | .hbm => 8
  | .vmem => 8
  | .smem => 0
  | _ => 0

abbrev bufTy : (tb : Table) → Fin (tcTables nBuf tb) → BufTy
  | .hbm, ⟨0, _⟩ => ⟨S1x1x12288, .f32⟩
  | .hbm, ⟨1, _⟩ => ⟨S1x12288, .f32⟩
  | .hbm, ⟨2, _⟩ => ⟨S1x12288, .f32⟩
  | .hbm, ⟨3, _⟩ => ⟨S1x12288, .f32⟩
  | .hbm, ⟨4, _⟩ => ⟨S1x12288, .f32⟩
  | .hbm, ⟨5, _⟩ => ⟨S1x12288, .f32⟩
  | .hbm, ⟨6, _⟩ => ⟨S1x12288, .f32⟩
  | .hbm, ⟨7, _⟩ => ⟨S1x12288, .f32⟩
  | .local _ .vmem, ⟨0, _⟩ => ⟨S1x1x12288, .f32⟩
  | .local _ .vmem, ⟨1, _⟩ => ⟨S1x12288, .f32⟩
  | .local _ .vmem, ⟨2, _⟩ => ⟨S1x12288, .f32⟩
  | .local _ .vmem, ⟨3, _⟩ => ⟨S1x12288, .f32⟩
  | .local _ .vmem, ⟨4, _⟩ => ⟨S1x12288, .f32⟩
  | .local _ .vmem, ⟨5, _⟩ => ⟨S1x12288, .f32⟩
  | .local _ .vmem, ⟨6, _⟩ => ⟨S1x12288, .f32⟩
  | .local _ .vmem, ⟨7, _⟩ => ⟨S1x12288, .f32⟩
  | _, _ => ⟨S1x1x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x12288 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference25Ideal.lean ====
abbrev S1x1x12288 : Shape := ⟨3, ![1, 1, 12288]⟩
abbrev S1x12288 : Shape := ⟨2, ![1, 12288]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1x12288, .f32⟩
  | .hbm, ⟨1, _⟩ => ⟨S1x12288, .f32⟩
  | .hbm, ⟨2, _⟩ => ⟨S1x12288, .f32⟩
  | .hbm, ⟨3, _⟩ => ⟨S1x12288, .f32⟩
  | .hbm, ⟨4, _⟩ => ⟨S1x12288, .f32⟩
  | .hbm, ⟨5, _⟩ => ⟨S_, .f32⟩
  | .hbm, ⟨6, _⟩ => ⟨S1x12288, .f32⟩
  | .hbm, ⟨7, _⟩ => ⟨S1x12288, .f32⟩
  | .hbm, ⟨8, _⟩ => ⟨S_, .f32⟩
  | .hbm, ⟨9, _⟩ => ⟨S1x12288, .f32⟩
  | .hbm, ⟨10, _⟩ => ⟨S1x12288, .f32⟩
  | .hbm, ⟨11, _⟩ => ⟨S1x12288, .f32⟩
  | .hbm, ⟨12, _⟩ => ⟨S_, .f32⟩
  | .hbm, ⟨13, _⟩ => ⟨S1x12288, .f32⟩
  | .hbm, ⟨14, _⟩ => ⟨S1x12288, .f32⟩
  | .hbm, ⟨15, _⟩ => ⟨S1x12288, .f32⟩
  | .hbm, ⟨16, _⟩ => ⟨S_, .f32⟩
  | .hbm, ⟨17, _⟩ => ⟨S1x12288, .f32⟩
  | .hbm, ⟨18, _⟩ => ⟨S1x12288, .f32⟩
  | .hbm, ⟨19, _⟩ => ⟨S1x12288, .f32⟩
  | .hbm, ⟨20, _⟩ => ⟨S_, .f32⟩
  | .hbm, ⟨21, _⟩ => ⟨S1x12288, .f32⟩
  | .hbm, ⟨22, _⟩ => ⟨S1x12288, .f32⟩
  | .hbm, ⟨23, _⟩ => ⟨S_, .f32⟩
  | .hbm, ⟨24, _⟩ => ⟨S1x12288, .f32⟩
  | .hbm, ⟨25, _⟩ => ⟨S1x12288, .f32⟩
  | .hbm, ⟨26, _⟩ => ⟨S1x12288, .f32⟩
  | .hbm, ⟨27, _⟩ => ⟨S_, .f32⟩
  | .hbm, ⟨28, _⟩ => ⟨S1x12288, .f32⟩
  | .hbm, ⟨29, _⟩ => ⟨S1x12288, .f32⟩
  | .hbm, ⟨30, _⟩ => ⟨S1x12288, .f32⟩
  | .hbm, ⟨31, _⟩ => ⟨S_, .f32⟩
  | .hbm, ⟨32, _⟩ => ⟨S1x12288, .f32⟩
  | .hbm, ⟨33, _⟩ => ⟨S1x12288, .f32⟩
  | .hbm, ⟨34, _⟩ => ⟨S1x12288, .f32⟩
  | .hbm, ⟨35, _⟩ => ⟨S_, .f32⟩
  | .hbm, ⟨36, _⟩ => ⟨S1x12288, .f32⟩
  | .hbm, ⟨37, _⟩ => ⟨S1x12288, .f32⟩
  | _, _ => ⟨S1x1x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Proof.Row.lean ====
/- One row of the layer normalisation's gradient over the extended reals: the form the kernel computes and the form
   `jax.vjp` of the plain normalisation computes agree on rows of finite numbers. Also the finite extended reals and
   the operations that keep them finite. -/
module

public import Idealize.ShloMosaic.Lib.IdealHost

@[expose] public section

set_option maxRecDepth 16384

noncomputable section

namespace Cert.Row

open Idealize.ShloMosaic

/-! ## Finite extended reals -/

/-- A finite extended real. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.max {x y : EReal} (hx : IsReal x) (hy : IsReal y) : IsReal (max x y) := by
  rcases max_choice x y with h | h <;> rw [h] <;> assumption

/-- The coercion commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- `|x| < ∞` holds of the finite extended reals only. -/
theorem isReal_of_abs_lt_top {x : EReal} (h : max x (-x) < ⊤) : IsReal x := by
  induction x using EReal.rec with
  | bot => simp at h
  | coe r => exact ⟨r, rfl⟩
  | top => simp at h

/-! ## The constants -/

theorem bits_1024 : Ideal.ofBits .f32 0x44800000#32 = ((1024 : ℝ) : EReal) := by
  simp [Ideal.ofBits, Ideal.ieee, -EReal.coe_mul]; norm_num

theorem bits_neg_half : Ideal.ofBits .f32 0xBF000000#32 = ((-(1 / 2) : ℝ) : EReal) := by
  simp [Ideal.ofBits, Ideal.ieee, -EReal.coe_mul, -EReal.coe_neg]; norm_num

theorem bits_inf : Ideal.ofBits .f32 0x7F800000#32 = ⊤ := by
  simp [Ideal.ofBits, Ideal.ieee]

theorem bits_eps : ∃ e : ℝ, 0 < e ∧ Ideal.ofBits .f32 0x3727C5AC#32 = (e : EReal) := by
  refine ⟨10995116 / 2 ^ 40, by norm_num, ?_⟩
  simp [Ideal.ofBits, Ideal.ieee, -EReal.coe_mul]; norm_num

theorem bits_alpha : IsReal (Ideal.ofBits .f32 0x3F9837F0#32) := by
  refine ⟨9975792 / 2 ^ 23, ?_⟩
  simp [Ideal.ofBits, Ideal.ieee, -EReal.coe_mul]; norm_num

/-! ## A row -/

/-- The mean of a row of 1024 numbers. -/
def mean (f : Fin 1024 → EReal) : EReal := Ideal.div (∑ k, f k) (Ideal.ofBits .f32 0x44800000#32)

/-- A row less its mean. -/
def cen (f : Fin 1024 → EReal) (j : Fin 1024) : EReal := f j - mean f

/-- A row's variance and the normalisation's epsilon. -/
def veps (f : Fin 1024 → EReal) : EReal := mean (fun k => cen f k * cen f k) + Ideal.ofBits .f32 0x3727C5AC#32

/-- The reciprocal of a row's standard deviation. -/
def rstd (f : Fin 1024 → EReal) : EReal := Ideal.rsqrt (veps f)

/-- The normalised row. -/
def hat (f : Fin 1024 → EReal) (j : Fin 1024) : EReal := cen f j * rstd f

/-- The gradient of the normalised row, the closed form: what the kernel computes. -/
def closedGrad (f a : Fin 1024 → EReal) (j : Fin 1024) : EReal :=
  rstd f * ((a j - mean a) - hat f j * mean (fun k => a k * hat f k))

/-- The gradient through the variance. -/
def varGrad (f a : Fin 1024 → EReal) : EReal :=
  Ideal.div ((∑ k, cen f k * a k) * (Ideal.ofBits .f32 0xBF000000#32 * Ideal.div (rstd f) (veps f))) (Ideal.ofBits .f32 0x44800000#32)

/-- The gradient of the row less its mean. -/
def cenGrad (f a : Fin 1024 → EReal) (j : Fin 1024) : EReal :=
  a j * rstd f + cen f j * varGrad f a + varGrad f a * cen f j

/-- The gradient of the normalised row, the chain rule written out: what `jax.vjp` of the normalisation computes. -/
def chainGrad (f a : Fin 1024 → EReal) (j : Fin 1024) : EReal :=
  cenGrad f a j + mean (fun k => -cenGrad f a k)

theorem mean_coe (f : Fin 1024 → ℝ) : mean (fun k => (f k : EReal)) = (((∑ k, f k) / 1024 : ℝ) : EReal) := by
  rw [mean, bits_1024, Ideal.div_coe (by norm_num), ← coe_sum, ← EReal.coe_mul]
  congr 1
  ring

theorem IsReal.mean {f : Fin 1024 → EReal} (h : ∀ k, IsReal (f k)) : IsReal (mean f) := by
  choose g hg using h
  rw [show f = fun k => (g k : EReal) from funext hg, mean_coe]
  exact ⟨_, rfl⟩

theorem cen_coe (f : Fin 1024 → ℝ) (j : Fin 1024) :
    cen (fun k => (f k : EReal)) j = ((f j - (∑ k, f k) / 1024 : ℝ) : EReal) := by
  rw [cen, mean_coe, EReal.coe_sub]

theorem sum_cen (f : Fin 1024 → ℝ) : ∑ j, (f j - (∑ k, f k) / 1024) = 0 := by
  rw [Finset.sum_sub_distrib, Finset.sum_const, Finset.card_univ, Fintype.card_fin, nsmul_eq_mul]
  push_cast
  ring

/-- On a finite row the variance and epsilon is a positive number and the standard deviation's reciprocal the root of its inverse. -/
theorem veps_coe (f : Fin 1024 → ℝ) :
    ∃ v : ℝ, 0 < v ∧ veps (fun k => (f k : EReal)) = (v : EReal) ∧ rstd (fun k => (f k : EReal)) = (((Real.sqrt v)⁻¹ : ℝ) : EReal) := by
  obtain ⟨e, he, hb⟩ := bits_eps
  have hv : veps (fun k => (f k : EReal)) = (((∑ k, (f k - (∑ l, f l) / 1024) * (f k - (∑ l, f l) / 1024)) / 1024 + e : ℝ) : EReal) := by
    rw [veps, hb]
    simp only [cen_coe, ← EReal.coe_mul]
    rw [mean_coe, EReal.coe_add]
  have hpos : 0 < (∑ k, (f k - (∑ l, f l) / 1024) * (f k - (∑ l, f l) / 1024)) / 1024 + e :=
    add_pos_of_nonneg_of_pos (div_nonneg (Finset.sum_nonneg fun k _ => mul_self_nonneg _) (by norm_num)) he
  refine ⟨_, hpos, hv, ?_⟩
  rw [rstd, hv, Ideal.rsqrt_coe, if_neg hpos.le.not_gt, if_neg hpos.ne']

theorem IsReal.cen {f : Fin 1024 → EReal} (h : ∀ k, IsReal (f k)) (j : Fin 1024) : IsReal (cen f j) :=
  (h j).sub (IsReal.mean h)

theorem IsReal.rstd {f : Fin 1024 → EReal} (h : ∀ k, IsReal (f k)) : IsReal (rstd f) := by
  choose g hg using h
  obtain ⟨v, -, -, hr⟩ := veps_coe g
  exact ⟨_, by rw [show f = fun k => (g k : EReal) from funext hg]; exact hr⟩

theorem IsReal.hat {f : Fin 1024 → EReal} (h : ∀ k, IsReal (f k)) (j : Fin 1024) : IsReal (hat f j) :=
  (IsReal.cen h j).mul (IsReal.rstd h)

/-- The identity between the two forms, over the reals. -/
theorem real_grad (c a : Fin 1024 → ℝ) (hc : ∑ j, c j = 0) (r v : ℝ) (hr : r * r * v = 1) (hv : v ≠ 0) (j : Fin 1024) :
    a j * r + c j * ((∑ k, c k * a k) * (-(1 / 2) * (r / v)) / 1024) + ((∑ k, c k * a k) * (-(1 / 2) * (r / v)) / 1024) * c j
        + (∑ l, -(a l * r + c l * ((∑ k, c k * a k) * (-(1 / 2) * (r / v)) / 1024) + ((∑ k, c k * a k) * (-(1 / 2) * (r / v)) / 1024) * c l)) / 1024
      = r * ((a j - (∑ k, a k) / 1024) - c j * r * ((∑ k, a k * (c k * r)) / 1024)) := by
  have hrv : r / v = r * r * r := by
    rw [div_eq_iff hv]
    linear_combination (-r) * hr
  have h1 : ∑ k, a k * (c k * r) = (∑ k, c k * a k) * r := by
    rw [Finset.sum_mul]
    exact Finset.sum_congr rfl fun k _ => by ring
  rw [hrv, h1]
  generalize hS : ∑ k, c k * a k = S
  have h2 : ∑ l, -(a l * r + c l * (S * (-(1 / 2) * (r * r * r)) / 1024) + (S * (-(1 / 2) * (r * r * r)) / 1024) * c l)
      = -((∑ l, a l) * r) + (∑ l, c l) * (S * (r * r * r) / 1024) := by
    rw [Finset.sum_mul, Finset.sum_mul, ← Finset.sum_neg_distrib, ← Finset.sum_add_distrib]
    exact Finset.sum_congr rfl fun k _ => by ring
  rw [h2, hc]
  ring

/-- On finite rows the chain rule and the closed form are one function. -/
theorem chainGrad_eq {f a : Fin 1024 → EReal} (hf : ∀ k, IsReal (f k)) (ha : ∀ k, IsReal (a k)) (j : Fin 1024) :
    chainGrad f a j = closedGrad f a j := by
  choose g hg using hf
  choose b hb using ha
  obtain rfl : f = fun k => (g k : EReal) := funext hg
  obtain rfl : a = fun k => (b k : EReal) := funext hb
  obtain ⟨v, hv, hve, hre⟩ := veps_coe g
  have hC : varGrad (fun k => (g k : EReal)) (fun k => (b k : EReal))
      = (((∑ k, (g k - (∑ l, g l) / 1024) * b k) * (-(1 / 2) * ((Real.sqrt v)⁻¹ / v)) / 1024 : ℝ) : EReal) := by
    rw [varGrad, hve, hre, bits_1024, bits_neg_half, Ideal.div_coe hv.ne', Ideal.div_coe (by norm_num)]
    simp only [cen_coe, ← EReal.coe_mul, ← coe_sum]
    congr 1
    ring
  rw [chainGrad, closedGrad]
  simp only [cenGrad, hat, hC, hre, cen_coe, mean_coe, ← EReal.coe_mul, ← EReal.coe_add, ← EReal.coe_sub, ← EReal.coe_neg]
  congr 1
  refine real_grad (fun j => g j - (∑ l, g l) / 1024) b (sum_cen g) (Real.sqrt v)⁻¹ v ?_ hv.ne' j
  rw [← mul_inv, Real.mul_self_sqrt hv.le, inv_mul_cancel₀ hv.ne']

end Cert.Row

end
-- ==== Proof.Spec.lean ====
/- The gradient of the residual, the layer normalisation, the modulation and the MLP, entry by entry over the extended
   reals: the functions both programs are shown to compute. -/
module

public import proofs.«01_k».proof.Proof.Row

@[expose] public section

noncomputable section

namespace Cert.Spec

open Idealize.ShloMosaic Cert.Row

/-- The factor of the residual's own branch. -/
abbrev alpha : EReal := Ideal.ofBits .f32 0x3F9837F0#32

/-- The constant two. -/
abbrev two : EReal := Ideal.ofBits .f32 0x40000000#32

theorem isReal_two : IsReal two := by
  refine ⟨2, ?_⟩
  simp [two, Ideal.ofBits, Ideal.ieee, -EReal.coe_mul]; norm_num

/-- The arguments, as functions of row and column. -/
structure In where
  x : Fin 4096 → Fin 1024 → EReal
  mix : Fin 4096 → Fin 1024 → EReal
  w1 : Fin 1024 → Fin 4096 → EReal
  w2 : Fin 4096 → Fin 1024 → EReal
  g : Fin 1024 → EReal
  b : Fin 1024 → EReal
  sc : Fin 1024 → EReal
  sh : Fin 1024 → EReal
  ga : Fin 1024 → EReal
  gm : Fin 1024 → EReal
  dr2 : Fin 4096 → Fin 1024 → EReal

variable (I : In)

/-- The residual sum that is normalised. -/
def r1 (i : Fin 4096) (j : Fin 1024) : EReal := alpha * I.x i j + (1 + I.ga j) * I.mix i j

/-- The normalised row with its gain and bias. -/
def x1 (i : Fin 4096) (j : Fin 1024) : EReal := hat (r1 I i) j * I.g j + I.b j

/-- The modulated row. -/
def u (i : Fin 4096) (j : Fin 1024) : EReal := x1 I i j * (1 + I.sc j) + I.sh j

/-- The hidden layer before its activation. -/
def pre (i : Fin 4096) (h : Fin 4096) : EReal := ∑ j, u I i j * I.w1 j h

/-- The gradient of the hidden layer before its activation, a squared rectifier. -/
def dpre (i : Fin 4096) (h : Fin 4096) : EReal :=
  (∑ j, ((1 + I.gm j) * I.dr2 i j) * I.w2 h j) * (two * max (pre I i h) 0)

/-- The gradient of the modulated row. -/
def du (i : Fin 4096) (j : Fin 1024) : EReal := ∑ h, dpre I i h * I.w1 j h

/-- The gradient of the normalised row with its gain and bias. -/
def dx1 (i : Fin 4096) (j : Fin 1024) : EReal := alpha * I.dr2 i j + du I i j * (1 + I.sc j)

/-- The gradient of the normalised row. -/
def dxh (i : Fin 4096) (j : Fin 1024) : EReal := dx1 I i j * I.g j

/-- The gradient of the residual sum. -/
def dr1 (i : Fin 4096) (j : Fin 1024) : EReal := closedGrad (r1 I i) (dxh I i) j

/-- The gradient of the mixer's output. -/
def dmix (i : Fin 4096) (j : Fin 1024) : EReal := (1 + I.ga j) * dr1 I i j

/-- The column sums: the gradients of the gate, the shift, the scale, the gain and the bias, one after another. -/
def small (j : Fin 5120) : EReal :=
  if h0 : (j : ℕ) < 1024 then ∑ i, dr1 I i ⟨j, h0⟩ * I.mix i ⟨j, h0⟩
  else if h1 : (j : ℕ) - 1024 < 1024 then ∑ i, du I i ⟨j - 1024, h1⟩
  else if h2 : (j : ℕ) - 1024 - 1024 < 1024 then ∑ i, x1 I i ⟨j - 1024 - 1024, h2⟩ * du I i ⟨j - 1024 - 1024, h2⟩
  else if h3 : (j : ℕ) - 1024 - 1024 - 1024 < 1024 then
    ∑ i, hat (r1 I i) ⟨j - 1024 - 1024 - 1024, h3⟩ * dx1 I i ⟨j - 1024 - 1024 - 1024, h3⟩
  else ∑ i, dx1 I i ⟨j - 1024 - 1024 - 1024 - 1024, by omega⟩

/-- Every argument's entries are finite. -/
structure Finite : Prop where
  x : ∀ i j, IsReal (I.x i j)
  mix : ∀ i j, IsReal (I.mix i j)
  w1 : ∀ i j, IsReal (I.w1 i j)
  w2 : ∀ i j, IsReal (I.w2 i j)
  g : ∀ j, IsReal (I.g j)
  b : ∀ j, IsReal (I.b j)
  sc : ∀ j, IsReal (I.sc j)
  sh : ∀ j, IsReal (I.sh j)
  ga : ∀ j, IsReal (I.ga j)
  gm : ∀ j, IsReal (I.gm j)
  dr2 : ∀ i j, IsReal (I.dr2 i j)

variable {I}

theorem Finite.r1 (h : Finite I) (i : Fin 4096) (j : Fin 1024) : IsReal (r1 I i j) :=
  (bits_alpha.mul (h.x i j)).add ((isReal_one.add (h.ga j)).mul (h.mix i j))

theorem Finite.pre (h : Finite I) (i k : Fin 4096) : IsReal (pre I i k) :=
  IsReal.sum _ fun j => ((((IsReal.hat (h.r1 i) j).mul (h.g j)).add (h.b j)).mul (isReal_one.add (h.sc j)) |>.add (h.sh j)).mul (h.w1 j k)

theorem Finite.dpre (h : Finite I) (i k : Fin 4096) : IsReal (dpre I i k) :=
  (IsReal.sum _ fun j => ((isReal_one.add (h.gm j)).mul (h.dr2 i j)).mul (h.w2 k j)).mul
    (isReal_two.mul ((h.pre i k).max isReal_zero))

theorem Finite.dxh (h : Finite I) (i : Fin 4096) (j : Fin 1024) : IsReal (dxh I i j) :=
  ((bits_alpha.mul (h.dr2 i j)).add ((IsReal.sum _ fun k => (h.dpre i k).mul (h.w1 j k)).mul (isReal_one.add (h.sc j)))).mul (h.g j)

/-- On finite arguments the chain rule written out is the closed form. -/
theorem Finite.chain (h : Finite I) (i : Fin 4096) (j : Fin 1024) :
    chainGrad (Spec.r1 I i) (Spec.dxh I i) j = Spec.dr1 I i j :=
  chainGrad_eq (h.r1 i) (h.dxh i) j

/-- Half of the sign test and half of the rectifier: where the hidden layer is not positive both forms are zero. -/
theorem relu_grad (p a : EReal) : (if 0 < p then a * (two * max p 0) else 0) = a * (two * max p 0) := by
  split_ifs with h
  · rfl
  · rw [max_eq_right (not_lt.mp h), mul_zero, mul_zero]

end Cert.Spec

end
-- ==== Proof.Ref.lean ====
/- The reference of the MLP half's gradient: its arguments, its intermediate arrays and its four results, entry by entry, as `Spec` names them. -/
module

public import proofs.«01_k».proof.Proof.Spec
public import proofs.«01_k».proof.Proof.Gen.ReferenceIdeal.Run
public import Idealize.ShloMosaic.Lib.Pointwise
public import Idealize.ShloMosaic.Lib.Claim

@[expose] public section

set_option maxRecDepth 16384

noncomputable section

namespace Cert.Ref

open Idealize.ShloMosaic Idealize.ShloMosaic.TcCoe Idealize.SL.Sem Idealize.ShloMosaic.StableHlo Cert.ReferenceIdeal Cert.ReferenceIdeal.Gen Cert.ReferenceIdeal.Value Cert.Spec Cert.Row

variable (V0 : Valuation τ sig (Elt Ideal))

abbrev arg0 : FVec Ideal S4096x1024 .f32 := V0 (Proc.devRef .tc main_arg0)
abbrev arg1 : FVec Ideal S4096x1024 .f32 := V0 (Proc.devRef .tc main_arg1)
abbrev arg2 : FVec Ideal S1024x4096 .f32 := V0 (Proc.devRef .tc main_arg2)
abbrev arg3 : FVec Ideal S4096x1024 .f32 := V0 (Proc.devRef .tc main_arg3)
abbrev arg4 : FVec Ideal S1x1024 .f32 := V0 (Proc.devRef .tc main_arg4)
abbrev arg5 : FVec Ideal S1x1024 .f32 := V0 (Proc.devRef .tc main_arg5)
abbrev arg6 : FVec Ideal S1x1024 .f32 := V0 (Proc.devRef .tc main_arg6)
abbrev arg7 : FVec Ideal S1x1024 .f32 := V0 (Proc.devRef .tc main_arg7)
abbrev arg8 : FVec Ideal S1x1024 .f32 := V0 (Proc.devRef .tc main_arg8)
abbrev arg9 : FVec Ideal S1x1024 .f32 := V0 (Proc.devRef .tc main_arg9)
abbrev arg10 : FVec Ideal S4096x1024 .f32 := V0 (Proc.devRef .tc main_arg10)

/-- The arguments, as functions of row and column. -/
def inp : In where
  x i j := arg0 V0 (ix2 i j)
  mix i j := arg1 V0 (ix2 i j)
  w1 i j := arg2 V0 (ix2 i j)
  w2 i j := arg3 V0 (ix2 i j)
  g j := arg4 V0 (ix2 0 j)
  b j := arg5 V0 (ix2 0 j)
  sc j := arg6 V0 (ix2 0 j)
  sh j := arg7 V0 (ix2 0 j)
  ga j := arg8 V0 (ix2 0 j)
  gm j := arg9 V0 (ix2 0 j)
  dr2 i j := arg10 V0 (ix2 i j)

theorem v6_at (i : Fin 4096) (j : Fin 1024) : (res_main_v6 V0 : FVec Ideal S4096x1024 .f32) (ix2 i j) = r1 (inp V0) i j := by
  pointwise [res_main_v6]
  rfl

theorem v60_at (i : Fin 4096) (j : Fin 1024) : (res_main_v60 V0 : FVec Ideal S4096x1024 .f32) (ix2 i j) = cen (r1 (inp V0) i) j := by
  pointwise [res_main_v60]
  simp only [v6_at]
  rfl

theorem v12_at (i : Fin 4096) (j : Fin 1024) : (res_main_v12 V0 : FVec Ideal S4096x1024 .f32) (ix2 i j) = cen (r1 (inp V0) i) j := by
  pointwise [res_main_v12]
  simp only [v6_at]
  rfl

theorem v26_at (i : Fin 4096) (j : Fin 1024) : (res_main_v26 V0 : FVec Ideal S4096x1024 .f32) (ix2 i j) = x1 (inp V0) i j := by
  pointwise [res_main_v26]
  simp only [v12_at]
  rfl

theorem v33_at (i h : Fin 4096) : (res_main_v33 V0 : FVec Ideal S4096x4096 .f32) (ix2 i h) = pre (inp V0) i h := by
  pointwise [res_main_v33]
  simp only [v26_at]
  rfl

theorem v37_at (j : Fin 1024) : (res_main_v37 V0 : FVec Ideal S1x1024 .f32) (ix2 0 j) = 1 + (inp V0).gm j := by
  pointwise [res_main_v37]
  rfl

theorem v38_at (i h : Fin 4096) : (res_main_v38 V0 : FVec Ideal S4096x4096 .f32) (ix2 i h) = max (pre (inp V0) i h) 0 := by
  pointwise [res_main_v38]
  simp only [v33_at]

theorem v67_at (i : Fin 4096) : (res_main_v67 V0 : FVec Ideal S4096x1 .f32) (ix2 i 0) = veps (r1 (inp V0) i) := by
  pointwise [res_main_v67]
  simp only [v60_at]
  rfl

theorem v68_at (i : Fin 4096) : (res_main_v68 V0 : FVec Ideal S4096x1 .f32) (ix2 i 0) = rstd (r1 (inp V0) i) := by
  pointwise [res_main_v68]
  simp only [v67_at]
  rfl

theorem v73_at (i : Fin 4096) (j : Fin 1024) : (res_main_v73 V0 : FVec Ideal S4096x1024 .f32) (ix2 i j) = hat (r1 (inp V0) i) j := by
  pointwise [res_main_v73]
  simp only [v60_at, v68_at]
  rfl

theorem v77_at (i : Fin 4096) (j : Fin 1024) : (res_main_v77 V0 : FVec Ideal S4096x1024 .f32) (ix2 i j) = x1 (inp V0) i j := by
  pointwise [res_main_v77]
  simp only [v73_at]
  rfl

theorem v79_at (j : Fin 1024) : (res_main_v79 V0 : FVec Ideal S1x1024 .f32) (ix2 0 j) = 1 + (inp V0).sc j := by
  pointwise [res_main_v79]
  rfl

theorem v84_at (i h : Fin 4096) : (res_main_v84 V0 : FVec Ideal S4096x4096 .f32) (ix2 i h) = pre (inp V0) i h := by
  pointwise [res_main_v84]
  simp only [v77_at, v79_at]
  rfl

theorem v88_at (j : Fin 1024) : (res_main_v88 V0 : FVec Ideal S1x1024 .f32) (ix2 0 j) = 1 + (inp V0).gm j := by
  pointwise [res_main_v88]
  rfl

theorem v89_at (i h : Fin 4096) : (res_main_v89 V0 : FVec Ideal S4096x4096 .f32) (ix2 i h) = max (pre (inp V0) i h) 0 := by
  pointwise [res_main_v89]
  simp only [v84_at]

theorem v110_at (i : Fin 4096) (j : Fin 1024) : (res_main_v110 V0 : FVec Ideal S4096x1024 .f32) (ix2 i j) = du (inp V0) i j := by
  pointwise [res_main_v110]
  simp only [v84_at, v88_at, v89_at]
  show (_ : EReal) = _
  exact Finset.sum_congr rfl fun h _ => congrArg (· * (inp V0).w1 j h) (relu_grad (pre (inp V0) i h) _)

theorem v118_at (i : Fin 4096) (j : Fin 1024) : (res_main_v118 V0 : FVec Ideal S4096x1024 .f32) (ix2 i j) = dx1 (inp V0) i j := by
  pointwise [res_main_v118]
  simp only [v110_at, v79_at]
  rfl

theorem v125_at (i : Fin 4096) (j : Fin 1024) : (res_main_v125 V0 : FVec Ideal S4096x1024 .f32) (ix2 i j) = dxh (inp V0) i j := by
  pointwise [res_main_v125]
  simp only [v118_at]
  rfl

theorem v135_at (i : Fin 4096) (j : Fin 1024) : (res_main_v135 V0 : FVec Ideal S4096x1024 .f32) (ix2 i j) = varGrad (r1 (inp V0) i) (dxh (inp V0) i) := by
  pointwise [res_main_v135]
  simp only [Fin.sum_univ_one, v60_at, v125_at, v68_at, v67_at]
  rfl

theorem v139_at (i : Fin 4096) (j : Fin 1024) : (res_main_v139 V0 : FVec Ideal S4096x1024 .f32) (ix2 i j) = cenGrad (r1 (inp V0) i) (dxh (inp V0) i) j := by
  pointwise [res_main_v139]
  simp only [v60_at, v125_at, v68_at, v135_at]
  rfl

theorem v147_at (i : Fin 4096) (j : Fin 1024) : (res_main_v147 V0 : FVec Ideal S4096x1024 .f32) (ix2 i j) = chainGrad (r1 (inp V0) i) (dxh (inp V0) i) j := by
  pointwise [res_main_v147]
  simp only [Fin.sum_univ_one, v139_at]
  rfl

theorem v151_at (j : Fin 1024) : (res_main_v151 V0 : FVec Ideal S1x1024 .f32) (ix2 0 j) = 1 + (inp V0).ga j := by
  pointwise [res_main_v151]
  rfl

/-- The reference's run on finite arguments, entry by entry. -/
theorem run_at (m : (ℓ : Loc nD τ sig) → Buf (Elt Ideal) ℓ) (ρ : Dev nD → PrngReg)
    (hf : ∀ c : Dev nD, Finite (inp (launchContents m c))) :
    θ_run defs (onTc (τ := τ) (main (F := Ideal))) ⟨m, fun _ => 0, ρ⟩ fun r => ∀ c : Dev nD,
      (∀ i h, (r.2.mem ((c.tc : Thread nD τ).loc main_v160) : FVec Ideal S4096x4096 .bf16) (ix2 i h) = dpre (inp (launchContents m c)) i h)
      ∧ (∀ i j, (r.2.mem ((c.tc : Thread nD τ).loc main_v147) : FVec Ideal S4096x1024 .f32) (ix2 i j) = dr1 (inp (launchContents m c)) i j)
      ∧ (∀ i j, (r.2.mem ((c.tc : Thread nD τ).loc main_v161) : FVec Ideal S4096x1024 .bf16) (ix2 i j) = dmix (inp (launchContents m c)) i j)
      ∧ (∀ j, (r.2.mem ((c.tc : Thread nD τ).loc main_v162) : FVec Ideal S1x5120 .f32) (ix2 0 j) = small (inp (launchContents m c)) j) := by
  refine (θ_run defs _ _).mono (fun r h c => ?_) (Value.run m ρ)
  obtain ⟨h0, h1, h2, h3, -⟩ := h c
  have hc := (hf c).chain
  refine ⟨fun i h => ?_, fun i j => ?_, fun i j => ?_, fun j => ?_⟩
  · rw [h0]
    pointwise
    simp only [v33_at, v37_at, v38_at]
    exact relu_grad (pre (inp (launchContents m c)) i h) _
  · rw [h1]
    exact (v147_at _ i j).trans (hc i j)
  · rw [h2]
    pointwise
    simp only [v151_at, v147_at, hc]
    rfl
  · rw [h3]
    pointwise
    simp only [v147_at, hc, v110_at, v77_at, v73_at, v118_at]
    rfl

end Cert.Ref

end
-- ==== Proof.HostK.lean ====
/- The host code before the kernel of the MLP half's gradient: its arguments, and the arrays that it hands to the call, entry by entry. -/
module

public import proofs.«01_k».proof.Proof.Spec
public import proofs.«01_k».proof.Proof.Gen.KernelIdeal.Frame
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.HostK

open Idealize.ShloMosaic Idealize.ShloMosaic.TcCoe Idealize.SL.Sem Cert.KernelIdeal Cert.KernelIdeal.Gen Cert.Spec Cert.Row

variable (m : (ℓ : Loc nD τ sig) → Buf (Elt Ideal) ℓ) (c : Dev nD)

abbrev arg0 : FVec Ideal S4096x1024 .f32 := m ((c : Thread nD τ).loc main_arg0)
abbrev arg1 : FVec Ideal S4096x1024 .f32 := m ((c : Thread nD τ).loc main_arg1)
abbrev arg2 : FVec Ideal S1024x4096 .f32 := m ((c : Thread nD τ).loc main_arg2)
abbrev arg3 : FVec Ideal S4096x1024 .f32 := m ((c : Thread nD τ).loc main_arg3)
abbrev arg4 : FVec Ideal S1x1024 .f32 := m ((c : Thread nD τ).loc main_arg4)
abbrev arg5 : FVec Ideal S1x1024 .f32 := m ((c : Thread nD τ).loc main_arg5)
abbrev arg6 : FVec Ideal S1x1024 .f32 := m ((c : Thread nD τ).loc main_arg6)
abbrev arg7 : FVec Ideal S1x1024 .f32 := m ((c : Thread nD τ).loc main_arg7)
abbrev arg8 : FVec Ideal S1x1024 .f32 := m ((c : Thread nD τ).loc main_arg8)
abbrev arg9 : FVec Ideal S1x1024 .f32 := m ((c : Thread nD τ).loc main_arg9)
abbrev arg10 : FVec Ideal S4096x1024 .f32 := m ((c : Thread nD τ).loc main_arg10)

/-- The arguments, as functions of row and column. -/
def inp : In where
  x i j := arg0 m c (ix2 i j)
  mix i j := arg1 m c (ix2 i j)
  w1 i j := arg2 m c (ix2 i j)
  w2 i j := arg3 m c (ix2 i j)
  g j := arg4 m c (ix2 0 j)
  b j := arg5 m c (ix2 0 j)
  sc j := arg6 m c (ix2 0 j)
  sh j := arg7 m c (ix2 0 j)
  ga j := arg8 m c (ix2 0 j)
  gm j := arg9 m c (ix2 0 j)
  dr2 i j := arg10 m c (ix2 i j)

theorem V22_at (i : Fin 4096) (j : Fin 1024) : (V m c main_v22 : FVec Ideal S4096x1024 .f32) (ix2 i j) = hat (r1 (inp m c) i) j := by
  unfold V
  simp only [hostOps0, hostOps0_1, hostOps0_2, List.flatten_cons, List.flatten_nil, List.append_nil, List.cons_append, List.nil_append]
  after_reads_simp
  pointwise
  rfl

theorem V35_at (i j : Fin 4096) : (V m c main_v35 : FVec Ideal S4096x4096 .bf16) (ix2 i j) = max (pre (inp m c) i j) 0 := by
  unfold V
  simp only [hostOps0, hostOps0_1, hostOps0_2, List.flatten_cons, List.flatten_nil, List.append_nil, List.cons_append, List.nil_append]
  after_reads_simp
  simp only [StableHlo.TRef.ofBuf, StableHlo.TRef.toBuf, cast_eq, eq_mpr_eq_cast]
  pointwise
  rfl

theorem V40_at (i : Fin 4096) (j : Fin 1024) : (V m c main_v40 : FVec Ideal S4096x1024 .bf16) (ix2 i j) = (1 + (inp m c).gm j) * (inp m c).dr2 i j := by
  unfold V
  simp only [hostOps0, hostOps0_1, hostOps0_2, List.flatten_cons, List.flatten_nil, List.append_nil, List.cons_append, List.nil_append]
  after_reads_simp
  pointwise
  rfl

theorem V44_at (s : Fin 8) (j k : Fin 512) : (V m c main_v44 : FVec Ideal S8x512x512 .bf16) (ix3 s j k)
    = (inp m c).w1 ⟨j, by omega⟩ ⟨s * 512 + k, by omega⟩ := by
  unfold V
  simp only [hostOps0, hostOps0_1, hostOps0_2, List.flatten_cons, List.flatten_nil, List.append_nil, List.cons_append, List.nil_append]
  after_reads_simp
  pointwise
  rfl

theorem V47_at (s : Fin 8) (j k : Fin 512) : (V m c main_v47 : FVec Ideal S8x512x512 .bf16) (ix3 s j k)
    = (inp m c).w1 ⟨512 + j, by omega⟩ ⟨s * 512 + k, by omega⟩ := by
  unfold V
  simp only [hostOps0, hostOps0_1, hostOps0_2, List.flatten_cons, List.flatten_nil, List.append_nil, List.cons_append, List.nil_append]
  after_reads_simp
  pointwise
  rfl

theorem V49_at (s : Fin 8) (k : Fin 512) (j : Fin 1024) : (V m c main_v49 : FVec Ideal S8x512x1024 .bf16) (ix3 s k j)
    = (inp m c).w2 ⟨s * 512 + k, by omega⟩ j := by
  unfold V
  simp only [hostOps0, hostOps0_1, hostOps0_2, List.flatten_cons, List.flatten_nil, List.append_nil, List.cons_append, List.nil_append]
  after_reads_simp
  pointwise
  rfl

theorem V50_at (i : Fin 4096) (k : Fin 128) : (V m c main_v50 : FVec Ideal S4096x128 .f32) (ix2 i k) = rstd (r1 (inp m c) i) := by
  unfold V
  simp only [hostOps0, hostOps0_1, hostOps0_2, List.flatten_cons, List.flatten_nil, List.append_nil, List.cons_append, List.nil_append]
  after_reads_simp
  pointwise
  rfl

end Cert.HostK

end
-- ==== Proof.Blocks.lean ====
/- The blocks that each grid point of the MLP half's gradient reads, as entries of the arrays of `HostK`. -/
module

public import proofs.«01_k».proof.Proof.HostK

@[expose] public section

set_option maxRecDepth 16384

noncomputable section

namespace Cert.Blocks

open Idealize.ShloMosaic Idealize.ShloMosaic.TcCoe Idealize.SL.Sem Cert.KernelIdeal Cert.KernelIdeal.Gen Cert.Spec Cert.Row Cert.HostK

variable (m : (ℓ : Loc nD τ sig) → Buf (Elt Ideal) ℓ) (c : Dev nD)

theorem idx : ∀ t : Fin cfg0.N, win0_0.index t = ![t.val / 2, 0] ∧ win0_1.index t = ![t.val % 2, 0, 0] ∧ win0_2.index t = ![t.val % 2, 0, 0]
    ∧ win0_3.index t = ![t.val % 2, 0, 0] ∧ win0_4.index t = ![t.val / 2, t.val % 2] ∧ win0_5.index t = ![t.val / 2, 0]
    ∧ win0_6.index t = ![t.val / 2, 0] ∧ win0_7.index t = ![t.val / 2, 0] ∧ win0_8.index t = ![t.val / 2, 0]
    ∧ win0_9.index t = ![0, 0] ∧ win0_10.index t = ![0, 0] ∧ win0_11.index t = ![0, 0] ∧ win0_12.index t = ![0, 0]
    ∧ win0_13.index t = ![t.val / 2, t.val % 2] ∧ win0_14.index t = ![t.val / 2, 0] ∧ win0_15.index t = ![t.val / 2, 0]
    ∧ win0_16.index t = ![0, 0] :=
  (by decide +kernel : ∀ t : Fin grid0.N, _)

/-! ## The blocks at coordinates -/

theorem lt16 (t : Fin cfg0.N) : t.val < 16 := lt_of_lt_of_eq t.isLt N_0

abbrev rowOf (t : Fin cfg0.N) (i : Fin 512) : Fin 4096 := ⟨t.val / 2 * 512 + i, by have := lt16 t; omega⟩

theorem blk0 (t : Fin cfg0.N) (i : Fin 512) (j : Fin 1024) :
    (iblk m c 0 t : FVec Ideal S512x1024 .bf16) (ix2 i j) = (1 + (inp m c).gm j) * (inp m c).dr2 (rowOf t i) j := by
  rw [← V40_at]
  blk_point [iblk, idx t]

theorem blk1 (t : Fin cfg0.N) (s : Fin 4) (i j : Fin 512) :
    (iblk m c 1 t : FVec Ideal S4x512x512 .bf16) (ix3 s i j)
      = (inp m c).w1 ⟨i, by omega⟩ ⟨(t.val % 2 * 4 + s) * 512 + j, by omega⟩ := by
  rw [← V44_at m c ⟨t.val % 2 * 4 + s, by omega⟩]
  blk_point [iblk, idx t]

theorem blk2 (t : Fin cfg0.N) (s : Fin 4) (i j : Fin 512) :
    (iblk m c 2 t : FVec Ideal S4x512x512 .bf16) (ix3 s i j)
      = (inp m c).w1 ⟨512 + i, by omega⟩ ⟨(t.val % 2 * 4 + s) * 512 + j, by omega⟩ := by
  rw [← V47_at m c ⟨t.val % 2 * 4 + s, by omega⟩]
  blk_point [iblk, idx t]

theorem blk3 (t : Fin cfg0.N) (s : Fin 4) (k : Fin 512) (j : Fin 1024) :
    (iblk m c 3 t : FVec Ideal S4x512x1024 .bf16) (ix3 s k j) = (inp m c).w2 ⟨(t.val % 2 * 4 + s) * 512 + k, by omega⟩ j := by
  rw [← V49_at m c ⟨t.val % 2 * 4 + s, by omega⟩]
  blk_point [iblk, idx t]

abbrev colOf (t : Fin cfg0.N) (j : Fin 2048) : Fin 4096 := ⟨t.val % 2 * 2048 + j, by omega⟩

theorem blk4 (t : Fin cfg0.N) (i : Fin 512) (j : Fin 2048) :
    (iblk m c 4 t : FVec Ideal S512x2048 .bf16) (ix2 i j) = max (pre (inp m c) (rowOf t i) (colOf t j)) 0 := by
  rw [← V35_at]
  blk_point [iblk, idx t]

theorem blk5 (t : Fin cfg0.N) (i : Fin 512) (j : Fin 1024) :
    (iblk m c 5 t : FVec Ideal S512x1024 .f32) (ix2 i j) = (inp m c).dr2 (rowOf t i) j := by
  unfold inp
  dsimp only
  blk_point [iblk, V_main_arg10, idx t]

theorem blk6 (t : Fin cfg0.N) (i : Fin 512) (j : Fin 1024) :
    (iblk m c 6 t : FVec Ideal S512x1024 .f32) (ix2 i j) = hat (r1 (inp m c) (rowOf t i)) j := by
  rw [← V22_at]
  blk_point [iblk, idx t]

theorem blk7 (t : Fin cfg0.N) (i : Fin 512) (j : Fin 128) :
    (iblk m c 7 t : FVec Ideal S512x128 .f32) (ix2 i j) = rstd (r1 (inp m c) (rowOf t i)) := by
  rw [← V50_at m c (rowOf t i) j]
  blk_point [iblk, idx t]

theorem blk8 (t : Fin cfg0.N) (i : Fin 512) (j : Fin 1024) :
    (iblk m c 8 t : FVec Ideal S512x1024 .f32) (ix2 i j) = (inp m c).mix (rowOf t i) j := by
  unfold inp
  dsimp only
  blk_point [iblk, V_main_arg1, idx t]

theorem blk9 (t : Fin cfg0.N) (j : Fin 1024) : (iblk m c 9 t : FVec Ideal S1x1024 .f32) (ix2 0 j) = (inp m c).g j := by
  unfold inp
  dsimp only
  blk_point [iblk, V_main_arg4, idx t]

theorem blk10 (t : Fin cfg0.N) (j : Fin 1024) : (iblk m c 10 t : FVec Ideal S1x1024 .f32) (ix2 0 j) = (inp m c).b j := by
  unfold inp
  dsimp only
  blk_point [iblk, V_main_arg5, idx t]

theorem blk11 (t : Fin cfg0.N) (j : Fin 1024) : (iblk m c 11 t : FVec Ideal S1x1024 .f32) (ix2 0 j) = (inp m c).sc j := by
  unfold inp
  dsimp only
  blk_point [iblk, V_main_arg6, idx t]

theorem blk12 (t : Fin cfg0.N) (j : Fin 1024) : (iblk m c 12 t : FVec Ideal S1x1024 .f32) (ix2 0 j) = (inp m c).ga j := by
  unfold inp
  dsimp only
  blk_point [iblk, V_main_arg8, idx t]

end Cert.Blocks

end
-- ==== Proof.Cases.lean ====
/- What the stores of one grid point of the MLP half's gradient hold: the rectified slabs' gradients, slab by slab. -/
module

public import proofs.«01_k».proof.Proof.Blocks

@[expose] public section

set_option maxRecDepth 16384

noncomputable section

namespace Cert.Cases

open Idealize.ShloMosaic Idealize.ShloMosaic.TcCoe Idealize.SL.Sem Cert.KernelIdeal Cert.KernelIdeal.Gen Cert.Spec Cert.Row Cert.HostK Cert.Blocks

variable (m : (ℓ : Loc nD τ sig) → Buf (Elt Ideal) ℓ) (c : Dev nD)

/-- One stored slab's entry, its rows and columns placed. -/
theorem slab_eq (t : Fin cfg0.N) (s : Fin 4) (x0 x1 : Fin 512) (i : Fin 512) (j : Fin 2048) (hi : i.val = x0.val) (hj : j.val = s.val * 512 + x1.val)
    (z : Fin 2048) (hz : z.val = j.val) :
    (show EReal from (∑ k, (show EReal from (iblk m c 0 t : FVec Ideal S512x1024 .bf16) (ix2 x0 k)) * (iblk m c 3 t : FVec Ideal S4x512x1024 .bf16) (ix3 s x1 k)))
      * (two * (iblk m c 4 t : FVec Ideal S512x2048 .bf16) (ix2 x0 z)) = dpre (inp m c) (rowOf t i) (colOf t j) := by
  obtain rfl : i = x0 := Fin.ext hi
  obtain rfl : z = j := Fin.ext hz
  have hc : (⟨(t.val % 2 * 4 + s) * 512 + x1, by omega⟩ : Fin 4096) = colOf t z := Fin.ext (by simp only; omega)
  unfold dpre
  rw [blk4]
  refine Ideal.mul_congr (Finset.sum_congr rfl fun k _ => ?_) rfl
  rw [blk0, blk3, hc]

theorem out13 (t : Fin cfg0.N) (y0 : Fin 512) (y1 : Fin 2048) :
    (outsAt0 m c t.val t.isLt).1 (ix2 y0 y1) = dpre (inp m c) (rowOf t y0) (colOf t y1) := by
  by_cases h1 : t.val % 2 = 1
  · rw [outsAt0_B m c t (by omega) (by omega) h1]
    frame_out
    canon_tiles x h
    all_goals
      open_payloads
      idx_vars x
      pointwise
      refine slab_eq m c t _ _ _ _ _ h0 ?_ _ h1.symm
      simpa using h1
  · by_cases h2 : t.val % 16 = 0
    · rw [outsAt0_A m c t h2 (by omega) h1]
      frame_out
      canon_tiles x h
      all_goals
        open_payloads
        idx_vars x
        pointwise
        refine slab_eq m c t _ _ _ _ _ h0 ?_ _ h1.symm
        simpa using h1
    · rw [outsAt0_C m c t h2 (by omega) h1]
      frame_out
      canon_tiles x h
      all_goals
        open_payloads
        idx_vars x
        pointwise
        refine slab_eq m c t _ _ _ _ _ h0 ?_ _ h1.symm
        simpa using h1

end Cert.Cases

end
-- ==== Proof.Sc.lean ====
/- The accumulator that the MLP half's gradient carries between grid points: it ends a row tile holding the product over all hidden columns. -/
module

public import proofs.«01_k».proof.Proof.Cases

@[expose] public section

set_option maxRecDepth 16384

noncomputable section

namespace Cert.Sc

open Idealize.ShloMosaic Idealize.ShloMosaic.TcCoe Idealize.SL.Sem Cert.KernelIdeal Cert.KernelIdeal.Gen Cert.Spec Cert.Row Cert.HostK Cert.Blocks Cert.Cases

variable (m : (ℓ : Loc nD τ sig) → Buf (Elt Ideal) ℓ) (c : Dev nD)

/-- The weight's two halves, picked by the row. -/
def cat (D : Fin 512 → EReal) (a b : FVec Ideal S1x512x512 .bf16) (j : Fin 1024) : EReal :=
  if h : (j : ℕ) < 512 then ∑ k, D k * a (ix3 0 ⟨j, h⟩ k) else ∑ k, D k * b (ix3 0 ⟨j - 512, by omega⟩ k)

theorem pay15_at (x0 : FVec Ideal S512x1024 .bf16) (w : FVec Ideal S1x512x1024 .bf16) (r : FVec Ideal S512x512 .bf16)
    (a b : FVec Ideal S1x512x512 .bf16) (i : Fin 512) (j : Fin 1024) :
    k0_pay15 (F := Ideal) x0 w r a b (ix2 i j) = cat (fun k => k0_pay14 (F := Ideal) x0 w r (ix2 i k)) a b j := by
  pointwise [k0_pay15]
  rfl

theorem pay17_at (x0 : FVec Ideal S512x1024 .bf16) (acc : FVec Ideal S512x1024 .f32) (w : FVec Ideal S1x512x1024 .bf16) (r : FVec Ideal S512x512 .bf16)
    (a b : FVec Ideal S1x512x512 .bf16) (i : Fin 512) (j : Fin 1024) :
    k0_pay17 (F := Ideal) x0 acc w r a b (ix2 i j) = acc (ix2 i j) + cat (fun k => k0_pay16 (F := Ideal) x0 w r (ix2 i k)) a b j := by
  pointwise [k0_pay17]
  rfl

theorem pay21_at (x0 : FVec Ideal S512x1024 .bf16) (acc : FVec Ideal S512x1024 .f32) (d : FVec Ideal S512x512 .bf16) (e : FVec Ideal S1x512x512 .bf16)
    (b2 : FVec Ideal S1x512x512 .bf16) (w : FVec Ideal S1x512x1024 .bf16) (r : FVec Ideal S512x512 .bf16)
    (a b : FVec Ideal S1x512x512 .bf16) (q : FVec Ideal S512x1024 .f32) (i : Fin 512) (j : Fin 1024) :
    k0_pay21 (F := Ideal) x0 acc d (k0_pay19 e) b2 w r a b q (ix2 i j)
      = q (ix2 i j) + (acc (ix2 i j) + cat (fun k => d (ix2 i k)) e b2 j + cat (fun k => k0_pay20 (F := Ideal) x0 w r (ix2 i k)) a b j) := by
  pointwise [k0_pay21, k0_pay19]
  rfl

/-- One slab's part of the product with the first weight. -/
def part (t : Fin cfg0.N) (s : Fin 4) (i : Fin 512) (j : Fin 1024) : EReal :=
  ∑ k : Fin 512, dpre (inp m c) (rowOf t i) (colOf t ⟨s * 512 + k, by omega⟩) * (inp m c).w1 j (colOf t ⟨s * 512 + k, by omega⟩)

theorem cat_eq (t : Fin cfg0.N) (s : Fin 4) (i : Fin 512) (j : Fin 1024) (D : Fin 512 → EReal) (a b : FVec Ideal S1x512x512 .bf16)
    (hD : ∀ k : Fin 512, D k = dpre (inp m c) (rowOf t i) (colOf t ⟨s * 512 + k, by omega⟩))
    (ha : ∀ p k, a (ix3 0 p k) = (iblk m c 1 t : FVec Ideal S4x512x512 .bf16) (ix3 s p k))
    (hb : ∀ p k, b (ix3 0 p k) = (iblk m c 2 t : FVec Ideal S4x512x512 .bf16) (ix3 s p k)) :
    cat D a b j = part m c t s i j := by
  have hc : ∀ k : Fin 512, (⟨(t.val % 2 * 4 + s) * 512 + k, by omega⟩ : Fin 4096) = colOf t ⟨s * 512 + k, by omega⟩ :=
    fun k => Fin.ext (by simp only; omega)
  unfold cat part
  split_ifs with h
  · refine Finset.sum_congr rfl fun k _ => ?_
    rw [hD, ha, blk1, hc]
  · refine Finset.sum_congr rfl fun k _ => ?_
    rw [hD, hb, blk2, hc]
    congr 2
    exact Fin.ext (by simp only; omega)

/-- One point's part. -/
def pointPart (t : Fin cfg0.N) (i : Fin 512) (j : Fin 1024) : EReal :=
  part m c t 0 i j + part m c t 1 i j + part m c t 2 i j + part m c t 3 i j

theorem scA (t : Fin cfg0.N) (h0 : t.val % 16 = 0) (y0 : Fin 512) (y1 : Fin 1024) :
    (outsAt0 m c t.val t.isLt).2.2.2.2 (ix2 y0 y1) = pointPart m c t y0 y1 := by
  rw [outsAt0_A m c t h0 (by omega) (by omega)]
  frame_out
  rw [pay21_at, pay17_at, pay15_at]
  rw [cat_eq m c t 0 y0 y1, cat_eq m c t 1 y0 y1, cat_eq m c t 2 y0 y1, cat_eq m c t 3 y0 y1]
  · pointwise [k0_pay12]
    rfl
  all_goals intro k
  all_goals first
    | (pointwise [k0_pay14, k0_pay16, k0_pay18, k0_pay20, k0_pay13]
       exact slab_eq m c t _ _ _ _ _ rfl (by simp) _ (by simp))
    | (intro q; pointwise)

theorem scC (t : Fin cfg0.N) (h0 : ¬t.val % 16 = 0) (h1 : t.val % 2 = 0) (y0 : Fin 512) (y1 : Fin 1024) :
    (outsAt0 m c t.val t.isLt).2.2.2.2 (ix2 y0 y1) = pointPart m c t y0 y1 := by
  rw [outsAt0_C m c t h0 h1 (by omega)]
  frame_out
  rw [pay21_at, pay17_at, pay15_at]
  rw [cat_eq m c t 0 y0 y1, cat_eq m c t 1 y0 y1, cat_eq m c t 2 y0 y1, cat_eq m c t 3 y0 y1]
  · pointwise [k0_pay12]
    rfl
  all_goals intro k
  all_goals first
    | (pointwise [k0_pay14, k0_pay16, k0_pay18, k0_pay20, k0_pay13]
       exact slab_eq m c t _ _ _ _ _ rfl (by simp) _ (by simp))
    | (intro q; pointwise)

theorem scB (t : Fin cfg0.N) (h1 : t.val % 2 = 1) (y0 : Fin 512) (y1 : Fin 1024) :
    (outsAt0 m c t.val t.isLt).2.2.2.2 (ix2 y0 y1) = (outsAt0 m c (t.val - 1) (by omega)).2.2.2.2 (ix2 y0 y1) + pointPart m c t y0 y1 := by
  rw [outsAt0_B m c t (by omega) (by omega) h1]
  frame_out
  rw [pay21_at, pay17_at, pay15_at]
  rw [cat_eq m c t 0 y0 y1, cat_eq m c t 1 y0 y1, cat_eq m c t 2 y0 y1, cat_eq m c t 3 y0 y1]
  · exact congrArg (· + pointPart m c t y0 y1) (congrFun (Memref.IsWhole.read_unread (m := scM0_0) _ _) _)
  all_goals intro k
  all_goals first
    | (pointwise [k0_pay14, k0_pay16, k0_pay18, k0_pay20, k0_pay13]
       exact slab_eq m c t _ _ _ _ _ rfl (by simp) _ (by simp))
    | (intro q; pointwise)

/-- Two points cover the hidden width: at the second the scratch holds the modulated row's gradient. -/
theorem duB (t : Fin cfg0.N) (h1 : t.val % 2 = 1) (y0 : Fin 512) (y1 : Fin 1024) :
    (outsAt0 m c t.val t.isLt).2.2.2.2 (ix2 y0 y1) = du (inp m c) (rowOf t y0) y1 := by
  have hl := lt16 t
  let t' : Fin cfg0.N := ⟨t.val - 1, by have := t.isLt; omega⟩
  have e : (outsAt0 m c (t.val - 1) (by omega)).2.2.2.2 (ix2 y0 y1) = pointPart m c t' y0 y1 := by
    by_cases h0 : (t.val - 1) % 16 = 0
    · exact scA m c t' h0 y0 y1
    · exact scC m c t' h0 (show (t.val - 1) % 2 = 0 by omega) y0 y1
  rw [scB m c t h1, e]
  have key : ∀ f : Fin 4096 → EReal, ∑ h, f h =
      ∑ p : Fin 2, ∑ s : Fin 4, ∑ k : Fin 512, f ⟨(p.val * 4 + s.val) * 512 + k.val, by omega⟩ := fun f => by
    rw [← Fin.sum_mul_add_fin 8 512 f, ← Fin.sum_mul_add_fin 2 4 (fun q => ∑ k : Fin 512, f ⟨q.val * 512 + k.val, by omega⟩)]
  unfold du
  rw [key]
  simp only [Fin.sum_univ_two, Fin.sum_univ_four]
  have hr : rowOf t' y0 = rowOf t y0 := Fin.ext (by show (t.val - 1) / 2 * 512 + _ = _; simp only; omega)
  have hp : ∀ (u : Fin cfg0.N) (p : Fin 2) (s : Fin 4), rowOf u y0 = rowOf t y0 → u.val % 2 = p.val → part m c u s y0 y1 =
      ∑ k : Fin 512, dpre (inp m c) (rowOf t y0) ⟨(p.val * 4 + s.val) * 512 + k.val, by omega⟩
        * (inp m c).w1 y1 ⟨(p.val * 4 + s.val) * 512 + k.val, by omega⟩ := fun u p s h hu => by
    unfold part
    rw [h]
    refine Finset.sum_congr rfl fun k _ => ?_
    have : colOf u ⟨s * 512 + k, by omega⟩ = (⟨(p.val * 4 + s.val) * 512 + k.val, by omega⟩ : Fin 4096) :=
      Fin.ext (by simp only; omega)
    rw [this]
  have z0 : (t' : ℕ) % 2 = (0 : Fin 2).val := by show (t.val - 1) % 2 = 0; omega
  have z1 : (t : ℕ) % 2 = (1 : Fin 2).val := h1
  unfold pointPart
  simp only [hp t' 0 _ hr z0, hp t 1 _ rfl z1]

end Cert.Sc

end
-- ==== Proof.Outs.lean ====
/- What the kernel leaves in its other three outputs at one point of the grid: the gradient of the residual sum, the
   gradient of the mixer's output and the running column sums. -/
module

public import proofs.«01_k».proof.Proof.Sc

@[expose] public section

set_option maxRecDepth 16384

noncomputable section

namespace Cert.Outs

open Idealize.ShloMosaic Idealize.ShloMosaic.TcCoe Idealize.SL.Sem Cert.KernelIdeal Cert.KernelIdeal.Gen Cert.Spec Cert.Row Cert.HostK Cert.Blocks Cert.Cases Cert.Sc

variable (m : (ℓ : Loc nD τ sig) → Buf (Elt Ideal) ℓ) (c : Dev nD)

theorem pay4_at (t : Fin cfg0.N) (S : FVec Ideal S512x1024 .f32) (hS : ∀ i j, S (ix2 i j) = du (inp m c) (rowOf t i) j)
    (i : Fin 512) (j : Fin 1024) :
    k0_pay4 (F := Ideal) S (iblk m c 5 t) (iblk m c 11 t) (ix2 i j) = dx1 (inp m c) (rowOf t i) j := by
  pointwise [k0_pay4]
  rw [blk5, blk11, hS]
  rfl

theorem pay9_at (t : Fin cfg0.N) (D : FVec Ideal S512x1024 .f32) (hD : ∀ i j, D (ix2 i j) = dx1 (inp m c) (rowOf t i) j)
    (r : FVec Ideal S512x1 .f32) (hr : ∀ i, r (ix2 i 0) = rstd (r1 (inp m c) (rowOf t i)))
    (i : Fin 512) (j : Fin 1024) :
    k0_pay9 (F := Ideal) (k0_pay3 (iblk m c 6 t)) D (iblk m c 9 t) r (ix2 i j) = dr1 (inp m c) (rowOf t i) j := by
  pointwise [k0_pay9, k0_pay3]
  simp only [blk6, blk9, hD, hr]
  rfl

theorem pay2_at (t : Fin cfg0.N) (D : FVec Ideal S512x1024 .f32) (hD : ∀ i j, D (ix2 i j) = dr1 (inp m c) (rowOf t i) j)
    (i : Fin 512) (j : Fin 1024) :
    k0_pay2 (F := Ideal) D (iblk m c 12 t) (ix2 i j) = dmix (inp m c) (rowOf t i) j := by
  pointwise [k0_pay2]
  rw [blk12, hD]
  rfl

/-- The strip of the column of row factors that is read. -/
theorem strip_at (t : Fin cfg0.N) (i : Fin 512) :
    (View.ld (iblk m c 7 t) (Rect.unit ![0, 0] ![512, 1] inb_S512x128_S512x1_0_0) : FVec Ideal S512x1 .f32) (ix2 i 0)
      = rstd (r1 (inp m c) (rowOf t i)) := by
  rw [← blk7 m c t i 0]
  pointwise

theorem out14 (t : Fin cfg0.N) (h1 : t.val % 2 = 1) (y0 : Fin 512) (y1 : Fin 1024) :
    (outsAt0 m c t.val t.isLt).2.1 (ix2 y0 y1) = dr1 (inp m c) (rowOf t y0) y1 := by
  rw [outsAt0_B m c t (by omega) (by omega) h1]
  frame_out
  apply pay9_at _ _ _ _ (pay4_at _ _ _ _ _) _ (strip_at _ _ _)
  intro i j
  rw [← duB m c t h1 i j, outsAt0_B m c t (by omega) (by omega) h1]
  frame_out

theorem out15 (t : Fin cfg0.N) (h1 : t.val % 2 = 1) (y0 : Fin 512) (y1 : Fin 1024) :
    (outsAt0 m c t.val t.isLt).2.2.1 (ix2 y0 y1) = dmix (inp m c) (rowOf t y0) y1 := by
  rw [outsAt0_B m c t (by omega) (by omega) h1]
  frame_out
  apply pay2_at _ _ _ _ (pay9_at _ _ _ _ (pay4_at _ _ _ _ _) _ (strip_at _ _ _))
  intro i j
  rw [← duB m c t h1 i j, outsAt0_B m c t (by omega) (by omega) h1]
  frame_out

/-- One row's share of the column sums. -/
def smallRow (I : In) (i : Fin 4096) (j : Fin 5120) : EReal :=
  if h0 : (j : ℕ) < 1024 then dr1 I i ⟨j, h0⟩ * I.mix i ⟨j, h0⟩
  else if h1 : (j : ℕ) - 1024 < 1024 then du I i ⟨j - 1024, h1⟩
  else if h2 : (j : ℕ) - 1024 - 1024 < 1024 then x1 I i ⟨j - 1024 - 1024, h2⟩ * du I i ⟨j - 1024 - 1024, h2⟩
  else if h3 : (j : ℕ) - 1024 - 1024 - 1024 < 1024 then
    hat (r1 I i) ⟨j - 1024 - 1024 - 1024, h3⟩ * dx1 I i ⟨j - 1024 - 1024 - 1024, h3⟩
  else dx1 I i ⟨j - 1024 - 1024 - 1024 - 1024, by omega⟩

theorem small_eq (I : In) (j : Fin 5120) : small I j = ∑ i, smallRow I i j := by
  unfold small smallRow
  split_ifs <;> rfl

theorem row0 (I : In) (i : Fin 4096) (z : Fin 5120) (x : Fin 1024) (h : z.val = x.val) : smallRow I i z = dr1 I i x * I.mix i x := by
  have := x.isLt
  unfold smallRow
  rw [dif_pos (by omega)]
  congr 2 <;> exact Fin.ext h

theorem row1 (I : In) (i : Fin 4096) (z : Fin 5120) (x : Fin 1024) (h : z.val = 1024 + x.val) : smallRow I i z = du I i x := by
  have := x.isLt
  unfold smallRow
  rw [dif_neg (by omega), dif_pos (by omega)]
  congr 1; exact Fin.ext (by simp only; omega)

theorem row2 (I : In) (i : Fin 4096) (z : Fin 5120) (x : Fin 1024) (h : z.val = 2048 + x.val) : smallRow I i z = x1 I i x * du I i x := by
  have := x.isLt
  unfold smallRow
  rw [dif_neg (by omega), dif_neg (by omega), dif_pos (by omega)]
  congr 2 <;> exact Fin.ext (by simp only; omega)

theorem row3 (I : In) (i : Fin 4096) (z : Fin 5120) (x : Fin 1024) (h : z.val = 3072 + x.val) :
    smallRow I i z = hat (r1 I i) x * dx1 I i x := by
  have := x.isLt
  unfold smallRow
  rw [dif_neg (by omega), dif_neg (by omega), dif_neg (by omega), dif_pos (by omega)]
  congr 2 <;> exact Fin.ext (by simp only; omega)

theorem row4 (I : In) (i : Fin 4096) (z : Fin 5120) (x : Fin 1024) (h : z.val = 4096 + x.val) : smallRow I i z = dx1 I i x := by
  have := x.isLt
  unfold smallRow
  rw [dif_neg (by omega), dif_neg (by omega), dif_neg (by omega), dif_neg (by omega)]
  refine congrArg (dx1 I i) (Fin.ext ?_)
  show z.val - 1024 - 1024 - 1024 - 1024 = x.val
  omega

theorem sum0 (t : Fin cfg0.N) (D : FVec Ideal S512x1024 .f32) (hD : ∀ i j, D (ix2 i j) = dr1 (inp m c) (rowOf t i) j)
    (q : FVec Ideal S1x1024 .f32) (x : Fin 1024) (z : Fin 5120) (h : z.val = x.val) :
    k0_pay1 (F := Ideal) D (k0_pay10 q) (iblk m c 8 t) (ix2 0 x) = q (ix2 0 x) + ∑ i, smallRow (inp m c) (rowOf t i) z := by
  pointwise [k0_pay1, k0_pay10]
  simp only [hD, blk8, row0 (inp m c) _ z x h]

theorem sum1 (t : Fin cfg0.N) (S : FVec Ideal S512x1024 .f32) (hS : ∀ i j, S (ix2 i j) = du (inp m c) (rowOf t i) j)
    (q : FVec Ideal S1x1024 .f32) (x : Fin 1024) (z : Fin 5120) (h : z.val = 1024 + x.val) :
    k0_pay6 (F := Ideal) S q (ix2 0 x) = q (ix2 0 x) + ∑ i, smallRow (inp m c) (rowOf t i) z := by
  pointwise [k0_pay6]
  simp only [hS, row1 (inp m c) _ z x h]

theorem sum2 (t : Fin cfg0.N) (S : FVec Ideal S512x1024 .f32) (hS : ∀ i j, S (ix2 i j) = du (inp m c) (rowOf t i) j)
    (q : FVec Ideal S1x1024 .f32) (x : Fin 1024) (z : Fin 5120) (h : z.val = 2048 + x.val) :
    k0_pay5 (F := Ideal) S (iblk m c 6 t) (iblk m c 9 t) (iblk m c 10 t) q (ix2 0 x)
      = q (ix2 0 x) + ∑ i, smallRow (inp m c) (rowOf t i) z := by
  pointwise [k0_pay5, k0_pay3]
  simp only [hS, blk6, blk9, blk10, row2 (inp m c) _ z x h, x1]
  congr 1
  exact Finset.sum_congr rfl fun i _ => mul_comm _ _

theorem sum3 (t : Fin cfg0.N) (D : FVec Ideal S512x1024 .f32) (hD : ∀ i j, D (ix2 i j) = dx1 (inp m c) (rowOf t i) j)
    (q : FVec Ideal S1x1024 .f32) (x : Fin 1024) (z : Fin 5120) (h : z.val = 3072 + x.val) :
    k0_pay7 (F := Ideal) (k0_pay3 (iblk m c 6 t)) D q (ix2 0 x) = q (ix2 0 x) + ∑ i, smallRow (inp m c) (rowOf t i) z := by
  pointwise [k0_pay7, k0_pay3]
  simp only [hD, blk6, row3 (inp m c) _ z x h]
  congr 1
  exact Finset.sum_congr rfl fun i _ => mul_comm _ _

theorem sum4 (t : Fin cfg0.N) (D : FVec Ideal S512x1024 .f32) (hD : ∀ i j, D (ix2 i j) = dx1 (inp m c) (rowOf t i) j)
    (q : FVec Ideal S1x1024 .f32) (x : Fin 1024) (z : Fin 5120) (h : z.val = 4096 + x.val) :
    k0_pay8 (F := Ideal) D q (ix2 0 x) = q (ix2 0 x) + ∑ i, smallRow (inp m c) (rowOf t i) z := by
  pointwise [k0_pay8]
  simp only [hD, row4 (inp m c) _ z x h]

theorem ld_eq (Q : FVec Ideal S1x5120 .f32) (o : ℕ) (hb : ∀ k, (![0, o] : Fin 2 → ℕ) k + (![1, 1024] : Fin 2 → ℕ) k ≤ S1x5120.size k)
    (x : Fin 1024) (z : Fin 5120) (h : z.val = o + x.val) :
    (View.ld (Val := Elt Ideal) (e' := .f32) Q (Rect.unit (s := S1x5120) ![0, o] ![1, 1024] hb)) (ix2 (0 : Fin 1) x) = Q (ix2 0 z) := by
  refine congrArg Q (funext fun k => Fin.ext ?_)
  fin_cases k
  · simp [Rect.unit]
  · simp [Rect.unit, h]

theorem out16B (t : Fin cfg0.N) (h1 : t.val % 2 = 1) (y1 : Fin 5120) :
    (outsAt0 m c t.val t.isLt).2.2.2.1 (ix2 0 y1) = (outsAt0 m c (t.val - 1) (by omega)).2.2.2.1 (ix2 0 y1)
      + ∑ i, smallRow (inp m c) (rowOf t i) y1 := by
  rw [outsAt0_B m c t (by omega) (by omega) h1]
  frame_out
  canon_tiles x h
  all_goals
    idx_vars x
    obtain rfl : x0 = 0 := Subsingleton.elim _ _
  · refine (sum0 m c t _ (pay9_at _ _ _ _ (pay4_at _ _ _ _ ?_) _ (strip_at _ _ _)) _ _ y1 (by omega)).trans
      (congrArg (· + _) (ld_eq _ 0 _ _ _ (by omega)))
    intro i j
    rw [← duB m c t (by assumption) i j, outsAt0_B m c t (by omega) (by omega) (by assumption)]
    frame_out
  · refine (sum4 m c t _ (pay4_at _ _ _ _ ?_) _ _ y1 (by omega)).trans (congrArg (· + _) (ld_eq _ 4096 _ _ _ (by omega)))
    intro i j
    rw [← duB m c t (by assumption) i j, outsAt0_B m c t (by omega) (by omega) (by assumption)]
    frame_out
  · refine (sum3 m c t _ (pay4_at _ _ _ _ ?_) _ _ y1 (by omega)).trans (congrArg (· + _) (ld_eq _ 3072 _ _ _ (by omega)))
    intro i j
    rw [← duB m c t (by assumption) i j, outsAt0_B m c t (by omega) (by omega) (by assumption)]
    frame_out
  · refine (sum1 m c t _ ?_ _ _ y1 (by omega)).trans (congrArg (· + _) (ld_eq _ 1024 _ _ _ (by omega)))
    intro i j
    rw [← duB m c t (by assumption) i j, outsAt0_B m c t (by omega) (by omega) (by assumption)]
    frame_out
  · refine (sum2 m c t _ ?_ _ _ y1 (by omega)).trans (congrArg (· + _) (ld_eq _ 2048 _ _ _ (by omega)))
    intro i j
    rw [← duB m c t (by assumption) i j, outsAt0_B m c t (by omega) (by omega) (by assumption)]
    frame_out

theorem out16A (t : Fin cfg0.N) (h0 : t.val % 16 = 0) (y1 : Fin 5120) :
    (outsAt0 m c t.val t.isLt).2.2.2.1 (ix2 0 y1) = 0 := by
  rw [outsAt0_A m c t h0 (by omega) (by omega)]
  frame_out
  pointwise [k0_pay11]

theorem out16C (t : Fin cfg0.N) (h0 : ¬t.val % 16 = 0) (h1 : t.val % 2 = 0) (y1 : Fin 5120) :
    (outsAt0 m c t.val t.isLt).2.2.2.1 (ix2 0 y1) = (outsAt0 m c (t.val - 1) (by omega)).2.2.2.1 (ix2 0 y1) := by
  rw [outsAt0_C m c t h0 h1 (by omega)]
  rfl

end Cert.Outs

end
-- ==== Proof.RunK.lean ====
/- The kernel's run: its four results, entry by entry, as the functions of its arguments that `Spec` names. -/
module

public import proofs.«01_k».proof.Proof.Outs
public import proofs.«01_k».proof.Proof.Gen.KernelIdeal.Value

@[expose] public section

set_option maxRecDepth 16384

noncomputable section

namespace Cert.RunK

open Idealize.ShloMosaic Idealize.ShloMosaic.TcCoe Idealize.SL.Sem Cert.KernelIdeal Cert.KernelIdeal.Gen Cert.KernelIdeal.Value Cert.Spec Cert.Row Cert.HostK Cert.Blocks Cert.Cases Cert.Sc Cert.Outs

variable (m : (ℓ : Loc nD τ sig) → Buf (Elt Ideal) ℓ) (c : Dev nD)

/-- One block of rows' share of the column sums. -/
def rowBlock (z : Fin 5120) (p : ℕ) : EReal :=
  if h : p < 8 then ∑ i : Fin 512, smallRow (inp m c) ⟨p * 512 + i, by omega⟩ z else 0

/-- A running sum that grows at the odd points only. -/
theorem odd_sum {N : ℕ} (f : (n : ℕ) → n < N → EReal) (b : ℕ → EReal) (h0 : ∀ h, f 0 h = 0)
    (hC : ∀ n (h : n < N), n ≠ 0 → n % 2 = 0 → f n h = f (n - 1) (by omega))
    (hB : ∀ n (h : n < N), n % 2 = 1 → f n h = f (n - 1) (by omega) + b (n / 2)) :
    ∀ (r : ℕ) (hr : 2 * r + 1 < N), f (2 * r + 1) hr = ∑ p ∈ Finset.range (r + 1), b p := by
  have hcongr : ∀ n n' (h : n < N) (h' : n' < N), n = n' → f n h = f n' h' := by
    rintro n n' h h' rfl; rfl
  intro r
  induction r with
  | zero =>
    intro hr
    rw [hB _ hr (by omega), hcongr _ 0 _ (by omega) (by omega), h0]
    simp
  | succ r ih =>
    intro hr
    rw [hB _ hr (by omega), hcongr _ (2 * (r + 1)) _ (by omega) (by omega), hC _ _ (by omega) (by omega),
      hcongr _ (2 * r + 1) _ (by omega) (by omega), ih, Finset.sum_range_succ _ (r + 1)]
    congr 2
    omega

theorem out16_odd (z : Fin 5120) (r : ℕ) (hr : 2 * r + 1 < cfg0.N) :
    (outsAt0 m c (2 * r + 1) hr).2.2.2.1 (ix2 0 z) = ∑ p ∈ Finset.range (r + 1), rowBlock m c z p := by
  refine odd_sum (fun n h => (outsAt0 m c n h).2.2.2.1 (ix2 0 z)) (rowBlock m c z) (fun h => ?_) (fun n h hn he => ?_) (fun n h ho => ?_) r hr
  · exact out16A m c ⟨0, h⟩ rfl z
  · have h16 : n < 16 := lt16 ⟨n, h⟩
    exact out16C m c ⟨n, h⟩ (by simp only; omega) he z
  · have h16 : n < 16 := lt16 ⟨n, h⟩
    refine (out16B m c ⟨n, h⟩ ho z).trans ?_
    unfold rowBlock
    rw [dif_pos (by omega)]

theorem out16_last (z : Fin 5120) (h : 15 < cfg0.N) : (outsAt0 m c 15 h).2.2.2.1 (ix2 0 z) = small (inp m c) z := by
  refine (out16_odd m c z 7 h).trans ?_
  rw [small_eq, ← Fin.sum_mul_add_fin 8 512, Finset.sum_range]
  refine Finset.sum_congr rfl fun p _ => ?_
  unfold rowBlock
  rw [dif_pos p.isLt]

theorem G13_at (i h : Fin 4096) : (G13 m c : FVec Ideal S4096x4096 .bf16) (ix2 i h) = dpre (inp m c) i h := by
  have hp : pt13Of (ix2 i h) = 2 * (i.val / 512) + h.val / 2048 := by
    show 2 * (i.val / 512 - 0) + 1 * (h.val / 2048 - 0) = _
    omega
  have hlt : 2 * (i.val / 512) + h.val / 2048 < cfg0.N := lt_of_lt_of_eq (show _ < 16 by omega) (show 16 = cfg0.N from N_0.symm)
  have hl : loc13Of (ix2 i h) = ix2 (⟨i.val % 512, by omega⟩ : Fin 512) (⟨h.val % 2048, by omega⟩ : Fin 2048) := by
    funext a; fin_cases a <;> rfl
  unfold G13
  rw [dif_pos (by rw [hp]; exact hlt), hl, fold0_congr m c _ _ _ _ hp]
  have e := out13 m c ⟨_, hlt⟩ ⟨i.val % 512, by omega⟩ ⟨h.val % 2048, by omega⟩
  rw [outsAt0_sweep] at e
  refine e.trans ?_
  congr 1 <;> exact Fin.ext (by simp only; omega)

theorem G14_at (i : Fin 4096) (j : Fin 1024) : (G14 m c : FVec Ideal S4096x1024 .f32) (ix2 i j) = dr1 (inp m c) i j := by
  have hp : pt14Of (ix2 i j) = 2 * (i.val / 512) + 1 := by
    show 2 * (1 * (i.val / 512 - 0) + 1 * (j.val / 1024 - 0)) + 1 = _
    omega
  have hlt : 2 * (i.val / 512) + 1 < cfg0.N := lt_of_lt_of_eq (show _ < 16 by omega) (show 16 = cfg0.N from N_0.symm)
  have hl : loc14Of (ix2 i j) = ix2 (⟨i.val % 512, by omega⟩ : Fin 512) j := by
    funext a; fin_cases a
    · rfl
    · exact Fin.ext (Nat.mod_eq_of_lt j.isLt)
  unfold G14
  rw [dif_pos (by rw [hp]; exact hlt), hl, fold0_congr m c _ _ _ _ hp]
  have e := out14 m c ⟨_, hlt⟩ (by simp only; omega) ⟨i.val % 512, by omega⟩ j
  rw [outsAt0_sweep] at e
  refine e.trans ?_
  congr 1; exact Fin.ext (by simp only; omega)

theorem G15_at (i : Fin 4096) (j : Fin 1024) : (G15 m c : FVec Ideal S4096x1024 .bf16) (ix2 i j) = dmix (inp m c) i j := by
  have hp : pt15Of (ix2 i j) = 2 * (i.val / 512) + 1 := by
    show 2 * (1 * (i.val / 512 - 0) + 1 * (j.val / 1024 - 0)) + 1 = _
    omega
  have hlt : 2 * (i.val / 512) + 1 < cfg0.N := lt_of_lt_of_eq (show _ < 16 by omega) (show 16 = cfg0.N from N_0.symm)
  have hl : loc15Of (ix2 i j) = ix2 (⟨i.val % 512, by omega⟩ : Fin 512) j := by
    funext a; fin_cases a
    · rfl
    · exact Fin.ext (Nat.mod_eq_of_lt j.isLt)
  unfold G15
  rw [dif_pos (by rw [hp]; exact hlt), hl, fold0_congr m c _ _ _ _ hp]
  have e := out15 m c ⟨_, hlt⟩ (by simp only; omega) ⟨i.val % 512, by omega⟩ j
  rw [outsAt0_sweep] at e
  refine e.trans ?_
  congr 1; exact Fin.ext (by simp only; omega)

theorem G16_at (z : Fin 5120) : (G16 m c : FVec Ideal S1x5120 .f32) (ix2 0 z) = small (inp m c) z := by
  have hlt : 15 < cfg0.N := lt_of_lt_of_eq (show _ < 16 by omega) (show 16 = cfg0.N from N_0.symm)
  have e := outsAt0_sweep m c 15 hlt
  have g := G16_last m c
  generalize Pipeline.accAt _ _ _ _ _ = A at e g
  rw [g, ← e]
  exact out16_last m c z hlt

end Cert.RunK

end
-- ==== Proof.Pre.lean ====
/- What the precondition says: every entry of every argument is a real number. -/
module

public import proofs.«01_k».proof.Proof.HostK
public import proofs.«01_k».proof.Proof.Gen.Pre_finite
public import proofs.«01_k».proof.Defs
public import Idealize.ShloMosaic.Lib.ReduceAll
public import Idealize.ShloMosaic.Lib.Affine

@[expose] public section

set_option maxRecDepth 16384

noncomputable section

namespace Cert.Pre

open Idealize.ShloMosaic Idealize.SL.Sem Cert.Pre_finite Cert.Row Cert.Spec

instance : Subsingleton S_.Idx := ⟨fun a b => funext fun k => k.elim0⟩

/-- One argument's test, all ones: each of its entries is a real number. -/
theorem real_of_test {s : Shape} (a : FVec Ideal s .f32) (hb : S_.BroadcastsInDim s (![] : Fin 0 → Fin s.rank))
    {axes : List (Fin s.rank)} (hr : s.ReducesTo axes S_) (hu : 0 < S_.numel) (j : S_.Idx)
    (e : Host.reduce IntOp.andi (cmpf .olt (Host.absf a) (broadcastInDim s ![] hb (constant S_ .f32 0x7F800000#32)))
      (constantI S_ 1 1#1) hr hu j = 1#1) (i : s.Idx) : IsReal (show EReal from a i) := by
  have h := Host.reduce_andi_all _ _ hr hu j e i
  refine isReal_of_abs_lt_top ?_
  rw [← bits_inf]
  have h' : BitVec.ofBool (decide (max (show EReal from a i) (-(show EReal from a i)) < Ideal.ofBits .f32 0x7F800000#32)) = 1#1 := h
  have one : ∀ b : Bool, BitVec.ofBool b = 1#1 → b = true := by decide
  exact of_decide_eq_true (one _ h')

theorem finite_of_pre (m : (ℓ : Loc Cert.KernelIdeal.nD Cert.KernelIdeal.τ Cert.KernelIdeal.sig) → Buf (Elt Ideal) ℓ)
    (h : Pre_KernelIdeal_finite m) (c : Dev Cert.KernelIdeal.nD) : Finite (HostK.inp m c) := by
  have e := congrFun (h c) (fun k => k.elim0)
  dsimp only [fn, fn_part1, fn_part2, fn_part3] at e
  clear h
  have split : ∀ (a b : IVec S_ 1) (j : S_.Idx), andi a b j = 1#1 → a j = 1#1 ∧ b j = 1#1 := fun a b j h =>
    (by decide : ∀ x y : BitVec 1, x &&& y = 1#1 → x = 1#1 ∧ y = 1#1) _ _ h
  have s := split _ _ _ e
  clear e
  obtain ⟨e, e10⟩ := s
  have s := split _ _ _ e
  clear e
  obtain ⟨e, e9⟩ := s
  have s := split _ _ _ e
  clear e
  obtain ⟨e, e8⟩ := s
  have s := split _ _ _ e
  clear e
  obtain ⟨e, e7⟩ := s
  have s := split _ _ _ e
  clear e
  obtain ⟨e, e6⟩ := s
  have s := split _ _ _ e
  clear e
  obtain ⟨e, e5⟩ := s
  have s := split _ _ _ e
  clear e
  obtain ⟨e, e4⟩ := s
  have s := split _ _ _ e
  clear e
  obtain ⟨e, e3⟩ := s
  have s := split _ _ _ e
  clear e
  obtain ⟨e, e2⟩ := s
  have s := split _ _ _ e
  clear e
  obtain ⟨e, e1⟩ := s
  have s := split _ _ _ e
  clear e
  obtain ⟨-, e0⟩ := s
  have r0 := real_of_test _ _ _ _ _ e0
  have r1 := real_of_test _ _ _ _ _ e1
  have r2 := real_of_test _ _ _ _ _ e2
  have r3 := real_of_test _ _ _ _ _ e3
  have r4 := real_of_test _ _ _ _ _ e4
  have r5 := real_of_test _ _ _ _ _ e5
  have r6 := real_of_test _ _ _ _ _ e6
  have r7 := real_of_test _ _ _ _ _ e7
  have r8 := real_of_test _ _ _ _ _ e8
  have r9 := real_of_test _ _ _ _ _ e9
  have r10 := real_of_test _ _ _ _ _ e10
  exact ⟨fun i j => r0 (ix2 i j), fun i j => r1 (ix2 i j), fun i j => r2 (ix2 i j), fun i j => r3 (ix2 i j), fun j => r4 (ix2 0 j),
    fun j => r5 (ix2 0 j), fun j => r6 (ix2 0 j), fun j => r7 (ix2 0 j), fun j => r8 (ix2 0 j), fun j => r9 (ix2 0 j), fun i j => r10 (ix2 i j)⟩

end Cert.Pre

end
-- ==== Proof.MlpBwd.lean ====
/- The frames and the value claim of the gradient of the MLP half (`Kernel`, `Reference`): the runs of the two programs,
   read at the shared entrywise description of `Spec`. -/
module

public import proofs.«01_k».proof.Defs
public import proofs.«01_k».proof.Proof.Ref
public import proofs.«01_k».proof.Proof.RunK
public import proofs.«01_k».proof.Proof.Pre
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_finite
public import Idealize.ShloMosaic.Adequacy
public import Idealize.ShloMosaic.Init

@[expose] public section

noncomputable section

namespace Cert.MlpBwd

open Idealize.ShloMosaic Idealize.SL.Sem Idealize.ShloMosaic.StableHlo

/-- The reference's run keeps its arguments, and it declares no semaphore. -/
theorem frame_r : Cert.quiescent_ReferenceIdeal (hReferenceIdeal := Cert.ReferenceIdeal.Gen.facts) := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- Two memories that agree on the arguments give the same argument functions. -/
theorem inp_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Fin 1)
    (h0 : (Ref.arg0 (launchContents m' c)) = HostK.arg0 m c) (h1 : (Ref.arg1 (launchContents m' c)) = HostK.arg1 m c)
    (h2 : (Ref.arg2 (launchContents m' c)) = HostK.arg2 m c) (h3 : (Ref.arg3 (launchContents m' c)) = HostK.arg3 m c)
    (h4 : (Ref.arg4 (launchContents m' c)) = HostK.arg4 m c) (h5 : (Ref.arg5 (launchContents m' c)) = HostK.arg5 m c)
    (h6 : (Ref.arg6 (launchContents m' c)) = HostK.arg6 m c) (h7 : (Ref.arg7 (launchContents m' c)) = HostK.arg7 m c)
    (h8 : (Ref.arg8 (launchContents m' c)) = HostK.arg8 m c) (h9 : (Ref.arg9 (launchContents m' c)) = HostK.arg9 m c)
    (h10 : (Ref.arg10 (launchContents m' c)) = HostK.arg10 m c) :
    Ref.inp (launchContents m' c) = HostK.inp m c := by
  unfold Ref.inp HostK.inp
  rw [h0, h1, h2, h3, h4, h5, h6, h7, h8, h9, h10]

/-- The claim's values are the kernel's result arrays; entry by entry they are the reference's results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hag
  have hin : ∀ c : Dev Cert.KernelIdeal.nD, Ref.inp (launchContents m' c) = HostK.inp m c := fun c => by
    obtain ⟨h0, h1, h2, h3, h4, h5, h6, h7, h8, h9, h10⟩ := hag c
    exact inp_eq m m' c h0 h1 h2 h3 h4 h5 h6 h7 h8 h9 h10
  refine ⟨fun c => Cert.KernelIdeal.Value.G13 m c, fun c => Cert.KernelIdeal.Value.G14 m c, fun c => Cert.KernelIdeal.Value.G15 m c,
    fun c => Cert.KernelIdeal.Value.G16 m c, Cert.KernelIdeal.Value.run (F := Ideal) m ρ, ?_⟩
  refine (θ_run Cert.ReferenceIdeal.defs _ _).mono (fun r h c => ?_)
    (θ_run_and (Cert.ReferenceIdeal.Value.run (F := Ideal) m' ρ')
      (Ref.run_at m' ρ' fun c => by rw [hin c]; exact Pre.finite_of_pre m hpre c))
  obtain ⟨hv, hr⟩ := h
  obtain ⟨r0, r1, r2, r3⟩ := hr c
  rw [hin c] at r0 r1 r2 r3
  refine ⟨?_, ?_, ?_, ?_, (hv c).2.2.2.2⟩
  · funext x
    idx_vars x
    exact (r0 _ _).trans (RunK.G13_at m c _ _).symm
  · funext x
    idx_vars x
    exact (r1 _ _).trans (RunK.G14_at m c _ _).symm
  · funext x
    idx_vars x
    exact (r2 _ _).trans (RunK.G15_at m c _ _).symm
  · funext x
    idx_vars x
    obtain rfl : x0 = (0 : Fin 1) := Subsingleton.elim _ _
    exact (r3 _).trans (RunK.G16_at m c _).symm

end Cert.MlpBwd

end
-- ==== Proof.Halves.lean ====
/- A sum over the 4096 rows of a device, taken as the two halves that the weight gradients' row blocks are. -/
module

public import Idealize.ShloMosaic.Lib.Pipeline.ValueKit
public import Idealize.ShloMosaic.Lib.Pointwise
public import Idealize.ShloMosaic.Lib.Claim

@[expose] public section

noncomputable section

namespace Cert.Halves

open Idealize.ShloMosaic

/-- Row `k` of half `p`. -/
abbrev row (p : ℕ) (hp : p < 2) (k : Fin 2048) : Fin 4096 := ⟨p * 2048 + k.val, by omega⟩

/-- The two halves' sums make the whole. -/
theorem halves (f : Fin 4096 → EReal) :
    (∑ k : Fin 2048, f (row 0 (by decide) k)) + ∑ k : Fin 2048, f (row 1 (by decide) k) = ∑ k, f k := by
  rw [← Fin.sum_mul_add_fin 2 2048 f, Fin.sum_univ_two]
  rfl

end Cert.Halves

end
-- ==== Proof.Wgrad2.lean ====
/- The gradient of the MLP's output matrix (`Kernel2`, `Reference2`): squared activations, transposed, times the
   gradient of the MLP's output. The kernel sums the 4096 rows in two blocks. -/
module

public import proofs.«01_k».proof.Defs
public import proofs.«01_k».proof.Proof.Halves
public import proofs.«01_k».proof.Proof.Gen.Kernel2.Frame
public import proofs.«01_k».proof.Proof.Gen.Kernel2Ideal.Value
public import proofs.«01_k».proof.Proof.Gen.Reference2Ideal.Run
public import Idealize.ShloMosaic.Lib.StableHlo.RunRead
public import Idealize.ShloMosaic.Adequacy
public import Idealize.ShloMosaic.Init

@[expose] public section

set_option maxRecDepth 16384

noncomputable section

namespace Cert.Wgrad2

open Idealize.ShloMosaic Idealize.ShloMosaic.TcCoe Idealize.SL.Sem Cert.Kernel2Ideal Cert.Kernel2Ideal.Gen Cert.Kernel2Ideal.Value Cert.Halves

variable (m : (ℓ : Loc nD τ sig) → Buf (Elt Ideal) ℓ) (c : Dev nD)

abbrev arg0 : FVec Ideal S4096x1024 .f32 := m ((c : Thread nD τ).loc main_arg0)
abbrev arg1 : FVec Ideal S1024x4096 .f32 := m ((c : Thread nD τ).loc main_arg1)
abbrev arg3 : FVec Ideal S4096x1024 .f32 := m ((c : Thread nD τ).loc main_arg3)

/-- The activation of row `k`, hidden column `i`. -/
def act (k i : Fin 4096) : EReal := max (∑ q : Fin 1024, (show EReal from arg0 m c (ix2 k q)) * arg1 m c (ix2 q i)) 0

/-- One row's share of the gradient's entry. -/
def term (i : Fin 4096) (j : Fin 1024) (k : Fin 4096) : EReal := act m c k i * act m c k i * arg3 m c (ix2 k j)

theorem V2_at (i j : Fin 4096) : (V m c main_v2 : FVec Ideal S4096x4096 .bf16) (ix2 i j) = act m c i j := by
  unfold V
  simp only [hostOps0, List.flatten_cons, List.flatten_nil, List.append_nil, List.cons_append, List.nil_append]
  after_reads_simp
  simp only [StableHlo.TRef.ofBuf, StableHlo.TRef.toBuf, cast_eq, eq_mpr_eq_cast]
  pointwise
  rfl

theorem V3_at (i : Fin 4096) (j : Fin 1024) : (V m c main_v3 : FVec Ideal S4096x1024 .bf16) (ix2 i j) = arg3 m c (ix2 i j) := by
  unfold V
  simp only [hostOps0, List.flatten_cons, List.flatten_nil, List.append_nil, List.cons_append, List.nil_append]
  after_reads_simp
  pointwise

theorem idx : ∀ t : Fin cfg0.N, win0_0.index t = ![t.val % 2, t.val / 2] ∧ win0_1.index t = ![t.val % 2, 0] :=
  (by decide +kernel : ∀ t : Fin grid0.N, _)

theorem lt8 (t : Fin cfg0.N) : t.val < 8 := lt_of_lt_of_eq t.isLt N_0

abbrev colOf (t : Fin cfg0.N) (i : Fin 1024) : Fin 4096 := ⟨t.val / 2 * 1024 + i, by have := lt8 t; omega⟩

theorem blk0 (t : Fin cfg0.N) (p : ℕ) (hp : p < 2) (h : t.val % 2 = p) (k : Fin 2048) (i : Fin 1024) :
    (iblk m c 0 t : FVec Ideal S2048x1024 .bf16) (ix2 k i) = act m c (row p hp k) (colOf t i) := by
  subst h
  rw [← V2_at]
  blk_point [iblk, idx t]

theorem blk1 (t : Fin cfg0.N) (p : ℕ) (hp : p < 2) (h : t.val % 2 = p) (k : Fin 2048) (j : Fin 1024) :
    (iblk m c 1 t : FVec Ideal S2048x1024 .bf16) (ix2 k j) = arg3 m c (ix2 (row p hp k) j) := by
  subst h
  rw [← V3_at]
  blk_point [iblk, idx t]

/-- One product of blocks, added to what was there. -/
theorem pay2_at (t : Fin cfg0.N) (p : ℕ) (hp : p < 2) (h : t.val % 2 = p) (S : FVec Ideal S1024x1024 .f32) (i j : Fin 1024) :
    k0_pay2 (F := Ideal) (iblk m c 0 t) (iblk m c 1 t) S (ix2 i j) = S (ix2 i j) + ∑ k : Fin 2048, term m c (colOf t i) j (row p hp k) := by
  pointwise [k0_pay2]
  simp only [blk0 m c t p hp h, blk1 m c t p hp h]
  rfl

theorem scA (t : Fin cfg0.N) (h : t.val % 2 = 0) (i j : Fin 1024) :
    (outsAt0 m c t.val t.isLt).2 (ix2 i j) = ∑ k : Fin 2048, term m c (colOf t i) j (row 0 (by decide) k) := by
  rw [outsAt0_A m c t h (by omega)]
  frame_out
  rw [pay2_at m c t 0 (by decide) h]
  pointwise [k0_pay1]

theorem outB (t : Fin cfg0.N) (h : t.val % 2 = 1) (i j : Fin 1024) :
    (outsAt0 m c t.val t.isLt).1 (ix2 i j) = ∑ k, term m c (colOf t i) j k := by
  have hl := lt8 t
  let t' : Fin cfg0.N := ⟨t.val - 1, by have := t.isLt; omega⟩
  have e : (outsAt0 m c (t.val - 1) (by omega)).2 (ix2 i j) = ∑ k : Fin 2048, term m c (colOf t i) j (row 0 (by decide) k) := by
    rw [← show colOf t' i = colOf t i from Fin.ext (by show (t.val - 1) / 2 * 1024 + _ = _; simp only; omega)]
    exact scA m c t' (show (t.val - 1) % 2 = 0 by omega) i j
  rw [outsAt0_B m c t (by omega) h]
  frame_out
  pointwise [k0_pay3]
  rw [pay2_at m c t 1 (by decide) h, ← halves, ← e]
  exact congrArg (· + _) (congrFun (Memref.IsWhole.read_unread (m := scM0_0) _ _) _)

theorem G2_at (i : Fin 4096) (j : Fin 1024) : (G2 m c : FVec Ideal S4096x1024 .bf16) (ix2 i j) = ∑ k, term m c i j k := by
  have hp : pt2Of (ix2 i j) = 2 * (i.val / 1024) + 1 := by
    show 2 * (1 * (i.val / 1024 - 0) + 1 * (j.val / 1024 - 0)) + 1 = _
    omega
  have hlt : 2 * (i.val / 1024) + 1 < cfg0.N := lt_of_lt_of_eq (show _ < 8 by omega) (show 8 = cfg0.N from N_0.symm)
  have hl : loc2Of (ix2 i j) = ix2 (⟨i.val % 1024, by omega⟩ : Fin 1024) (⟨j.val % 1024, by omega⟩ : Fin 1024) := by
    funext a; fin_cases a <;> rfl
  unfold G2
  rw [dif_pos (by rw [hp]; exact hlt), hl, fold0_congr m c _ _ _ _ hp]
  have e := outB m c ⟨_, hlt⟩ (by simp only; omega) ⟨i.val % 1024, by omega⟩ ⟨j.val % 1024, by omega⟩
  rw [outsAt0_sweep] at e
  refine e.trans ?_
  congr 1
  funext k
  congr 1 <;> exact Fin.ext (by simp only; omega)

/-- The reference's run keeps its arguments, and it declares no semaphore. -/
theorem frame_r : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The claim's value is the kernel's result array; entry by entry it is the reference's. -/
theorem algebraic : Cert.algebraic_Kernel2Ideal_Reference2Ideal (hKernel2Ideal := Cert.Kernel2Ideal.Gen.facts)
    (hReference2Ideal := Cert.Reference2Ideal.Gen.facts) := by
  intro m ρ m' ρ' _ hag
  refine ⟨fun c => G2 m c, run (F := Ideal) m ρ, ?_⟩
  refine (θ_run Cert.Reference2Ideal.defs _ _).mono (fun r h c => ⟨?_, (h c).2⟩) (Cert.Reference2Ideal.Value.run (F := Ideal) m' ρ')
  obtain ⟨h0, h1, -, h3⟩ := hag c
  rw [(h c).1, h0, h1, h3]
  funext x
  idx_vars x
  refine Eq.trans ?_ (G2_at m c _ _).symm
  pointwise
  refine Finset.sum_congr rfl fun k _ => ?_
  rw [mul_comm]
  rfl

end Cert.Wgrad2

end
-- ==== Proof.Wgrad3.lean ====
/- The gradient of the MLP's input matrix (`Kernel3`, `Reference3`): the MLP's input, transposed, times the gradient of
   the pre-activation, cut by columns into one slab per device. The kernel sums the 4096 rows in two blocks. -/
module

public import proofs.«01_k».proof.Defs
public import proofs.«01_k».proof.Proof.Halves
public import proofs.«01_k».proof.Proof.Gen.Kernel3.Frame
public import proofs.«01_k».proof.Proof.Gen.Kernel3Ideal.Value
public import proofs.«01_k».proof.Proof.Gen.Reference3Ideal.Run
public import Idealize.ShloMosaic.Lib.StableHlo.RunRead
public import Idealize.ShloMosaic.Adequacy
public import Idealize.ShloMosaic.Init

@[expose] public section

set_option maxRecDepth 16384

noncomputable section

namespace Cert.Wgrad3

open Idealize.ShloMosaic Idealize.ShloMosaic.TcCoe Idealize.SL.Sem Cert.Kernel3Ideal Cert.Kernel3Ideal.Gen Cert.Kernel3Ideal.Value Cert.Halves

variable (m : (ℓ : Loc nD τ sig) → Buf (Elt Ideal) ℓ) (c : Dev nD)

abbrev arg0 : FVec Ideal S4096x1024 .f32 := m ((c : Thread nD τ).loc main_arg0)
abbrev arg2 : FVec Ideal S4096x4096 .f32 := m ((c : Thread nD τ).loc main_arg2)

/-- One row's share of the gradient's entry. -/
def term (i : Fin 1024) (j : Fin 4096) (k : Fin 4096) : EReal := (show EReal from arg0 m c (ix2 k i)) * arg2 m c (ix2 k j)

theorem V0_at (i : Fin 4096) (j : Fin 1024) : (V m c main_v0 : FVec Ideal S4096x1024 .bf16) (ix2 i j) = arg0 m c (ix2 i j) := by
  unfold V
  simp only [hostOps0, List.flatten_cons, List.flatten_nil, List.append_nil, List.cons_append, List.nil_append]
  after_reads_simp
  pointwise

theorem V1_at (i j : Fin 4096) : (V m c main_v1 : FVec Ideal S4096x4096 .bf16) (ix2 i j) = arg2 m c (ix2 i j) := by
  unfold V
  simp only [hostOps0, List.flatten_cons, List.flatten_nil, List.append_nil, List.cons_append, List.nil_append]
  after_reads_simp
  pointwise

theorem idx : ∀ t : Fin cfg0.N, win0_0.index t = ![t.val % 2, 0] ∧ win0_1.index t = ![t.val % 2, t.val / 2] :=
  (by decide +kernel : ∀ t : Fin grid0.N, _)

theorem lt8 (t : Fin cfg0.N) : t.val < 8 := lt_of_lt_of_eq t.isLt N_0

abbrev colOf (t : Fin cfg0.N) (i : Fin 1024) : Fin 4096 := ⟨t.val / 2 * 1024 + i, by have := lt8 t; omega⟩

theorem blk0 (t : Fin cfg0.N) (p : ℕ) (hp : p < 2) (h : t.val % 2 = p) (k : Fin 2048) (i : Fin 1024) :
    (iblk m c 0 t : FVec Ideal S2048x1024 .bf16) (ix2 k i) = arg0 m c (ix2 (row p hp k) i) := by
  subst h
  rw [← V0_at]
  blk_point [iblk, idx t]

theorem blk1 (t : Fin cfg0.N) (p : ℕ) (hp : p < 2) (h : t.val % 2 = p) (k : Fin 2048) (j : Fin 1024) :
    (iblk m c 1 t : FVec Ideal S2048x1024 .bf16) (ix2 k j) = arg2 m c (ix2 (row p hp k) (colOf t j)) := by
  subst h
  rw [← V1_at]
  blk_point [iblk, idx t]

/-- One product of blocks, added to what was there. -/
theorem pay2_at (t : Fin cfg0.N) (p : ℕ) (hp : p < 2) (h : t.val % 2 = p) (S : FVec Ideal S1024x1024 .f32) (i j : Fin 1024) :
    k0_pay2 (F := Ideal) (iblk m c 0 t) (iblk m c 1 t) S (ix2 i j) = S (ix2 i j) + ∑ k : Fin 2048, term m c i (colOf t j) (row p hp k) := by
  pointwise [k0_pay2]
  simp only [blk0 m c t p hp h, blk1 m c t p hp h]
  rfl

theorem scA (t : Fin cfg0.N) (h : t.val % 2 = 0) (i j : Fin 1024) :
    (outsAt0 m c t.val t.isLt).2 (ix2 i j) = ∑ k : Fin 2048, term m c i (colOf t j) (row 0 (by decide) k) := by
  rw [outsAt0_A m c t h (by omega)]
  frame_out
  rw [pay2_at m c t 0 (by decide) h]
  pointwise [k0_pay1]

theorem scB (t : Fin cfg0.N) (h : t.val % 2 = 1) (i j : Fin 1024) :
    (outsAt0 m c t.val t.isLt).2 (ix2 i j) = ∑ k, term m c i (colOf t j) k := by
  have hl := lt8 t
  let t' : Fin cfg0.N := ⟨t.val - 1, by have := t.isLt; omega⟩
  have e : (outsAt0 m c (t.val - 1) (by omega)).2 (ix2 i j) = ∑ k : Fin 2048, term m c i (colOf t j) (row 0 (by decide) k) := by
    rw [← show colOf t' j = colOf t j from Fin.ext (by show (t.val - 1) / 2 * 1024 + _ = _; simp only; omega)]
    exact scA m c t' (show (t.val - 1) % 2 = 0 by omega) i j
  rw [outsAt0_B m c t (by omega) h]
  frame_out
  rw [pay2_at m c t 1 (by decide) h, ← halves, ← e]
  exact congrArg (· + _) (congrFun (Memref.IsWhole.read_unread (m := scM0_0) _ _) _)

theorem outB (t : Fin cfg0.N) (h : t.val % 2 = 1) (s : Fin 2) (i : Fin 1024) (j : Fin 512) :
    (outsAt0 m c t.val t.isLt).1 (ix3 s i j) = ∑ k, term m c i (colOf t ⟨s * 512 + j, by omega⟩) k := by
  rw [← scB m c t h i ⟨s * 512 + j, by omega⟩]
  rw [outsAt0_B m c t (by omega) h]
  frame_out
  canon_tiles x h
  all_goals
    idx_vars x
    pointwise [k0_pay3, k0_pay4]
    rw [View.readCov_eq_canon', View.canon_cons_unit_lit _ _ _ (by decide)]
    pointwise
    congr 2 <;> exact Fin.ext (by first | omega | (simp only; omega))

theorem G2_at (s : Fin 8) (i : Fin 1024) (j : Fin 512) :
    (G2 m c : FVec Ideal S8x1024x512 .bf16) (ix3 s i j) = ∑ k, term m c i ⟨s * 512 + j, by omega⟩ k := by
  have hp : pt2Of (ix3 s i j) = 2 * (s.val / 2) + 1 := by
    show 2 * (1 * (s.val / 2 - 0) + 1 * (i.val / 1024 - 0) + 1 * (j.val / 512 - 0)) + 1 = _
    omega
  have hlt : 2 * (s.val / 2) + 1 < cfg0.N := lt_of_lt_of_eq (show _ < 8 by omega) (show 8 = cfg0.N from N_0.symm)
  have hl : loc2Of (ix3 s i j) = ix3 (⟨s.val % 2, by omega⟩ : Fin 2) (⟨i.val % 1024, by omega⟩ : Fin 1024) (⟨j.val % 512, by omega⟩ : Fin 512) := by
    funext a; fin_cases a <;> rfl
  unfold G2
  rw [dif_pos (by rw [hp]; exact hlt), hl, fold0_congr m c _ _ _ _ hp]
  have e := outB m c ⟨_, hlt⟩ (by simp only; omega) ⟨s.val % 2, by omega⟩ ⟨i.val % 1024, by omega⟩ ⟨j.val % 512, by omega⟩
  rw [outsAt0_sweep] at e
  refine e.trans ?_
  congr 1
  funext k
  congr 1 <;> exact Fin.ext (by simp only; omega)

/-- The reference's run keeps its arguments, and it declares no semaphore. -/
theorem frame_r : Cert.quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The claim's value is the kernel's result array; entry by entry it is the reference's. -/
theorem algebraic : Cert.algebraic_Kernel3Ideal_Reference3Ideal (hKernel3Ideal := Cert.Kernel3Ideal.Gen.facts)
    (hReference3Ideal := Cert.Reference3Ideal.Gen.facts) := by
  intro m ρ m' ρ' _ hag
  refine ⟨fun c => G2 m c, run (F := Ideal) m ρ, ?_⟩
  refine (θ_run Cert.Reference3Ideal.defs _ _).mono (fun r h c => ⟨?_, (h c).2⟩) (Cert.Reference3Ideal.Value.run (F := Ideal) m' ρ')
  obtain ⟨h0, -, h2⟩ := hag c
  rw [(h c).1, h0, h2]
  funext x
  idx_vars x
  refine Eq.trans ?_ (G2_at m c _ _ _).symm
  pointwise
  refine Finset.sum_congr rfl fun k _ => ?_
  rw [mul_comm]
  rfl

end Cert.Wgrad3

end
-- ==== Proof.Wgrad4.lean ====
/- The gradient of the input projection's columns for the recurrent heads, transposed (`Kernel4`, `Reference4`): the columns' gradient, transposed,
   times the modulated input. The kernel sums the 4096 rows in two blocks. -/
module

public import proofs.«01_k».proof.Defs
public import proofs.«01_k».proof.Proof.Halves
public import proofs.«01_k».proof.Proof.Gen.Kernel4.Frame
public import proofs.«01_k».proof.Proof.Gen.Kernel4Ideal.Value
public import proofs.«01_k».proof.Proof.Gen.Reference4Ideal.Run
public import Idealize.ShloMosaic.Lib.StableHlo.RunRead
public import Idealize.ShloMosaic.Adequacy
public import Idealize.ShloMosaic.Init

@[expose] public section

set_option maxRecDepth 16384

noncomputable section

namespace Cert.Wgrad4

open Idealize.ShloMosaic Idealize.ShloMosaic.TcCoe Idealize.SL.Sem Cert.Kernel4Ideal Cert.Kernel4Ideal.Gen Cert.Kernel4Ideal.Value Cert.Halves

variable (m : (ℓ : Loc nD τ sig) → Buf (Elt Ideal) ℓ) (c : Dev nD)

abbrev arg0 : FVec Ideal S4096x1024 .f32 := m ((c : Thread nD τ).loc main_arg0)
abbrev arg1 : FVec Ideal S1x1024 .f32 := m ((c : Thread nD τ).loc main_arg1)
abbrev arg2 : FVec Ideal S1x1024 .f32 := m ((c : Thread nD τ).loc main_arg2)
abbrev arg4 : FVec Ideal S4096x2048 .f32 := m ((c : Thread nD τ).loc main_arg4)

/-- The modulated input. -/
def u (k : Fin 4096) (j : Fin 1024) : EReal := (show EReal from arg0 m c (ix2 k j)) * (1 + arg1 m c (ix2 0 j)) + arg2 m c (ix2 0 j)

/-- One row's share of the gradient's entry. -/
def term (i : Fin 2048) (j : Fin 1024) (k : Fin 4096) : EReal := (show EReal from arg4 m c (ix2 k i)) * u m c k j

theorem V0_at (i : Fin 4096) (j : Fin 2048) : (V m c main_v0 : FVec Ideal S4096x2048 .bf16) (ix2 i j) = arg4 m c (ix2 i j) := by
  unfold V
  simp only [hostOps0, List.flatten_cons, List.flatten_nil, List.append_nil, List.cons_append, List.nil_append]
  after_reads_simp
  pointwise

theorem idx : ∀ t : Fin cfg0.N, win0_0.index t = ![t.val % 2, t.val / 2] ∧ win0_1.index t = ![t.val % 2, 0]
    ∧ win0_2.index t = ![0, 0] ∧ win0_3.index t = ![0, 0] :=
  (by decide +kernel : ∀ t : Fin grid0.N, _)

theorem ltN (t : Fin cfg0.N) : t.val < 4 := lt_of_lt_of_eq t.isLt N_0

abbrev colOf (t : Fin cfg0.N) (i : Fin 1024) : Fin 2048 := ⟨t.val / 2 * 1024 + i, by have := ltN t; omega⟩

theorem blk0 (t : Fin cfg0.N) (p : ℕ) (hp : p < 2) (h : t.val % 2 = p) (k : Fin 2048) (i : Fin 1024) :
    (iblk m c 0 t : FVec Ideal S2048x1024 .bf16) (ix2 k i) = arg4 m c (ix2 (row p hp k) (colOf t i)) := by
  subst h
  rw [← V0_at]
  blk_point [iblk, idx t]

theorem blk1 (t : Fin cfg0.N) (p : ℕ) (hp : p < 2) (h : t.val % 2 = p) (k : Fin 2048) (j : Fin 1024) :
    (iblk m c 1 t : FVec Ideal S2048x1024 .f32) (ix2 k j) = arg0 m c (ix2 (row p hp k) j) := by
  subst h
  blk_point [iblk, V_main_arg0, idx t]

theorem blk2 (t : Fin cfg0.N) (j : Fin 1024) : (iblk m c 2 t : FVec Ideal S1x1024 .f32) (ix2 0 j) = arg1 m c (ix2 0 j) := by
  blk_point [iblk, V_main_arg1, idx t]

theorem blk3 (t : Fin cfg0.N) (j : Fin 1024) : (iblk m c 3 t : FVec Ideal S1x1024 .f32) (ix2 0 j) = arg2 m c (ix2 0 j) := by
  blk_point [iblk, V_main_arg2, idx t]

/-- One product of blocks, added to what was there. -/
theorem pay2_at (t : Fin cfg0.N) (p : ℕ) (hp : p < 2) (h : t.val % 2 = p) (S : FVec Ideal S1024x1024 .f32) (i j : Fin 1024) :
    k0_pay2 (F := Ideal) (iblk m c 0 t) (iblk m c 1 t) (iblk m c 2 t) (iblk m c 3 t) S (ix2 i j)
      = S (ix2 i j) + ∑ k : Fin 2048, term m c (colOf t i) j (row p hp k) := by
  pointwise [k0_pay2]
  simp only [blk0 m c t p hp h, blk1 m c t p hp h, blk2 m c t, blk3 m c t]
  rfl

theorem scA (t : Fin cfg0.N) (h : t.val % 2 = 0) (i j : Fin 1024) :
    (outsAt0 m c t.val t.isLt).2 (ix2 i j) = ∑ k : Fin 2048, term m c (colOf t i) j (row 0 (by decide) k) := by
  rw [outsAt0_A m c t h (by omega)]
  frame_out
  rw [pay2_at m c t 0 (by decide) h]
  pointwise [k0_pay1]

theorem outB (t : Fin cfg0.N) (h : t.val % 2 = 1) (i j : Fin 1024) :
    (outsAt0 m c t.val t.isLt).1 (ix2 i j) = ∑ k, term m c (colOf t i) j k := by
  have hl := ltN t
  let t' : Fin cfg0.N := ⟨t.val - 1, by have := t.isLt; omega⟩
  have e : (outsAt0 m c (t.val - 1) (by omega)).2 (ix2 i j) = ∑ k : Fin 2048, term m c (colOf t i) j (row 0 (by decide) k) := by
    rw [← show colOf t' i = colOf t i from Fin.ext (by show (t.val - 1) / 2 * 1024 + _ = _; simp only; omega)]
    exact scA m c t' (show (t.val - 1) % 2 = 0 by omega) i j
  rw [outsAt0_B m c t (by omega) h]
  frame_out
  rw [pay2_at m c t 1 (by decide) h, ← halves, ← e]
  exact congrArg (· + _) (congrFun (Memref.IsWhole.read_unread (m := scM0_0) _ _) _)

theorem G4_at (i : Fin 2048) (j : Fin 1024) : (G4 m c : FVec Ideal S2048x1024 .f32) (ix2 i j) = ∑ k, term m c i j k := by
  have hp : pt4Of (ix2 i j) = 2 * (i.val / 1024) + 1 := by
    show 2 * (1 * (i.val / 1024 - 0) + 1 * (j.val / 1024 - 0)) + 1 = _
    omega
  have hlt : 2 * (i.val / 1024) + 1 < cfg0.N := lt_of_lt_of_eq (show _ < 4 by omega) (show 4 = cfg0.N from N_0.symm)
  have hl : loc4Of (ix2 i j) = ix2 (⟨i.val % 1024, by omega⟩ : Fin 1024) (⟨j.val % 1024, by omega⟩ : Fin 1024) := by
    funext a; fin_cases a <;> rfl
  unfold G4
  rw [dif_pos (by rw [hp]; exact hlt), hl, fold0_congr m c _ _ _ _ hp]
  have e := outB m c ⟨_, hlt⟩ (by simp only; omega) ⟨i.val % 1024, by omega⟩ ⟨j.val % 1024, by omega⟩
  rw [outsAt0_sweep] at e
  refine e.trans ?_
  congr 1
  funext k
  congr 1 <;> exact Fin.ext (by simp only; omega)

/-- The reference's run keeps its arguments, and it declares no semaphore. -/
theorem frame_r : Cert.quiescent_Reference4Ideal (hReference4Ideal := Cert.Reference4Ideal.Gen.facts) := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The claim's value is the kernel's result array; entry by entry it is the reference's. -/
theorem algebraic : Cert.algebraic_Kernel4Ideal_Reference4Ideal (hKernel4Ideal := Cert.Kernel4Ideal.Gen.facts)
    (hReference4Ideal := Cert.Reference4Ideal.Gen.facts) := by
  intro m ρ m' ρ' _ hag
  refine ⟨fun c => G4 m c, run (F := Ideal) m ρ, ?_⟩
  refine (θ_run Cert.Reference4Ideal.defs _ _).mono (fun r h c => ⟨?_, (h c).2⟩) (Cert.Reference4Ideal.Value.run (F := Ideal) m' ρ')
  obtain ⟨h0, h1, h2, -, h4⟩ := hag c
  rw [(h c).1, h0, h1, h2, h4]
  funext x
  idx_vars x
  refine Eq.trans ?_ (G4_at m c _ _).symm
  pointwise
  rfl

end Cert.Wgrad4

end
-- ==== Proof.Wgrad5.lean ====
/- The gradient of the input projection's columns for the attention heads (the rotary key's with its rotated copy), transposed (`Kernel5`, `Reference5`): the columns' gradient, transposed,
   times the modulated input. The kernel sums the 4096 rows in two blocks. -/
module

public import proofs.«01_k».proof.Defs
public import proofs.«01_k».proof.Proof.Halves
public import proofs.«01_k».proof.Proof.Gen.Kernel5.Frame
public import proofs.«01_k».proof.Proof.Gen.Kernel5Ideal.Value
public import proofs.«01_k».proof.Proof.Gen.Reference5Ideal.Run
public import Idealize.ShloMosaic.Lib.StableHlo.RunRead
public import Idealize.ShloMosaic.Adequacy
public import Idealize.ShloMosaic.Init

@[expose] public section

set_option maxRecDepth 16384

noncomputable section

namespace Cert.Wgrad5

open Idealize.ShloMosaic Idealize.ShloMosaic.TcCoe Idealize.SL.Sem Cert.Kernel5Ideal Cert.Kernel5Ideal.Gen Cert.Kernel5Ideal.Value Cert.Halves

variable (m : (ℓ : Loc nD τ sig) → Buf (Elt Ideal) ℓ) (c : Dev nD)

abbrev arg0 : FVec Ideal S4096x1024 .f32 := m ((c : Thread nD τ).loc main_arg0)
abbrev arg1 : FVec Ideal S1x1024 .f32 := m ((c : Thread nD τ).loc main_arg1)
abbrev arg2 : FVec Ideal S1x1024 .f32 := m ((c : Thread nD τ).loc main_arg2)
abbrev arg4 : FVec Ideal S4096x1024 .f32 := m ((c : Thread nD τ).loc main_arg4)

/-- The modulated input. -/
def u (k : Fin 4096) (j : Fin 1024) : EReal := (show EReal from arg0 m c (ix2 k j)) * (1 + arg1 m c (ix2 0 j)) + arg2 m c (ix2 0 j)

/-- One row's share of the gradient's entry. -/
def term (i : Fin 1024) (j : Fin 1024) (k : Fin 4096) : EReal := (show EReal from arg4 m c (ix2 k i)) * u m c k j

theorem V0_at (i : Fin 4096) (j : Fin 1024) : (V m c main_v0 : FVec Ideal S4096x1024 .bf16) (ix2 i j) = arg4 m c (ix2 i j) := by
  unfold V
  simp only [hostOps0, List.flatten_cons, List.flatten_nil, List.append_nil, List.cons_append, List.nil_append]
  after_reads_simp
  pointwise

theorem idx : ∀ t : Fin cfg0.N, win0_0.index t = ![t.val % 2, t.val / 2] ∧ win0_1.index t = ![t.val % 2, 0]
    ∧ win0_2.index t = ![0, 0] ∧ win0_3.index t = ![0, 0] :=
  (by decide +kernel : ∀ t : Fin grid0.N, _)

theorem ltN (t : Fin cfg0.N) : t.val < 2 := lt_of_lt_of_eq t.isLt N_0

abbrev colOf (t : Fin cfg0.N) (i : Fin 1024) : Fin 1024 := ⟨t.val / 2 * 1024 + i, by have := ltN t; omega⟩

theorem blk0 (t : Fin cfg0.N) (p : ℕ) (hp : p < 2) (h : t.val % 2 = p) (k : Fin 2048) (i : Fin 1024) :
    (iblk m c 0 t : FVec Ideal S2048x1024 .bf16) (ix2 k i) = arg4 m c (ix2 (row p hp k) (colOf t i)) := by
  subst h
  rw [← V0_at]
  blk_point [iblk, idx t]

theorem blk1 (t : Fin cfg0.N) (p : ℕ) (hp : p < 2) (h : t.val % 2 = p) (k : Fin 2048) (j : Fin 1024) :
    (iblk m c 1 t : FVec Ideal S2048x1024 .f32) (ix2 k j) = arg0 m c (ix2 (row p hp k) j) := by
  subst h
  blk_point [iblk, V_main_arg0, idx t]

theorem blk2 (t : Fin cfg0.N) (j : Fin 1024) : (iblk m c 2 t : FVec Ideal S1x1024 .f32) (ix2 0 j) = arg1 m c (ix2 0 j) := by
  blk_point [iblk, V_main_arg1, idx t]

theorem blk3 (t : Fin cfg0.N) (j : Fin 1024) : (iblk m c 3 t : FVec Ideal S1x1024 .f32) (ix2 0 j) = arg2 m c (ix2 0 j) := by
  blk_point [iblk, V_main_arg2, idx t]

/-- One product of blocks, added to what was there. -/
theorem pay2_at (t : Fin cfg0.N) (p : ℕ) (hp : p < 2) (h : t.val % 2 = p) (S : FVec Ideal S1024x1024 .f32) (i j : Fin 1024) :
    k0_pay2 (F := Ideal) (iblk m c 0 t) (iblk m c 1 t) (iblk m c 2 t) (iblk m c 3 t) S (ix2 i j)
      = S (ix2 i j) + ∑ k : Fin 2048, term m c (colOf t i) j (row p hp k) := by
  pointwise [k0_pay2]
  simp only [blk0 m c t p hp h, blk1 m c t p hp h, blk2 m c t, blk3 m c t]
  rfl

theorem scA (t : Fin cfg0.N) (h : t.val % 2 = 0) (i j : Fin 1024) :
    (outsAt0 m c t.val t.isLt).2 (ix2 i j) = ∑ k : Fin 2048, term m c (colOf t i) j (row 0 (by decide) k) := by
  rw [outsAt0_A m c t h (by omega)]
  frame_out
  rw [pay2_at m c t 0 (by decide) h]
  pointwise [k0_pay1]

theorem outB (t : Fin cfg0.N) (h : t.val % 2 = 1) (i j : Fin 1024) :
    (outsAt0 m c t.val t.isLt).1 (ix2 i j) = ∑ k, term m c (colOf t i) j k := by
  have hl := ltN t
  let t' : Fin cfg0.N := ⟨t.val - 1, by have := t.isLt; omega⟩
  have e : (outsAt0 m c (t.val - 1) (by omega)).2 (ix2 i j) = ∑ k : Fin 2048, term m c (colOf t i) j (row 0 (by decide) k) := by
    rw [← show colOf t' i = colOf t i from Fin.ext (by show (t.val - 1) / 2 * 1024 + _ = _; simp only; omega)]
    exact scA m c t' (show (t.val - 1) % 2 = 0 by omega) i j
  rw [outsAt0_B m c t (by omega) h]
  frame_out
  rw [pay2_at m c t 1 (by decide) h, ← halves, ← e]
  exact congrArg (· + _) (congrFun (Memref.IsWhole.read_unread (m := scM0_0) _ _) _)

theorem G4_at (i : Fin 1024) (j : Fin 1024) : (G4 m c : FVec Ideal S1024x1024 .f32) (ix2 i j) = ∑ k, term m c i j k := by
  have hp : pt4Of (ix2 i j) = 2 * (i.val / 1024) + 1 := by
    show 2 * (1 * (i.val / 1024 - 0) + 1 * (j.val / 1024 - 0)) + 1 = _
    omega
  have hlt : 2 * (i.val / 1024) + 1 < cfg0.N := lt_of_lt_of_eq (show _ < 2 by omega) (show 2 = cfg0.N from N_0.symm)
  have hl : loc4Of (ix2 i j) = ix2 (⟨i.val % 1024, by omega⟩ : Fin 1024) (⟨j.val % 1024, by omega⟩ : Fin 1024) := by
    funext a; fin_cases a <;> rfl
  unfold G4
  rw [dif_pos (by rw [hp]; exact hlt), hl, fold0_congr m c _ _ _ _ hp]
  have e := outB m c ⟨_, hlt⟩ (by simp only; omega) ⟨i.val % 1024, by omega⟩ ⟨j.val % 1024, by omega⟩
  rw [outsAt0_sweep] at e
  refine e.trans ?_
  congr 1
  funext k
  congr 1 <;> exact Fin.ext (by simp only; omega)

/-- The reference's run keeps its arguments, and it declares no semaphore. -/
theorem frame_r : Cert.quiescent_Reference5Ideal (hReference5Ideal := Cert.Reference5Ideal.Gen.facts) := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The claim's value is the kernel's result array; entry by entry it is the reference's. -/
theorem algebraic : Cert.algebraic_Kernel5Ideal_Reference5Ideal (hKernel5Ideal := Cert.Kernel5Ideal.Gen.facts)
    (hReference5Ideal := Cert.Reference5Ideal.Gen.facts) := by
  intro m ρ m' ρ' _ hag
  refine ⟨fun c => G4 m c, run (F := Ideal) m ρ, ?_⟩
  refine (θ_run Cert.Reference5Ideal.defs _ _).mono (fun r h c => ⟨?_, (h c).2⟩) (Cert.Reference5Ideal.Value.run (F := Ideal) m' ρ')
  obtain ⟨h0, h1, h2, -, h4⟩ := hag c
  rw [(h c).1, h0, h1, h2, h4]
  funext x
  idx_vars x
  refine Eq.trans ?_ (G4_at m c _ _).symm
  pointwise
  rfl

end Cert.Wgrad5

end
-- ==== Proof.Wgrad6.lean ====
/- The gradient of the mixer's output before its projection (`Kernel6`, `Reference6`): the gradient of the mixer's
   output times the projection, transposed. The kernel takes 1024 rows at a time. -/
module

public import proofs.«01_k».proof.Defs
public import proofs.«01_k».proof.Proof.Halves
public import proofs.«01_k».proof.Proof.Gen.Kernel6.Frame
public import proofs.«01_k».proof.Proof.Gen.Kernel6Ideal.Value
public import proofs.«01_k».proof.Proof.Gen.Reference6Ideal.Run
public import Idealize.ShloMosaic.Lib.StableHlo.RunRead
public import Idealize.ShloMosaic.Adequacy
public import Idealize.ShloMosaic.Init
public import Idealize.ShloMosaic.Lib.Pipeline.ValueKit.Geometry

@[expose] public section

set_option maxRecDepth 16384

noncomputable section

namespace Cert.Wgrad6

open Idealize.ShloMosaic Idealize.ShloMosaic.TcCoe Idealize.SL.Sem Cert.Kernel6Ideal Cert.Kernel6Ideal.Gen Cert.Kernel6Ideal.Value

variable (m : (ℓ : Loc nD τ sig) → Buf (Elt Ideal) ℓ) (c : Dev nD)

abbrev arg1 : FVec Ideal S1024x1024 .f32 := m ((c : Thread nD τ).loc main_arg1)
abbrev arg2 : FVec Ideal S4096x1024 .f32 := m ((c : Thread nD τ).loc main_arg2)

/-- The product's entry. -/
def entry (i : Fin 4096) (j : Fin 1024) : EReal := ∑ k : Fin 1024, (show EReal from arg2 m c (ix2 i k)) * arg1 m c (ix2 j k)

/-- The product, as an array. -/
def G : FVec Ideal S4096x1024 .f32 := fun x => entry m c (x 0) (x 1)

theorem G_at (i : Fin 4096) (j : Fin 1024) : G m c (ix2 i j) = entry m c i j := rfl

theorem V0_at (i : Fin 4096) (j : Fin 1024) : (V m c main_v0 : FVec Ideal S4096x1024 .bf16) (ix2 i j) = arg2 m c (ix2 i j) := by
  unfold V
  simp only [hostOps0, List.flatten_cons, List.flatten_nil, List.append_nil, List.cons_append, List.nil_append]
  after_reads_simp
  pointwise

theorem V1_at (i j : Fin 1024) : (V m c main_v1 : FVec Ideal S1024x1024 .bf16) (ix2 i j) = arg1 m c (ix2 i j) := by
  unfold V
  simp only [hostOps0, List.flatten_cons, List.flatten_nil, List.append_nil, List.cons_append, List.nil_append]
  after_reads_simp
  pointwise

theorem idx : ∀ t : Fin cfg0.N, win0_0.index t = ![t.val, 0] ∧ win0_1.index t = ![0, 0] ∧ win0_2.index t = ![t.val, 0] :=
  (by decide +kernel : ∀ t : Fin grid0.N, _)

theorem lt4 (t : Fin cfg0.N) : t.val < 4 := lt_of_lt_of_eq t.isLt N_0

abbrev rowOf (t : Fin cfg0.N) (i : Fin 1024) : Fin 4096 := ⟨t.val * 1024 + i, by have := lt4 t; omega⟩

theorem blk0 (t : Fin cfg0.N) (i k : Fin 1024) :
    (iblk m c 0 t : FVec Ideal S1024x1024 .bf16) (ix2 i k) = arg2 m c (ix2 (rowOf t i) k) := by
  rw [← V0_at]
  blk_point [iblk, idx t]

theorem blk1 (t : Fin cfg0.N) (j k : Fin 1024) :
    (iblk m c 1 t : FVec Ideal S1024x1024 .bf16) (ix2 j k) = arg1 m c (ix2 j k) := by
  rw [← V1_at]
  blk_point [iblk, idx t]

theorem out_at (t : Fin cfg0.N) (i j : Fin 1024) : outsAt0 m c t (ix2 i j) = entry m c (rowOf t i) j := by
  unfold outsAt0
  frame_out
  pointwise [k0_pay1, k0_pay2]
  simp only [blk0, blk1]
  rfl

theorem final : (dats m 0 c).arrAt 2 cfg0.N = G m c := by
  refine (dats m 0 c).arrAt_eq_of_covers 2 (G m c) (by decide +kernel) fun t hf y => ?_
  blk_simp
  rw [after0_2]
  idx_vars y
  rw [out_at]
  have e : ((View.whole main_v2).slice (win0_2.rect t)).emb (ix2 y0 y1) = ix2 (rowOf t y0) y1 := by
    blk_ext [idx t]
  rw [e, G_at]

/-- The reference's run keeps its arguments, and it declares no semaphore. -/
theorem frame_r : Cert.quiescent_Reference6Ideal (hReference6Ideal := Cert.Reference6Ideal.Gen.facts) := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- The claim's value is the kernel's result array; entry by entry it is the reference's. -/
theorem algebraic : Cert.algebraic_Kernel6Ideal_Reference6Ideal (hKernel6Ideal := Cert.Kernel6Ideal.Gen.facts)
    (hReference6Ideal := Cert.Reference6Ideal.Gen.facts) := by
  intro m ρ m' ρ' _ hag
  refine ⟨fun c => G m c, (θ_run defs _ _).mono (fun r h c => ⟨(h c).1.trans (final m c), (h c).2⟩) (run_blocks (F := Ideal) m ρ), ?_⟩
  refine (θ_run Cert.Reference6Ideal.defs _ _).mono (fun r h c => ⟨?_, (h c).2⟩) (Cert.Reference6Ideal.Value.run (F := Ideal) m' ρ')
  obtain ⟨-, h1, h2⟩ := hag c
  rw [(h c).1, h1, h2]
  funext x
  idx_vars x
  pointwise
  rfl

end Cert.Wgrad6

end
-- ==== Proof.Wgrad7.lean ====
/- The gradient of the output projection's rows for the recurrent heads (`Kernel7`, `Reference7`): the heads' output,
   transposed, times the gradient of the mixer's output. The kernel sums the 4096 rows in two blocks. -/
module

public import proofs.«01_k».proof.Defs
public import proofs.«01_k».proof.Proof.Halves
public import proofs.«01_k».proof.Proof.Gen.Kernel7.Frame
public import proofs.«01_k».proof.Proof.Gen.Kernel7Ideal.Value
public import proofs.«01_k».proof.Proof.Gen.Reference7Ideal.Run
public import Idealize.ShloMosaic.Lib.StableHlo.RunRead
public import Idealize.ShloMosaic.Adequacy
public import Idealize.ShloMosaic.Init

@[expose] public section

set_option maxRecDepth 16384

noncomputable section

namespace Cert.Wgrad7

open Idealize.ShloMosaic Idealize.ShloMosaic.TcCoe Idealize.SL.Sem Cert.Kernel7Ideal Cert.Kernel7Ideal.Gen Cert.Kernel7Ideal.Value Cert.Halves

variable (m : (ℓ : Loc nD τ sig) → Buf (Elt Ideal) ℓ) (c : Dev nD)

abbrev arg0 : FVec Ideal S4096x512 .f32 := m ((c : Thread nD τ).loc main_arg0)
abbrev arg2 : FVec Ideal S4096x1024 .f32 := m ((c : Thread nD τ).loc main_arg2)

/-- One row's share of the gradient's entry. -/
def term (i : Fin 512) (j : Fin 1024) (k : Fin 4096) : EReal := (show EReal from arg0 m c (ix2 k i)) * arg2 m c (ix2 k j)

theorem V0_at (i : Fin 4096) (j : Fin 512) : (V m c main_v0 : FVec Ideal S4096x512 .bf16) (ix2 i j) = arg0 m c (ix2 i j) := by
  unfold V
  simp only [hostOps0, List.flatten_cons, List.flatten_nil, List.append_nil, List.cons_append, List.nil_append]
  after_reads_simp
  pointwise

theorem V1_at (i : Fin 4096) (j : Fin 1024) : (V m c main_v1 : FVec Ideal S4096x1024 .bf16) (ix2 i j) = arg2 m c (ix2 i j) := by
  unfold V
  simp only [hostOps0, List.flatten_cons, List.flatten_nil, List.append_nil, List.cons_append, List.nil_append]
  after_reads_simp
  pointwise

theorem idx : ∀ t : Fin cfg0.N, win0_0.index t = ![t.val % 2, 0] ∧ win0_1.index t = ![t.val % 2, 0] :=
  (by decide +kernel : ∀ t : Fin grid0.N, _)

theorem blk0 (t : Fin cfg0.N) (p : ℕ) (hp : p < 2) (h : t.val % 2 = p) (k : Fin 2048) (i : Fin 512) :
    (iblk m c 0 t : FVec Ideal S2048x512 .bf16) (ix2 k i) = arg0 m c (ix2 (row p hp k) i) := by
  subst h
  rw [← V0_at]
  blk_point [iblk, idx t]

theorem blk1 (t : Fin cfg0.N) (p : ℕ) (hp : p < 2) (h : t.val % 2 = p) (k : Fin 2048) (j : Fin 1024) :
    (iblk m c 1 t : FVec Ideal S2048x1024 .bf16) (ix2 k j) = arg2 m c (ix2 (row p hp k) j) := by
  subst h
  rw [← V1_at]
  blk_point [iblk, idx t]

/-- One product of blocks, added to what was there. -/
theorem pay2_at (t : Fin cfg0.N) (p : ℕ) (hp : p < 2) (h : t.val % 2 = p) (S : FVec Ideal S512x1024 .f32) (i : Fin 512) (j : Fin 1024) :
    k0_pay2 (F := Ideal) (iblk m c 0 t) (iblk m c 1 t) S (ix2 i j) = S (ix2 i j) + ∑ k : Fin 2048, term m c i j (row p hp k) := by
  pointwise [k0_pay2]
  simp only [blk0 m c t p hp h, blk1 m c t p hp h]
  rfl

theorem scA (t : Fin cfg0.N) (h : t.val % 2 = 0) (i : Fin 512) (j : Fin 1024) :
    (outsAt0 m c t.val t.isLt).2 (ix2 i j) = ∑ k : Fin 2048, term m c i j (row 0 (by decide) k) := by
  rw [outsAt0_A m c t h (by omega)]
  frame_out
  rw [pay2_at m c t 0 (by decide) h]
  pointwise [k0_pay1]

theorem outB (t : Fin cfg0.N) (h : t.val % 2 = 1) (i : Fin 512) (j : Fin 1024) :
    (outsAt0 m c t.val t.isLt).1 (ix2 i j) = ∑ k, term m c i j k := by
  let t' : Fin cfg0.N := ⟨t.val - 1, by have := t.isLt; omega⟩
  have e : (outsAt0 m c (t.val - 1) (by omega)).2 (ix2 i j) = ∑ k : Fin 2048, term m c i j (row 0 (by decide) k) :=
    scA m c t' (show (t.val - 1) % 2 = 0 by omega) i j
  rw [outsAt0_B m c t (by omega) h]
  frame_out
  pointwise [k0_pay3]
  rw [pay2_at m c t 1 (by decide) h, ← halves, ← e]
  exact congrArg (· + _) (congrFun (Memref.IsWhole.read_unread (m := scM0_0) _ _) _)

theorem G2_at (i : Fin 512) (j : Fin 1024) : (G2 m c : FVec Ideal S512x1024 .bf16) (ix2 i j) = ∑ k, term m c i j k := by
  have hp : pt2Of (ix2 i j) = 2 * (i.val / 512) + 1 := by
    show 2 * (1 * (i.val / 512 - 0) + 1 * (j.val / 1024 - 0)) + 1 = _
    omega
  have hlt : 2 * (i.val / 512) + 1 < cfg0.N := lt_of_lt_of_eq (show _ < 2 by omega) (show 2 = cfg0.N from N_0.symm)
  have hl : loc2Of (ix2 i j) = ix2 (⟨i.val % 512, by omega⟩ : Fin 512) (⟨j.val % 1024, by omega⟩ : Fin 1024) := by
    funext a; fin_cases a <;> rfl
  unfold G2
  rw [dif_pos (by rw [hp]; exact hlt), hl, fold0_congr m c _ _ _ _ hp]
  have e := outB m c ⟨_, hlt⟩ (by simp only; omega) ⟨i.val % 512, by omega⟩ ⟨j.val % 1024, by omega⟩
  rw [outsAt0_sweep] at e
  refine e.trans ?_
  congr 1
  funext k
  congr 1 <;> exact Fin.ext (by simp only; omega)

/-- The reference's run keeps its arguments, and it declares no semaphore. -/
theorem frame_r : Cert.quiescent_Reference7Ideal (hReference7Ideal := Cert.Reference7Ideal.Gen.facts) := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The claim's value is the kernel's result array; entry by entry it is the reference's. -/
theorem algebraic : Cert.algebraic_Kernel7Ideal_Reference7Ideal (hKernel7Ideal := Cert.Kernel7Ideal.Gen.facts)
    (hReference7Ideal := Cert.Reference7Ideal.Gen.facts) := by
  intro m ρ m' ρ' _ hag
  refine ⟨fun c => G2 m c, run (F := Ideal) m ρ, ?_⟩
  refine (θ_run Cert.Reference7Ideal.defs _ _).mono (fun r h c => ⟨?_, (h c).2⟩) (Cert.Reference7Ideal.Value.run (F := Ideal) m' ρ')
  obtain ⟨h0, -, h2⟩ := hag c
  rw [(h c).1, h0, h2]
  funext x
  idx_vars x
  refine Eq.trans ?_ (G2_at m c _ _).symm
  pointwise
  refine Finset.sum_congr rfl fun k _ => ?_
  rw [mul_comm]
  rfl

end Cert.Wgrad7

end
-- ==== Proof.Wgrad8.lean ====
/- The gradient of the output projection's rows for the attention heads (`Kernel8`, `Reference8`): the heads' output,
   transposed, times the gradient of the mixer's output. The kernel sums the 4096 rows in two blocks. -/
module

public import proofs.«01_k».proof.Defs
public import proofs.«01_k».proof.Proof.Halves
public import proofs.«01_k».proof.Proof.Gen.Kernel8.Frame
public import proofs.«01_k».proof.Proof.Gen.Kernel8Ideal.Value
public import proofs.«01_k».proof.Proof.Gen.Reference8Ideal.Run
public import Idealize.ShloMosaic.Lib.StableHlo.RunRead
public import Idealize.ShloMosaic.Adequacy
public import Idealize.ShloMosaic.Init

@[expose] public section

set_option maxRecDepth 16384

noncomputable section

namespace Cert.Wgrad8

open Idealize.ShloMosaic Idealize.ShloMosaic.TcCoe Idealize.SL.Sem Cert.Kernel8Ideal Cert.Kernel8Ideal.Gen Cert.Kernel8Ideal.Value Cert.Halves

variable (m : (ℓ : Loc nD τ sig) → Buf (Elt Ideal) ℓ) (c : Dev nD)

abbrev arg0 : FVec Ideal S4096x512 .f32 := m ((c : Thread nD τ).loc main_arg0)
abbrev arg2 : FVec Ideal S4096x1024 .f32 := m ((c : Thread nD τ).loc main_arg2)

/-- One row's share of the gradient's entry. -/
def term (i : Fin 512) (j : Fin 1024) (k : Fin 4096) : EReal := (show EReal from arg0 m c (ix2 k i)) * arg2 m c (ix2 k j)

theorem V0_at (i : Fin 4096) (j : Fin 1024) : (V m c main_v0 : FVec Ideal S4096x1024 .bf16) (ix2 i j) = arg2 m c (ix2 i j) := by
  unfold V
  simp only [hostOps0, List.flatten_cons, List.flatten_nil, List.append_nil, List.cons_append, List.nil_append]
  after_reads_simp
  pointwise

theorem idx : ∀ t : Fin cfg0.N, win0_0.index t = ![t.val % 2, 0] ∧ win0_1.index t = ![t.val % 2, 0] :=
  (by decide +kernel : ∀ t : Fin grid0.N, _)

theorem blk0 (t : Fin cfg0.N) (p : ℕ) (hp : p < 2) (h : t.val % 2 = p) (k : Fin 2048) (i : Fin 512) :
    (iblk m c 0 t : FVec Ideal S2048x512 .f32) (ix2 k i) = arg0 m c (ix2 (row p hp k) i) := by
  subst h
  blk_point [iblk, V_main_arg0, idx t]

theorem blk1 (t : Fin cfg0.N) (p : ℕ) (hp : p < 2) (h : t.val % 2 = p) (k : Fin 2048) (j : Fin 1024) :
    (iblk m c 1 t : FVec Ideal S2048x1024 .bf16) (ix2 k j) = arg2 m c (ix2 (row p hp k) j) := by
  subst h
  rw [← V0_at]
  blk_point [iblk, idx t]

/-- One product of blocks, added to what was there. -/
theorem pay2_at (t : Fin cfg0.N) (p : ℕ) (hp : p < 2) (h : t.val % 2 = p) (S : FVec Ideal S512x1024 .f32) (i : Fin 512) (j : Fin 1024) :
    k0_pay2 (F := Ideal) (iblk m c 0 t) (iblk m c 1 t) S (ix2 i j) = S (ix2 i j) + ∑ k : Fin 2048, term m c i j (row p hp k) := by
  pointwise [k0_pay2]
  simp only [blk0 m c t p hp h, blk1 m c t p hp h]
  rfl

theorem scA (t : Fin cfg0.N) (h : t.val % 2 = 0) (i : Fin 512) (j : Fin 1024) :
    (outsAt0 m c t.val t.isLt).2 (ix2 i j) = ∑ k : Fin 2048, term m c i j (row 0 (by decide) k) := by
  rw [outsAt0_A m c t h (by omega)]
  frame_out
  rw [pay2_at m c t 0 (by decide) h]
  pointwise [k0_pay1]

theorem outB (t : Fin cfg0.N) (h : t.val % 2 = 1) (i : Fin 512) (j : Fin 1024) :
    (outsAt0 m c t.val t.isLt).1 (ix2 i j) = ∑ k, term m c i j k := by
  let t' : Fin cfg0.N := ⟨t.val - 1, by have := t.isLt; omega⟩
  have e : (outsAt0 m c (t.val - 1) (by omega)).2 (ix2 i j) = ∑ k : Fin 2048, term m c i j (row 0 (by decide) k) :=
    scA m c t' (show (t.val - 1) % 2 = 0 by omega) i j
  rw [outsAt0_B m c t (by omega) h]
  frame_out
  pointwise [k0_pay3]
  rw [pay2_at m c t 1 (by decide) h, ← halves, ← e]
  exact congrArg (· + _) (congrFun (Memref.IsWhole.read_unread (m := scM0_0) _ _) _)

theorem G2_at (i : Fin 512) (j : Fin 1024) : (G2 m c : FVec Ideal S512x1024 .bf16) (ix2 i j) = ∑ k, term m c i j k := by
  have hp : pt2Of (ix2 i j) = 2 * (i.val / 512) + 1 := by
    show 2 * (1 * (i.val / 512 - 0) + 1 * (j.val / 1024 - 0)) + 1 = _
    omega
  have hlt : 2 * (i.val / 512) + 1 < cfg0.N := lt_of_lt_of_eq (show _ < 2 by omega) (show 2 = cfg0.N from N_0.symm)
  have hl : loc2Of (ix2 i j) = ix2 (⟨i.val % 512, by omega⟩ : Fin 512) (⟨j.val % 1024, by omega⟩ : Fin 1024) := by
    funext a; fin_cases a <;> rfl
  unfold G2
  rw [dif_pos (by rw [hp]; exact hlt), hl, fold0_congr m c _ _ _ _ hp]
  have e := outB m c ⟨_, hlt⟩ (by simp only; omega) ⟨i.val % 512, by omega⟩ ⟨j.val % 1024, by omega⟩
  rw [outsAt0_sweep] at e
  refine e.trans ?_
  congr 1
  funext k
  congr 1 <;> exact Fin.ext (by simp only; omega)

/-- The reference's run keeps its arguments, and it declares no semaphore. -/
theorem frame_r : Cert.quiescent_Reference8Ideal (hReference8Ideal := Cert.Reference8Ideal.Gen.facts) := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- The claim's value is the kernel's result array; entry by entry it is the reference's. -/
theorem algebraic : Cert.algebraic_Kernel8Ideal_Reference8Ideal (hKernel8Ideal := Cert.Kernel8Ideal.Gen.facts)
    (hReference8Ideal := Cert.Reference8Ideal.Gen.facts) := by
  intro m ρ m' ρ' _ hag
  refine ⟨fun c => G2 m c, run (F := Ideal) m ρ, ?_⟩
  refine (θ_run Cert.Reference8Ideal.defs _ _).mono (fun r h c => ⟨?_, (h c).2⟩) (Cert.Reference8Ideal.Value.run (F := Ideal) m' ρ')
  obtain ⟨h0, -, h2⟩ := hag c
  rw [(h c).1, h0, h2]
  funext x
  idx_vars x
  refine Eq.trans ?_ (G2_at m c _ _).symm
  pointwise
  refine Finset.sum_congr rfl fun k _ => ?_
  rw [mul_comm]
  rfl

end Cert.Wgrad8

end
-- ==== Proof.FwdSpec.lean ====
/- The MLP's forward half, entry by entry over the extended reals: the hidden layer, its output, the second residual and
   normalisation, the loss and the gradients that start the backward pass. Both programs are shown to compute these. -/
module

public import proofs.«01_k».proof.Proof.Row

@[expose] public section

set_option maxRecDepth 16384

noncomputable section

namespace Cert.FwdSpec

open Idealize.ShloMosaic Cert.Row

/-- The factor of the residual's own branch. -/
abbrev alpha : EReal := Ideal.ofBits .f32 0x3F9837F0#32

/-- The constant one half. -/
abbrev half : EReal := Ideal.ofBits .f32 0x3F000000#32

/-- The constant one over 1024. -/
abbrev inv : EReal := Ideal.ofBits .f32 0x3A800000#32

theorem bits_half : half = ((1 / 2 : ℝ) : EReal) := by
  simp [half, Ideal.ofBits, Ideal.ieee, -EReal.coe_mul]; norm_num

theorem bits_inv : inv = ((1 / 1024 : ℝ) : EReal) := by
  simp [inv, Ideal.ofBits, Ideal.ieee, -EReal.coe_mul]; norm_num

theorem bits_two : Ideal.ofBits .f32 0x40000000#32 = ((2 : ℝ) : EReal) := by
  simp [Ideal.ofBits, Ideal.ieee, -EReal.coe_mul]; norm_num

/-- The loss's derivative: one half over 1024, times twice the error. -/
theorem scale_eq (x : EReal) :
    Ideal.div half (Ideal.ofBits .f32 0x44800000#32) * (Ideal.ofBits .f32 0x40000000#32 * x) = x * inv := by
  rw [bits_half, bits_inv, bits_two, bits_1024, Ideal.div_coe (by norm_num), ← mul_assoc, ← EReal.coe_mul, ← EReal.coe_mul,
    mul_comm x]
  congr 2
  norm_num

/-- The arguments, as functions of row and column. -/
structure In where
  x : Fin 4096 → Fin 1024 → EReal
  mix : Fin 4096 → Fin 1024 → EReal
  w1 : Fin 1024 → Fin 4096 → EReal
  w2 : Fin 4096 → Fin 1024 → EReal
  g : Fin 1024 → EReal
  b : Fin 1024 → EReal
  g2 : Fin 1024 → EReal
  b2 : Fin 1024 → EReal
  sc : Fin 1024 → EReal
  sh : Fin 1024 → EReal
  ga : Fin 1024 → EReal
  gm : Fin 1024 → EReal
  tgt : Fin 4096 → Fin 1024 → EReal

variable (I : In)

/-- The first residual sum. -/
def r1 (i : Fin 4096) (j : Fin 1024) : EReal := alpha * I.x i j + (1 + I.ga j) * I.mix i j

/-- The first normalised row with its gain and bias. -/
def x1 (i : Fin 4096) (j : Fin 1024) : EReal := hat (r1 I i) j * I.g j + I.b j

/-- The modulated row. -/
def u (i : Fin 4096) (j : Fin 1024) : EReal := x1 I i j * (1 + I.sc j) + I.sh j

/-- The rectified hidden layer. -/
def r (i : Fin 4096) (h : Fin 4096) : EReal := max (∑ j, u I i j * I.w1 j h) 0

/-- The MLP's output. -/
def hid (i : Fin 4096) (j : Fin 1024) : EReal := ∑ h, (r I i h * r I i h) * I.w2 h j

/-- The second residual sum. -/
def r2 (i : Fin 4096) (j : Fin 1024) : EReal := alpha * x1 I i j + (1 + I.gm j) * hid I i j

/-- The layer's output less the target. -/
def err (i : Fin 4096) (j : Fin 1024) : EReal := hat (r2 I i) j * I.g2 j + I.b2 j - I.tgt i j

/-- The gradient of the layer's output. -/
def dy (i : Fin 4096) (j : Fin 1024) : EReal := err I i j * inv

/-- The gradient of the second normalised row. -/
def dxh (i : Fin 4096) (j : Fin 1024) : EReal := dy I i j * I.g2 j

/-- The gradient of the second residual sum. -/
def dr2 (i : Fin 4096) (j : Fin 1024) : EReal := closedGrad (r2 I i) (dxh I i) j

/-- The gradient of the MLP's output. -/
def dh (i : Fin 4096) (j : Fin 1024) : EReal := (1 + I.gm j) * dr2 I i j

/-- One row's loss. -/
def loss (i : Fin 4096) : EReal := half * mean (fun k => err I i k * err I i k)

/-- One row's share of the column sums: the gradients of the gate, the second gain and bias, and the loss, one after another. -/
def smallRow (i : Fin 4096) (j : Fin 3200) : EReal :=
  if h0 : (j : ℕ) < 1024 then dr2 I i ⟨j, h0⟩ * hid I i ⟨j, h0⟩
  else if h1 : (j : ℕ) - 1024 < 1024 then dy I i ⟨j - 1024, h1⟩ * hat (r2 I i) ⟨j - 1024, h1⟩
  else if h2 : (j : ℕ) - 1024 - 1024 < 1024 then dy I i ⟨j - 1024 - 1024, h2⟩
  else loss I i

/-- The column sums. -/
def small (j : Fin 3200) : EReal := ∑ i, smallRow I i j

theorem row0 (i : Fin 4096) (z : Fin 3200) (x : Fin 1024) (h : z.val = x.val) : smallRow I i z = dr2 I i x * hid I i x := by
  have := x.isLt
  unfold smallRow
  rw [dif_pos (by omega)]
  congr 2 <;> exact Fin.ext h

theorem row1 (i : Fin 4096) (z : Fin 3200) (x : Fin 1024) (h : z.val = 1024 + x.val) :
    smallRow I i z = dy I i x * hat (r2 I i) x := by
  have := x.isLt
  unfold smallRow
  rw [dif_neg (by omega), dif_pos (by omega)]
  congr 2 <;> exact Fin.ext (by simp only; omega)

theorem row2 (i : Fin 4096) (z : Fin 3200) (x : Fin 1024) (h : z.val = 2048 + x.val) : smallRow I i z = dy I i x := by
  have := x.isLt
  unfold smallRow
  rw [dif_neg (by omega), dif_neg (by omega), dif_pos (by omega)]
  congr 1; exact Fin.ext (by simp only; omega)

theorem row3 (i : Fin 4096) (z : Fin 3200) (h : 3072 ≤ z.val) : smallRow I i z = loss I i := by
  unfold smallRow
  rw [dif_neg (by omega), dif_neg (by omega), dif_neg (by omega)]

/-- Every argument's entries are finite. -/
structure Finite : Prop where
  x : ∀ i j, IsReal (I.x i j)
  mix : ∀ i j, IsReal (I.mix i j)
  w1 : ∀ i j, IsReal (I.w1 i j)
  w2 : ∀ i j, IsReal (I.w2 i j)
  g : ∀ j, IsReal (I.g j)
  b : ∀ j, IsReal (I.b j)
  g2 : ∀ j, IsReal (I.g2 j)
  b2 : ∀ j, IsReal (I.b2 j)
  sc : ∀ j, IsReal (I.sc j)
  sh : ∀ j, IsReal (I.sh j)
  ga : ∀ j, IsReal (I.ga j)
  gm : ∀ j, IsReal (I.gm j)
  tgt : ∀ i j, IsReal (I.tgt i j)

variable {I}

theorem Finite.x1 (h : Finite I) (i : Fin 4096) (j : Fin 1024) : IsReal (x1 I i j) :=
  ((IsReal.hat (fun k => (bits_alpha.mul (h.x i k)).add ((isReal_one.add (h.ga k)).mul (h.mix i k))) j).mul (h.g j)).add (h.b j)

theorem Finite.r (h : Finite I) (i k : Fin 4096) : IsReal (r I i k) :=
  (IsReal.sum _ fun j => (((h.x1 i j).mul (isReal_one.add (h.sc j))).add (h.sh j)).mul (h.w1 j k)).max isReal_zero

theorem Finite.r2 (h : Finite I) (i : Fin 4096) (j : Fin 1024) : IsReal (r2 I i j) :=
  (bits_alpha.mul (h.x1 i j)).add ((isReal_one.add (h.gm j)).mul (IsReal.sum _ fun k => ((h.r i k).mul (h.r i k)).mul (h.w2 k j)))

theorem Finite.err (h : Finite I) (i : Fin 4096) (j : Fin 1024) : IsReal (err I i j) :=
  (((IsReal.hat (h.r2 i) j).mul (h.g2 j)).add (h.b2 j)).sub (h.tgt i j)

/-- On finite arguments the chain rule written out is the closed form. -/
theorem Finite.chain (h : Finite I) (i : Fin 4096) (j : Fin 1024) :
    chainGrad (FwdSpec.r2 I i) (FwdSpec.dxh I i) j = FwdSpec.dr2 I i j :=
  chainGrad_eq (h.r2 i) (fun k => ((h.err i k).mul ⟨_, bits_inv⟩).mul (h.g2 k)) j

/-- On finite arguments half of the sum of the means is the sum of their halves. -/
theorem Finite.loss (h : Finite I) : half * (∑ i, mean (fun k => FwdSpec.err I i k * FwdSpec.err I i k)) = ∑ i, FwdSpec.loss I i := by
  have hm : ∀ i, IsReal (mean fun k => FwdSpec.err I i k * FwdSpec.err I i k) := fun i =>
    IsReal.mean fun k => (h.err i k).mul (h.err i k)
  choose f hf using hm
  unfold FwdSpec.loss
  simp only [hf, bits_half, ← EReal.coe_mul, ← coe_sum, Finset.mul_sum]

end Cert.FwdSpec

end
-- ==== Proof.FwdRef.lean ====
/- The forward half's reference: its run on finite arguments, entry by entry. -/
module

public import proofs.«01_k».proof.Proof.FwdSpec
public import proofs.«01_k».proof.Proof.Gen.Reference9Ideal.Run
public import Idealize.ShloMosaic.Lib.Pointwise
public import Idealize.ShloMosaic.Lib.Claim

@[expose] public section

set_option maxRecDepth 16384

noncomputable section

namespace Cert.FwdRef

open Idealize.ShloMosaic Idealize.ShloMosaic.TcCoe Idealize.SL.Sem Idealize.ShloMosaic.StableHlo Cert.Reference9Ideal Cert.Reference9Ideal.Gen Cert.Reference9Ideal.Value Cert.FwdSpec Cert.Row

variable (V0 : Valuation τ sig (Elt Ideal))

abbrev arg0 : FVec Ideal S4096x1024 .f32 := V0 (Proc.devRef .tc main_arg0)
abbrev arg1 : FVec Ideal S4096x1024 .f32 := V0 (Proc.devRef .tc main_arg1)
abbrev arg2 : FVec Ideal S1024x4096 .f32 := V0 (Proc.devRef .tc main_arg2)
abbrev arg3 : FVec Ideal S4096x1024 .f32 := V0 (Proc.devRef .tc main_arg3)
abbrev arg4 : FVec Ideal S1x1024 .f32 := V0 (Proc.devRef .tc main_arg4)
abbrev arg5 : FVec Ideal S1x1024 .f32 := V0 (Proc.devRef .tc main_arg5)
abbrev arg6 : FVec Ideal S1x1024 .f32 := V0 (Proc.devRef .tc main_arg6)
abbrev arg7 : FVec Ideal S1x1024 .f32 := V0 (Proc.devRef .tc main_arg7)
abbrev arg8 : FVec Ideal S1x1024 .f32 := V0 (Proc.devRef .tc main_arg8)
abbrev arg9 : FVec Ideal S1x1024 .f32 := V0 (Proc.devRef .tc main_arg9)
abbrev arg10 : FVec Ideal S1x1024 .f32 := V0 (Proc.devRef .tc main_arg10)
abbrev arg11 : FVec Ideal S1x1024 .f32 := V0 (Proc.devRef .tc main_arg11)
abbrev arg12 : FVec Ideal S4096x1024 .f32 := V0 (Proc.devRef .tc main_arg12)

/-- The arguments, as functions of row and column. -/
def inp : In where
  x i j := arg0 V0 (ix2 i j)
  mix i j := arg1 V0 (ix2 i j)
  w1 i j := arg2 V0 (ix2 i j)
  w2 i j := arg3 V0 (ix2 i j)
  g j := arg4 V0 (ix2 0 j)
  b j := arg5 V0 (ix2 0 j)
  g2 j := arg6 V0 (ix2 0 j)
  b2 j := arg7 V0 (ix2 0 j)
  sc j := arg8 V0 (ix2 0 j)
  sh j := arg9 V0 (ix2 0 j)
  ga j := arg10 V0 (ix2 0 j)
  gm j := arg11 V0 (ix2 0 j)
  tgt i j := arg12 V0 (ix2 i j)

theorem v6_at (i : Fin 4096) (j : Fin 1024) : (res_main_v6 V0 : FVec Ideal S4096x1024 .f32) (ix2 i j) = r1 (inp V0) i j := by
  pointwise [res_main_v6]
  rfl

theorem v12_at (i : Fin 4096) (j : Fin 1024) : (res_main_v12 V0 : FVec Ideal S4096x1024 .f32) (ix2 i j) = cen (r1 (inp V0) i) j := by
  pointwise [res_main_v12]
  simp only [v6_at]
  rfl

theorem v26_at (i : Fin 4096) (j : Fin 1024) : (res_main_v26 V0 : FVec Ideal S4096x1024 .f32) (ix2 i j) = x1 (inp V0) i j := by
  pointwise [res_main_v26]
  simp only [v12_at]
  rfl

theorem v34_at (i h : Fin 4096) : (res_main_v34 V0 : FVec Ideal S4096x4096 .f32) (ix2 i h) = r (inp V0) i h := by
  pointwise [res_main_v34]
  simp only [v26_at]
  rfl

theorem v36_at (i : Fin 4096) (j : Fin 1024) : (res_main_v36 V0 : FVec Ideal S4096x1024 .f32) (ix2 i j) = hid (inp V0) i j := by
  pointwise [res_main_v36]
  simp only [v34_at]
  rfl

theorem v43_at (i : Fin 4096) (j : Fin 1024) : (res_main_v43 V0 : FVec Ideal S4096x1024 .f32) (ix2 i j) = r2 (inp V0) i j := by
  pointwise [res_main_v43]
  simp only [v26_at, v36_at]
  rfl

theorem v49_at (i : Fin 4096) (j : Fin 1024) : (res_main_v49 V0 : FVec Ideal S4096x1024 .f32) (ix2 i j) = cen (r2 (inp V0) i) j := by
  pointwise [res_main_v49]
  simp only [v43_at]
  rfl

theorem v56_at (i : Fin 4096) : (res_main_v56 V0 : FVec Ideal S4096x1 .f32) (ix2 i 0) = veps (r2 (inp V0) i) := by
  pointwise [res_main_v56]
  simp only [v49_at]
  rfl

theorem v57_at (i : Fin 4096) : (res_main_v57 V0 : FVec Ideal S4096x1 .f32) (ix2 i 0) = rstd (r2 (inp V0) i) := by
  pointwise [res_main_v57]
  simp only [v56_at]
  rfl

theorem v62_at (i : Fin 4096) (j : Fin 1024) : (res_main_v62 V0 : FVec Ideal S4096x1024 .f32) (ix2 i j) = hat (r2 (inp V0) i) j := by
  pointwise [res_main_v62]
  simp only [v49_at, v57_at]
  rfl

theorem v67_at (i : Fin 4096) (j : Fin 1024) : (res_main_v67 V0 : FVec Ideal S4096x1024 .f32) (ix2 i j) = err (inp V0) i j := by
  pointwise [res_main_v67]
  simp only [v62_at]
  rfl

theorem v81_at (i : Fin 4096) (j : Fin 1024) : (res_main_v81 V0 : FVec Ideal S4096x1024 .f32) (ix2 i j) = dy (inp V0) i j := by
  pointwise [res_main_v81]
  simp only [v67_at]
  exact scale_eq _

theorem v88_at (i : Fin 4096) (j : Fin 1024) : (res_main_v88 V0 : FVec Ideal S4096x1024 .f32) (ix2 i j) = dxh (inp V0) i j := by
  pointwise [res_main_v88]
  simp only [v81_at]
  rfl

theorem v98_at (i : Fin 4096) (j : Fin 1024) : (res_main_v98 V0 : FVec Ideal S4096x1024 .f32) (ix2 i j) = varGrad (r2 (inp V0) i) (dxh (inp V0) i) := by
  pointwise [res_main_v98]
  simp only [Fin.sum_univ_one, v49_at, v88_at, v57_at, v56_at]
  rfl

theorem v102_at (i : Fin 4096) (j : Fin 1024) : (res_main_v102 V0 : FVec Ideal S4096x1024 .f32) (ix2 i j) = cenGrad (r2 (inp V0) i) (dxh (inp V0) i) j := by
  pointwise [res_main_v102]
  simp only [v49_at, v88_at, v57_at, v98_at]
  rfl

theorem v110_at (i : Fin 4096) (j : Fin 1024) : (res_main_v110 V0 : FVec Ideal S4096x1024 .f32) (ix2 i j) = chainGrad (r2 (inp V0) i) (dxh (inp V0) i) j := by
  pointwise [res_main_v110]
  simp only [Fin.sum_univ_one, v102_at]
  rfl

theorem v114_at (j : Fin 1024) : (res_main_v114 V0 : FVec Ideal S1x1024 .f32) (ix2 0 j) = 1 + (inp V0).gm j := by
  pointwise [res_main_v114]
  rfl

/-- The reference's run on finite arguments, entry by entry. -/
theorem run_at (m : (ℓ : Loc nD τ sig) → Buf (Elt Ideal) ℓ) (ρ : Dev nD → PrngReg)
    (hf : ∀ c : Dev nD, Finite (inp (launchContents m c))) :
    θ_run defs (onTc (τ := τ) (main (F := Ideal))) ⟨m, fun _ => 0, ρ⟩ fun r => ∀ c : Dev nD,
      (∀ i h, (r.2.mem ((c.tc : Thread nD τ).loc main_v123) : FVec Ideal S4096x4096 .bf16) (ix2 i h) = FwdSpec.r (inp (launchContents m c)) i h)
      ∧ (∀ i j, (r.2.mem ((c.tc : Thread nD τ).loc main_v110) : FVec Ideal S4096x1024 .f32) (ix2 i j) = dr2 (inp (launchContents m c)) i j)
      ∧ (∀ i j, (r.2.mem ((c.tc : Thread nD τ).loc main_v124) : FVec Ideal S4096x1024 .bf16) (ix2 i j) = dh (inp (launchContents m c)) i j)
      ∧ (∀ j, (r.2.mem ((c.tc : Thread nD τ).loc main_v126) : FVec Ideal S1x3200 .f32) (ix2 0 j) = small (inp (launchContents m c)) j) := by
  refine (θ_run defs _ _).mono (fun r h c => ?_) (Value.run m ρ)
  obtain ⟨h0, h1, h2, h3, -⟩ := h c
  have hc := (hf c).chain
  have hl := (hf c).loss
  refine ⟨fun i h => ?_, fun i j => ?_, fun i j => ?_, fun j => ?_⟩
  · rw [h0]
    pointwise
    exact v34_at _ i h
  · rw [h1]
    exact (v110_at _ i j).trans (hc i j)
  · rw [h2]
    pointwise
    simp only [v114_at, v110_at, hc]
    rfl
  · rw [h3]
    pointwise
    simp only [v110_at, hc, v36_at, v62_at, v81_at, v67_at]
    clear h h0 h1 h2 h3
    unfold small smallRow
    split_ifs
    all_goals first
      | rfl
      | (show (_ : EReal) = _; exact Finset.sum_congr rfl fun i _ => mul_comm (hat _ _) (dy _ _ _))
      | exact hl

end Cert.FwdRef

end
-- ==== Proof.FwdHost.lean ====
/- The arrays the host prepares for the forward call, and the blocks of them one point of its grid sees. -/
module

public import proofs.«01_k».proof.Proof.FwdSpec
public import proofs.«01_k».proof.Proof.Gen.Kernel9Ideal.Frame
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.FwdHost

open Idealize.ShloMosaic Idealize.ShloMosaic.TcCoe Idealize.SL.Sem Cert.Kernel9Ideal Cert.Kernel9Ideal.Gen Cert.FwdSpec Cert.Row

variable (m : (ℓ : Loc nD τ sig) → Buf (Elt Ideal) ℓ) (c : Dev nD)

abbrev arg0 : FVec Ideal S4096x1024 .f32 := m ((c : Thread nD τ).loc main_arg0)
abbrev arg1 : FVec Ideal S4096x1024 .f32 := m ((c : Thread nD τ).loc main_arg1)
abbrev arg2 : FVec Ideal S1024x4096 .f32 := m ((c : Thread nD τ).loc main_arg2)
abbrev arg3 : FVec Ideal S4096x1024 .f32 := m ((c : Thread nD τ).loc main_arg3)
abbrev arg4 : FVec Ideal S1x1024 .f32 := m ((c : Thread nD τ).loc main_arg4)
abbrev arg5 : FVec Ideal S1x1024 .f32 := m ((c : Thread nD τ).loc main_arg5)
abbrev arg6 : FVec Ideal S1x1024 .f32 := m ((c : Thread nD τ).loc main_arg6)
abbrev arg7 : FVec Ideal S1x1024 .f32 := m ((c : Thread nD τ).loc main_arg7)
abbrev arg8 : FVec Ideal S1x1024 .f32 := m ((c : Thread nD τ).loc main_arg8)
abbrev arg9 : FVec Ideal S1x1024 .f32 := m ((c : Thread nD τ).loc main_arg9)
abbrev arg10 : FVec Ideal S1x1024 .f32 := m ((c : Thread nD τ).loc main_arg10)
abbrev arg11 : FVec Ideal S1x1024 .f32 := m ((c : Thread nD τ).loc main_arg11)
abbrev arg12 : FVec Ideal S4096x1024 .f32 := m ((c : Thread nD τ).loc main_arg12)

/-- The arguments, as functions of row and column. -/
def inp : In where
  x i j := arg0 m c (ix2 i j)
  mix i j := arg1 m c (ix2 i j)
  w1 i j := arg2 m c (ix2 i j)
  w2 i j := arg3 m c (ix2 i j)
  g j := arg4 m c (ix2 0 j)
  b j := arg5 m c (ix2 0 j)
  g2 j := arg6 m c (ix2 0 j)
  b2 j := arg7 m c (ix2 0 j)
  sc j := arg8 m c (ix2 0 j)
  sh j := arg9 m c (ix2 0 j)
  ga j := arg10 m c (ix2 0 j)
  gm j := arg11 m c (ix2 0 j)
  tgt i j := arg12 m c (ix2 i j)

/-! ## The prepared arrays -/

theorem V22_at (i : Fin 4096) (j : Fin 1024) : (V m c main_v22 : FVec Ideal S4096x1024 .f32) (ix2 i j) = hat (r1 (inp m c) i) j := by
  unfold V
  simp only [hostOps0, List.flatten_cons, List.flatten_nil, List.append_nil, List.cons_append, List.nil_append]
  after_reads_simp
  pointwise
  rfl

theorem V33_at (i : Fin 4096) (j : Fin 1024) : (V m c main_v33 : FVec Ideal S4096x1024 .bf16) (ix2 i j) = u (inp m c) i j := by
  unfold V
  simp only [hostOps0, List.flatten_cons, List.flatten_nil, List.append_nil, List.cons_append, List.nil_append]
  after_reads_simp
  pointwise
  rfl

theorem V37_at (s : Fin 8) (j k : Fin 512) : (V m c main_v37 : FVec Ideal S8x512x512 .bf16) (ix3 s j k)
    = (inp m c).w1 ⟨j, by omega⟩ ⟨s * 512 + k, by omega⟩ := by
  unfold V
  simp only [hostOps0, List.flatten_cons, List.flatten_nil, List.append_nil, List.cons_append, List.nil_append]
  after_reads_simp
  pointwise
  rfl

theorem V40_at (s : Fin 8) (j k : Fin 512) : (V m c main_v40 : FVec Ideal S8x512x512 .bf16) (ix3 s j k)
    = (inp m c).w1 ⟨512 + j, by omega⟩ ⟨s * 512 + k, by omega⟩ := by
  unfold V
  simp only [hostOps0, List.flatten_cons, List.flatten_nil, List.append_nil, List.cons_append, List.nil_append]
  after_reads_simp
  pointwise
  rfl

theorem V42_at (s : Fin 8) (k : Fin 512) (j : Fin 1024) : (V m c main_v42 : FVec Ideal S8x512x1024 .bf16) (ix3 s k j)
    = (inp m c).w2 ⟨s * 512 + k, by omega⟩ j := by
  unfold V
  simp only [hostOps0, List.flatten_cons, List.flatten_nil, List.append_nil, List.cons_append, List.nil_append]
  after_reads_simp
  pointwise
  rfl

/-! ## The blocks -/

theorem idx : ∀ t : Fin cfg0.N, win0_0.index t = ![t.val / 2, 0] ∧ win0_1.index t = ![t.val % 2, 0, 0] ∧ win0_2.index t = ![t.val % 2, 0, 0]
    ∧ win0_3.index t = ![t.val % 2, 0, 0] ∧ win0_4.index t = ![t.val / 2, 0] ∧ win0_5.index t = ![0, 0] ∧ win0_6.index t = ![0, 0]
    ∧ win0_7.index t = ![0, 0] ∧ win0_8.index t = ![0, 0] ∧ win0_9.index t = ![0, 0] ∧ win0_10.index t = ![t.val / 2, 0] :=
  (by decide +kernel : ∀ t : Fin grid0.N, _)

theorem lt16 (t : Fin cfg0.N) : t.val < 16 := lt_of_lt_of_eq t.isLt N_0

abbrev rowOf (t : Fin cfg0.N) (i : Fin 512) : Fin 4096 := ⟨t.val / 2 * 512 + i, by have := lt16 t; omega⟩

abbrev colOf (t : Fin cfg0.N) (j : Fin 2048) : Fin 4096 := ⟨t.val % 2 * 2048 + j, by omega⟩

theorem blk0 (t : Fin cfg0.N) (i : Fin 512) (j : Fin 1024) :
    (iblk m c 0 t : FVec Ideal S512x1024 .bf16) (ix2 i j) = u (inp m c) (rowOf t i) j := by
  rw [← V33_at]
  blk_point [iblk, idx t]

theorem blk1 (t : Fin cfg0.N) (s : Fin 4) (i j : Fin 512) :
    (iblk m c 1 t : FVec Ideal S4x512x512 .bf16) (ix3 s i j)
      = (inp m c).w1 ⟨i, by omega⟩ ⟨(t.val % 2 * 4 + s) * 512 + j, by omega⟩ := by
  rw [← V37_at m c ⟨t.val % 2 * 4 + s, by omega⟩]
  blk_point [iblk, idx t]

theorem blk2 (t : Fin cfg0.N) (s : Fin 4) (i j : Fin 512) :
    (iblk m c 2 t : FVec Ideal S4x512x512 .bf16) (ix3 s i j)
      = (inp m c).w1 ⟨512 + i, by omega⟩ ⟨(t.val % 2 * 4 + s) * 512 + j, by omega⟩ := by
  rw [← V40_at m c ⟨t.val % 2 * 4 + s, by omega⟩]
  blk_point [iblk, idx t]

theorem blk3 (t : Fin cfg0.N) (s : Fin 4) (k : Fin 512) (j : Fin 1024) :
    (iblk m c 3 t : FVec Ideal S4x512x1024 .bf16) (ix3 s k j) = (inp m c).w2 ⟨(t.val % 2 * 4 + s) * 512 + k, by omega⟩ j := by
  rw [← V42_at m c ⟨t.val % 2 * 4 + s, by omega⟩]
  blk_point [iblk, idx t]

theorem blk4 (t : Fin cfg0.N) (i : Fin 512) (j : Fin 1024) :
    (iblk m c 4 t : FVec Ideal S512x1024 .f32) (ix2 i j) = hat (r1 (inp m c) (rowOf t i)) j := by
  rw [← V22_at]
  blk_point [iblk, idx t]

theorem blk5 (t : Fin cfg0.N) (j : Fin 1024) : (iblk m c 5 t : FVec Ideal S1x1024 .f32) (ix2 0 j) = (inp m c).g j := by
  unfold inp
  dsimp only
  blk_point [iblk, V_main_arg4, idx t]

theorem blk6 (t : Fin cfg0.N) (j : Fin 1024) : (iblk m c 6 t : FVec Ideal S1x1024 .f32) (ix2 0 j) = (inp m c).b j := by
  unfold inp
  dsimp only
  blk_point [iblk, V_main_arg5, idx t]

theorem blk7 (t : Fin cfg0.N) (j : Fin 1024) : (iblk m c 7 t : FVec Ideal S1x1024 .f32) (ix2 0 j) = (inp m c).gm j := by
  unfold inp
  dsimp only
  blk_point [iblk, V_main_arg11, idx t]

theorem blk8 (t : Fin cfg0.N) (j : Fin 1024) : (iblk m c 8 t : FVec Ideal S1x1024 .f32) (ix2 0 j) = (inp m c).g2 j := by
  unfold inp
  dsimp only
  blk_point [iblk, V_main_arg6, idx t]

theorem blk9 (t : Fin cfg0.N) (j : Fin 1024) : (iblk m c 9 t : FVec Ideal S1x1024 .f32) (ix2 0 j) = (inp m c).b2 j := by
  unfold inp
  dsimp only
  blk_point [iblk, V_main_arg7, idx t]

theorem blk10 (t : Fin cfg0.N) (i : Fin 512) (j : Fin 1024) :
    (iblk m c 10 t : FVec Ideal S512x1024 .f32) (ix2 i j) = (inp m c).tgt (rowOf t i) j := by
  unfold inp
  dsimp only
  blk_point [iblk, V_main_arg12, idx t]

end Cert.FwdHost

end
-- ==== Proof.FwdCases.lean ====
/- The forward call at one point of its grid: the hidden layer's slabs and the running product with the second weight. -/
module

public import proofs.«01_k».proof.Proof.FwdHost

@[expose] public section

set_option maxRecDepth 16384

noncomputable section

namespace Cert.FwdCases

open Idealize.ShloMosaic Idealize.ShloMosaic.TcCoe Idealize.SL.Sem Cert.Kernel9Ideal Cert.Kernel9Ideal.Gen Cert.FwdSpec Cert.Row Cert.FwdHost

variable (m : (ℓ : Loc nD τ sig) → Buf (Elt Ideal) ℓ) (c : Dev nD)

/-- One entry of the hidden layer, its inner product cut at the weight's halves. -/
def slab (U : FVec Ideal S512x1024 .bf16) (a b : FVec Ideal S1x512x512 .bf16) (i k : Fin 512) : EReal :=
  max ((show EReal from ∑ q : Fin 512, (show EReal from U (ix2 i (⟨q, by omega⟩ : Fin 1024))) * a (ix3 0 q k))
    + ∑ q : Fin 512, (show EReal from U (ix2 i (⟨512 + q, by omega⟩ : Fin 1024))) * b (ix3 0 q k)) 0

theorem pay20_at (U : FVec Ideal S512x1024 .bf16) (a b : FVec Ideal S1x512x512 .bf16) (i k : Fin 512) :
    k0_pay20 (F := Ideal) U a b (ix2 i k) = slab U a b i k := by
  pointwise [k0_pay20, k0_pay19]
  rfl

theorem pay24_at (U : FVec Ideal S512x1024 .bf16) (a b : FVec Ideal S1x512x512 .bf16) (i k : Fin 512) :
    k0_pay24 (F := Ideal) (k0_pay19 U) (k0_pay23 U) a b (ix2 i k) = slab U a b i k := by
  pointwise [k0_pay24, k0_pay19, k0_pay23]
  rfl

theorem pay27_at (U : FVec Ideal S512x1024 .bf16) (a b : FVec Ideal S1x512x512 .bf16) (i k : Fin 512) :
    k0_pay27 (F := Ideal) (k0_pay19 U) a b (ix2 i k) = slab U a b i k := by
  pointwise [k0_pay27, k0_pay19]
  rfl

theorem pay1_at (U : FVec Ideal S512x1024 .bf16) (a b : FVec Ideal S1x512x512 .bf16) (i k : Fin 512) :
    k0_pay1 (F := Ideal) (k0_pay19 U) a b (ix2 i k) = slab U a b i k := by
  pointwise [k0_pay1, k0_pay19]
  rfl

theorem slab_eq (t : Fin cfg0.N) (s : Fin 4) (a b : FVec Ideal S1x512x512 .bf16) (i k : Fin 512)
    (ha : ∀ q, a (ix3 0 q k) = (iblk m c 1 t : FVec Ideal S4x512x512 .bf16) (ix3 s q k))
    (hb : ∀ q, b (ix3 0 q k) = (iblk m c 2 t : FVec Ideal S4x512x512 .bf16) (ix3 s q k)) :
    slab (iblk m c 0 t) a b i k = r (inp m c) (rowOf t i) (colOf t ⟨s * 512 + k, by omega⟩) := by
  have hc : (⟨(t.val % 2 * 4 + s) * 512 + k, by omega⟩ : Fin 4096) = colOf t ⟨s * 512 + k, by omega⟩ :=
    Fin.ext (by simp only; omega)
  unfold slab r
  have key : ∀ f : Fin 1024 → EReal, ∑ j, f j =
      (∑ q : Fin 512, f ⟨q.val, by omega⟩) + ∑ q : Fin 512, f ⟨512 + q.val, by omega⟩ := fun f => by
    rw [← Fin.sum_mul_add_fin 2 512 f, Fin.sum_univ_two]
    simp only [Fin.val_zero, Fin.val_one, zero_mul, zero_add, one_mul]
  rw [key]
  refine congrArg (max · 0) (congrArg₂ (· + ·) (Finset.sum_congr rfl fun q _ => ?_) (Finset.sum_congr rfl fun q _ => ?_))
  · rw [ha, blk0, blk1, hc]
  · rw [hb, blk0, blk2, hc]

theorem out11 (t : Fin cfg0.N) (y0 : Fin 512) (y1 : Fin 2048) :
    (outsAt0 m c t.val t.isLt).1 (ix2 y0 y1) = r (inp m c) (rowOf t y0) (colOf t y1) := by
  have fin : ∀ (s : Fin 4) (x0 x1 : Fin 512) (v : EReal) (a b : FVec Ideal S1x512x512 .bf16), y0.val = x0.val → y1.val = s.val * 512 + x1.val →
      v = slab (iblk m c 0 t) a b x0 x1 →
      (∀ q, a (ix3 0 q x1) = (iblk m c 1 t : FVec Ideal S4x512x512 .bf16) (ix3 s q x1)) →
      (∀ q, b (ix3 0 q x1) = (iblk m c 2 t : FVec Ideal S4x512x512 .bf16) (ix3 s q x1)) →
      v = r (inp m c) (rowOf t y0) (colOf t y1) := fun s x0 x1 v a b h0 h1 hv ha hb => by
    obtain rfl : y0 = x0 := Fin.ext h0
    rw [hv, slab_eq m c t s a b y0 x1 ha hb]
    congr 1
    exact Fin.ext (by simp only; omega)
  by_cases h1 : t.val % 2 = 1
  · rw [outsAt0_B m c t (by omega) (by omega) h1]
    frame_out
    canon_tiles x h
    all_goals
      idx_vars x
      first
        | exact fin 3 _ _ _ _ _ h0 (by simpa using h1) (pay1_at _ _ _ _ _) (fun q => by pointwise) (fun q => by pointwise)
        | exact fin 2 _ _ _ _ _ h0 (by simpa using h1) (pay27_at _ _ _ _ _) (fun q => by pointwise) (fun q => by pointwise)
        | exact fin 1 _ _ _ _ _ h0 (by simpa using h1) (pay24_at _ _ _ _ _) (fun q => by pointwise) (fun q => by pointwise)
        | exact fin 0 _ _ _ _ _ h0 (by simpa using h1) (pay20_at _ _ _ _ _) (fun q => by pointwise) (fun q => by pointwise)
  · by_cases h2 : t.val % 16 = 0
    · rw [outsAt0_A m c t h2 (by omega) h1]
      frame_out
      canon_tiles x h
      all_goals
        idx_vars x
        first
          | exact fin 3 _ _ _ _ _ h0 (by simpa using h1) (pay1_at _ _ _ _ _) (fun q => by pointwise) (fun q => by pointwise)
          | exact fin 2 _ _ _ _ _ h0 (by simpa using h1) (pay27_at _ _ _ _ _) (fun q => by pointwise) (fun q => by pointwise)
          | exact fin 1 _ _ _ _ _ h0 (by simpa using h1) (pay24_at _ _ _ _ _) (fun q => by pointwise) (fun q => by pointwise)
          | exact fin 0 _ _ _ _ _ h0 (by simpa using h1) (pay20_at _ _ _ _ _) (fun q => by pointwise) (fun q => by pointwise)
    · rw [outsAt0_C m c t h2 (by omega) h1]
      frame_out
      canon_tiles x h
      all_goals
        idx_vars x
        first
          | exact fin 3 _ _ _ _ _ h0 (by simpa using h1) (pay1_at _ _ _ _ _) (fun q => by pointwise) (fun q => by pointwise)
          | exact fin 2 _ _ _ _ _ h0 (by simpa using h1) (pay27_at _ _ _ _ _) (fun q => by pointwise) (fun q => by pointwise)
          | exact fin 1 _ _ _ _ _ h0 (by simpa using h1) (pay24_at _ _ _ _ _) (fun q => by pointwise) (fun q => by pointwise)
          | exact fin 0 _ _ _ _ _ h0 (by simpa using h1) (pay20_at _ _ _ _ _) (fun q => by pointwise) (fun q => by pointwise)

end Cert.FwdCases

end
-- ==== Proof.FwdSc.lean ====
/- The forward call's carried scratch: over two points of the grid it gathers the MLP's output. -/
module

public import proofs.«01_k».proof.Proof.FwdCases

@[expose] public section

set_option maxRecDepth 16384

noncomputable section

namespace Cert.FwdSc

open Idealize.ShloMosaic Idealize.ShloMosaic.TcCoe Idealize.SL.Sem Cert.Kernel9Ideal Cert.Kernel9Ideal.Gen Cert.FwdSpec Cert.Row Cert.FwdHost Cert.FwdCases

variable (m : (ℓ : Loc nD τ sig) → Buf (Elt Ideal) ℓ) (c : Dev nD)

/-- One slab's product with its part of the second weight. -/
def prod (U : FVec Ideal S512x1024 .bf16) (a b : FVec Ideal S1x512x512 .bf16) (w : FVec Ideal S1x512x1024 .bf16) (i : Fin 512) (j : Fin 1024) : EReal :=
  ∑ k : Fin 512, (slab U a b i k * slab U a b i k) * w (ix3 0 k j)

theorem pay22_at (U : FVec Ideal S512x1024 .bf16) (a b : FVec Ideal S1x512x512 .bf16) (w : FVec Ideal S1x512x1024 .bf16) (i : Fin 512) (j : Fin 1024) :
    k0_pay22 (F := Ideal) U a b w (ix2 i j) = prod U a b w i j := by
  pointwise [k0_pay22]
  simp only [pay20_at]
  rfl

theorem pay26_at (U : FVec Ideal S512x1024 .bf16) (q : FVec Ideal S512x1024 .f32) (a b : FVec Ideal S1x512x512 .bf16) (w : FVec Ideal S1x512x1024 .bf16)
    (i : Fin 512) (j : Fin 1024) :
    k0_pay26 (F := Ideal) (k0_pay19 U) q (k0_pay23 U) a b w (ix2 i j) = q (ix2 i j) + prod U a b w i j := by
  pointwise [k0_pay26]
  simp only [pay24_at]
  rfl

theorem pay3_at (U : FVec Ideal S512x1024 .bf16) (q : FVec Ideal S512x1024 .f32) (a b a' b' : FVec Ideal S1x512x512 .bf16)
    (w w' : FVec Ideal S1x512x1024 .bf16) (p : FVec Ideal S512x1024 .f32) (i : Fin 512) (j : Fin 1024) :
    k0_pay3 (F := Ideal) (k0_pay19 U) q (k0_pay29 (k0_pay19 U) a b) w a' b' w' p (ix2 i j)
      = p (ix2 i j) + (q (ix2 i j) + prod U a b w i j + prod U a' b' w' i j) := by
  pointwise [k0_pay3, k0_pay29]
  simp only [pay1_at, pay27_at]
  rfl

/-- One slab's part of the MLP's output. -/
def part (t : Fin cfg0.N) (s : Fin 4) (i : Fin 512) (j : Fin 1024) : EReal :=
  ∑ k : Fin 512, (r (inp m c) (rowOf t i) (colOf t ⟨s * 512 + k, by omega⟩) * r (inp m c) (rowOf t i) (colOf t ⟨s * 512 + k, by omega⟩))
    * (inp m c).w2 (colOf t ⟨s * 512 + k, by omega⟩) j

theorem prod_eq (t : Fin cfg0.N) (s : Fin 4) (i : Fin 512) (j : Fin 1024) (a b : FVec Ideal S1x512x512 .bf16) (w : FVec Ideal S1x512x1024 .bf16)
    (ha : ∀ q k, a (ix3 0 q k) = (iblk m c 1 t : FVec Ideal S4x512x512 .bf16) (ix3 s q k))
    (hb : ∀ q k, b (ix3 0 q k) = (iblk m c 2 t : FVec Ideal S4x512x512 .bf16) (ix3 s q k))
    (hw : ∀ k, w (ix3 0 k j) = (iblk m c 3 t : FVec Ideal S4x512x1024 .bf16) (ix3 s k j)) :
    prod (iblk m c 0 t) a b w i j = part m c t s i j := by
  unfold prod part
  refine Finset.sum_congr rfl fun k _ => ?_
  have hc : (⟨(t.val % 2 * 4 + s) * 512 + k, by omega⟩ : Fin 4096) = colOf t ⟨s * 512 + k, by omega⟩ :=
    Fin.ext (by simp only; omega)
  rw [slab_eq m c t s a b i k (fun q => ha q k) (fun q => hb q k), hw, blk3, hc]

/-- One point's part. -/
def pointPart (t : Fin cfg0.N) (i : Fin 512) (j : Fin 1024) : EReal :=
  part m c t 0 i j + part m c t 1 i j + part m c t 2 i j + part m c t 3 i j

theorem scA (t : Fin cfg0.N) (h0 : t.val % 16 = 0) (y0 : Fin 512) (y1 : Fin 1024) :
    (outsAt0 m c t.val t.isLt).2.2.2.2 (ix2 y0 y1) = pointPart m c t y0 y1 := by
  rw [outsAt0_A m c t h0 (by omega) (by omega)]
  frame_out
  rw [pay3_at, pay26_at, pay22_at]
  rw [prod_eq m c t 0 y0 y1, prod_eq m c t 1 y0 y1, prod_eq m c t 2 y0 y1, prod_eq m c t 3 y0 y1]
  · pointwise [k0_pay18]
    rfl
  all_goals first
    | (intro q k; pointwise; done)
    | (intro q; pointwise; done)

theorem scC (t : Fin cfg0.N) (h0 : ¬t.val % 16 = 0) (h1 : t.val % 2 = 0) (y0 : Fin 512) (y1 : Fin 1024) :
    (outsAt0 m c t.val t.isLt).2.2.2.2 (ix2 y0 y1) = pointPart m c t y0 y1 := by
  rw [outsAt0_C m c t h0 h1 (by omega)]
  frame_out
  rw [pay3_at, pay26_at, pay22_at]
  rw [prod_eq m c t 0 y0 y1, prod_eq m c t 1 y0 y1, prod_eq m c t 2 y0 y1, prod_eq m c t 3 y0 y1]
  · pointwise [k0_pay18]
    rfl
  all_goals first
    | (intro q k; pointwise; done)
    | (intro q; pointwise; done)

theorem scB (t : Fin cfg0.N) (h1 : t.val % 2 = 1) (y0 : Fin 512) (y1 : Fin 1024) :
    (outsAt0 m c t.val t.isLt).2.2.2.2 (ix2 y0 y1) = (outsAt0 m c (t.val - 1) (by omega)).2.2.2.2 (ix2 y0 y1) + pointPart m c t y0 y1 := by
  rw [outsAt0_B m c t (by omega) (by omega) h1]
  frame_out
  rw [pay3_at, pay26_at, pay22_at]
  rw [prod_eq m c t 0 y0 y1, prod_eq m c t 1 y0 y1, prod_eq m c t 2 y0 y1, prod_eq m c t 3 y0 y1]
  · exact congrArg (· + pointPart m c t y0 y1) (congrFun (Memref.IsWhole.read_unread (m := scM0_0) _ _) _)
  all_goals first
    | (intro q k; pointwise; done)
    | (intro q; pointwise; done)

/-- Two points cover the hidden width: at the second the scratch holds the MLP's output. -/
theorem hidB (t : Fin cfg0.N) (h1 : t.val % 2 = 1) (y0 : Fin 512) (y1 : Fin 1024) :
    (outsAt0 m c t.val t.isLt).2.2.2.2 (ix2 y0 y1) = hid (inp m c) (rowOf t y0) y1 := by
  have hl := lt16 t
  let t' : Fin cfg0.N := ⟨t.val - 1, by have := t.isLt; omega⟩
  have e : (outsAt0 m c (t.val - 1) (by omega)).2.2.2.2 (ix2 y0 y1) = pointPart m c t' y0 y1 := by
    by_cases h0 : (t.val - 1) % 16 = 0
    · exact scA m c t' h0 y0 y1
    · exact scC m c t' h0 (show (t.val - 1) % 2 = 0 by omega) y0 y1
  rw [scB m c t h1, e]
  have key : ∀ f : Fin 4096 → EReal, ∑ h, f h =
      ∑ p : Fin 2, ∑ s : Fin 4, ∑ k : Fin 512, f ⟨(p.val * 4 + s.val) * 512 + k.val, by omega⟩ := fun f => by
    rw [← Fin.sum_mul_add_fin 8 512 f, ← Fin.sum_mul_add_fin 2 4 (fun q => ∑ k : Fin 512, f ⟨q.val * 512 + k.val, by omega⟩)]
  unfold hid
  rw [key]
  simp only [Fin.sum_univ_two, Fin.sum_univ_four]
  have hr : rowOf t' y0 = rowOf t y0 := Fin.ext (by show (t.val - 1) / 2 * 512 + _ = _; simp only; omega)
  have hp : ∀ (v : Fin cfg0.N) (p : Fin 2) (s : Fin 4), rowOf v y0 = rowOf t y0 → v.val % 2 = p.val → part m c v s y0 y1 =
      ∑ k : Fin 512, (r (inp m c) (rowOf t y0) ⟨(p.val * 4 + s.val) * 512 + k.val, by omega⟩
        * r (inp m c) (rowOf t y0) ⟨(p.val * 4 + s.val) * 512 + k.val, by omega⟩)
        * (inp m c).w2 ⟨(p.val * 4 + s.val) * 512 + k.val, by omega⟩ y1 := fun v p s h hu => by
    unfold part
    rw [h]
    refine Finset.sum_congr rfl fun k _ => ?_
    have : colOf v ⟨s * 512 + k, by omega⟩ = (⟨(p.val * 4 + s.val) * 512 + k.val, by omega⟩ : Fin 4096) :=
      Fin.ext (by simp only; omega)
    rw [this]
  have z0 : (t' : ℕ) % 2 = (0 : Fin 2).val := by show (t.val - 1) % 2 = 0; omega
  have z1 : (t : ℕ) % 2 = (1 : Fin 2).val := h1
  unfold pointPart
  simp only [hp t' 0 _ hr z0, hp t 1 _ rfl z1]

end Cert.FwdSc

end
-- ==== Proof.FwdOuts.lean ====
/- What the forward call leaves in its other three outputs at one point of the grid: the gradient of the second residual
   sum, the gradient of the MLP's output and the running column sums with the loss. -/
module

public import proofs.«01_k».proof.Proof.FwdSc

@[expose] public section

set_option maxRecDepth 16384

noncomputable section

namespace Cert.FwdOuts

open Idealize.ShloMosaic Idealize.ShloMosaic.TcCoe Idealize.SL.Sem Cert.Kernel9Ideal Cert.Kernel9Ideal.Gen Cert.FwdSpec Cert.Row Cert.FwdHost Cert.FwdCases Cert.FwdSc

variable (m : (ℓ : Loc nD τ sig) → Buf (Elt Ideal) ℓ) (c : Dev nD)

variable (t : Fin cfg0.N) (S : FVec Ideal S512x1024 .f32) (hS : ∀ i j, S (ix2 i j) = hid (inp m c) (rowOf t i) j)

/-- The second residual sum less its mean, from the scratch. -/
abbrev cenT := k0_pay7 (F := Ideal) S (iblk m c 4 t) (iblk m c 5 t) (iblk m c 6 t) (iblk m c 7 t)

abbrev rstdT := k0_pay8 (F := Ideal) S (iblk m c 4 t) (iblk m c 5 t) (iblk m c 6 t) (iblk m c 7 t)

abbrev hatT := k0_pay9 (F := Ideal) S (iblk m c 4 t) (iblk m c 5 t) (iblk m c 6 t) (iblk m c 7 t)

/-- The layer's output, from the scratch. -/
abbrev yT := k0_pay10 (F := Ideal) S (iblk m c 4 t) (iblk m c 5 t) (iblk m c 6 t) (iblk m c 7 t) (iblk m c 8 t) (iblk m c 9 t)

abbrev dxhT := k0_pay16 (F := Ideal) (yT m c t S) (iblk m c 10 t) (iblk m c 8 t)

include hS

theorem cen_at (i : Fin 512) (j : Fin 1024) : cenT m c t S (ix2 i j) = cen (r2 (inp m c) (rowOf t i)) j := by
  pointwise [cenT, k0_pay7]
  simp only [hS, blk4, blk5, blk6, blk7]
  rfl

theorem rstd_at (i : Fin 512) : rstdT m c t S (ix2 i 0) = rstd (r2 (inp m c) (rowOf t i)) := by
  pointwise [rstdT, k0_pay8]
  simp only [cen_at m c t S hS]
  rfl

theorem hat_at (i : Fin 512) (j : Fin 1024) : hatT m c t S (ix2 i j) = hat (r2 (inp m c) (rowOf t i)) j := by
  pointwise [hatT, k0_pay9]
  simp only [cen_at m c t S hS, rstd_at m c t S hS]
  rfl

theorem err_at (i : Fin 512) (j : Fin 1024) :
    k0_pay11 (F := Ideal) (yT m c t S) (iblk m c 10 t) (ix2 i j) = err (inp m c) (rowOf t i) j := by
  pointwise [k0_pay11, yT, k0_pay10]
  simp only [hat_at m c t S hS, blk8, blk9, blk10]
  rfl

theorem dy_at (i : Fin 512) (j : Fin 1024) :
    k0_pay13 (F := Ideal) (yT m c t S) (iblk m c 10 t) (ix2 i j) = dy (inp m c) (rowOf t i) j := by
  pointwise [k0_pay13]
  simp only [err_at m c t S hS]
  rfl

theorem dxh_at (i : Fin 512) (j : Fin 1024) : dxhT m c t S (ix2 i j) = dxh (inp m c) (rowOf t i) j := by
  pointwise [dxhT, k0_pay16]
  simp only [dy_at m c t S hS, blk8]
  rfl

theorem dr2_at (i : Fin 512) (j : Fin 1024) :
    k0_pay4 (F := Ideal) (rstdT m c t S) (hatT m c t S) (dxhT m c t S) (ix2 i j) = dr2 (inp m c) (rowOf t i) j := by
  pointwise [k0_pay4]
  simp only [rstd_at m c t S hS, hat_at m c t S hS, dxh_at m c t S hS]
  rfl

theorem dh_at (i : Fin 512) (j : Fin 1024) :
    k0_pay6 (F := Ideal) (rstdT m c t S) (hatT m c t S) (dxhT m c t S) (iblk m c 7 t) (ix2 i j) = dh (inp m c) (rowOf t i) j := by
  pointwise [k0_pay6]
  simp only [dr2_at m c t S hS, blk7]
  rfl

theorem sum0 (q : FVec Ideal S1x1024 .f32) (x : Fin 1024) (z : Fin 3200) (h : z.val = x.val) :
    k0_pay5 (F := Ideal) S (rstdT m c t S) (hatT m c t S) (dxhT m c t S) q (ix2 0 x)
      = q (ix2 0 x) + ∑ i, smallRow (inp m c) (rowOf t i) z := by
  pointwise [k0_pay5]
  simp only [dr2_at m c t S hS, hS, row0 (inp m c) _ z x h]

theorem sum1 (q : FVec Ideal S1x1024 .f32) (x : Fin 1024) (z : Fin 3200) (h : z.val = 1024 + x.val) :
    k0_pay14 (F := Ideal) (hatT m c t S) (yT m c t S) (iblk m c 10 t) q (ix2 0 x)
      = q (ix2 0 x) + ∑ i, smallRow (inp m c) (rowOf t i) z := by
  pointwise [k0_pay14]
  simp only [dy_at m c t S hS, hat_at m c t S hS, row1 (inp m c) _ z x h]

theorem sum2 (q : FVec Ideal S1x1024 .f32) (x : Fin 1024) (z : Fin 3200) (h : z.val = 2048 + x.val) :
    k0_pay15 (F := Ideal) (yT m c t S) (iblk m c 10 t) q (ix2 0 x) = q (ix2 0 x) + ∑ i, smallRow (inp m c) (rowOf t i) z := by
  pointwise [k0_pay15]
  simp only [dy_at m c t S hS, row2 (inp m c) _ z x h]

theorem sum3 (q : FVec Ideal S1x128 .f32) (x : Fin 128) (z : Fin 3200) (h : z.val = 3072 + x.val) :
    k0_pay12 (F := Ideal) (yT m c t S) (iblk m c 10 t) q (ix2 0 x) = q (ix2 0 x) + ∑ i, smallRow (inp m c) (rowOf t i) z := by
  pointwise [k0_pay12]
  simp only [err_at m c t S hS, row3 (inp m c) _ z (by omega)]
  rfl

omit hS

theorem out12 (h1 : t.val % 2 = 1) (y0 : Fin 512) (y1 : Fin 1024) :
    (outsAt0 m c t.val t.isLt).2.1 (ix2 y0 y1) = dr2 (inp m c) (rowOf t y0) y1 := by
  rw [outsAt0_B m c t (by omega) (by omega) h1]
  frame_out
  refine dr2_at m c t _ ?_ y0 y1
  intro i j
  rw [← hidB m c t h1 i j, outsAt0_B m c t (by omega) (by omega) h1]
  frame_out

theorem out13 (h1 : t.val % 2 = 1) (y0 : Fin 512) (y1 : Fin 1024) :
    (outsAt0 m c t.val t.isLt).2.2.1 (ix2 y0 y1) = dh (inp m c) (rowOf t y0) y1 := by
  rw [outsAt0_B m c t (by omega) (by omega) h1]
  frame_out
  refine dh_at m c t _ ?_ y0 y1
  intro i j
  rw [← hidB m c t h1 i j, outsAt0_B m c t (by omega) (by omega) h1]
  frame_out

theorem ld_eq (Q : FVec Ideal S1x3200 .f32) (o n : ℕ) (hb : ∀ k, (![0, o] : Fin 2 → ℕ) k + (![1, n] : Fin 2 → ℕ) k ≤ S1x3200.size k)
    (x : Fin n) (z : Fin 3200) (h : z.val = o + x.val) :
    (View.ld (Val := Elt Ideal) (e' := .f32) Q (Rect.unit (s := S1x3200) ![0, o] ![1, n] hb)) (ix2 (0 : Fin 1) x) = Q (ix2 0 z) := by
  refine congrArg Q (funext fun k => Fin.ext ?_)
  fin_cases k
  · simp [Rect.unit]
  · simp [Rect.unit, h]

theorem out14B (h1 : t.val % 2 = 1) (y1 : Fin 3200) :
    (outsAt0 m c t.val t.isLt).2.2.2.1 (ix2 0 y1) = (outsAt0 m c (t.val - 1) (by omega)).2.2.2.1 (ix2 0 y1)
      + ∑ i, smallRow (inp m c) (rowOf t i) y1 := by
  rw [outsAt0_B m c t (by omega) (by omega) h1]
  frame_out
  canon_tiles x e using View.cover_of_tiledBy _ ![1, 128] (by sl_kernel_rfl) _
  all_goals
    idx_vars x
    obtain rfl : x0 = 0 := Subsingleton.elim _ _
  · refine (sum0 m c t _ ?_ _ x1 y1 (by omega)).trans (congrArg (· + _) (ld_eq _ 0 1024 _ x1 y1 (by omega)))
    intro i j
    rw [← hidB m c t h1 i j, outsAt0_B m c t (by omega) (by omega) h1]
    frame_out
  · refine (sum2 m c t _ ?_ _ x1 y1 (by omega)).trans (congrArg (· + _) (ld_eq _ 2048 1024 _ x1 y1 (by omega)))
    intro i j
    rw [← hidB m c t h1 i j, outsAt0_B m c t (by omega) (by omega) h1]
    frame_out
  · refine (sum1 m c t _ ?_ _ x1 y1 (by omega)).trans (congrArg (· + _) (ld_eq _ 1024 1024 _ x1 y1 (by omega)))
    intro i j
    rw [← hidB m c t h1 i j, outsAt0_B m c t (by omega) (by omega) h1]
    frame_out
  · refine (sum3 m c t _ ?_ _ x1 y1 (by omega)).trans (congrArg (· + _) (ld_eq _ 3072 128 _ x1 y1 (by omega)))
    intro i j
    rw [← hidB m c t h1 i j, outsAt0_B m c t (by omega) (by omega) h1]
    frame_out

theorem out14A (h0 : t.val % 16 = 0) (y1 : Fin 3200) :
    (outsAt0 m c t.val t.isLt).2.2.2.1 (ix2 0 y1) = 0 := by
  rw [outsAt0_A m c t h0 (by omega) (by omega)]
  frame_out
  pointwise [k0_pay17]

theorem out14C (h0 : ¬t.val % 16 = 0) (h1 : t.val % 2 = 0) (y1 : Fin 3200) :
    (outsAt0 m c t.val t.isLt).2.2.2.1 (ix2 0 y1) = (outsAt0 m c (t.val - 1) (by omega)).2.2.2.1 (ix2 0 y1) := by
  rw [outsAt0_C m c t h0 h1 (by omega)]
  rfl

end Cert.FwdOuts

end
-- ==== Proof.FwdRun.lean ====
/- The forward half's run: the kernel's four results, entry by entry, as the functions of its arguments that `FwdSpec` names. -/
module

public import proofs.«01_k».proof.Proof.FwdOuts
public import proofs.«01_k».proof.Proof.RunK
public import proofs.«01_k».proof.Proof.Gen.Kernel9Ideal.Value

@[expose] public section

set_option maxRecDepth 16384

noncomputable section

namespace Cert.FwdRun

open Idealize.ShloMosaic Idealize.ShloMosaic.TcCoe Idealize.SL.Sem Cert.Kernel9Ideal Cert.Kernel9Ideal.Gen Cert.Kernel9Ideal.Value Cert.FwdSpec Cert.Row Cert.FwdHost Cert.FwdCases Cert.FwdSc Cert.FwdOuts

variable (m : (ℓ : Loc nD τ sig) → Buf (Elt Ideal) ℓ) (c : Dev nD)

/-- One block of rows' share of the column sums. -/
def rowBlock (z : Fin 3200) (p : ℕ) : EReal :=
  if h : p < 8 then ∑ i : Fin 512, smallRow (inp m c) ⟨p * 512 + i, by omega⟩ z else 0

theorem out14_odd (z : Fin 3200) (r : ℕ) (hr : 2 * r + 1 < cfg0.N) :
    (outsAt0 m c (2 * r + 1) hr).2.2.2.1 (ix2 0 z) = ∑ p ∈ Finset.range (r + 1), rowBlock m c z p := by
  refine Cert.RunK.odd_sum (fun n h => (outsAt0 m c n h).2.2.2.1 (ix2 0 z)) (rowBlock m c z) (fun h => ?_) (fun n h hn he => ?_) (fun n h ho => ?_) r hr
  · exact out14A m c ⟨0, h⟩ rfl z
  · have h16 : n < 16 := lt16 ⟨n, h⟩
    exact out14C m c ⟨n, h⟩ (by simp only; omega) he z
  · have h16 : n < 16 := lt16 ⟨n, h⟩
    refine (out14B m c ⟨n, h⟩ ho z).trans ?_
    unfold rowBlock
    rw [dif_pos (by omega)]

theorem out14_last (z : Fin 3200) (h : 15 < cfg0.N) : (outsAt0 m c 15 h).2.2.2.1 (ix2 0 z) = small (inp m c) z := by
  refine (out14_odd m c z 7 h).trans ?_
  unfold small
  rw [← Fin.sum_mul_add_fin 8 512, Finset.sum_range]
  refine Finset.sum_congr rfl fun p _ => ?_
  unfold rowBlock
  rw [dif_pos p.isLt]

theorem G11_at (i h : Fin 4096) : (G11 m c : FVec Ideal S4096x4096 .bf16) (ix2 i h) = r (inp m c) i h := by
  have hp : pt11Of (ix2 i h) = 2 * (i.val / 512) + h.val / 2048 := by
    show 2 * (i.val / 512 - 0) + 1 * (h.val / 2048 - 0) = _
    omega
  have hlt : 2 * (i.val / 512) + h.val / 2048 < cfg0.N := lt_of_lt_of_eq (show _ < 16 by omega) (show 16 = cfg0.N from N_0.symm)
  have hl : loc11Of (ix2 i h) = ix2 (⟨i.val % 512, by omega⟩ : Fin 512) (⟨h.val % 2048, by omega⟩ : Fin 2048) := by
    funext a; fin_cases a <;> rfl
  unfold G11
  rw [dif_pos (by rw [hp]; exact hlt), hl, fold0_congr m c _ _ _ _ hp]
  have e := out11 m c ⟨_, hlt⟩ ⟨i.val % 512, by omega⟩ ⟨h.val % 2048, by omega⟩
  rw [outsAt0_sweep] at e
  refine e.trans ?_
  congr 1 <;> exact Fin.ext (by simp only; omega)

theorem G12_at (i : Fin 4096) (j : Fin 1024) : (G12 m c : FVec Ideal S4096x1024 .f32) (ix2 i j) = dr2 (inp m c) i j := by
  have hp : pt12Of (ix2 i j) = 2 * (i.val / 512) + 1 := by
    show 2 * (1 * (i.val / 512 - 0) + 1 * (j.val / 1024 - 0)) + 1 = _
    omega
  have hlt : 2 * (i.val / 512) + 1 < cfg0.N := lt_of_lt_of_eq (show _ < 16 by omega) (show 16 = cfg0.N from N_0.symm)
  have hl : loc12Of (ix2 i j) = ix2 (⟨i.val % 512, by omega⟩ : Fin 512) j := by
    funext a; fin_cases a
    · rfl
    · exact Fin.ext (Nat.mod_eq_of_lt j.isLt)
  unfold G12
  rw [dif_pos (by rw [hp]; exact hlt), hl, fold0_congr m c _ _ _ _ hp]
  have e := out12 m c ⟨_, hlt⟩ (by simp only; omega) ⟨i.val % 512, by omega⟩ j
  rw [outsAt0_sweep] at e
  refine e.trans ?_
  congr 1; exact Fin.ext (by simp only; omega)

theorem G13_at (i : Fin 4096) (j : Fin 1024) : (G13 m c : FVec Ideal S4096x1024 .bf16) (ix2 i j) = dh (inp m c) i j := by
  have hp : pt13Of (ix2 i j) = 2 * (i.val / 512) + 1 := by
    show 2 * (1 * (i.val / 512 - 0) + 1 * (j.val / 1024 - 0)) + 1 = _
    omega
  have hlt : 2 * (i.val / 512) + 1 < cfg0.N := lt_of_lt_of_eq (show _ < 16 by omega) (show 16 = cfg0.N from N_0.symm)
  have hl : loc13Of (ix2 i j) = ix2 (⟨i.val % 512, by omega⟩ : Fin 512) j := by
    funext a; fin_cases a
    · rfl
    · exact Fin.ext (Nat.mod_eq_of_lt j.isLt)
  unfold G13
  rw [dif_pos (by rw [hp]; exact hlt), hl, fold0_congr m c _ _ _ _ hp]
  have e := out13 m c ⟨_, hlt⟩ (by simp only; omega) ⟨i.val % 512, by omega⟩ j
  rw [outsAt0_sweep] at e
  refine e.trans ?_
  congr 1; exact Fin.ext (by simp only; omega)

theorem G14_at (z : Fin 3200) : (G14 m c : FVec Ideal S1x3200 .f32) (ix2 0 z) = small (inp m c) z := by
  have hlt : 15 < cfg0.N := lt_of_lt_of_eq (show _ < 16 by omega) (show 16 = cfg0.N from N_0.symm)
  have e := outsAt0_sweep m c 15 hlt
  have g := G14_last m c
  generalize Pipeline.accAt _ _ _ _ _ = A at e g
  rw [g, ← e]
  exact out14_last m c z hlt

end Cert.FwdRun

end
-- ==== Proof.FwdPre.lean ====
/- What the forward half's precondition says: every entry of every argument is a real number. -/
module

public import proofs.«01_k».proof.Proof.FwdHost
public import proofs.«01_k».proof.Proof.Pre
public import proofs.«01_k».proof.Proof.Gen.Pre_finite9
public import proofs.«01_k».proof.Defs

@[expose] public section

set_option maxRecDepth 16384

noncomputable section

namespace Cert.FwdPre

open Idealize.ShloMosaic Idealize.SL.Sem Cert.Pre_finite9 Cert.Row Cert.FwdSpec

instance : Subsingleton S_.Idx := ⟨fun a b => funext fun k => k.elim0⟩

/-- One argument's test, all ones: each of its entries is a real number. -/
theorem real_of_test {s : Shape} (a : FVec Ideal s .f32) (hb : S_.BroadcastsInDim s (![] : Fin 0 → Fin s.rank))
    {axes : List (Fin s.rank)} (hr : s.ReducesTo axes S_) (hu : 0 < S_.numel) (j : S_.Idx)
    (e : Host.reduce IntOp.andi (cmpf .olt (Host.absf a) (broadcastInDim s ![] hb (constant S_ .f32 0x7F800000#32)))
      (constantI S_ 1 1#1) hr hu j = 1#1) (i : s.Idx) : IsReal (show EReal from a i) :=
  Pre.real_of_test a hb hr hu j e i

theorem finite_of_pre (m : (ℓ : Loc Cert.Kernel9Ideal.nD Cert.Kernel9Ideal.τ Cert.Kernel9Ideal.sig) → Buf (Elt Ideal) ℓ)
    (h : Pre_Kernel9Ideal_finite9 m) (c : Dev Cert.Kernel9Ideal.nD) : Finite (FwdHost.inp m c) := by
  have e := congrFun (h c) (fun k => k.elim0)
  dsimp only [fn, fn_part1, fn_part2, fn_part3] at e
  clear h
  have split : ∀ (a b : IVec S_ 1) (j : S_.Idx), andi a b j = 1#1 → a j = 1#1 ∧ b j = 1#1 := fun a b j h =>
    (by decide : ∀ x y : BitVec 1, x &&& y = 1#1 → x = 1#1 ∧ y = 1#1) _ _ h
  have s := split _ _ _ e
  clear e
  obtain ⟨e, e12⟩ := s
  have s := split _ _ _ e
  clear e
  obtain ⟨e, e11⟩ := s
  have s := split _ _ _ e
  clear e
  obtain ⟨e, e10⟩ := s
  have s := split _ _ _ e
  clear e
  obtain ⟨e, e9⟩ := s
  have s := split _ _ _ e
  clear e
  obtain ⟨e, e8⟩ := s
  have s := split _ _ _ e
  clear e
  obtain ⟨e, e7⟩ := s
  have s := split _ _ _ e
  clear e
  obtain ⟨e, e6⟩ := s
  have s := split _ _ _ e
  clear e
  obtain ⟨e, e5⟩ := s
  have s := split _ _ _ e
  clear e
  obtain ⟨e, e4⟩ := s
  have s := split _ _ _ e
  clear e
  obtain ⟨e, e3⟩ := s
  have s := split _ _ _ e
  clear e
  obtain ⟨e, e2⟩ := s
  have s := split _ _ _ e
  clear e
  obtain ⟨e, e1⟩ := s
  have s := split _ _ _ e
  clear e
  obtain ⟨-, e0⟩ := s
  have r0 := real_of_test _ _ _ _ _ e0
  have r1 := real_of_test _ _ _ _ _ e1
  have r2 := real_of_test _ _ _ _ _ e2
  have r3 := real_of_test _ _ _ _ _ e3
  have r4 := real_of_test _ _ _ _ _ e4
  have r5 := real_of_test _ _ _ _ _ e5
  have r6 := real_of_test _ _ _ _ _ e6
  have r7 := real_of_test _ _ _ _ _ e7
  have r8 := real_of_test _ _ _ _ _ e8
  have r9 := real_of_test _ _ _ _ _ e9
  have r10 := real_of_test _ _ _ _ _ e10
  have r11 := real_of_test _ _ _ _ _ e11
  have r12 := real_of_test _ _ _ _ _ e12
  exact ⟨fun i j => r0 (ix2 i j), fun i j => r1 (ix2 i j), fun i j => r2 (ix2 i j), fun i j => r3 (ix2 i j), fun j => r4 (ix2 0 j), fun j => r5 (ix2 0 j), fun j => r6 (ix2 0 j), fun j => r7 (ix2 0 j), fun j => r8 (ix2 0 j), fun j => r9 (ix2 0 j), fun j => r10 (ix2 0 j), fun j => r11 (ix2 0 j), fun i j => r12 (ix2 i j)⟩

end Cert.FwdPre

end
-- ==== Proof.MlpFwd.lean ====
/- The frames and the value claim of the MLP's forward half (`Kernel9`, `Reference9`): the runs of the two programs,
   read at the shared entrywise description of `FwdSpec`. -/
module

public import proofs.«01_k».proof.Defs
public import proofs.«01_k».proof.Proof.FwdRef
public import proofs.«01_k».proof.Proof.FwdRun
public import proofs.«01_k».proof.Proof.FwdPre
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Pre_finite9
public import Idealize.ShloMosaic.Adequacy
public import Idealize.ShloMosaic.Init

@[expose] public section

noncomputable section

namespace Cert.MlpFwd

open Idealize.ShloMosaic Idealize.SL.Sem Idealize.ShloMosaic.StableHlo

/-- The reference's run keeps its arguments, and it declares no semaphore. -/
theorem frame_r : Cert.quiescent_Reference9Ideal (hReference9Ideal := Cert.Reference9Ideal.Gen.facts) := fun m ρ _ =>
  (θ_run Cert.Reference9Ideal.defs _ _).mono
    (fun r h => ⟨fun c => (h c).2.2.2.2, Idealize.ShloMosaic.sem_eq_zero_of_no_sems (by decide) r.2⟩)
    (Cert.Reference9Ideal.Value.run (F := Ideal) m ρ)

/-- Two memories that agree on the arguments give the same argument functions. -/
theorem inp_eq (m : (ℓ : Loc Cert.Kernel9Ideal.nD Cert.Kernel9Ideal.τ Cert.Kernel9Ideal.sig) → Buf (Elt Ideal) ℓ)
    (m' : (ℓ : Loc Cert.Reference9Ideal.nD Cert.Reference9Ideal.τ Cert.Reference9Ideal.sig) → Buf (Elt Ideal) ℓ) (c : Fin 1)
    (h0 : (FwdRef.arg0 (launchContents m' c)) = FwdHost.arg0 m c) (h1 : (FwdRef.arg1 (launchContents m' c)) = FwdHost.arg1 m c)
    (h2 : (FwdRef.arg2 (launchContents m' c)) = FwdHost.arg2 m c) (h3 : (FwdRef.arg3 (launchContents m' c)) = FwdHost.arg3 m c)
    (h4 : (FwdRef.arg4 (launchContents m' c)) = FwdHost.arg4 m c) (h5 : (FwdRef.arg5 (launchContents m' c)) = FwdHost.arg5 m c)
    (h6 : (FwdRef.arg6 (launchContents m' c)) = FwdHost.arg6 m c) (h7 : (FwdRef.arg7 (launchContents m' c)) = FwdHost.arg7 m c)
    (h8 : (FwdRef.arg8 (launchContents m' c)) = FwdHost.arg8 m c) (h9 : (FwdRef.arg9 (launchContents m' c)) = FwdHost.arg9 m c)
    (h10 : (FwdRef.arg10 (launchContents m' c)) = FwdHost.arg10 m c) (h11 : (FwdRef.arg11 (launchContents m' c)) = FwdHost.arg11 m c)
    (h12 : (FwdRef.arg12 (launchContents m' c)) = FwdHost.arg12 m c) :
    FwdRef.inp (launchContents m' c) = FwdHost.inp m c := by
  unfold FwdRef.inp FwdHost.inp
  rw [h0, h1, h2, h3, h4, h5, h6, h7, h8, h9, h10, h11, h12]

/-- The claim's values are the kernel's result arrays; entry by entry they are the reference's results. -/
theorem algebraic : Cert.algebraic_Kernel9Ideal_Reference9Ideal_pre_finite9 (hKernel9Ideal := Cert.Kernel9Ideal.Gen.facts)
    (hReference9Ideal := Cert.Reference9Ideal.Gen.facts) (hPre_finite9 := Cert.Pre_finite9.Gen.facts) := by
  intro m ρ m' ρ' hpre hag
  have hin : ∀ c : Dev Cert.Kernel9Ideal.nD, FwdRef.inp (launchContents m' c) = FwdHost.inp m c := fun c => by
    obtain ⟨h0, h1, h2, h3, h4, h5, h6, h7, h8, h9, h10, h11, h12⟩ := hag c
    exact inp_eq m m' c h0 h1 h2 h3 h4 h5 h6 h7 h8 h9 h10 h11 h12
  refine ⟨fun c => Cert.Kernel9Ideal.Value.G11 m c, fun c => Cert.Kernel9Ideal.Value.G12 m c, fun c => Cert.Kernel9Ideal.Value.G13 m c,
    fun c => Cert.Kernel9Ideal.Value.G14 m c, Cert.Kernel9Ideal.Value.run (F := Ideal) m ρ, ?_⟩
  refine (θ_run Cert.Reference9Ideal.defs _ _).mono (fun r h c => ?_)
    (θ_run_and (Cert.Reference9Ideal.Value.run (F := Ideal) m' ρ')
      (FwdRef.run_at m' ρ' fun c => by rw [hin c]; exact FwdPre.finite_of_pre m hpre c))
  obtain ⟨hv, hr⟩ := h
  obtain ⟨r0, r1, r2, r3⟩ := hr c
  rw [hin c] at r0 r1 r2 r3
  refine ⟨?_, ?_, ?_, ?_, (hv c).2.2.2.2⟩
  · funext x
    idx_vars x
    exact (r0 _ _).trans (FwdRun.G11_at m c _ _).symm
  · funext x
    idx_vars x
    exact (r1 _ _).trans (FwdRun.G12_at m c _ _).symm
  · funext x
    idx_vars x
    exact (r2 _ _).trans (FwdRun.G13_at m c _ _).symm
  · funext x
    idx_vars x
    obtain rfl : x0 = (0 : Fin 1) := Subsingleton.elim _ _
    exact (r3 _).trans (FwdRun.G14_at m c _).symm

end Cert.MlpFwd

end
-- ==== Proof.MixSpec.lean ====
/- The mixer's output and the first residual's normalisation, entry by entry over the extended reals: the functions both
   programs are shown to compute. -/
module

public import proofs.«01_k».proof.Proof.Row

@[expose] public section

set_option maxRecDepth 16384

noncomputable section

namespace Cert.MixSpec

open Idealize.ShloMosaic Cert.Row

/-- The arguments, as functions of row and column: the two head groups' outputs and the output projection among them. -/
structure In where
  hg : Fin 4096 → Fin 512 → EReal
  mla : Fin 4096 → Fin 512 → EReal
  w : Fin 1024 → Fin 1024 → EReal
  x : Fin 4096 → Fin 1024 → EReal
  ga : Fin 1024 → EReal
  g : Fin 1024 → EReal
  b : Fin 1024 → EReal
  sc : Fin 1024 → EReal
  sh : Fin 1024 → EReal

variable (I : In)

/-- A row of the projection's lower half. -/
abbrev lo (k : Fin 512) : Fin 1024 := ⟨k, by omega⟩

/-- A row of the projection's upper half. -/
abbrev hi (k : Fin 512) : Fin 1024 := ⟨512 + k, by omega⟩

/-- The mixer's output: the two head groups, each times its rows of the projection. -/
def mix (i : Fin 4096) (j : Fin 1024) : EReal := (∑ k, I.hg i k * I.w (lo k) j) + ∑ k, I.mla i k * I.w (hi k) j

/-- The residual sum that is normalised. -/
def r1 (i : Fin 4096) (j : Fin 1024) : EReal := Ideal.ofBits .f32 0x3F9837F0#32 * I.x i j + (1 + I.ga j) * mix I i j

/-- The modulated row. -/
def u2 (i : Fin 4096) (j : Fin 1024) : EReal := (hat (r1 I i) j * I.g j + I.b j) * (1 + I.sc j) + I.sh j

end Cert.MixSpec

end
-- ==== Proof.MixKer.lean ====
/- The kernel of the mixer's output and the first normalisation: its result arrays, entry by entry. -/
module

public import proofs.«01_k».proof.Proof.MixSpec
public import proofs.«01_k».proof.Proof.Gen.Kernel11Ideal.Value
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.MixKer

open Idealize.ShloMosaic Idealize.ShloMosaic.TcCoe Idealize.SL.Sem Cert.Kernel11Ideal Cert.Kernel11Ideal.Gen Cert.Kernel11Ideal.Value Cert.MixSpec Cert.Row

variable (m : (ℓ : Loc nD τ sig) → Buf (Elt Ideal) ℓ) (c : Dev nD)

abbrev arg0 : FVec Ideal S4096x512 .f32 := m ((c : Thread nD τ).loc main_arg0)
abbrev arg1 : FVec Ideal S4096x512 .f32 := m ((c : Thread nD τ).loc main_arg1)
abbrev arg2 : FVec Ideal S1024x1024 .f32 := m ((c : Thread nD τ).loc main_arg2)
abbrev arg3 : FVec Ideal S4096x1024 .f32 := m ((c : Thread nD τ).loc main_arg3)
abbrev arg4 : FVec Ideal S1x1024 .f32 := m ((c : Thread nD τ).loc main_arg4)
abbrev arg5 : FVec Ideal S1x1024 .f32 := m ((c : Thread nD τ).loc main_arg5)
abbrev arg6 : FVec Ideal S1x1024 .f32 := m ((c : Thread nD τ).loc main_arg6)
abbrev arg7 : FVec Ideal S1x1024 .f32 := m ((c : Thread nD τ).loc main_arg7)
abbrev arg8 : FVec Ideal S1x1024 .f32 := m ((c : Thread nD τ).loc main_arg8)

/-- The arguments, as functions of row and column. -/
def inp : In where
  hg i j := arg0 m c (ix2 i j)
  mla i j := arg1 m c (ix2 i j)
  w i j := arg2 m c (ix2 i j)
  x i j := arg3 m c (ix2 i j)
  ga j := arg4 m c (ix2 0 j)
  g j := arg5 m c (ix2 0 j)
  b j := arg6 m c (ix2 0 j)
  sc j := arg7 m c (ix2 0 j)
  sh j := arg8 m c (ix2 0 j)

theorem V0_at (i : Fin 4096) (j : Fin 512) : (V m c main_v0 : FVec Ideal S4096x512 .bf16) (ix2 i j) = arg0 m c (ix2 i j) := by
  unfold V
  simp only [hostOps0, List.flatten_cons, List.flatten_nil, List.append_nil, List.cons_append, List.nil_append]
  after_reads_simp
  pointwise

theorem V1_at (i j : Fin 1024) : (V m c main_v1 : FVec Ideal S1024x1024 .bf16) (ix2 i j) = arg2 m c (ix2 i j) := by
  unfold V
  simp only [hostOps0, List.flatten_cons, List.flatten_nil, List.append_nil, List.cons_append, List.nil_append]
  after_reads_simp
  pointwise

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] :=
  (by decide +kernel : ∀ t : Fin grid0.N, _)

theorem lt8 (t : Fin cfg0.N) : t.val < 8 := lt_of_lt_of_eq t.isLt N_0

abbrev rowOf (t : Fin cfg0.N) (i : Fin 512) : Fin 4096 := ⟨t.val * 512 + i, by have := lt8 t; omega⟩

variable (t : Fin cfg0.N)

theorem blk0 (i k : Fin 512) : (iblk m c 0 t : FVec Ideal S512x512 .bf16) (ix2 i k) = (inp m c).hg (rowOf t i) k := by
  unfold inp; dsimp only
  rw [← V0_at]
  blk_point [iblk, idx t]

theorem blk1 (i k : Fin 512) : (iblk m c 1 t : FVec Ideal S512x512 .f32) (ix2 i k) = (inp m c).mla (rowOf t i) k := by
  unfold inp; dsimp only
  blk_point [iblk, V_main_arg1, idx t]

theorem blk2 (i j : Fin 1024) : (iblk m c 2 t : FVec Ideal S1024x1024 .bf16) (ix2 i j) = (inp m c).w i j := by
  unfold inp; dsimp only
  rw [← V1_at]
  blk_point [iblk, idx t]

theorem blk3 (i : Fin 512) (j : Fin 1024) : (iblk m c 3 t : FVec Ideal S512x1024 .f32) (ix2 i j) = (inp m c).x (rowOf t i) j := by
  unfold inp; dsimp only
  blk_point [iblk, V_main_arg3, idx t]

theorem blk4 (j : Fin 1024) : (iblk m c 4 t : FVec Ideal S1x1024 .f32) (ix2 0 j) = (inp m c).ga j := by
  unfold inp; dsimp only
  blk_point [iblk, V_main_arg4, idx t]

theorem blk5 (j : Fin 1024) : (iblk m c 5 t : FVec Ideal S1x1024 .f32) (ix2 0 j) = (inp m c).g j := by
  unfold inp; dsimp only
  blk_point [iblk, V_main_arg5, idx t]

theorem blk6 (j : Fin 1024) : (iblk m c 6 t : FVec Ideal S1x1024 .f32) (ix2 0 j) = (inp m c).b j := by
  unfold inp; dsimp only
  blk_point [iblk, V_main_arg6, idx t]

theorem blk7 (j : Fin 1024) : (iblk m c 7 t : FVec Ideal S1x1024 .f32) (ix2 0 j) = (inp m c).sc j := by
  unfold inp; dsimp only
  blk_point [iblk, V_main_arg7, idx t]

theorem blk8 (j : Fin 1024) : (iblk m c 8 t : FVec Ideal S1x1024 .f32) (ix2 0 j) = (inp m c).sh j := by
  unfold inp; dsimp only
  blk_point [iblk, V_main_arg8, idx t]

theorem zero2 : (![0, 0] : Fin 2 → ℕ) = fun _ => 0 := by
  funext a; fin_cases a <;> rfl

theorem ld0 (X : Vec Ideal S512x512 .bf16) : View.ld X r0_0 = X := View.ld_unit_zero (S := S512x512) zero2 _ X

theorem ld1 (X : Vec Ideal S512x512 .f32) : View.ld X r0_0 = X := View.ld_unit_zero (S := S512x512) zero2 _ X

theorem ld3 (X : Vec Ideal S512x1024 .f32) : View.ld X r0_3 = X := View.ld_unit_zero (S := S512x1024) zero2 _ X

theorem ld4 (X : Vec Ideal S1x1024 .f32) : View.ld X r0_4 = X := View.ld_unit_zero (S := S1x1024) zero2 _ X

theorem pay4_at (i : Fin 512) (j : Fin 1024) :
    k0_pay4 (F := Ideal) (iblk m c 0 t) (View.ld (iblk m c 2 t) r0_1) (iblk m c 1 t) (View.ld (iblk m c 2 t) r0_2) (ix2 i j)
      = mix (inp m c) (rowOf t i) j := by
  pointwise [k0_pay4]
  refine congr (congrArg _ (Finset.sum_congr rfl fun k _ => ?_)) (Finset.sum_congr rfl fun k _ => ?_)
  · rw [← blk0 m c t, ← blk2 m c t]
  · rw [← blk1 m c t, ← blk2 m c t]

theorem pay7_at (i : Fin 512) (j : Fin 1024) :
    k0_pay7 (F := Ideal) (iblk m c 0 t) (iblk m c 1 t) (iblk m c 2 t) (iblk m c 3 t) (iblk m c 4 t) (iblk m c 5 t) (iblk m c 6 t) (iblk m c 7 t) (iblk m c 8 t) (ix2 i j)
      = cen (r1 (inp m c) (rowOf t i)) j := by
  simp only [k0_pay7, ld0, ld1, ld3, ld4]
  pointwise [k0_pay5]
  simp only [blk3, blk4]
  unfold cen mean r1
  simp only [← pay4_at m c t]
  rfl

theorem pay8_at (i : Fin 512) :
    k0_pay8 (F := Ideal) (iblk m c 0 t) (iblk m c 1 t) (iblk m c 2 t) (iblk m c 3 t) (iblk m c 4 t) (iblk m c 5 t) (iblk m c 6 t) (iblk m c 7 t) (iblk m c 8 t) (ix2 i 0)
      = rstd (r1 (inp m c) (rowOf t i)) := by
  simp only [k0_pay8, ld0, ld1, ld3, ld4]
  pointwise [k0_pay6]
  have e := fun j => pay7_at m c t i j
  simp only [k0_pay7, ld0, ld1, ld3, ld4] at e
  simp only [e]
  rfl

theorem out9_at (i : Fin 512) (j : Fin 1024) : out0_9 (F := Ideal) (iblk m c 0 t) (iblk m c 1 t) (iblk m c 2 t) (iblk m c 3 t) (iblk m c 4 t) (iblk m c 5 t) (iblk m c 6 t) (iblk m c 7 t) (iblk m c 8 t) (ix2 i j) = mix (inp m c) (rowOf t i) j := by
  refine Eq.trans ?_ (pay4_at m c t i j)
  frame_out
  rfl

theorem out10_at (i : Fin 512) (j : Fin 1024) : out0_10 (F := Ideal) (iblk m c 0 t) (iblk m c 1 t) (iblk m c 2 t) (iblk m c 3 t) (iblk m c 4 t) (iblk m c 5 t) (iblk m c 6 t) (iblk m c 7 t) (iblk m c 8 t) (ix2 i j) = hat (r1 (inp m c) (rowOf t i)) j := by
  frame_out
  pointwise [k0_pay1]
  rw [pay7_at, pay8_at]
  rfl

theorem out11_at (i : Fin 512) (j : Fin 128) : out0_11 (F := Ideal) (iblk m c 0 t) (iblk m c 1 t) (iblk m c 2 t) (iblk m c 3 t) (iblk m c 4 t) (iblk m c 5 t) (iblk m c 6 t) (iblk m c 7 t) (iblk m c 8 t) (ix2 i j) = rstd (r1 (inp m c) (rowOf t i)) := by
  frame_out
  pointwise [k0_pay2]
  rw [pay8_at]

theorem out12_at (i : Fin 512) (j : Fin 1024) : out0_12 (F := Ideal) (iblk m c 0 t) (iblk m c 1 t) (iblk m c 2 t) (iblk m c 3 t) (iblk m c 4 t) (iblk m c 5 t) (iblk m c 6 t) (iblk m c 7 t) (iblk m c 8 t) (ix2 i j) = u2 (inp m c) (rowOf t i) j := by
  frame_out
  pointwise [k0_pay3, k0_pay1]
  simp only [pay7_at, pay8_at, blk5, blk6, blk7, blk8]
  rfl

/-- The result arrays. -/
def Gmix : FVec Ideal S4096x1024 .f32 := fun x => mix (inp m c) (x 0) (x 1)
def Ghat : FVec Ideal S4096x1024 .f32 := fun x => hat (r1 (inp m c) (x 0)) (x 1)
def Grstd : FVec Ideal S4096x128 .f32 := fun x => rstd (r1 (inp m c) (x 0))
def Gu : FVec Ideal S4096x1024 .bf16 := fun x => u2 (inp m c) (x 0) (x 1)

theorem final9 : (dats m 0 c).arrAt 9 cfg0.N = Gmix m c := by
  refine (dats m 0 c).arrAt_eq_of_covers 9 (Gmix m c) (by decide +kernel) fun t hf y => ?_
  blk_simp
  rw [after0_9]
  idx_vars y
  have e : ((View.whole main_v2_0).slice (win0_9.rect t)).emb (ix2 y0 y1) = ix2 (rowOf t y0) y1 := by
    blk_ext [idx t]
  rw [e]
  exact out9_at m c t y0 y1

theorem final10 : (dats m 0 c).arrAt 10 cfg0.N = Ghat m c := by
  refine (dats m 0 c).arrAt_eq_of_covers 10 (Ghat m c) (by decide +kernel) fun t hf y => ?_
  blk_simp
  rw [after0_10]
  idx_vars y
  have e : ((View.whole main_v2_1).slice (win0_10.rect t)).emb (ix2 y0 y1) = ix2 (rowOf t y0) y1 := by
    blk_ext [idx t]
  rw [e]
  exact out10_at m c t y0 y1

theorem final11 : (dats m 0 c).arrAt 11 cfg0.N = Grstd m c := by
  refine (dats m 0 c).arrAt_eq_of_covers 11 (Grstd m c) (by decide +kernel) fun t hf y => ?_
  blk_simp
  rw [after0_11]
  idx_vars y
  have e : ((View.whole main_v2_2).slice (win0_11.rect t)).emb (ix2 y0 y1) = ix2 (rowOf t y0) y1 := by
    blk_ext [idx t]
  rw [e]
  exact out11_at m c t y0 y1

theorem final12 : (dats m 0 c).arrAt 12 cfg0.N = Gu m c := by
  refine (dats m 0 c).arrAt_eq_of_covers 12 (Gu m c) (by decide +kernel) fun t hf y => ?_
  blk_simp
  rw [after0_12]
  idx_vars y
  have e : ((View.whole main_v2_3).slice (win0_12.rect t)).emb (ix2 y0 y1) = ix2 (rowOf t y0) y1 := by
    blk_ext [idx t]
  rw [e]
  exact out12_at m c t y0 y1

end Cert.MixKer

end
-- ==== Proof.MixRef.lean ====
/- The reference of the mixer's output and the first normalisation: its results, entry by entry. -/
module

public import proofs.«01_k».proof.Proof.MixSpec
public import proofs.«01_k».proof.Proof.Gen.Reference11Ideal.Run
public import Idealize.ShloMosaic.Lib.Pointwise
public import Idealize.ShloMosaic.Lib.Claim

@[expose] public section

set_option maxRecDepth 16384

noncomputable section

namespace Cert.MixRef

open Idealize.ShloMosaic Idealize.ShloMosaic.TcCoe Idealize.SL.Sem Cert.Reference11Ideal Cert.Reference11Ideal.Gen Cert.Reference11Ideal.Value Cert.MixSpec Cert.Row

variable (m : (ℓ : Loc nD τ sig) → Buf (Elt Ideal) ℓ) (c : Dev nD)

abbrev arg0 : FVec Ideal S4096x512 .f32 := m ((c : Thread nD τ).loc main_arg0)
abbrev arg1 : FVec Ideal S4096x512 .f32 := m ((c : Thread nD τ).loc main_arg1)
abbrev arg2 : FVec Ideal S1024x1024 .f32 := m ((c : Thread nD τ).loc main_arg2)
abbrev arg3 : FVec Ideal S4096x1024 .f32 := m ((c : Thread nD τ).loc main_arg3)
abbrev arg4 : FVec Ideal S1x1024 .f32 := m ((c : Thread nD τ).loc main_arg4)
abbrev arg5 : FVec Ideal S1x1024 .f32 := m ((c : Thread nD τ).loc main_arg5)
abbrev arg6 : FVec Ideal S1x1024 .f32 := m ((c : Thread nD τ).loc main_arg6)
abbrev arg7 : FVec Ideal S1x1024 .f32 := m ((c : Thread nD τ).loc main_arg7)
abbrev arg8 : FVec Ideal S1x1024 .f32 := m ((c : Thread nD τ).loc main_arg8)

/-- The arguments, as functions of row and column. -/
def inp : In where
  hg i j := arg0 m c (ix2 i j)
  mla i j := arg1 m c (ix2 i j)
  w i j := arg2 m c (ix2 i j)
  x i j := arg3 m c (ix2 i j)
  ga j := arg4 m c (ix2 0 j)
  g j := arg5 m c (ix2 0 j)
  b j := arg6 m c (ix2 0 j)
  sc j := arg7 m c (ix2 0 j)
  sh j := arg8 m c (ix2 0 j)

theorem run_at (ρ : Dev nD → PrngReg) :
    θ_run defs (onTc (τ := τ) (main (F := Ideal))) ⟨m, fun _ => 0, ρ⟩ fun r => ∀ c : Dev nD,
      (∀ i j, (r.2.mem ((c.tc : Thread nD τ).loc main_v1) : FVec Ideal S4096x1024 .f32) (ix2 i j) = mix (inp m c) i j)
      ∧ (∀ i j, (r.2.mem ((c.tc : Thread nD τ).loc main_v44) : FVec Ideal S4096x1024 .f32) (ix2 i j) = hat (r1 (inp m c) i) j)
      ∧ (∀ i (j : Fin 128), (r.2.mem ((c.tc : Thread nD τ).loc main_v45) : FVec Ideal S4096x128 .f32) (ix2 i j) = rstd (r1 (inp m c) i))
      ∧ (∀ i j, (r.2.mem ((c.tc : Thread nD τ).loc main_v52) : FVec Ideal S4096x1024 .bf16) (ix2 i j) = u2 (inp m c) i j) := by
  refine (θ_run defs _ _).mono (fun r h c => ?_) (Value.run m ρ)
  obtain ⟨h0, h1, h2, h3, -⟩ := h c
  refine ⟨fun i j => ?_, fun i j => ?_, fun i j => ?_, fun i j => ?_⟩
  · rw [h0]
    pointwise
    rfl
  · rw [h1]
    pointwise [res_main_v44]
    rfl
  · rw [h2]
    pointwise
    rfl
  · rw [h3]
    pointwise [res_main_v52]
    rfl

end Cert.MixRef

end
-- ==== Proof.MixLn1.lean ====
/- The mixer's output, the first residual's normalisation and the modulation (`Kernel11`, `Reference11`): the kernel's four
   results are the reference's. -/
module

public import proofs.«01_k».proof.Defs
public import proofs.«01_k».proof.Proof.MixKer
public import proofs.«01_k».proof.Proof.MixRef
public import proofs.«01_k».proof.Proof.Gen.Kernel11.Frame
public import Idealize.ShloMosaic.Adequacy
public import Idealize.ShloMosaic.Init

@[expose] public section

set_option maxRecDepth 16384

noncomputable section

namespace Cert.MixLn1

open Idealize.ShloMosaic Idealize.SL.Sem

/-- The reference's run keeps its arguments, and it declares no semaphore. -/
theorem frame_r : Cert.quiescent_Reference11Ideal (hReference11Ideal := Cert.Reference11Ideal.Gen.facts) := fun m ρ _ =>
  (θ_run Cert.Reference11Ideal.defs _ _).mono
    (fun r h => ⟨fun c => (h c).2.2.2.2, Idealize.ShloMosaic.sem_eq_zero_of_no_sems (by decide) r.2⟩)
    (Cert.Reference11Ideal.Value.run (F := Ideal) m ρ)

/-- The claim's values are the kernel's result arrays; entry by entry they are the reference's results. -/
theorem algebraic : Cert.algebraic_Kernel11Ideal_Reference11Ideal (hKernel11Ideal := Cert.Kernel11Ideal.Gen.facts)
    (hReference11Ideal := Cert.Reference11Ideal.Gen.facts) := by
  intro m ρ m' ρ' _ hag
  have hin : ∀ c : Dev Cert.Kernel11Ideal.nD, MixRef.inp m' c = MixKer.inp m c := fun c => by
    obtain ⟨h0, h1, h2, h3, h4, h5, h6, h7, h8⟩ := hag c
    unfold MixRef.inp MixKer.inp MixRef.arg0 MixRef.arg1 MixRef.arg2 MixRef.arg3 MixRef.arg4 MixRef.arg5 MixRef.arg6 MixRef.arg7 MixRef.arg8
    rw [h0, h1, h2, h3, h4, h5, h6, h7, h8]
  refine ⟨fun c => MixKer.Gmix m c, fun c => MixKer.Ghat m c, fun c => MixKer.Grstd m c, fun c => MixKer.Gu m c,
    (θ_run Cert.Kernel11Ideal.defs _ _).mono (fun r h c => ?_) (Cert.Kernel11Ideal.Value.run_blocks (F := Ideal) m ρ), ?_⟩
  · obtain ⟨h0, h1, h2, h3, hk⟩ := h c
    exact ⟨h0.trans (MixKer.final9 m c), h1.trans (MixKer.final10 m c), h2.trans (MixKer.final11 m c), h3.trans (MixKer.final12 m c), hk⟩
  refine (θ_run Cert.Reference11Ideal.defs _ _).mono (fun r h c => ?_)
    (θ_run_and (Cert.Reference11Ideal.Value.run (F := Ideal) m' ρ') (MixRef.run_at m' ρ'))
  obtain ⟨hv, hr⟩ := h
  obtain ⟨r0, r1, r2, r3⟩ := hr c
  rw [hin c] at r0 r1 r2 r3
  refine ⟨?_, ?_, ?_, ?_, (hv c).2.2.2.2⟩
  · funext x
    idx_vars x
    exact r0 _ _
  · funext x
    idx_vars x
    exact r1 _ _
  · funext x
    idx_vars x
    exact r2 _ _
  · funext x
    idx_vars x
    exact r3 _ _

end Cert.MixLn1

end
-- ==== Proof.RmsRow.lean ====
/- One row of the root-mean-square norm's gradient over the extended reals: the form the kernel computes and the form
   `jax.vjp` of the plain norm computes agree on rows of finite numbers. -/
module

public import proofs.«01_k».proof.Proof.Row

@[expose] public section

set_option maxRecDepth 16384

noncomputable section

namespace Cert.RmsRow

open Idealize.ShloMosaic Cert.Row

theorem bits_256 : Ideal.ofBits .f32 0x43800000#32 = ((256 : ℝ) : EReal) := by
  simp [Ideal.ofBits, Ideal.ieee, -EReal.coe_mul]; norm_num

theorem bits_rms_eps : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

/-- The mean of a row of 256 numbers. -/
def mean (f : Fin 256 → EReal) : EReal := Ideal.div (∑ k, f k) (Ideal.ofBits .f32 0x43800000#32)

/-- A row's mean square and the norm's epsilon. -/
def meps (f : Fin 256 → EReal) : EReal := mean (fun k => f k * f k) + Ideal.ofBits .f32 0x358637BD#32

/-- The reciprocal of a row's root mean square. -/
def rinv (f : Fin 256 → EReal) : EReal := Ideal.rsqrt (meps f)

/-- The normalised row. -/
def hat (f : Fin 256 → EReal) (j : Fin 256) : EReal := f j * rinv f

/-- The gradient of the normalised row, the closed form: what the kernel computes. -/
def closedGrad (f a : Fin 256 → EReal) (j : Fin 256) : EReal :=
  rinv f * (a j - hat f j * mean (fun k => a k * hat f k))

/-- The gradient through the mean square. -/
def sqGrad (f a : Fin 256 → EReal) : EReal :=
  Ideal.div ((∑ k, f k * a k) * (Ideal.ofBits .f32 0xBF000000#32 * Ideal.div (rinv f) (meps f))) (Ideal.ofBits .f32 0x43800000#32)

/-- The gradient of the normalised row, the chain rule written out: what `jax.vjp` of the norm computes. -/
def chainGrad (f a : Fin 256 → EReal) (j : Fin 256) : EReal :=
  a j * rinv f + f j * sqGrad f a + sqGrad f a * f j

theorem mean_coe (f : Fin 256 → ℝ) : mean (fun k => (f k : EReal)) = (((∑ k, f k) / 256 : ℝ) : EReal) := by
  rw [mean, bits_256, Ideal.div_coe (by norm_num), ← coe_sum, ← EReal.coe_mul]
  congr 1
  ring

/-- On a finite row the mean square and epsilon is a positive number. -/
theorem meps_coe (f : Fin 256 → ℝ) :
    ∃ v : ℝ, 0 < v ∧ meps (fun k => (f k : EReal)) = (v : EReal) ∧ rinv (fun k => (f k : EReal)) = (((Real.sqrt v)⁻¹ : ℝ) : EReal) := by
  obtain ⟨e, he, hb⟩ := bits_rms_eps
  have hv : meps (fun k => (f k : EReal)) = (((∑ k, f k * f k) / 256 + e : ℝ) : EReal) := by
    rw [meps, hb]
    simp only [← EReal.coe_mul]
    rw [mean_coe, EReal.coe_add]
  have hpos : 0 < (∑ k, f k * f k) / 256 + e :=
    add_pos_of_nonneg_of_pos (div_nonneg (Finset.sum_nonneg fun k _ => mul_self_nonneg _) (by norm_num)) he
  refine ⟨_, hpos, hv, ?_⟩
  rw [rinv, hv, Ideal.rsqrt_coe, if_neg hpos.le.not_gt, if_neg hpos.ne']

/-- On finite rows the chain rule and the closed form are one function. -/
theorem chainGrad_eq {f a : Fin 256 → EReal} (hf : ∀ k, IsReal (f k)) (ha : ∀ k, IsReal (a k)) (j : Fin 256) :
    chainGrad f a j = closedGrad f a j := by
  choose g hg using hf
  choose b hb using ha
  obtain rfl : f = fun k => (g k : EReal) := funext hg
  obtain rfl : a = fun k => (b k : EReal) := funext hb
  obtain ⟨v, hv, hve, hre⟩ := meps_coe g
  have hC : sqGrad (fun k => (g k : EReal)) (fun k => (b k : EReal))
      = (((∑ k, g k * b k) * (-(1 / 2) * ((Real.sqrt v)⁻¹ / v)) / 256 : ℝ) : EReal) := by
    rw [sqGrad, hve, hre, bits_256, bits_neg_half, Ideal.div_coe hv.ne', Ideal.div_coe (by norm_num)]
    simp only [← EReal.coe_mul, ← coe_sum]
    congr 1
    ring
  rw [chainGrad, closedGrad]
  simp only [hat, hC, hre, mean_coe, ← EReal.coe_mul, ← EReal.coe_add, ← EReal.coe_sub]
  congr 1
  have hr : (Real.sqrt v)⁻¹ * (Real.sqrt v)⁻¹ * v = 1 := by
    rw [← mul_inv, Real.mul_self_sqrt hv.le, inv_mul_cancel₀ hv.ne']
  generalize (Real.sqrt v)⁻¹ = r at hr
  have hrv : r / v = r * r * r := by
    rw [div_eq_iff hv.ne']
    linear_combination (-r) * hr
  have h1 : ∑ k, b k * (g k * r) = (∑ k, g k * b k) * r := by
    rw [Finset.sum_mul]
    exact Finset.sum_congr rfl fun k _ => by ring
  rw [hrv, h1]
  ring

theorem IsReal.rinv {f : Fin 256 → EReal} (h : ∀ k, IsReal (f k)) : IsReal (rinv f) := by
  choose g hg using h
  obtain ⟨v, -, -, hr⟩ := meps_coe g
  exact ⟨_, by rw [show f = fun k => (g k : EReal) from funext hg]; exact hr⟩

end Cert.RmsRow

end
-- ==== Proof.Wgrad12.lean ====
/- The gradient of the queries' up-projection (`Kernel12`, `Reference12`), transposed as the step keeps it: the queries'
   gradient, transposed, times the normalised latents, which the host computes. The kernel sums the 4096 rows in two blocks. -/
module

public import proofs.«01_k».proof.Defs
public import proofs.«01_k».proof.Proof.Halves
public import proofs.«01_k».proof.Proof.RmsRow
public import proofs.«01_k».proof.Proof.Gen.Kernel12.Frame
public import proofs.«01_k».proof.Proof.Gen.Kernel12Ideal.Value
public import proofs.«01_k».proof.Proof.Gen.Reference12Ideal.Run
public import Idealize.ShloMosaic.Lib.StableHlo.RunRead
public import Idealize.ShloMosaic.Adequacy
public import Idealize.ShloMosaic.Init

@[expose] public section

set_option maxRecDepth 16384

noncomputable section

namespace Cert.Wgrad12

open Idealize.ShloMosaic Idealize.ShloMosaic.TcCoe Idealize.SL.Sem Cert.Kernel12Ideal Cert.Kernel12Ideal.Gen Cert.Kernel12Ideal.Value Cert.Halves

variable (m : (ℓ : Loc nD τ sig) → Buf (Elt Ideal) ℓ) (c : Dev nD)

abbrev arg0 : FVec Ideal S4096x256 .f32 := m ((c : Thread nD τ).loc main_arg0)
abbrev arg1 : FVec Ideal S1x256 .f32 := m ((c : Thread nD τ).loc main_arg1)
abbrev arg3 : FVec Ideal S4096x2048 .f32 := m ((c : Thread nD τ).loc main_arg3)

/-- The normalised latents. -/
def u (k : Fin 4096) (j : Fin 256) : EReal := RmsRow.hat (fun j => arg0 m c (ix2 k j)) j * arg1 m c (ix2 0 j)

/-- One row's share of the gradient's entry. -/
def term (i : Fin 2048) (j : Fin 256) (k : Fin 4096) : EReal := (show EReal from arg3 m c (ix2 k i)) * u m c k j

theorem V0_at (i : Fin 4096) (j : Fin 2048) : (V m c main_v0 : FVec Ideal S4096x2048 .bf16) (ix2 i j) = arg3 m c (ix2 i j) := by
  unfold V
  simp only [hostOps0, List.flatten_cons, List.flatten_nil, List.append_nil, List.cons_append, List.nil_append]
  after_reads_simp
  pointwise

theorem V13_at (i : Fin 4096) (j : Fin 256) : (V m c main_v13 : FVec Ideal S4096x256 .bf16) (ix2 i j) = u m c i j := by
  unfold V
  simp only [hostOps0, List.flatten_cons, List.flatten_nil, List.append_nil, List.cons_append, List.nil_append]
  after_reads_simp
  pointwise
  rfl

theorem idx : ∀ t : Fin cfg0.N, win0_0.index t = ![t.val % 2, t.val / 2] ∧ win0_1.index t = ![t.val % 2, 0] :=
  (by decide +kernel : ∀ t : Fin grid0.N, _)

theorem ltN (t : Fin cfg0.N) : t.val < 4 := lt_of_lt_of_eq t.isLt N_0

abbrev colOf (t : Fin cfg0.N) (i : Fin 1024) : Fin 2048 := ⟨t.val / 2 * 1024 + i, by have := ltN t; omega⟩

theorem blk0 (t : Fin cfg0.N) (p : ℕ) (hp : p < 2) (h : t.val % 2 = p) (k : Fin 2048) (i : Fin 1024) :
    (iblk m c 0 t : FVec Ideal S2048x1024 .bf16) (ix2 k i) = arg3 m c (ix2 (row p hp k) (colOf t i)) := by
  subst h
  rw [← V0_at]
  blk_point [iblk, idx t]

theorem blk1 (t : Fin cfg0.N) (p : ℕ) (hp : p < 2) (h : t.val % 2 = p) (k : Fin 2048) (j : Fin 256) :
    (iblk m c 1 t : FVec Ideal S2048x256 .bf16) (ix2 k j) = u m c (row p hp k) j := by
  subst h
  rw [← V13_at]
  blk_point [iblk, idx t]

/-- One product of blocks, added to what was there. -/
theorem pay2_at (t : Fin cfg0.N) (p : ℕ) (hp : p < 2) (h : t.val % 2 = p) (S : FVec Ideal S1024x256 .f32) (i : Fin 1024) (j : Fin 256) :
    k0_pay2 (F := Ideal) (iblk m c 0 t) (iblk m c 1 t) S (ix2 i j)
      = S (ix2 i j) + ∑ k : Fin 2048, term m c (colOf t i) j (row p hp k) := by
  pointwise [k0_pay2]
  simp only [blk0 m c t p hp h, blk1 m c t p hp h]
  rfl

theorem scA (t : Fin cfg0.N) (h : t.val % 2 = 0) (i : Fin 1024) (j : Fin 256) :
    (outsAt0 m c t.val t.isLt).2 (ix2 i j) = ∑ k : Fin 2048, term m c (colOf t i) j (row 0 (by decide) k) := by
  rw [outsAt0_A m c t h (by omega)]
  frame_out
  rw [pay2_at m c t 0 (by decide) h]
  pointwise [k0_pay1]

theorem outB (t : Fin cfg0.N) (h : t.val % 2 = 1) (i : Fin 1024) (j : Fin 256) :
    (outsAt0 m c t.val t.isLt).1 (ix2 i j) = ∑ k, term m c (colOf t i) j k := by
  have hl := ltN t
  let t' : Fin cfg0.N := ⟨t.val - 1, by have := t.isLt; omega⟩
  have e : (outsAt0 m c (t.val - 1) (by omega)).2 (ix2 i j) = ∑ k : Fin 2048, term m c (colOf t i) j (row 0 (by decide) k) := by
    rw [← show colOf t' i = colOf t i from Fin.ext (by show (t.val - 1) / 2 * 1024 + _ = _; simp only; omega)]
    exact scA m c t' (show (t.val - 1) % 2 = 0 by omega) i j
  rw [outsAt0_B m c t (by omega) h]
  frame_out
  rw [pay2_at m c t 1 (by decide) h, ← halves, ← e]
  exact congrArg (· + _) (congrFun (Memref.IsWhole.read_unread (m := scM0_0) _ _) _)

theorem G2_at (i : Fin 2048) (j : Fin 256) : (G2 m c : FVec Ideal S2048x256 .f32) (ix2 i j) = ∑ k, term m c i j k := by
  have hp : pt2Of (ix2 i j) = 2 * (i.val / 1024) + 1 := by
    show 2 * (1 * (i.val / 1024 - 0) + 1 * (j.val / 256 - 0)) + 1 = _
    omega
  have hlt : 2 * (i.val / 1024) + 1 < cfg0.N := lt_of_lt_of_eq (show _ < 4 by omega) (show 4 = cfg0.N from N_0.symm)
  have hl : loc2Of (ix2 i j) = ix2 (⟨i.val % 1024, by omega⟩ : Fin 1024) (⟨j.val % 256, by omega⟩ : Fin 256) := by
    funext a; fin_cases a <;> rfl
  unfold G2
  rw [dif_pos (by rw [hp]; exact hlt), hl, fold0_congr m c _ _ _ _ hp]
  have e := outB m c ⟨_, hlt⟩ (by simp only; omega) ⟨i.val % 1024, by omega⟩ ⟨j.val % 256, by omega⟩
  rw [outsAt0_sweep] at e
  refine e.trans ?_
  congr 1
  funext k
  congr 1 <;> exact Fin.ext (by simp only; omega)

/-- The reference's run keeps its arguments, and it declares no semaphore. -/
theorem frame_r : Cert.quiescent_Reference12Ideal (hReference12Ideal := Cert.Reference12Ideal.Gen.facts) := fun m ρ _ =>
  (θ_run Cert.Reference12Ideal.defs _ _).mono
    (fun r h => ⟨fun c => (h c).2, Idealize.ShloMosaic.sem_eq_zero_of_no_sems (by decide) r.2⟩)
    (Cert.Reference12Ideal.Value.run (F := Ideal) m ρ)

/-- The claim's value is the kernel's result array; entry by entry it is the reference's. -/
theorem algebraic : Cert.algebraic_Kernel12Ideal_Reference12Ideal (hKernel12Ideal := Cert.Kernel12Ideal.Gen.facts)
    (hReference12Ideal := Cert.Reference12Ideal.Gen.facts) := by
  intro m ρ m' ρ' _ hag
  refine ⟨fun c => G2 m c, run (F := Ideal) m ρ, ?_⟩
  refine (θ_run Cert.Reference12Ideal.defs _ _).mono (fun r h c => ⟨?_, (h c).2⟩) (Cert.Reference12Ideal.Value.run (F := Ideal) m' ρ')
  obtain ⟨h0, h1, -, h3⟩ := hag c
  rw [(h c).1, h0, h1, h3]
  funext x
  idx_vars x
  refine Eq.trans ?_ (G2_at m c _ _).symm
  pointwise
  rfl

end Cert.Wgrad12

end
-- ==== Proof.Wgrad13.lean ====
/- The gradient of the keys' and values' up-projection (`Kernel13`, `Reference13`): the normalised latents, which the host
   computes, transposed, times the gradient of the keys and values. The kernel sums the 4096 rows in two blocks. -/
module

public import proofs.«01_k».proof.Defs
public import proofs.«01_k».proof.Proof.Halves
public import proofs.«01_k».proof.Proof.RmsRow
public import proofs.«01_k».proof.Proof.Gen.Kernel13.Frame
public import proofs.«01_k».proof.Proof.Gen.Kernel13Ideal.Value
public import proofs.«01_k».proof.Proof.Gen.Reference13Ideal.Run
public import Idealize.ShloMosaic.Lib.StableHlo.RunRead
public import Idealize.ShloMosaic.Adequacy
public import Idealize.ShloMosaic.Init

@[expose] public section

set_option maxRecDepth 16384

noncomputable section

namespace Cert.Wgrad13

open Idealize.ShloMosaic Idealize.ShloMosaic.TcCoe Idealize.SL.Sem Cert.Kernel13Ideal Cert.Kernel13Ideal.Gen Cert.Kernel13Ideal.Value Cert.Halves

variable (m : (ℓ : Loc nD τ sig) → Buf (Elt Ideal) ℓ) (c : Dev nD)

abbrev arg0 : FVec Ideal S4096x256 .f32 := m ((c : Thread nD τ).loc main_arg0)
abbrev arg1 : FVec Ideal S1x256 .f32 := m ((c : Thread nD τ).loc main_arg1)
abbrev arg3 : FVec Ideal S4096x1536 .f32 := m ((c : Thread nD τ).loc main_arg3)

/-- The normalised latents. -/
def u (k : Fin 4096) (j : Fin 256) : EReal := RmsRow.hat (fun j => arg0 m c (ix2 k j)) j * arg1 m c (ix2 0 j)

/-- One row's share of the gradient's entry. -/
def term (i : Fin 256) (j : Fin 1536) (k : Fin 4096) : EReal := u m c k i * (show EReal from arg3 m c (ix2 k j))

theorem V12_at (i : Fin 4096) (j : Fin 256) : (V m c main_v12 : FVec Ideal S4096x256 .bf16) (ix2 i j) = u m c i j := by
  unfold V
  simp only [hostOps0, List.flatten_cons, List.flatten_nil, List.append_nil, List.cons_append, List.nil_append]
  after_reads_simp
  pointwise
  rfl

theorem V13_at (i : Fin 4096) (j : Fin 1536) : (V m c main_v13 : FVec Ideal S4096x1536 .bf16) (ix2 i j) = arg3 m c (ix2 i j) := by
  unfold V
  simp only [hostOps0, List.flatten_cons, List.flatten_nil, List.append_nil, List.cons_append, List.nil_append]
  after_reads_simp
  pointwise

theorem idx : ∀ t : Fin cfg0.N, win0_0.index t = ![t.val % 2, 0] ∧ win0_1.index t = ![t.val % 2, 0] :=
  (by decide +kernel : ∀ t : Fin grid0.N, _)

theorem blk0 (t : Fin cfg0.N) (p : ℕ) (hp : p < 2) (h : t.val % 2 = p) (k : Fin 2048) (i : Fin 256) :
    (iblk m c 0 t : FVec Ideal S2048x256 .bf16) (ix2 k i) = u m c (row p hp k) i := by
  subst h
  rw [← V12_at]
  blk_point [iblk, idx t]

theorem blk1 (t : Fin cfg0.N) (p : ℕ) (hp : p < 2) (h : t.val % 2 = p) (k : Fin 2048) (j : Fin 1536) :
    (iblk m c 1 t : FVec Ideal S2048x1536 .bf16) (ix2 k j) = arg3 m c (ix2 (row p hp k) j) := by
  subst h
  rw [← V13_at]
  blk_point [iblk, idx t]

/-- One product of blocks, added to what was there. -/
theorem pay2_at (t : Fin cfg0.N) (p : ℕ) (hp : p < 2) (h : t.val % 2 = p) (S : FVec Ideal S256x1536 .f32) (i : Fin 256) (j : Fin 1536) :
    k0_pay2 (F := Ideal) (iblk m c 0 t) (iblk m c 1 t) S (ix2 i j) = S (ix2 i j) + ∑ k : Fin 2048, term m c i j (row p hp k) := by
  pointwise [k0_pay2]
  simp only [blk0 m c t p hp h, blk1 m c t p hp h]
  rfl

theorem scA (t : Fin cfg0.N) (h : t.val % 2 = 0) (i : Fin 256) (j : Fin 1536) :
    (outsAt0 m c t.val t.isLt).2 (ix2 i j) = ∑ k : Fin 2048, term m c i j (row 0 (by decide) k) := by
  rw [outsAt0_A m c t h (by omega)]
  frame_out
  rw [pay2_at m c t 0 (by decide) h]
  pointwise [k0_pay1]

theorem outB (t : Fin cfg0.N) (h : t.val % 2 = 1) (i : Fin 256) (j : Fin 1536) :
    (outsAt0 m c t.val t.isLt).1 (ix2 i j) = ∑ k, term m c i j k := by
  let t' : Fin cfg0.N := ⟨t.val - 1, by have := t.isLt; omega⟩
  have e : (outsAt0 m c (t.val - 1) (by omega)).2 (ix2 i j) = ∑ k : Fin 2048, term m c i j (row 0 (by decide) k) :=
    scA m c t' (show (t.val - 1) % 2 = 0 by omega) i j
  rw [outsAt0_B m c t (by omega) h]
  frame_out
  rw [pay2_at m c t 1 (by decide) h, ← halves, ← e]
  exact congrArg (· + _) (congrFun (Memref.IsWhole.read_unread (m := scM0_0) _ _) _)

theorem G2_at (i : Fin 256) (j : Fin 1536) : (G2 m c : FVec Ideal S256x1536 .f32) (ix2 i j) = ∑ k, term m c i j k := by
  have hp : pt2Of (ix2 i j) = 2 * (i.val / 256) + 1 := by
    show 2 * (1 * (i.val / 256 - 0) + 1 * (j.val / 1536 - 0)) + 1 = _
    omega
  have hlt : 2 * (i.val / 256) + 1 < cfg0.N := lt_of_lt_of_eq (show _ < 2 by omega) (show 2 = cfg0.N from N_0.symm)
  have hl : loc2Of (ix2 i j) = ix2 (⟨i.val % 256, by omega⟩ : Fin 256) (⟨j.val % 1536, by omega⟩ : Fin 1536) := by
    funext a; fin_cases a <;> rfl
  unfold G2
  rw [dif_pos (by rw [hp]; exact hlt), hl, fold0_congr m c _ _ _ _ hp]
  have e := outB m c ⟨_, hlt⟩ (by simp only; omega) ⟨i.val % 256, by omega⟩ ⟨j.val % 1536, by omega⟩
  rw [outsAt0_sweep] at e
  refine e.trans ?_
  congr 1
  funext k
  congr 1 <;> exact Fin.ext (by simp only; omega)

/-- The reference's run keeps its arguments, and it declares no semaphore. -/
theorem frame_r : Cert.quiescent_Reference13Ideal (hReference13Ideal := Cert.Reference13Ideal.Gen.facts) := fun m ρ _ =>
  (θ_run Cert.Reference13Ideal.defs _ _).mono
    (fun r h => ⟨fun c => (h c).2, Idealize.ShloMosaic.sem_eq_zero_of_no_sems (by decide) r.2⟩)
    (Cert.Reference13Ideal.Value.run (F := Ideal) m ρ)

/-- The claim's value is the kernel's result array; entry by entry it is the reference's. -/
theorem algebraic : Cert.algebraic_Kernel13Ideal_Reference13Ideal (hKernel13Ideal := Cert.Kernel13Ideal.Gen.facts)
    (hReference13Ideal := Cert.Reference13Ideal.Gen.facts) := by
  intro m ρ m' ρ' _ hag
  refine ⟨fun c => G2 m c, run (F := Ideal) m ρ, ?_⟩
  refine (θ_run Cert.Reference13Ideal.defs _ _).mono (fun r h c => ⟨?_, (h c).2⟩) (Cert.Reference13Ideal.Value.run (F := Ideal) m' ρ')
  obtain ⟨h0, h1, -, h3⟩ := hag c
  rw [(h c).1, h0, h1, h3]
  funext x
  idx_vars x
  refine Eq.trans ?_ (G2_at m c _ _).symm
  pointwise
  refine Finset.sum_congr rfl fun k _ => ?_
  rw [mul_comm]
  rfl

end Cert.Wgrad13

end
-- ==== Proof.MlaSpec.lean ====
/- The MLA projections' gradients, entry by entry over the extended reals: the functions the kernel computes. -/
module

public import proofs.«01_k».proof.Proof.RmsRow

@[expose] public section

set_option maxRecDepth 16384

noncomputable section

namespace Cert.MlaSpec

open Idealize.ShloMosaic Cert.Row Cert.RmsRow

/-- The arguments, as functions of row and column: the latents, the rotary tables, the norms' weights, the projections and the
    gradients of queries, keys and values, head by head. -/
structure In where
  cq : Fin 4096 → Fin 256 → EReal
  ckv : Fin 4096 → Fin 256 → EReal
  co : Fin 4096 → Fin 32 → EReal
  si : Fin 4096 → Fin 32 → EReal
  qn : Fin 256 → EReal
  kn : Fin 256 → EReal
  wq : Fin 256 → Fin 768 → EReal
  wkv : Fin 256 → Fin 1024 → EReal
  dq : Fin 4 → Fin 4096 → Fin 192 → EReal
  dk : Fin 4 → Fin 4096 → Fin 192 → EReal
  dv : Fin 4 → Fin 4096 → Fin 128 → EReal

variable (I : In)

/-- The gradients of queries and keys, each head filled up with zeros. -/
def dqp (h : Fin 4) (i : Fin 4096) (l : Fin 256) : EReal := if p : l.val < 192 then I.dq h i ⟨l, p⟩ else 0
def dkp (h : Fin 4) (i : Fin 4096) (l : Fin 256) : EReal := if p : l.val < 192 then I.dk h i ⟨l, p⟩ else 0

/-- The rotary tables over a head's columns: the factor of a column itself, and of its exchanged partner. -/
def cc (i : Fin 4096) (l : Fin 256) : EReal :=
  if l.val < 128 then 1 else if p : l.val - 128 < 32 then I.co i ⟨l - 128, p⟩ else if p : l.val - 128 - 32 < 32 then I.co i ⟨l - 128 - 32, p⟩ else 0
def ss (i : Fin 4096) (l : Fin 256) : EReal :=
  if l.val < 128 then 0 else if p : l.val - 128 < 32 then I.si i ⟨l - 128, p⟩ else if p : l.val - 128 - 32 < 32 then I.si i ⟨l - 128 - 32, p⟩ else 0

/-- The scaled gradient of a query. -/
def sdq (h : Fin 4) (i : Fin 4096) (l : Fin 256) : EReal := dqp I h i l * Ideal.ofBits .f32 0x3D93CD3A#32

abbrev hd2 (n : Fin 2048) : Fin 4 := ⟨n.val % 1024 / 256, by omega⟩
abbrev hd1 (n : Fin 1536) : Fin 4 := ⟨n.val % 1024 / 256, by omega⟩
abbrev hdv (n : Fin 1536) : Fin 4 := ⟨(n.val - 1024) / 128, by omega⟩

/-- The queries' gradient in the extended columns: first of the heads, then of their exchanged halves. -/
def dqe (i : Fin 4096) (n : Fin 2048) : EReal :=
  if n.val < 1024 then sdq I (hd2 n) i ⟨n.val % 256, by omega⟩ * cc I i ⟨n.val % 256, by omega⟩
  else sdq I (hd2 n) i ⟨n.val % 256, by omega⟩ * ss I i ⟨n.val % 256, by omega⟩

/-- The keys' and values' gradient in the extended columns. -/
def dkve (i : Fin 4096) (n : Fin 1536) : EReal :=
  if n.val < 1024 then dkp I (hd1 n) i ⟨n.val % 256, by omega⟩ else I.dv (hdv n) i ⟨n.val % 128, by omega⟩

/-- A head's rows of the queries' projection, filled up with zeros, and the same with the rotary halves exchanged. -/
def wm (h : Fin 4) (l r : Fin 256) : EReal := if p : l.val < 192 then I.wq r ⟨192 * h + l, by omega⟩ else 0
def wr (h : Fin 4) (l r : Fin 256) : EReal :=
  if l.val < 128 then 0 else if p : l.val - 128 < 32 then -I.wq r ⟨192 * h + l + 32, by omega⟩
  else if p : l.val - 128 - 32 < 32 then I.wq r ⟨192 * h + l - 32, by omega⟩ else 0

/-- The queries' projection in the extended columns. -/
def we (n : Fin 2048) (r : Fin 256) : EReal :=
  if n.val < 1024 then wm I (hd2 n) ⟨n.val % 256, by omega⟩ r else wr I (hd2 n) ⟨n.val % 256, by omega⟩ r

/-- The keys' and values' projection in the extended columns. -/
def kwe (r : Fin 256) (n : Fin 1536) : EReal :=
  if n.val < 1024 then (if n.val % 256 < 128 then I.wkv r ⟨256 * (hd1 n).val + n.val % 256, by have := (hd1 n).isLt; omega⟩ else 0)
  else I.wkv r ⟨256 * (hdv n).val + 128 + n.val % 128, by have := (hdv n).isLt; omega⟩

/-! ## The extended projections, case by case -/

variable {I}

theorem kwe_a {r : Fin 256} {n : Fin 1536} {q : Fin 1024} (h1 : n.val < 1024) (h2 : n.val % 256 < 128)
    (hq : q.val = 256 * (n.val / 256) + n.val % 256) : kwe I r n = I.wkv r q := by
  unfold kwe
  rw [if_pos h1, if_pos h2]
  exact congrArg (I.wkv r) (Fin.ext (by simp only; omega))

theorem kwe_z {r : Fin 256} {n : Fin 1536} (h1 : n.val < 1024) (h2 : ¬n.val % 256 < 128) : kwe I r n = 0 := by
  unfold kwe
  rw [if_pos h1, if_neg h2]

theorem kwe_b {r : Fin 256} {n : Fin 1536} {q : Fin 1024} (h1 : ¬n.val < 1024)
    (hq : q.val = 256 * ((n.val - 1024) / 128) + 128 + n.val % 128) : kwe I r n = I.wkv r q := by
  unfold kwe
  rw [if_neg h1]
  exact congrArg (I.wkv r) (Fin.ext (by simp only; omega))

theorem we_a {n : Fin 2048} {r : Fin 256} {q : Fin 768} (h1 : n.val < 1024) (h2 : n.val % 256 < 192)
    (hq : q.val = 192 * (n.val / 256) + n.val % 256) : we I n r = I.wq r q := by
  unfold we wm
  rw [if_pos h1, dif_pos h2]
  exact congrArg (I.wq r) (Fin.ext (by simp only; omega))

theorem we_z {n : Fin 2048} {r : Fin 256} (h1 : n.val < 1024) (h2 : ¬n.val % 256 < 192) : we I n r = 0 := by
  unfold we wm
  rw [if_pos h1, dif_neg h2]

theorem we_r0 {n : Fin 2048} {r : Fin 256} (h1 : ¬n.val < 1024) (h2 : n.val % 256 < 128) : we I n r = 0 := by
  unfold we wr
  rw [if_neg h1, if_pos h2]

theorem we_r1 {n : Fin 2048} {r : Fin 256} {q : Fin 768} (h1 : ¬n.val < 1024) (h2 : ¬n.val % 256 < 128) (h3 : n.val % 256 - 128 < 32)
    (hq : q.val = 192 * ((n.val - 1024) / 256) + n.val % 256 + 32) : we I n r = -I.wq r q := by
  unfold we wr
  rw [if_neg h1, if_neg h2, dif_pos h3]
  exact congrArg (fun q => -I.wq r q) (Fin.ext (by simp only; omega))

theorem we_r2 {n : Fin 2048} {r : Fin 256} {q : Fin 768} (h1 : ¬n.val < 1024) (h2 : ¬n.val % 256 < 128) (h3 : ¬n.val % 256 - 128 < 32)
    (h4 : n.val % 256 - 128 - 32 < 32) (hq : q.val + 32 = 192 * ((n.val - 1024) / 256) + n.val % 256) : we I n r = I.wq r q := by
  unfold we wr
  rw [if_neg h1, if_neg h2, dif_neg h3, dif_pos h4]
  exact congrArg (I.wq r) (Fin.ext (by simp only; omega))

theorem we_r3 {n : Fin 2048} {r : Fin 256} (h1 : ¬n.val < 1024) (h2 : ¬n.val % 256 < 192) : we I n r = 0 := by
  unfold we wr
  rw [if_neg h1, if_neg (by simp only; omega), dif_neg (by simp only; omega), dif_neg (by simp only; omega)]

variable (I)

/-! ## The extended gradients, case by case -/

variable {I}

theorem dqe_a {i : Fin 4096} {n : Fin 2048} {h : Fin 4} {l : Fin 256} (e : n.val = h.val * 256 + l.val) :
    dqe I i n = sdq I h i l * cc I i l := by
  have e1 : hd2 n = h := Fin.ext (by simp only; omega)
  have e2 : (⟨n.val % 256, by omega⟩ : Fin 256) = l := Fin.ext (by simp only; omega)
  unfold dqe
  rw [if_pos (by omega), e1, e2]

theorem dqe_b {i : Fin 4096} {n : Fin 2048} {h : Fin 4} {l : Fin 256} (e : n.val = 1024 + h.val * 256 + l.val) :
    dqe I i n = sdq I h i l * ss I i l := by
  have e1 : hd2 n = h := Fin.ext (by simp only; omega)
  have e2 : (⟨n.val % 256, by omega⟩ : Fin 256) = l := Fin.ext (by simp only; omega)
  unfold dqe
  rw [if_neg (by omega), e1, e2]

theorem dkve_a {i : Fin 4096} {n : Fin 1536} {h : Fin 4} {l : Fin 256} (e : n.val = h.val * 256 + l.val) :
    dkve I i n = dkp I h i l := by
  have e1 : hd1 n = h := Fin.ext (by simp only; omega)
  have e2 : (⟨n.val % 256, by omega⟩ : Fin 256) = l := Fin.ext (by simp only; omega)
  unfold dkve
  rw [if_pos (by omega), e1, e2]

theorem dkve_b {i : Fin 4096} {n : Fin 1536} {h : Fin 4} {l : Fin 128} (e : n.val = 1024 + h.val * 128 + l.val) :
    dkve I i n = I.dv h i l := by
  have e1 : hdv n = h := Fin.ext (by simp only; omega)
  have e2 : (⟨n.val % 128, by omega⟩ : Fin 128) = l := Fin.ext (by simp only; omega)
  unfold dkve
  rw [if_neg (by omega), e1, e2]

variable (I)

/-- The gradients of the normalised latents. -/
def dcqn (i : Fin 4096) (r : Fin 256) : EReal := ∑ n : Fin 2048, dqe I i n * we I n r
def dckvn (i : Fin 4096) (r : Fin 256) : EReal := ∑ n : Fin 1536, dkve I i n * kwe I r n

/-- The gradient of the heads' common key. -/
def dpe (i : Fin 4096) (l : Fin 256) : EReal := dkp I 0 i l + dkp I 1 i l + dkp I 2 i l + dkp I 3 i l

/-- The gradient of the projection's columns that the call returns. -/
def dz (i : Fin 4096) (j : Fin 1024) : EReal :=
  if p : j.val < 256 then closedGrad (I.cq i) (fun r => dcqn I i r * I.qn r) ⟨j, p⟩
  else if p : j.val - 256 < 256 then closedGrad (I.ckv i) (fun r => dckvn I i r * I.kn r) ⟨j - 256, p⟩
  else if p : j.val - 512 < 256 then dpe I i ⟨j - 512, p⟩ * cc I i ⟨j - 512, p⟩
  else dpe I i ⟨j - 768, by omega⟩ * ss I i ⟨j - 768, by omega⟩

/-- One row's share of the gradients of the norms' weights. -/
def nrow (i : Fin 4096) (j : Fin 512) : EReal :=
  if p : j.val < 256 then dcqn I i ⟨j, p⟩ * hat (I.cq i) ⟨j, p⟩
  else dckvn I i ⟨j - 256, by omega⟩ * hat (I.ckv i) ⟨j - 256, by omega⟩

/-- The gradients of the norms' weights. -/
def dnw (j : Fin 512) : EReal := ∑ i, nrow I i j

/-- Every entry of every argument is a real number. -/
structure Finite : Prop where
  cq : ∀ i j, IsReal (I.cq i j)
  ckv : ∀ i j, IsReal (I.ckv i j)
  co : ∀ i j, IsReal (I.co i j)
  si : ∀ i j, IsReal (I.si i j)
  qn : ∀ j, IsReal (I.qn j)
  kn : ∀ j, IsReal (I.kn j)
  wq : ∀ i j, IsReal (I.wq i j)
  wkv : ∀ i j, IsReal (I.wkv i j)
  dq : ∀ h i j, IsReal (I.dq h i j)
  dk : ∀ h i j, IsReal (I.dk h i j)
  dv : ∀ h i j, IsReal (I.dv h i j)

end Cert.MlaSpec

end
-- ==== Proof.MlaSum.lean ====
/- The MLA projections' gradients: the sums over the extended columns are the plain sums over the projections' columns, and
   the norms' gradients are the chain rule's. -/
module

public import proofs.«01_k».proof.Proof.MlaSpec
public import Idealize.ShloMosaic.Lib.Pipeline.ValueKit
public import Idealize.ShloMosaic.Lib.Claim

@[expose] public section

set_option maxRecDepth 16384

noncomputable section

namespace Cert.MlaSum

open Idealize.ShloMosaic Cert.Row Cert.RmsRow Cert.MlaSpec

/-- A sum over `N` numbers, cut after the first `a`. -/
theorem cut (a b N : ℕ) (h : a + b = N) (f : Fin N → EReal) :
    ∑ k, f k = (∑ k : Fin a, f ⟨k.val, by omega⟩) + ∑ k : Fin b, f ⟨a + k.val, by omega⟩ := by
  subst h
  exact Fin.sum_univ_add f

/-- A sum over the projection's columns, head by head: a head's plain columns and the two rotary halves. -/
theorem cut768 (f : Fin 768 → EReal) :
    ∑ k, f k = ∑ h : Fin 4, ((∑ l : Fin 128, f ⟨h.val * 192 + l.val, by omega⟩)
      + ((∑ l : Fin 32, f ⟨h.val * 192 + (128 + l.val), by omega⟩) + ∑ l : Fin 32, f ⟨h.val * 192 + (160 + l.val), by omega⟩)) := by
  rw [← Fin.sum_mul_add_fin 4 192 f]
  refine Finset.sum_congr rfl fun h _ => ?_
  refine (cut 128 64 192 rfl _).trans (congrArg₂ (· + ·) rfl ((cut 32 32 64 rfl _).trans (congrArg₂ (· + ·) rfl
    (Finset.sum_congr rfl fun l _ => congrArg f (Fin.ext ?_)))))
  dsimp only
  omega

/-- A sum over 1024 extended columns, head by head: the same three pieces, and 64 columns more. -/
theorem cut1024 (f : Fin 1024 → EReal) :
    ∑ k, f k = ∑ h : Fin 4, ((∑ l : Fin 128, f ⟨h.val * 256 + l.val, by omega⟩)
      + (((∑ l : Fin 32, f ⟨h.val * 256 + (128 + l.val), by omega⟩) + ∑ l : Fin 32, f ⟨h.val * 256 + (160 + l.val), by omega⟩)
        + ∑ l : Fin 64, f ⟨h.val * 256 + (192 + l.val), by omega⟩)) := by
  rw [← Fin.sum_mul_add_fin 4 256 f]
  refine Finset.sum_congr rfl fun h _ => ?_
  refine (cut 128 128 256 rfl _).trans (congrArg₂ (· + ·) rfl ((cut 64 64 128 rfl _).trans (congrArg₂ (· + ·) ((cut 32 32 64 rfl _).trans
    (congrArg₂ (· + ·) rfl (Finset.sum_congr rfl fun l _ => congrArg f (Fin.ext ?_))))
    (Finset.sum_congr rfl fun l _ => congrArg f (Fin.ext ?_)))))
  all_goals
    dsimp only
    omega

/-- The same by the two halves of a head alone. -/
theorem halves1024 (f : Fin 1024 → EReal) :
    ∑ k, f k = ∑ h : Fin 4, ((∑ l : Fin 128, f ⟨h.val * 256 + l.val, by omega⟩) + ∑ l : Fin 128, f ⟨h.val * 256 + (128 + l.val), by omega⟩) := by
  rw [← Fin.sum_mul_add_fin 4 256 f]
  exact Finset.sum_congr rfl fun h _ => cut 128 128 256 rfl _

/-- One rotated pair: both of its terms, and the four terms of the extended columns. -/
theorem pair {a b c s u v : EReal} (ha : IsReal a) (hb : IsReal b) (hc : IsReal c) (hs : IsReal s) (hu : IsReal u) (hv : IsReal v) :
    (b * s + a * c) * u + (b * c + -a * s) * v = a * c * u + b * c * v + (a * s * -v + b * s * u) := by
  obtain ⟨a, rfl⟩ := ha
  obtain ⟨b, rfl⟩ := hb
  obtain ⟨c, rfl⟩ := hc
  obtain ⟨s, rfl⟩ := hs
  obtain ⟨u, rfl⟩ := hu
  obtain ⟨v, rfl⟩ := hv
  norm_cast
  ring

theorem isReal_scale : IsReal (Ideal.ofBits .f32 0x3D93CD3A#32) := by
  refine ⟨9686330 / 2 ^ 27, ?_⟩
  simp [Ideal.ofBits, Ideal.ieee, -EReal.coe_mul]; norm_num

variable {I : In}

theorem Finite.sdq (hF : Finite I) (h : Fin 4) (i : Fin 4096) (l : Fin 256) : IsReal (sdq I h i l) := by
  unfold MlaSpec.sdq dqp
  split_ifs
  · exact (hF.dq _ _ _).mul isReal_scale
  · exact isReal_zero.mul isReal_scale

theorem sdq_z (h : Fin 4) (i : Fin 4096) (l : Fin 256) (hl : ¬l.val < 192) : sdq I h i l = 0 := by
  unfold sdq dqp
  rw [dif_neg hl, zero_mul]

theorem dkp_z (h : Fin 4) (i : Fin 4096) (l : Fin 256) (hl : ¬l.val < 192) : dkp I h i l = 0 := by
  unfold dkp
  rw [dif_neg hl]

theorem cc_a (i : Fin 4096) (l : Fin 256) (hl : l.val < 128) : cc I i l = 1 := by
  unfold cc
  rw [if_pos hl]

theorem cc_b (i : Fin 4096) (l : Fin 256) (k : Fin 32) (hl : l.val = 128 + k.val) : cc I i l = I.co i k := by
  unfold cc
  rw [if_neg (by omega), dif_pos (by omega)]
  exact congrArg _ (Fin.ext (by dsimp only; omega))

theorem cc_c (i : Fin 4096) (l : Fin 256) (k : Fin 32) (hl : l.val = 160 + k.val) : cc I i l = I.co i k := by
  unfold cc
  rw [if_neg (by omega), dif_neg (by omega), dif_pos (by omega)]
  exact congrArg _ (Fin.ext (by dsimp only; omega))

theorem cc_d (i : Fin 4096) (l : Fin 256) (hl : ¬l.val < 192) : cc I i l = 0 := by
  unfold cc
  rw [if_neg (by omega), dif_neg (by omega), dif_neg (by omega)]

theorem ss_a (i : Fin 4096) (l : Fin 256) (hl : l.val < 128) : ss I i l = 0 := by
  unfold ss
  rw [if_pos hl]

theorem ss_b (i : Fin 4096) (l : Fin 256) (k : Fin 32) (hl : l.val = 128 + k.val) : ss I i l = I.si i k := by
  unfold ss
  rw [if_neg (by omega), dif_pos (by omega)]
  exact congrArg _ (Fin.ext (by dsimp only; omega))

theorem ss_c (i : Fin 4096) (l : Fin 256) (k : Fin 32) (hl : l.val = 160 + k.val) : ss I i l = I.si i k := by
  unfold ss
  rw [if_neg (by omega), dif_neg (by omega), dif_pos (by omega)]
  exact congrArg _ (Fin.ext (by dsimp only; omega))

theorem ss_d (i : Fin 4096) (l : Fin 256) (hl : ¬l.val < 192) : ss I i l = 0 := by
  unfold ss
  rw [if_neg (by omega), dif_neg (by omega), dif_neg (by omega)]

/-- The returned columns, block by block. -/
theorem dz_a (i : Fin 4096) (j : Fin 1024) (k : Fin 256) (e : j.val = k.val) :
    dz I i j = closedGrad (I.cq i) (fun r => dcqn I i r * I.qn r) k := by
  unfold dz
  rw [dif_pos (by omega)]
  exact congrArg _ (Fin.ext e)

theorem dz_b (i : Fin 4096) (j : Fin 1024) (k : Fin 256) (e : j.val = 256 + k.val) :
    dz I i j = closedGrad (I.ckv i) (fun r => dckvn I i r * I.kn r) k := by
  unfold dz
  rw [dif_neg (by omega), dif_pos (by omega)]
  exact congrArg _ (Fin.ext (by dsimp only; omega))

theorem dz_c (i : Fin 4096) (j : Fin 1024) (k : Fin 256) (e : j.val = 512 + k.val) : dz I i j = dpe I i k * cc I i k := by
  unfold dz
  rw [dif_neg (by omega), dif_neg (by omega), dif_pos (by omega)]
  exact congrArg (fun k => dpe I i k * cc I i k) (Fin.ext (by dsimp only; omega))

theorem dz_d (i : Fin 4096) (j : Fin 1024) (k : Fin 256) (e : j.val = 768 + k.val) : dz I i j = dpe I i k * ss I i k := by
  unfold dz
  rw [dif_neg (by omega), dif_neg (by omega), dif_neg (by omega)]
  exact congrArg (fun k => dpe I i k * ss I i k) (Fin.ext (by dsimp only; omega))

/-- One row's share of the norms' weights' gradients, norm by norm. -/
theorem nrow_a (i : Fin 4096) (j : Fin 512) (k : Fin 256) (e : j.val = k.val) : nrow I i j = hat (I.cq i) k * dcqn I i k := by
  unfold nrow
  rw [dif_pos (by omega), mul_comm]
  exact congrArg (fun k => hat (I.cq i) k * dcqn I i k) (Fin.ext e)

theorem nrow_b (i : Fin 4096) (j : Fin 512) (k : Fin 256) (e : j.val = 256 + k.val) : nrow I i j = hat (I.ckv i) k * dckvn I i k := by
  unfold nrow
  rw [dif_neg (by omega), mul_comm]
  exact congrArg (fun k => hat (I.ckv i) k * dckvn I i k) (Fin.ext (by dsimp only; omega))

/-- The queries' share: the plain sum over the projection's columns, whose rotary columns are rotated back. -/
theorem dcqn_eq (hF : Finite I) (i : Fin 4096) (r : Fin 256) (X W : Fin 768 → EReal) (hW : ∀ q, W q = I.wq r q)
    (hA : ∀ (h : Fin 4) (l : Fin 128) (q : Fin 768), q.val = h.val * 192 + l.val → X q = sdq I h i ⟨l.val, by omega⟩)
    (hB : ∀ (h : Fin 4) (l : Fin 32) (q : Fin 768), q.val = h.val * 192 + (128 + l.val) →
      X q = sdq I h i ⟨160 + l.val, by omega⟩ * I.si i l + sdq I h i ⟨128 + l.val, by omega⟩ * I.co i l)
    (hC : ∀ (h : Fin 4) (l : Fin 32) (q : Fin 768), q.val = h.val * 192 + (160 + l.val) →
      X q = sdq I h i ⟨160 + l.val, by omega⟩ * I.co i l + -sdq I h i ⟨128 + l.val, by omega⟩ * I.si i l) :
    ∑ q, X q * W q = dcqn I i r := by
  obtain rfl : W = I.wq r := funext hW
  unfold dcqn
  rw [cut 1024 1024 2048 rfl, cut768, cut1024, cut1024, ← Finset.sum_add_distrib]
  refine Finset.sum_congr rfl fun h _ => ?_
  have z1 : ∑ l : Fin 64, dqe I i ⟨h.val * 256 + (192 + l.val), by omega⟩ * we I ⟨h.val * 256 + (192 + l.val), by omega⟩ r = 0 :=
    Finset.sum_eq_zero fun l _ => by rw [we_z (by dsimp only; omega) (by dsimp only; omega), mul_zero]
  have z2 : ∑ l : Fin 64, dqe I i ⟨1024 + (h.val * 256 + (192 + l.val)), by omega⟩ * we I ⟨1024 + (h.val * 256 + (192 + l.val)), by omega⟩ r = 0 :=
    Finset.sum_eq_zero fun l _ => by rw [we_r3 (by dsimp only; omega) (by dsimp only; omega), mul_zero]
  have z3 : ∑ l : Fin 128, dqe I i ⟨1024 + (h.val * 256 + l.val), by omega⟩ * we I ⟨1024 + (h.val * 256 + l.val), by omega⟩ r = 0 :=
    Finset.sum_eq_zero fun l _ => by rw [we_r0 (by dsimp only; omega) (by dsimp only; omega), mul_zero]
  rw [z1, z2, z3, zero_add, add_zero, add_zero, add_assoc]
  refine congrArg₂ (· + ·) (Finset.sum_congr rfl fun l _ => ?_) ?_
  · rw [hA h l _ rfl, dqe_a (h := h) (l := ⟨l.val, by omega⟩) rfl, cc_a _ _ l.isLt, mul_one,
      we_a (q := ⟨h.val * 192 + l.val, by omega⟩) (by dsimp only; omega) (by dsimp only; omega) (by dsimp only; omega)]
  · rw [← Finset.sum_add_distrib, ← Finset.sum_add_distrib, ← Finset.sum_add_distrib, ← Finset.sum_add_distrib]
    refine Finset.sum_congr rfl fun l _ => ?_
    rw [hB h l _ rfl, hC h l _ rfl,
      dqe_a (h := h) (l := ⟨128 + l.val, by omega⟩) rfl, dqe_a (h := h) (l := ⟨160 + l.val, by omega⟩) rfl,
      dqe_b (h := h) (l := ⟨128 + l.val, by omega⟩) (by dsimp only; omega), dqe_b (h := h) (l := ⟨160 + l.val, by omega⟩) (by dsimp only; omega),
      cc_b _ _ l rfl, cc_c _ _ l rfl, ss_b _ _ l rfl, ss_c _ _ l rfl,
      we_a (q := ⟨h.val * 192 + (128 + l.val), by omega⟩) (by dsimp only; omega) (by dsimp only; omega) (by dsimp only; omega),
      we_a (q := ⟨h.val * 192 + (160 + l.val), by omega⟩) (by dsimp only; omega) (by dsimp only; omega) (by dsimp only; omega),
      we_r1 (q := ⟨h.val * 192 + (160 + l.val), by omega⟩) (by dsimp only; omega) (by dsimp only; omega) (by dsimp only; omega) (by dsimp only; omega),
      we_r2 (q := ⟨h.val * 192 + (128 + l.val), by omega⟩) (by dsimp only; omega) (by dsimp only; omega) (by dsimp only; omega) (by dsimp only; omega) (by dsimp only; omega)]
    exact pair (Finite.sdq hF _ _ _) (Finite.sdq hF _ _ _) (hF.co _ _) (hF.si _ _) (hF.wq _ _) (hF.wq _ _)

/-- The keys' and values' share: the plain sum over the projection's columns. -/
theorem dckvn_eq (i : Fin 4096) (r : Fin 256) (X W : Fin 1024 → EReal) (hW : ∀ q, W q = I.wkv r q)
    (hA : ∀ (h : Fin 4) (l : Fin 128) (q : Fin 1024), q.val = h.val * 256 + l.val → X q = dkp I h i ⟨l.val, by omega⟩)
    (hB : ∀ (h : Fin 4) (l : Fin 128) (q : Fin 1024), q.val = h.val * 256 + (128 + l.val) → X q = I.dv h i l) :
    ∑ q, X q * W q = dckvn I i r := by
  obtain rfl : W = I.wkv r := funext hW
  unfold dckvn
  rw [cut 1024 512 1536 rfl, halves1024, halves1024, ← Fin.sum_mul_add_fin 4 128 (fun k : Fin 512 => dkve I i ⟨1024 + k.val, by omega⟩ * kwe I r ⟨1024 + k.val, by omega⟩), ← Finset.sum_add_distrib]
  refine Finset.sum_congr rfl fun h _ => ?_
  have z : ∑ l : Fin 128, dkve I i ⟨h.val * 256 + (128 + l.val), by omega⟩ * kwe I r ⟨h.val * 256 + (128 + l.val), by omega⟩ = 0 :=
    Finset.sum_eq_zero fun l _ => by rw [kwe_z (by dsimp only; omega) (by dsimp only; omega), mul_zero]
  rw [z, add_zero]
  refine congrArg₂ (· + ·) (Finset.sum_congr rfl fun l _ => ?_) (Finset.sum_congr rfl fun l _ => ?_)
  · rw [hA h l _ rfl, dkve_a (h := h) (l := ⟨l.val, by omega⟩) rfl,
      kwe_a (q := ⟨h.val * 256 + l.val, by omega⟩) (by dsimp only; omega) (by dsimp only; omega) (by dsimp only; omega)]
  · rw [hB h l _ rfl, dkve_b (h := h) (l := l) (by dsimp only; omega),
      kwe_b (q := ⟨h.val * 256 + (128 + l.val), by omega⟩) (by dsimp only; omega) (by dsimp only; omega)]

/-- On finite arguments the gradients of the normalised latents are finite. -/
theorem Finite.dcqn (hF : Finite I) (i : Fin 4096) (r : Fin 256) : IsReal (dcqn I i r) := by
  refine IsReal.sum _ fun n => IsReal.mul ?_ ?_
  · unfold dqe cc ss
    split_ifs
    all_goals first
      | exact (Finite.sdq hF _ _ _).mul isReal_one
      | exact (Finite.sdq hF _ _ _).mul isReal_zero
      | exact (Finite.sdq hF _ _ _).mul (hF.co _ _)
      | exact (Finite.sdq hF _ _ _).mul (hF.si _ _)
  · unfold we wm wr
    split_ifs
    all_goals first
      | exact hF.wq _ _
      | exact isReal_zero
      | (obtain ⟨x, hx⟩ := hF.wq r _; exact ⟨-x, by rw [hx, EReal.coe_neg]⟩)

theorem Finite.dckvn (hF : Finite I) (i : Fin 4096) (r : Fin 256) : IsReal (dckvn I i r) := by
  refine IsReal.sum _ fun n => IsReal.mul ?_ ?_
  · unfold dkve dkp
    split_ifs
    all_goals first
      | exact hF.dk _ _ _
      | exact hF.dv _ _ _
      | exact isReal_zero
  · unfold kwe
    split_ifs
    all_goals first
      | exact hF.wkv _ _
      | exact isReal_zero

/-- The two latents' gradients, the chain rule written out. -/
theorem Finite.chain_q (hF : Finite I) (i : Fin 4096) (j : Fin 256) :
    chainGrad (I.cq i) (fun r => MlaSpec.dcqn I i r * I.qn r) j = closedGrad (I.cq i) (fun r => MlaSpec.dcqn I i r * I.qn r) j :=
  chainGrad_eq (hF.cq i) (fun k => (Finite.dcqn hF i k).mul (hF.qn k)) j

theorem Finite.chain_kv (hF : Finite I) (i : Fin 4096) (j : Fin 256) :
    chainGrad (I.ckv i) (fun r => MlaSpec.dckvn I i r * I.kn r) j = closedGrad (I.ckv i) (fun r => MlaSpec.dckvn I i r * I.kn r) j :=
  chainGrad_eq (hF.ckv i) (fun k => (Finite.dckvn hF i k).mul (hF.kn k)) j

end Cert.MlaSum

end
-- ==== Proof.MlaRef.lean ====
/- The MLA projections' gradients, the reference: its run on finite arguments, entry by entry. -/
module

public import proofs.«01_k».proof.Proof.MlaSum
public import proofs.«01_k».proof.Proof.Gen.Reference10Ideal.Run
public import Idealize.ShloMosaic.Lib.Pointwise
public import Idealize.ShloMosaic.Lib.Claim

@[expose] public section

set_option maxRecDepth 16384

noncomputable section

namespace Cert.MlaRef

open Idealize.ShloMosaic Idealize.ShloMosaic.TcCoe Idealize.SL.Sem Idealize.ShloMosaic.StableHlo Cert.Reference10Ideal Cert.Reference10Ideal.Gen Cert.Reference10Ideal.Value Cert.MlaSpec Cert.Row Cert.RmsRow Cert.MlaSum

variable (V0 : Valuation τ sig (Elt Ideal))

abbrev arg0 : FVec Ideal S4096x256 .f32 := V0 (Proc.devRef .tc main_arg0)
abbrev arg1 : FVec Ideal S4096x256 .f32 := V0 (Proc.devRef .tc main_arg1)
abbrev arg2 : FVec Ideal S4096x32 .f32 := V0 (Proc.devRef .tc main_arg2)
abbrev arg3 : FVec Ideal S4096x32 .f32 := V0 (Proc.devRef .tc main_arg3)
abbrev arg4 : FVec Ideal S1x256 .f32 := V0 (Proc.devRef .tc main_arg4)
abbrev arg5 : FVec Ideal S1x256 .f32 := V0 (Proc.devRef .tc main_arg5)
abbrev arg6 : FVec Ideal S256x768 .f32 := V0 (Proc.devRef .tc main_arg6)
abbrev arg7 : FVec Ideal S256x1024 .f32 := V0 (Proc.devRef .tc main_arg7)
abbrev arg8 : FVec Ideal S4x4096x192 .f32 := V0 (Proc.devRef .tc main_arg8)
abbrev arg9 : FVec Ideal S4x4096x192 .f32 := V0 (Proc.devRef .tc main_arg9)
abbrev arg10 : FVec Ideal S4x4096x128 .f32 := V0 (Proc.devRef .tc main_arg10)

/-- The arguments, as functions of row and column. -/
def inp : In where
  cq i j := arg0 V0 (ix2 i j)
  ckv i j := arg1 V0 (ix2 i j)
  co i j := arg2 V0 (ix2 i j)
  si i j := arg3 V0 (ix2 i j)
  qn j := arg4 V0 (ix2 0 j)
  kn j := arg5 V0 (ix2 0 j)
  wq i j := arg6 V0 (ix2 i j)
  wkv i j := arg7 V0 (ix2 i j)
  dq h i j := arg8 V0 (ix3 h i j)
  dk h i j := arg9 V0 (ix3 h i j)
  dv h i j := arg10 V0 (ix3 h i j)

/-- Both sides of a choice. -/
theorem dite_case {p : Prop} [Decidable p] {α : Type} {f : p → α} {g : ¬p → α} {b : α} (h1 : ∀ h, f h = b) (h2 : ∀ h, g h = b) :
    dite p f g = b := by
  by_cases h : p
  · rw [dif_pos h]; exact h1 h
  · rw [dif_neg h]; exact h2 h

/-- A sum of two choices of which one is made. -/
theorem sum_left {p q : Prop} [Decidable p] [Decidable q] {f : p → EReal} {g : q → EReal} {b : EReal} (hp : p) (hq : ¬q) (h : f hp = b) :
    (dite p f fun _ => 0) + (dite q g fun _ => 0) = b := by
  rw [dif_pos hp, dif_neg hq, add_zero, h]

theorem sum_right {p q : Prop} [Decidable p] [Decidable q] {f : p → EReal} {g : q → EReal} {b : EReal} (hp : ¬p) (hq : q) (h : g hq = b) :
    (dite p f fun _ => 0) + (dite q g fun _ => 0) = b := by
  rw [dif_neg hp, dif_pos hq, zero_add, h]

theorem sdq_at {a h : Fin 4} {b : Fin 192} {l : Fin 256} (i : Fin 4096) (ea : a.val = h.val) (eb : b.val = l.val) :
    (arg8 V0 (ix3 a i b) : EReal) * Ideal.ofBits .f32 0x3D93CD3A#32 = sdq (inp V0) h i l := by
  obtain rfl : a = h := Fin.ext ea
  unfold sdq dqp
  rw [dif_pos (by omega)]
  exact congrArg (fun k => (arg8 V0 (ix3 a i k) : EReal) * Ideal.ofBits .f32 0x3D93CD3A#32) (Fin.ext eb)

theorem dkp_at {a h : Fin 4} {b : Fin 192} {l : Fin 256} (i : Fin 4096) (ea : a.val = h.val) (eb : b.val = l.val) :
    (arg9 V0 (ix3 a i b) : EReal) = dkp (inp V0) h i l := by
  obtain rfl : a = h := Fin.ext ea
  unfold dkp
  rw [dif_pos (by omega)]
  exact congrArg (fun k => (arg9 V0 (ix3 a i k) : EReal)) (Fin.ext eb)

theorem dv_at {a h : Fin 4} {b l : Fin 128} (i : Fin 4096) (ea : a.val = h.val) (eb : b.val = l.val) :
    (arg10 V0 (ix3 a i b) : EReal) = (inp V0).dv h i l := by
  obtain rfl : a = h := Fin.ext ea
  obtain rfl : b = l := Fin.ext eb
  rfl

theorem co_at {a b : Fin 32} (i : Fin 4096) (e : a.val = b.val) : (arg2 V0 (ix2 i a) : EReal) = (inp V0).co i b := by
  obtain rfl : a = b := Fin.ext e
  rfl

theorem si_at {a b : Fin 32} (i : Fin 4096) (e : a.val = b.val) : (arg3 V0 (ix2 i a) : EReal) = (inp V0).si i b := by
  obtain rfl : a = b := Fin.ext e
  rfl

theorem dpe_at {b : Fin 192} {l : Fin 256} (i : Fin 4096) (eb : b.val = l.val) :
    ∑ x : Fin 4, (show EReal from arg9 V0 (ix3 x i b)) = dpe (inp V0) i l := by
  rw [Fin.sum_univ_four]
  unfold dpe
  exact congrArg₂ (· + ·) (congrArg₂ (· + ·) (congrArg₂ (· + ·) (dkp_at V0 i rfl eb) (dkp_at V0 i rfl eb)) (dkp_at V0 i rfl eb)) (dkp_at V0 i rfl eb)

variable {V0} (hF : Finite (inp V0))
include hF

theorem v62_at (i : Fin 4096) (r : Fin 256) : (res_main_v62 V0 : FVec Ideal S4096x256 .f32) (ix2 i r) = dcqn (inp V0) i r := by
  pointwise [res_main_v62, res_main_v41, res_main_v45, res_main_v46, res_main_v43, res_main_v22, res_main_v21, res_main_v0]
  refine dcqn_eq hF i r _ _ (fun q => rfl) (fun h l q e => ?_) (fun h l q e => ?_) (fun h l q e => ?_)
  · refine sum_left (by omega) (by omega) ?_
    exact sdq_at V0 i (by dsimp only; omega) (by dsimp only; omega)
  · refine sum_right (by omega) (by omega) ((dif_pos (by omega)).trans ?_)
    exact congrArg₂ (· + ·)
      (congrArg₂ (· * ·) (sdq_at V0 i (by dsimp only; omega) (by dsimp only; omega)) (si_at V0 i (by dsimp only; omega)))
      (congrArg₂ (· * ·) (sdq_at V0 i (by dsimp only; omega) (by dsimp only; omega)) (co_at V0 i (by dsimp only; omega)))
  · refine sum_right (by omega) (by omega) ((dif_neg (by omega)).trans ?_)
    exact congrArg₂ (· + ·)
      (congrArg₂ (· * ·) (sdq_at V0 i (by dsimp only; omega) (by dsimp only; omega)) (co_at V0 i (by dsimp only; omega)))
      (congrArg₂ (· * ·) (congrArg (fun x : EReal => -x) (sdq_at V0 i (by dsimp only; omega) (by dsimp only; omega))) (si_at V0 i (by dsimp only; omega)))

theorem v67_at (i : Fin 4096) (r : Fin 256) : (res_main_v67 V0 : FVec Ideal S4096x256 .f32) (ix2 i r) = dcqn (inp V0) i r * (inp V0).qn r := by
  pointwise [res_main_v67]
  simp only [v62_at hF]
  rfl

theorem v77_at (i : Fin 4096) (r : Fin 256) :
    (res_main_v77 V0 : FVec Ideal S4096x256 .f32) (ix2 i r) = sqGrad ((inp V0).cq i) (fun r => dcqn (inp V0) i r * (inp V0).qn r) := by
  pointwise [res_main_v77, res_main_v9, res_main_v10]
  simp only [Fin.sum_univ_one, v67_at hF]
  rfl

omit hF

theorem at_last {i : Fin 4096} {h : Fin 4} {l : Fin 256} : (∀ a : Fin 3, (![0, 0, 128] : Fin 3 → ℕ) a ≤ (ix3 i h l a).val ∧
      ((ix3 i h l a).val - (![0, 0, 128] : Fin 3 → ℕ) a) % ((![0, 0, 0] : Fin 3 → ℕ) a + 1) = 0 ∧
      ((ix3 i h l a).val - (![0, 0, 128] : Fin 3 → ℕ) a) / ((![0, 0, 0] : Fin 3 → ℕ) a + 1) < S4096x4x128.size a) ↔ 128 ≤ l.val := by
  constructor
  · intro e
    exact (e 2).1
  · intro e a
    match a with
    | 0 => exact ⟨Nat.zero_le _, Nat.mod_one _, by show (i.val - 0) / 1 < 4096; omega⟩
    | 1 => exact ⟨Nat.zero_le _, Nat.mod_one _, by show (h.val - 0) / 1 < 4; omega⟩
    | 2 => exact ⟨e, Nat.mod_one _, by show (l.val - 128) / 1 < 128; omega⟩

variable (V0)

theorem v106_at (i : Fin 4096) (r : Fin 256) : (res_main_v106 V0 : FVec Ideal S4096x256 .f32) (ix2 i r) = dckvn (inp V0) i r := by
  pointwise [res_main_v106, res_main_v2, res_main_v1]
  refine dckvn_eq (I := inp V0) i r _ _ (fun q => rfl) (fun h l q e => ?_) (fun h l q e => ?_)
  · refine sum_right (fun w => absurd (at_last.mp w) (by dsimp only; omega)) (by omega) ?_
    exact dkp_at V0 i (by dsimp only; omega) (by dsimp only; omega)
  · refine sum_left (at_last.mpr (by dsimp only; omega)) (by omega) ?_
    exact dv_at V0 i (by dsimp only; omega) (by dsimp only; omega)

theorem v111_at (i : Fin 4096) (r : Fin 256) : (res_main_v111 V0 : FVec Ideal S4096x256 .f32) (ix2 i r) = dckvn (inp V0) i r * (inp V0).kn r := by
  pointwise [res_main_v111]
  simp only [v106_at]
  rfl

theorem v121_at (i : Fin 4096) (r : Fin 256) :
    (res_main_v121 V0 : FVec Ideal S4096x256 .f32) (ix2 i r) = sqGrad ((inp V0).ckv i) (fun r => dckvn (inp V0) i r * (inp V0).kn r) := by
  pointwise [res_main_v121, res_main_v88, res_main_v89]
  simp only [Fin.sum_univ_one, v111_at]
  rfl

theorem v15_at (i : Fin 4096) (r : Fin 256) : (res_main_v15 V0 : FVec Ideal S4096x256 .f32) (ix2 i r) = hat ((inp V0).cq i) r := by
  pointwise [res_main_v15, res_main_v10, res_main_v9]
  rfl

theorem v94_at (i : Fin 4096) (r : Fin 256) : (res_main_v94 V0 : FVec Ideal S4096x256 .f32) (ix2 i r) = hat ((inp V0).ckv i) r := by
  pointwise [res_main_v94, res_main_v89, res_main_v88]
  rfl

/-- The reference's run on finite arguments, entry by entry. -/
theorem run_at (m : (ℓ : Loc nD τ sig) → Buf (Elt Ideal) ℓ) (ρ : Dev nD → PrngReg)
    (hf : ∀ c : Dev nD, Finite (inp (launchContents m c))) :
    θ_run defs (onTc (τ := τ) (main (F := Ideal))) ⟨m, fun _ => 0, ρ⟩ fun r => ∀ c : Dev nD,
      (∀ i j, (r.2.mem ((c.tc : Thread nD τ).loc main_v164) : FVec Ideal S4096x1024 .bf16) (ix2 i j) = dz (inp (launchContents m c)) i j)
      ∧ (∀ i j, (r.2.mem ((c.tc : Thread nD τ).loc main_v165) : FVec Ideal S4096x2048 .bf16) (ix2 i j) = dqe (inp (launchContents m c)) i j)
      ∧ (∀ i j, (r.2.mem ((c.tc : Thread nD τ).loc main_v166) : FVec Ideal S4096x1536 .bf16) (ix2 i j) = dkve (inp (launchContents m c)) i j)
      ∧ (∀ j, (r.2.mem ((c.tc : Thread nD τ).loc main_v167) : FVec Ideal S1x512 .f32) (ix2 0 j) = dnw (inp (launchContents m c)) j) := by
  refine (θ_run defs _ _).mono (fun r h c => ?_) (Value.run m ρ)
  obtain ⟨h0, h1, h2, h3, -⟩ := h c
  have hF := hf c
  refine ⟨fun i j => ?_, fun i j => ?_, fun i j => ?_, fun j => ?_⟩
  · rw [h0]
    clear h h0 h1 h2 h3
    pointwise [res_main_v148, res_main_v127, res_main_v129, res_main_v146, res_main_v149, res_main_v1, res_main_v10, res_main_v9, res_main_v89, res_main_v88]
    refine dite_case (fun g0 => ?_) (fun g0 => dite_case (fun g1 => ?_) (fun g1 => dite_case (fun g2 => ?_) (fun g2 => ?_)))
    · refine Eq.trans ?_ ((Finite.chain_q hF i ⟨j.val, g0⟩).trans (dz_a i j ⟨j.val, g0⟩ rfl).symm)
      simp only [v67_at hF, v77_at hF]
      rfl
    · refine Eq.trans ?_ ((Finite.chain_kv hF i ⟨j.val - 256, g1⟩).trans (dz_b i j ⟨j.val - 256, g1⟩ (by dsimp only <;> omega)).symm)
      simp only [v111_at, v121_at]
      rfl
    · refine Eq.trans ?_ (dz_c i j ⟨j.val - 512, by omega⟩ (by dsimp only <;> omega)).symm
      refine dite_case (fun g3 => ?_) (fun g3 => dite_case (fun g4 => ?_) (fun g4 => ?_))
      · exact ((dpe_at (launchContents m c) i (by dsimp only <;> omega)).trans (mul_one _).symm).trans (congrArg₂ (· * ·) rfl (cc_a _ _ (by dsimp only <;> omega)).symm)
      · refine congrArg₂ (· * ·) (dpe_at (launchContents m c) i (by dsimp only <;> omega)) (dite_case (fun g5 => ?_) (fun g5 => ?_))
        · exact (co_at (launchContents m c) i (b := ⟨j.val - 512 - 128, by omega⟩) (by dsimp only <;> omega)).trans (cc_b _ _ _ (by dsimp only <;> omega)).symm
        · exact (co_at (launchContents m c) i (b := ⟨j.val - 512 - 160, by omega⟩) (by dsimp only <;> omega)).trans (cc_c _ _ _ (by dsimp only <;> omega)).symm
      · exact (mul_zero _).symm.trans (congrArg₂ (· * ·) rfl (cc_d _ _ (by dsimp only <;> omega)).symm)
    · refine Eq.trans ?_ (dz_d i j ⟨j.val - 768, by omega⟩ (by dsimp only <;> omega)).symm
      refine dite_case (fun g3 => ?_) (fun g3 => dite_case (fun g4 => ?_) (fun g4 => ?_))
      · exact (mul_zero _).symm.trans (congrArg₂ (· * ·) rfl (ss_a _ _ (by dsimp only <;> omega)).symm)
      · refine congrArg₂ (· * ·) (dpe_at (launchContents m c) i (by dsimp only <;> omega)) (dite_case (fun g5 => ?_) (fun g5 => ?_))
        · exact (si_at (launchContents m c) i (b := ⟨j.val - 768 - 128, by omega⟩) (by dsimp only <;> omega)).trans (ss_b _ _ _ (by dsimp only <;> omega)).symm
        · exact (si_at (launchContents m c) i (b := ⟨j.val - 768 - 160, by omega⟩) (by dsimp only <;> omega)).trans (ss_c _ _ _ (by dsimp only <;> omega)).symm
      · exact (mul_zero _).symm.trans (congrArg₂ (· * ·) rfl (ss_d _ _ (by dsimp only <;> omega)).symm)
  · rw [h1]
    clear h h0 h1 h2 h3
    pointwise [res_main_v131, res_main_v133, res_main_v134, res_main_v127, res_main_v129, res_main_v0]
    refine dite_case (fun g0 => ?_) (fun g0 => ?_)
    · refine Eq.trans ?_ (dqe_a (h := ⟨j.val / 256, by omega⟩) (l := ⟨j.val % 256, by omega⟩) (by dsimp only <;> omega)).symm
      refine dite_case (fun g3 => ?_) (fun g3 => dite_case (fun g4 => ?_) (fun g4 => ?_))
      · exact ((sdq_at (launchContents m c) i (by dsimp only) (by dsimp only <;> omega)).trans (mul_one _).symm).trans (congrArg₂ (· * ·) rfl (cc_a _ _ (by dsimp only <;> omega)).symm)
      · refine congrArg₂ (· * ·) (sdq_at (launchContents m c) i (by dsimp only) (by dsimp only <;> omega)) (dite_case (fun g5 => ?_) (fun g5 => ?_))
        · exact (co_at (launchContents m c) i (b := ⟨j.val % 256 - 128, by omega⟩) (by dsimp only <;> omega)).trans (cc_b _ _ _ (by dsimp only <;> omega)).symm
        · exact (co_at (launchContents m c) i (b := ⟨j.val % 256 - 160, by omega⟩) (by dsimp only <;> omega)).trans (cc_c _ _ _ (by dsimp only <;> omega)).symm
      · exact (mul_zero _).symm.trans (congrArg₂ (· * ·) rfl (cc_d _ _ (by dsimp only <;> omega)).symm)
    · refine Eq.trans ?_ (dqe_b (h := ⟨(j.val - 1024) / 256, by omega⟩) (l := ⟨(j.val - 1024) % 256, by omega⟩) (by dsimp only <;> omega)).symm
      refine dite_case (fun g3 => ?_) (fun g3 => dite_case (fun g4 => ?_) (fun g4 => ?_))
      · exact (mul_zero _).symm.trans (congrArg₂ (· * ·) rfl (ss_a _ _ (by dsimp only <;> omega)).symm)
      · refine congrArg₂ (· * ·) (sdq_at (launchContents m c) i (by dsimp only) (by dsimp only <;> omega)) (dite_case (fun g5 => ?_) (fun g5 => ?_))
        · exact (si_at (launchContents m c) i (b := ⟨(j.val - 1024) % 256 - 128, by omega⟩) (by dsimp only <;> omega)).trans (ss_b _ _ _ (by dsimp only <;> omega)).symm
        · exact (si_at (launchContents m c) i (b := ⟨(j.val - 1024) % 256 - 160, by omega⟩) (by dsimp only <;> omega)).trans (ss_c _ _ _ (by dsimp only <;> omega)).symm
      · exact (mul_zero _).symm.trans (congrArg₂ (· * ·) rfl (ss_d _ _ (by dsimp only <;> omega)).symm)
  · rw [h2]
    clear h h0 h1 h2 h3
    pointwise [res_main_v1, res_main_v2]
    refine dite_case (fun g0 => ?_) (fun g0 => ?_)
    · refine Eq.trans ?_ (dkve_a (h := ⟨j.val / 256, by omega⟩) (l := ⟨j.val % 256, by omega⟩) (by dsimp only <;> omega)).symm
      refine dite_case (fun g1 => ?_) (fun g1 => ?_)
      · exact dkp_at (launchContents m c) i (by dsimp only) (by dsimp only)
      · exact (dkp_z _ _ _ g1).symm
    · exact (dkve_b (I := inp (launchContents m c)) (i := i) (n := j) (h := ⟨(j.val - 1024) / 128, by omega⟩) (l := ⟨(j.val - 1024) % 128, by omega⟩) (by dsimp only <;> omega)).symm
  · rw [h3]
    clear h h0 h1 h2 h3
    pointwise
    refine dite_case (fun g => ?_) (fun g => ?_)
    · simp only [v15_at, v62_at hF]
      show (_ : EReal) = _
      exact Finset.sum_congr rfl fun x _ => (nrow_a x j ⟨j.val, g⟩ rfl).symm
    · simp only [v94_at, v106_at]
      show (_ : EReal) = _
      exact Finset.sum_congr rfl fun x _ => (nrow_b x j ⟨j.val - 256, by omega⟩ (by dsimp only <;> omega)).symm

end Cert.MlaRef

end
-- ==== Proof.MlaHost.lean ====
/- The MLA gradients' kernel: what the host code hands it, and its blocks, entry by entry. -/
module

public import proofs.«01_k».proof.Proof.MlaSpec
public import proofs.«01_k».proof.Proof.Gen.Kernel10Ideal.Frame
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.MlaHost

open Idealize.ShloMosaic Idealize.ShloMosaic.TcCoe Idealize.SL.Sem Cert.Kernel10Ideal Cert.Kernel10Ideal.Gen Cert.MlaSpec Cert.Row

variable (m : (ℓ : Loc nD τ sig) → Buf (Elt Ideal) ℓ) (c : Dev nD)

abbrev arg0 : FVec Ideal S4096x256 .f32 := m ((c : Thread nD τ).loc main_arg0)
abbrev arg1 : FVec Ideal S4096x256 .f32 := m ((c : Thread nD τ).loc main_arg1)
abbrev arg2 : FVec Ideal S4096x32 .f32 := m ((c : Thread nD τ).loc main_arg2)
abbrev arg3 : FVec Ideal S4096x32 .f32 := m ((c : Thread nD τ).loc main_arg3)
abbrev arg4 : FVec Ideal S1x256 .f32 := m ((c : Thread nD τ).loc main_arg4)
abbrev arg5 : FVec Ideal S1x256 .f32 := m ((c : Thread nD τ).loc main_arg5)
abbrev arg6 : FVec Ideal S256x768 .f32 := m ((c : Thread nD τ).loc main_arg6)
abbrev arg7 : FVec Ideal S256x1024 .f32 := m ((c : Thread nD τ).loc main_arg7)
abbrev arg8 : FVec Ideal S4x4096x192 .f32 := m ((c : Thread nD τ).loc main_arg8)
abbrev arg9 : FVec Ideal S4x4096x192 .f32 := m ((c : Thread nD τ).loc main_arg9)
abbrev arg10 : FVec Ideal S4x4096x128 .f32 := m ((c : Thread nD τ).loc main_arg10)

/-- The arguments, as functions of row and column. -/
def inp : In where
  cq i j := arg0 m c (ix2 i j)
  ckv i j := arg1 m c (ix2 i j)
  co i j := arg2 m c (ix2 i j)
  si i j := arg3 m c (ix2 i j)
  qn j := arg4 m c (ix2 0 j)
  kn j := arg5 m c (ix2 0 j)
  wq i j := arg6 m c (ix2 i j)
  wkv i j := arg7 m c (ix2 i j)
  dq h i j := arg8 m c (ix3 h i j)
  dk h i j := arg9 m c (ix3 h i j)
  dv h i j := arg10 m c (ix3 h i j)

theorem V11_at (h : Fin 4) (i : Fin 4096) (l : Fin 256) : (V m c main_v11 : FVec Ideal S4x4096x256 .bf16) (ix3 h i l) = dqp (inp m c) h i l := by
  unfold V
  simp only [hostOps0, List.flatten_cons, List.flatten_nil, List.append_nil, List.cons_append, List.nil_append]
  after_reads_simp
  pointwise
  after_reads_simp
  pointwise
  rfl

theorem V14_at (h : Fin 4) (i : Fin 4096) (l : Fin 256) : (V m c main_v14 : FVec Ideal S4x4096x256 .bf16) (ix3 h i l) = dkp (inp m c) h i l := by
  unfold V
  simp only [hostOps0, List.flatten_cons, List.flatten_nil, List.append_nil, List.cons_append, List.nil_append]
  after_reads_simp
  pointwise
  after_reads_simp
  pointwise
  rfl

theorem V15_at (h : Fin 4) (i : Fin 4096) (l : Fin 128) : (V m c main_v15 : FVec Ideal S4x4096x128 .bf16) (ix3 h i l) = (inp m c).dv h i l := by
  unfold V
  simp only [hostOps0, List.flatten_cons, List.flatten_nil, List.append_nil, List.cons_append, List.nil_append]
  after_reads_simp
  pointwise
  rfl

theorem V6_at (i : Fin 4096) (l : Fin 256) : (V m c main_v6 : FVec Ideal S4096x256 .f32) (ix2 i l) = cc (inp m c) i l := by
  unfold V
  simp only [hostOps0, List.flatten_cons, List.flatten_nil, List.append_nil, List.cons_append, List.nil_append]
  after_reads_simp
  pointwise
  after_reads_simp
  pointwise
  rfl

theorem V8_at (i : Fin 4096) (l : Fin 256) : (V m c main_v8 : FVec Ideal S4096x256 .f32) (ix2 i l) = ss (inp m c) i l := by
  unfold V
  simp only [hostOps0, List.flatten_cons, List.flatten_nil, List.append_nil, List.cons_append, List.nil_append]
  after_reads_simp
  pointwise
  after_reads_simp
  pointwise
  rfl

theorem V2q_at (i : Fin 4096) (j : Fin 256) : (V m c main_v2 : FVec Ideal S4096x3072 .f32) (ix2 i (⟨2048 + j.val, by omega⟩ : Fin 3072)) = (inp m c).cq i j := by
  unfold V
  simp only [hostOps0, List.flatten_cons, List.flatten_nil, List.append_nil, List.cons_append, List.nil_append]
  after_reads_simp
  pointwise
  rfl

theorem V2k_at (i : Fin 4096) (j : Fin 256) : (V m c main_v2 : FVec Ideal S4096x3072 .f32) (ix2 i (⟨2304 + j.val, by omega⟩ : Fin 3072)) = (inp m c).ckv i j := by
  unfold V
  simp only [hostOps0, List.flatten_cons, List.flatten_nil, List.append_nil, List.cons_append, List.nil_append]
  after_reads_simp
  pointwise
  after_reads_simp
  pointwise
  split_ifs
  all_goals first
    | omega
    | exact congrArg (fun q => (inp m c).ckv i q) (Fin.ext (by simp only; omega))

theorem dite_case {p : Prop} [Decidable p] {a : p → EReal} {b : ¬p → EReal} {x : EReal} (h1 : ∀ h, a h = x) (h2 : ∀ h, b h = x) : dite p a b = x := by
  by_cases h : p
  · rw [dif_pos h]; exact h1 h
  · rw [dif_neg h]; exact h2 h

set_option maxHeartbeats 1600000 in
theorem V52_at (n : Fin 2048) (r : Fin 256) : (V m c main_v52 : FVec Ideal S2048x256 .bf16) (ix2 n r) = we (inp m c) n r := by
  have rd : ∀ q : Fin 768, m (c, Proc.tc.devRef main_arg6) (ix2 r q) = (inp m c).wq r q := fun q => rfl
  have nrd : ∀ q : Fin 768, -(show EReal from m (c, Proc.tc.devRef main_arg6) (ix2 r q)) = -(inp m c).wq r q := fun q => rfl
  unfold V
  simp only [hostOps0, List.flatten_cons, List.flatten_nil, List.append_nil, List.cons_append, List.nil_append]
  after_reads_simp
  pointwise
  refine dite_case (fun h0 => ?_) (fun h0 => ?_)
  · after_reads_simp
    pointwise
    refine dite_case (fun g => ?_) (fun g => ?_)
    · exact (rd _).trans (we_a (by omega) (by omega) (by dsimp only; omega)).symm
    · exact (we_z (by omega) (by omega)).symm
  refine dite_case (fun h1 => ?_) (fun h1 => ?_)
  · after_reads_simp
    pointwise
    refine dite_case (fun g => ?_) (fun g => ?_)
    · exact (rd _).trans (we_a (by omega) (by omega) (by dsimp only; omega)).symm
    · exact (we_z (by omega) (by omega)).symm
  refine dite_case (fun h2 => ?_) (fun h2 => ?_)
  · after_reads_simp
    pointwise
    refine dite_case (fun g => ?_) (fun g => ?_)
    · exact (rd _).trans (we_a (by omega) (by omega) (by dsimp only; omega)).symm
    · exact (we_z (by omega) (by omega)).symm
  refine dite_case (fun h3 => ?_) (fun h3 => ?_)
  · after_reads_simp
    pointwise
    refine dite_case (fun g => ?_) (fun g => ?_)
    · exact (rd _).trans (we_a (by omega) (by omega) (by dsimp only; omega)).symm
    · exact (we_z (by omega) (by omega)).symm
  refine dite_case (fun h4 => ?_) (fun h4 => ?_)
  · after_reads_simp
    pointwise
    after_reads_simp
    pointwise
    refine dite_case (fun g => ?_) (fun g => ?_)
    · exact (we_r0 (by omega) (by omega)).symm
    refine dite_case (fun g2 => ?_) (fun g2 => ?_)
    · refine dite_case (fun g3 => ?_) (fun g3 => ?_)
      · exact (nrd _).trans (we_r1 (by omega) (by omega) (by omega) (by dsimp only; omega)).symm
      · exact (rd _).trans (we_r2 (by omega) (by omega) (by omega) (by omega) (by dsimp only; omega)).symm
    · exact (we_r3 (by omega) (by omega)).symm
  refine dite_case (fun h5 => ?_) (fun h5 => ?_)
  · after_reads_simp
    pointwise
    after_reads_simp
    pointwise
    refine dite_case (fun g => ?_) (fun g => ?_)
    · exact (we_r0 (by omega) (by omega)).symm
    refine dite_case (fun g2 => ?_) (fun g2 => ?_)
    · refine dite_case (fun g3 => ?_) (fun g3 => ?_)
      · exact (nrd _).trans (we_r1 (by omega) (by omega) (by omega) (by dsimp only; omega)).symm
      · exact (rd _).trans (we_r2 (by omega) (by omega) (by omega) (by omega) (by dsimp only; omega)).symm
    · exact (we_r3 (by omega) (by omega)).symm
  refine dite_case (fun h6 => ?_) (fun h6 => ?_)
  · after_reads_simp
    pointwise
    after_reads_simp
    pointwise
    refine dite_case (fun g => ?_) (fun g => ?_)
    · exact (we_r0 (by omega) (by omega)).symm
    refine dite_case (fun g2 => ?_) (fun g2 => ?_)
    · refine dite_case (fun g3 => ?_) (fun g3 => ?_)
      · exact (nrd _).trans (we_r1 (by omega) (by omega) (by omega) (by dsimp only; omega)).symm
      · exact (rd _).trans (we_r2 (by omega) (by omega) (by omega) (by omega) (by dsimp only; omega)).symm
    · exact (we_r3 (by omega) (by omega)).symm
  after_reads_simp
  pointwise
  after_reads_simp
  pointwise
  refine dite_case (fun g => ?_) (fun g => ?_)
  · exact (we_r0 (by omega) (by omega)).symm
  refine dite_case (fun g2 => ?_) (fun g2 => ?_)
  · refine dite_case (fun g3 => ?_) (fun g3 => ?_)
    · exact (nrd _).trans (we_r1 (by omega) (by omega) (by omega) (by dsimp only; omega)).symm
    · exact (rd _).trans (we_r2 (by omega) (by omega) (by omega) (by omega) (by dsimp only; omega)).symm
  · exact (we_r3 (by omega) (by omega)).symm

set_option maxHeartbeats 1600000 in
theorem V76_at (r : Fin 256) (n : Fin 1536) : (V m c main_v76 : FVec Ideal S256x1536 .bf16) (ix2 r n) = kwe (inp m c) r n := by
  have rd : ∀ q : Fin 1024, m (c, Proc.tc.devRef main_arg7) (ix2 r q) = (inp m c).wkv r q := fun q => rfl
  unfold V
  simp only [hostOps0, List.flatten_cons, List.flatten_nil, List.append_nil, List.cons_append, List.nil_append]
  after_reads_simp
  pointwise
  refine dite_case (fun h0 => ?_) (fun h0 => ?_)
  · after_reads_simp
    pointwise
    refine dite_case (fun g => ?_) (fun g => ?_)
    · exact (rd _).trans (kwe_a (by omega) (by omega) (by dsimp only; omega)).symm
    · exact (kwe_z (by omega) (by omega)).symm
  refine dite_case (fun h1 => ?_) (fun h1 => ?_)
  · after_reads_simp
    pointwise
    refine dite_case (fun g => ?_) (fun g => ?_)
    · exact (rd _).trans (kwe_a (by omega) (by omega) (by dsimp only; omega)).symm
    · exact (kwe_z (by omega) (by omega)).symm
  refine dite_case (fun h2 => ?_) (fun h2 => ?_)
  · after_reads_simp
    pointwise
    refine dite_case (fun g => ?_) (fun g => ?_)
    · exact (rd _).trans (kwe_a (by omega) (by omega) (by dsimp only; omega)).symm
    · exact (kwe_z (by omega) (by omega)).symm
  refine dite_case (fun h3 => ?_) (fun h3 => ?_)
  · after_reads_simp
    pointwise
    refine dite_case (fun g => ?_) (fun g => ?_)
    · exact (rd _).trans (kwe_a (by omega) (by omega) (by dsimp only; omega)).symm
    · exact (kwe_z (by omega) (by omega)).symm
  refine dite_case (fun h4 => ?_) (fun h4 => ?_)
  · after_reads_simp
    pointwise
    exact (rd _).trans (kwe_b (by omega) (by dsimp only; omega)).symm
  refine dite_case (fun h5 => ?_) (fun h5 => ?_)
  · after_reads_simp
    pointwise
    exact (rd _).trans (kwe_b (by omega) (by dsimp only; omega)).symm
  refine dite_case (fun h6 => ?_) (fun h6 => ?_)
  · after_reads_simp
    pointwise
    exact (rd _).trans (kwe_b (by omega) (by dsimp only; omega)).symm
  after_reads_simp
  pointwise
  exact (rd _).trans (kwe_b (by omega) (by dsimp only; omega)).symm

/-! ## The blocks -/

theorem idx : ∀ t : Fin cfg0.N, win0_0.index t = ![0, t.val, 0] ∧ win0_1.index t = ![0, t.val, 0] ∧ win0_2.index t = ![0, t.val, 0]
    ∧ win0_3.index t = ![t.val, 2] ∧ win0_4.index t = ![t.val, 0] ∧ win0_5.index t = ![t.val, 0] ∧ win0_6.index t = ![0, 0]
    ∧ win0_7.index t = ![0, 0] ∧ win0_8.index t = ![0, 0] ∧ win0_9.index t = ![0, 0] :=
  (by decide +kernel : ∀ t : Fin grid0.N, _)

theorem lt8 (t : Fin cfg0.N) : t.val < 8 := lt_of_lt_of_eq t.isLt N_0

abbrev rowOf (t : Fin cfg0.N) (i : Fin 512) : Fin 4096 := ⟨t.val * 512 + i, by have := lt8 t; omega⟩

theorem blk0 (t : Fin cfg0.N) (h : Fin 4) (i : Fin 512) (l : Fin 256) :
    (iblk m c 0 t : FVec Ideal S4x512x256 .bf16) (ix3 h i l) = dqp (inp m c) h (rowOf t i) l := by
  rw [← V11_at]
  blk_point [iblk, idx t]

theorem blk1 (t : Fin cfg0.N) (h : Fin 4) (i : Fin 512) (l : Fin 256) :
    (iblk m c 1 t : FVec Ideal S4x512x256 .bf16) (ix3 h i l) = dkp (inp m c) h (rowOf t i) l := by
  rw [← V14_at]
  blk_point [iblk, idx t]

theorem blk2 (t : Fin cfg0.N) (h : Fin 4) (i : Fin 512) (l : Fin 128) :
    (iblk m c 2 t : FVec Ideal S4x512x128 .bf16) (ix3 h i l) = (inp m c).dv h (rowOf t i) l := by
  rw [← V15_at]
  blk_point [iblk, idx t]

theorem blk3q (t : Fin cfg0.N) (i : Fin 512) (l : Fin 256) :
    (iblk m c 3 t : FVec Ideal S512x1024 .f32) (ix2 i (⟨l, by omega⟩ : Fin 1024)) = (inp m c).cq (rowOf t i) l := by
  rw [← V2q_at]
  blk_point [iblk, idx t]

theorem blk3k (t : Fin cfg0.N) (i : Fin 512) (l : Fin 256) :
    (iblk m c 3 t : FVec Ideal S512x1024 .f32) (ix2 i (⟨256 + l, by omega⟩ : Fin 1024)) = (inp m c).ckv (rowOf t i) l := by
  rw [← V2k_at]
  blk_point [iblk, idx t]

theorem blk4 (t : Fin cfg0.N) (i : Fin 512) (l : Fin 256) :
    (iblk m c 4 t : FVec Ideal S512x256 .f32) (ix2 i l) = cc (inp m c) (rowOf t i) l := by
  rw [← V6_at]
  blk_point [iblk, idx t]

theorem blk5 (t : Fin cfg0.N) (i : Fin 512) (l : Fin 256) :
    (iblk m c 5 t : FVec Ideal S512x256 .f32) (ix2 i l) = ss (inp m c) (rowOf t i) l := by
  rw [← V8_at]
  blk_point [iblk, idx t]

theorem blk6 (t : Fin cfg0.N) (n : Fin 2048) (r : Fin 256) :
    (iblk m c 6 t : FVec Ideal S2048x256 .bf16) (ix2 n r) = we (inp m c) n r := by
  rw [← V52_at]
  blk_point [iblk, idx t]

theorem blk7 (t : Fin cfg0.N) (r : Fin 256) (n : Fin 1536) :
    (iblk m c 7 t : FVec Ideal S256x1536 .bf16) (ix2 r n) = kwe (inp m c) r n := by
  rw [← V76_at]
  blk_point [iblk, idx t]

theorem blk8 (t : Fin cfg0.N) (j : Fin 256) : (iblk m c 8 t : FVec Ideal S1x256 .f32) (ix2 0 j) = (inp m c).qn j := by
  unfold inp
  dsimp only
  blk_point [iblk, V_main_arg4, idx t]

theorem blk9 (t : Fin cfg0.N) (j : Fin 256) : (iblk m c 9 t : FVec Ideal S1x256 .f32) (ix2 0 j) = (inp m c).kn j := by
  unfold inp
  dsimp only
  blk_point [iblk, V_main_arg5, idx t]

end Cert.MlaHost

end
-- ==== Proof.MlaOuts.lean ====
/- The MLA gradients' kernel at one point of its grid: what it stores, entry by entry. -/
module

public import proofs.«01_k».proof.Proof.MlaHost

@[expose] public section

set_option maxRecDepth 16384

noncomputable section

namespace Cert.MlaOuts

open Idealize.ShloMosaic Idealize.ShloMosaic.TcCoe Idealize.SL.Sem Cert.Kernel10Ideal Cert.Kernel10Ideal.Gen Cert.MlaSpec Cert.Row Cert.RmsRow Cert.MlaHost

variable (m : (ℓ : Loc nD τ sig) → Buf (Elt Ideal) ℓ) (c : Dev nD)

/-! ## The gradients of queries, keys and values in the extended columns -/

variable (t : Fin cfg0.N)

theorem ldq (h : Fin 4) (hb : ∀ k, (![h.val, 0, 0] : Fin 3 → ℕ) k + (![1, 512, 256] : Fin 3 → ℕ) k ≤ S4x512x256.size k) (i : Fin 512) (l : Fin 256) :
    (View.ld (Val := Elt Ideal) (e' := .bf16) (iblk m c 0 t) (Rect.unit (s := S4x512x256) ![h.val, 0, 0] ![1, 512, 256] hb)) (ix3 (0 : Fin 1) i l)
      = dqp (inp m c) h (rowOf t i) l := by
  rw [← blk0 m c t]
  refine congrArg (iblk m c 0 t) (funext fun k => Fin.ext ?_)
  fin_cases k <;> simp [Rect.unit]

theorem ldk (h : Fin 4) (hb : ∀ k, (![h.val, 0, 0] : Fin 3 → ℕ) k + (![1, 512, 256] : Fin 3 → ℕ) k ≤ S4x512x256.size k) (i : Fin 512) (l : Fin 256) :
    (View.ld (Val := Elt Ideal) (e' := .bf16) (iblk m c 1 t) (Rect.unit (s := S4x512x256) ![h.val, 0, 0] ![1, 512, 256] hb)) (ix3 (0 : Fin 1) i l)
      = dkp (inp m c) h (rowOf t i) l := by
  rw [← blk1 m c t]
  refine congrArg (iblk m c 1 t) (funext fun k => Fin.ext ?_)
  fin_cases k <;> simp [Rect.unit]

theorem ldv (h : Fin 4) (hb : ∀ k, (![h.val, 0, 0] : Fin 3 → ℕ) k + (![1, 512, 128] : Fin 3 → ℕ) k ≤ S4x512x128.size k) (i : Fin 512) (l : Fin 128) :
    (View.ld (Val := Elt Ideal) (e' := .bf16) (iblk m c 2 t) (Rect.unit (s := S4x512x128) ![h.val, 0, 0] ![1, 512, 128] hb)) (ix3 (0 : Fin 1) i l)
      = (inp m c).dv h (rowOf t i) l := by
  rw [← blk2 m c t]
  refine congrArg (iblk m c 2 t) (funext fun k => Fin.ext ?_)
  fin_cases k <;> simp [Rect.unit]

/-- The scaled gradient of a query times a rotary factor. -/
theorem lo (x : Vec Ideal S1x512x256 .bf16) (y : FVec Ideal S512x256 .f32) (i : Fin 512) (l : Fin 256) (n : Fin 2048) (h : Fin 4)
    (hx : x (ix3 0 i l) = dqp (inp m c) h (rowOf t i) l) (hy : y (ix2 i l) = cc (inp m c) (rowOf t i) l) (e : n.val = h.val * 256 + l.val) :
    k0_pay15 (F := Ideal) y x (ix2 i l) = dqe (inp m c) (rowOf t i) n := by
  pointwise [k0_pay15, k0_pay13]
  rw [hx, hy, dqe_a e]
  rfl

theorem hi (x : Vec Ideal S1x512x256 .bf16) (y : FVec Ideal S512x256 .f32) (i : Fin 512) (l : Fin 256) (n : Fin 2048) (h : Fin 4)
    (hx : x (ix3 0 i l) = dqp (inp m c) h (rowOf t i) l) (hy : y (ix2 i l) = ss (inp m c) (rowOf t i) l) (e : n.val = 1024 + h.val * 256 + l.val) :
    k0_pay15 (F := Ideal) y x (ix2 i l) = dqe (inp m c) (rowOf t i) n := by
  pointwise [k0_pay15, k0_pay13]
  rw [hx, hy, dqe_b e]
  rfl

theorem c4 (i : Fin 512) (l : Fin 256) : k0_pay5 (F := Ideal) (iblk m c 4 t) (ix2 i l) = cc (inp m c) (rowOf t i) l := by
  pointwise [k0_pay5]
  exact blk4 m c t i l

theorem s5 (i : Fin 512) (l : Fin 256) : k0_pay6 (F := Ideal) (iblk m c 5 t) (ix2 i l) = ss (inp m c) (rowOf t i) l := by
  pointwise [k0_pay6]
  exact blk5 m c t i l

theorem out11A (h0 : t.val % 8 = 0) (y0 : Fin 512) (y1 : Fin 2048) :
    (outsAt0 m c t.val t.isLt).2.1 (ix2 y0 y1) = dqe (inp m c) (rowOf t y0) y1 := by
  rw [outsAt0_A m c t h0]
  frame_out
  canon_tiles x e
  all_goals
    idx_vars x
    obtain rfl : y0 = x0 := Fin.ext e0
  · exact hi m c t _ _ _ _ _ 3 (ldq m c t 3 _ _ _) (s5 m c t _ _) e1
  · exact lo m c t _ _ _ _ _ 3 (ldq m c t 3 _ _ _) (c4 m c t _ _) e1
  · exact hi m c t _ _ _ _ _ 2 (ldq m c t 2 _ _ _) (s5 m c t _ _) e1
  · exact lo m c t _ _ _ _ _ 2 (ldq m c t 2 _ _ _) (c4 m c t _ _) e1
  · exact hi m c t _ _ _ _ _ 1 (ldq m c t 1 _ _ _) (s5 m c t _ _) e1
  · exact lo m c t _ _ _ _ _ 1 (ldq m c t 1 _ _ _) (c4 m c t _ _) (by simpa using e1)
  · exact hi m c t _ (k0_pay6 (F := Ideal) (iblk m c 5 t)) _ _ _ 0 (ldq m c t 0 _ _ _) (s5 m c t _ _) (by simpa using e1)
  · exact lo m c t _ (k0_pay5 (F := Ideal) (iblk m c 4 t)) _ _ _ 0 (ldq m c t 0 _ _ _) (c4 m c t _ _) (by simpa using e1)

theorem out11B (h0 : ¬t.val % 8 = 0) (y0 : Fin 512) (y1 : Fin 2048) :
    (outsAt0 m c t.val t.isLt).2.1 (ix2 y0 y1) = dqe (inp m c) (rowOf t y0) y1 := by
  rw [outsAt0_B m c t h0]
  frame_out
  canon_tiles x e
  all_goals
    idx_vars x
    obtain rfl : y0 = x0 := Fin.ext e0
  · exact hi m c t _ _ _ _ _ 3 (ldq m c t 3 _ _ _) (s5 m c t _ _) e1
  · exact lo m c t _ _ _ _ _ 3 (ldq m c t 3 _ _ _) (c4 m c t _ _) e1
  · exact hi m c t _ _ _ _ _ 2 (ldq m c t 2 _ _ _) (s5 m c t _ _) e1
  · exact lo m c t _ _ _ _ _ 2 (ldq m c t 2 _ _ _) (c4 m c t _ _) e1
  · exact hi m c t _ _ _ _ _ 1 (ldq m c t 1 _ _ _) (s5 m c t _ _) e1
  · exact lo m c t _ _ _ _ _ 1 (ldq m c t 1 _ _ _) (c4 m c t _ _) (by simpa using e1)
  · exact hi m c t _ (k0_pay6 (F := Ideal) (iblk m c 5 t)) _ _ _ 0 (ldq m c t 0 _ _ _) (s5 m c t _ _) (by simpa using e1)
  · exact lo m c t _ (k0_pay5 (F := Ideal) (iblk m c 4 t)) _ _ _ 0 (ldq m c t 0 _ _ _) (c4 m c t _ _) (by simpa using e1)

theorem kk (x : Vec Ideal S1x512x256 .bf16) (i : Fin 512) (l : Fin 256) (n : Fin 1536) (h : Fin 4)
    (hx : x (ix3 0 i l) = dkp (inp m c) h (rowOf t i) l) (e : n.val = h.val * 256 + l.val) :
    k0_pay8 (F := Ideal) x (ix2 i l) = dkve (inp m c) (rowOf t i) n := by
  pointwise [k0_pay8]
  rw [hx, dkve_a e]

theorem vv (x : Vec Ideal S1x512x128 .bf16) (i : Fin 512) (l : Fin 128) (n : Fin 1536) (h : Fin 4)
    (hx : x (ix3 0 i l) = (inp m c).dv h (rowOf t i) l) (e : n.val = 1024 + h.val * 128 + l.val) :
    k0_pay11 (F := Ideal) x (ix2 i l) = dkve (inp m c) (rowOf t i) n := by
  pointwise [k0_pay11]
  rw [hx, dkve_b e]

theorem out12A (h0 : t.val % 8 = 0) (y0 : Fin 512) (y1 : Fin 1536) :
    (outsAt0 m c t.val t.isLt).2.2.1 (ix2 y0 y1) = dkve (inp m c) (rowOf t y0) y1 := by
  rw [outsAt0_A m c t h0]
  frame_out
  canon_tiles x e using View.cover_of_tiledBy _ ![512, 128] (by sl_kernel_rfl) _
  all_goals
    idx_vars x
    obtain rfl : y0 = x0 := Fin.ext e0
  · exact vv m c t _ _ _ _ 3 (ldv m c t 3 _ _ _) e1
  · exact kk m c t _ _ _ _ 3 (ldk m c t 3 _ _ _) e1
  · exact vv m c t _ _ _ _ 2 (ldv m c t 2 _ _ _) e1
  · exact kk m c t _ _ _ _ 2 (ldk m c t 2 _ _ _) e1
  · exact vv m c t _ _ _ _ 1 (ldv m c t 1 _ _ _) e1
  · exact kk m c t _ _ _ _ 1 (ldk m c t 1 _ _ _) (by simpa using e1)
  · exact vv m c t _ _ _ _ 0 (ldv m c t 0 _ _ _) (by simpa using e1)
  · exact kk m c t _ _ _ _ 0 (ldk m c t 0 _ _ _) (by simpa using e1)

theorem out12B (h0 : ¬t.val % 8 = 0) (y0 : Fin 512) (y1 : Fin 1536) :
    (outsAt0 m c t.val t.isLt).2.2.1 (ix2 y0 y1) = dkve (inp m c) (rowOf t y0) y1 := by
  rw [outsAt0_B m c t h0]
  frame_out
  canon_tiles x e using View.cover_of_tiledBy _ ![512, 128] (by sl_kernel_rfl) _
  all_goals
    idx_vars x
    obtain rfl : y0 = x0 := Fin.ext e0
  · exact vv m c t _ _ _ _ 3 (ldv m c t 3 _ _ _) e1
  · exact kk m c t _ _ _ _ 3 (ldk m c t 3 _ _ _) e1
  · exact vv m c t _ _ _ _ 2 (ldv m c t 2 _ _ _) e1
  · exact kk m c t _ _ _ _ 2 (ldk m c t 2 _ _ _) e1
  · exact vv m c t _ _ _ _ 1 (ldv m c t 1 _ _ _) e1
  · exact kk m c t _ _ _ _ 1 (ldk m c t 1 _ _ _) (by simpa using e1)
  · exact vv m c t _ _ _ _ 0 (ldv m c t 0 _ _ _) (by simpa using e1)
  · exact kk m c t _ _ _ _ 0 (ldk m c t 0 _ _ _) (by simpa using e1)

end Cert.MlaOuts

end
-- ==== Proof.MlaSc.lean ====
/- The MLA gradients' kernel at one point of its grid: the projection's gradient and the running sums of the norms' weights. -/
module

public import proofs.«01_k».proof.Proof.MlaOuts

@[expose] public section

set_option maxRecDepth 16384

noncomputable section

namespace Cert.MlaSc

open Idealize.ShloMosaic Idealize.ShloMosaic.TcCoe Idealize.SL.Sem Cert.Kernel10Ideal Cert.Kernel10Ideal.Gen Cert.MlaSpec Cert.Row Cert.RmsRow Cert.MlaHost Cert.MlaOuts

variable (m : (ℓ : Loc nD τ sig) → Buf (Elt Ideal) ℓ) (c : Dev nD)

variable (t : Fin cfg0.N)

theorem ldcq (hb : ∀ k, (![0, 0] : Fin 2 → ℕ) k + (![512, 256] : Fin 2 → ℕ) k ≤ S512x1024.size k) (i : Fin 512) (l : Fin 256) :
    (View.ld (Val := Elt Ideal) (e' := .f32) (iblk m c 3 t) (Rect.unit (s := S512x1024) ![0, 0] ![512, 256] hb)) (ix2 i l)
      = (inp m c).cq (rowOf t i) l := by
  rw [← blk3q m c t]
  refine congrArg (iblk m c 3 t) (funext fun k => Fin.ext ?_)
  fin_cases k <;> simp [Rect.unit]

theorem ldckv (hb : ∀ k, (![0, 256] : Fin 2 → ℕ) k + (![512, 256] : Fin 2 → ℕ) k ≤ S512x1024.size k) (i : Fin 512) (l : Fin 256) :
    (View.ld (Val := Elt Ideal) (e' := .f32) (iblk m c 3 t) (Rect.unit (s := S512x1024) ![0, 256] ![512, 256] hb)) (ix2 i l)
      = (inp m c).ckv (rowOf t i) l := by
  rw [← blk3k m c t]
  refine congrArg (iblk m c 3 t) (funext fun k => Fin.ext ?_)
  fin_cases k <;> simp [Rect.unit]

/-- The sum of the keys' gradients over the heads. -/
abbrev peT (x0 x1 x2 x3 : Vec Ideal S1x512x256 .bf16) : FVec Ideal S512x256 .f32 :=
  k0_pay32 (F := Ideal) (k0_pay25 (k0_pay18 (k0_pay12 x0) x1) (k0_pay20 x2)) (k0_pay31 x3)

theorem pe_at (x0 x1 x2 x3 : Vec Ideal S1x512x256 .bf16) (i : Fin 512) (l : Fin 256)
    (h0 : x0 (ix3 0 i l) = dkp (inp m c) 0 (rowOf t i) l) (h1 : x1 (ix3 0 i l) = dkp (inp m c) 1 (rowOf t i) l)
    (h2 : x2 (ix3 0 i l) = dkp (inp m c) 2 (rowOf t i) l) (h3 : x3 (ix3 0 i l) = dkp (inp m c) 3 (rowOf t i) l) :
    peT x0 x1 x2 x3 (ix2 i l) = dpe (inp m c) (rowOf t i) l := by
  pointwise [peT, k0_pay32, k0_pay31, k0_pay27, k0_pay25, k0_pay20, k0_pay18, k0_pay14, k0_pay12, k0_pay8]
  rw [h0, h1, h2, h3]
  rfl

section norm

variable (A : Vec Ideal S512x2048 .bf16) (hA : ∀ i n, A (ix2 i n) = dqe (inp m c) (rowOf t i) n)
variable (B : Vec Ideal S512x1536 .bf16) (hB : ∀ i n, B (ix2 i n) = dkve (inp m c) (rowOf t i) n)
variable (X : Vec Ideal S512x256 .f32) (hX : ∀ i l, X (ix2 i l) = (inp m c).cq (rowOf t i) l)
variable (Y : Vec Ideal S512x256 .f32) (hY : ∀ i l, Y (ix2 i l) = (inp m c).ckv (rowOf t i) l)

include hA in
theorem q33 (i : Fin 512) (l : Fin 256) : k0_pay33 (F := Ideal) A (iblk m c 6 t) (ix2 i l) = dcqn (inp m c) (rowOf t i) l := by
  pointwise [k0_pay33]
  simp only [hA, blk6]
  rfl

include hB in
theorem q34 (i : Fin 512) (l : Fin 256) : k0_pay34 (F := Ideal) B (iblk m c 7 t) (ix2 i l) = dckvn (inp m c) (rowOf t i) l := by
  pointwise [k0_pay34]
  simp only [hB, blk7]
  rfl

include hX in
theorem q37 (i : Fin 512) : k0_pay37 (F := Ideal) X (ix2 i 0) = rinv ((inp m c).cq (rowOf t i)) := by
  pointwise [k0_pay37, k0_pay35]
  simp only [hX]
  rfl

include hY in
theorem q38 (i : Fin 512) : k0_pay38 (F := Ideal) Y (ix2 i 0) = rinv ((inp m c).ckv (rowOf t i)) := by
  pointwise [k0_pay38, k0_pay36]
  simp only [hY]
  rfl

include hX in
theorem q39 (i : Fin 512) (l : Fin 256) : k0_pay39 (F := Ideal) X (ix2 i l) = hat ((inp m c).cq (rowOf t i)) l := by
  pointwise [k0_pay39, k0_pay35]
  simp only [q37 m c t X hX, hX]
  rfl

include hA in
theorem q40 (i : Fin 512) (l : Fin 256) : k0_pay40 (F := Ideal) A (iblk m c 6 t) (iblk m c 8 t) (ix2 i l)
    = dcqn (inp m c) (rowOf t i) l * (inp m c).qn l := by
  pointwise [k0_pay40]
  simp only [q33 m c t A hA, blk8]

include hA hX in
theorem q46 (i : Fin 512) (l : Fin 256) :
    k0_pay46 (F := Ideal) (k0_pay37 X) (k0_pay39 X) (k0_pay40 A (iblk m c 6 t) (iblk m c 8 t)) (k0_pay41 A (iblk m c 6 t) X (iblk m c 8 t)) (ix2 i l)
      = closedGrad ((inp m c).cq (rowOf t i)) (fun r => dcqn (inp m c) (rowOf t i) r * (inp m c).qn r) l := by
  pointwise [k0_pay46, k0_pay41]
  simp only [q40 m c t A hA, q39 m c t X hX, q37 m c t X hX]
  rfl

include hY in
theorem q42 (i : Fin 512) (l : Fin 256) : k0_pay42 (F := Ideal) (k0_pay36 Y) (k0_pay38 Y) (ix2 i l) = hat ((inp m c).ckv (rowOf t i)) l := by
  pointwise [k0_pay42, k0_pay36]
  simp only [q38 m c t Y hY, hY]
  rfl

include hB hY in
theorem q43 (i : Fin 512) (l : Fin 256) :
    k0_pay1 (F := Ideal) (k0_pay43 (k0_pay34 B (iblk m c 7 t)) (k0_pay36 Y) (k0_pay38 Y) (iblk m c 9 t)) (ix2 i l)
      = closedGrad ((inp m c).ckv (rowOf t i)) (fun r => dckvn (inp m c) (rowOf t i) r * (inp m c).kn r) l := by
  pointwise [k0_pay1, k0_pay43]
  simp only [q34 m c t B hB, q42 m c t Y hY, q38 m c t Y hY, blk9]
  rfl

include hA hX in
theorem q44 (q : Vec Ideal S1x256 .f32) (l : Fin 256) (j : Fin 512) (e : j.val = l.val) :
    k0_pay44 (F := Ideal) (k0_pay33 A (iblk m c 6 t)) (k0_pay39 X) q (ix2 0 l) = q (ix2 0 l) + ∑ i, nrow (inp m c) (rowOf t i) j := by
  pointwise [k0_pay44]
  simp only [q33 m c t A hA, q39 m c t X hX]
  have e' : ∀ i, nrow (inp m c) (rowOf t i) j = dcqn (inp m c) (rowOf t i) l * hat ((inp m c).cq (rowOf t i)) l := fun i => by
    have e2 : (⟨j.val, by omega⟩ : Fin 256) = l := Fin.ext e
    unfold nrow
    rw [dif_pos (by omega), e2]
  simp only [e']

include hB hY in
theorem q45 (q : Vec Ideal S1x256 .f32) (l : Fin 256) (j : Fin 512) (e : j.val = 256 + l.val) :
    k0_pay45 (F := Ideal) (k0_pay34 B (iblk m c 7 t)) (k0_pay36 Y) (k0_pay38 Y) q (ix2 0 l) = q (ix2 0 l) + ∑ i, nrow (inp m c) (rowOf t i) j := by
  pointwise [k0_pay45]
  simp only [q34 m c t B hB, q42 m c t Y hY]
  have e' : ∀ i, nrow (inp m c) (rowOf t i) j = dckvn (inp m c) (rowOf t i) l * hat ((inp m c).ckv (rowOf t i)) l := fun i => by
    have e2 : (⟨j.val - 256, by omega⟩ : Fin 256) = l := Fin.ext (by simp only; omega)
    unfold nrow
    rw [dif_neg (by omega), e2]
  simp only [e']

end norm

theorem dz0 {I : In} {i : Fin 4096} {j : Fin 1024} {l : Fin 256} (e : j.val = l.val) :
    dz I i j = closedGrad (I.cq i) (fun r => dcqn I i r * I.qn r) l := by
  have e1 : (⟨j.val, by omega⟩ : Fin 256) = l := Fin.ext e
  unfold dz
  rw [dif_pos (by omega), e1]

theorem dz1 {I : In} {i : Fin 4096} {j : Fin 1024} {l : Fin 256} (e : j.val = 256 + l.val) :
    dz I i j = closedGrad (I.ckv i) (fun r => dckvn I i r * I.kn r) l := by
  have e1 : (⟨j.val - 256, by omega⟩ : Fin 256) = l := Fin.ext (by simp only; omega)
  unfold dz
  rw [dif_neg (by omega), dif_pos (by omega), e1]

theorem dz2 {I : In} {i : Fin 4096} {j : Fin 1024} {l : Fin 256} (e : j.val = 512 + l.val) : dz I i j = dpe I i l * cc I i l := by
  have e1 : (⟨j.val - 512, by omega⟩ : Fin 256) = l := Fin.ext (by simp only; omega)
  unfold dz
  rw [dif_neg (by omega), dif_neg (by omega), dif_pos (by omega), e1]

theorem dz3 {I : In} {i : Fin 4096} {j : Fin 1024} {l : Fin 256} (e : j.val = 768 + l.val) : dz I i j = dpe I i l * ss I i l := by
  have e1 : (⟨j.val - 768, by omega⟩ : Fin 256) = l := Fin.ext (by simp only; omega)
  unfold dz
  rw [dif_neg (by omega), dif_neg (by omega), dif_neg (by omega), e1]

theorem q2 (P Q : FVec Ideal S512x256 .f32) (i : Fin 512) (l : Fin 256) : k0_pay2 (F := Ideal) P Q (ix2 i l) = Q (ix2 i l) * P (ix2 i l) := by
  pointwise [k0_pay2]

theorem q3 (P Q : FVec Ideal S512x256 .f32) (i : Fin 512) (l : Fin 256) : k0_pay3 (F := Ideal) P Q (ix2 i l) = Q (ix2 i l) * P (ix2 i l) := by
  pointwise [k0_pay3]

/-- Reading an array through the box of all of it. -/
theorem whole {a b : ℕ} (X : (⟨2, ![a, b]⟩ : Shape).Idx → EReal)
    (hb : ∀ k, (![0, 0] : Fin 2 → ℕ) k + (![a, b] : Fin 2 → ℕ) k ≤ (⟨2, ![a, b]⟩ : Shape).size k) (y : (⟨2, ![a, b]⟩ : Shape).Idx) :
    X ((Rect.unit (s := (⟨2, ![a, b]⟩ : Shape)) ![0, 0] ![a, b] hb).toLoadRect.idx y) = X y := by
  refine congrArg X (funext fun k => Fin.ext ?_)
  fin_cases k <;> simp [Rect.unit]

theorem out10B (h0 : ¬t.val % 8 = 0) (y0 : Fin 512) (y1 : Fin 1024) :
    (outsAt0 m c t.val t.isLt).1 (ix2 y0 y1) = dz (inp m c) (rowOf t y0) y1 := by
  rw [outsAt0_B m c t h0]
  frame_out
  canon_tiles x e
  all_goals
    idx_vars x
    obtain rfl : y0 = x0 := Fin.ext e0
  · rw [dz3 e1, ← s5 m c t, ← pe_at m c t _ _ _ _ _ _ (ldk m c t 0 _ _ _) (ldk m c t 1 _ _ _) (ldk m c t 2 _ _ _) (ldk m c t 3 _ _ _)]
    exact q3 _ _ _ _
  · rw [dz2 e1, ← c4 m c t, ← pe_at m c t _ _ _ _ _ _ (ldk m c t 0 _ _ _) (ldk m c t 1 _ _ _) (ldk m c t 2 _ _ _) (ldk m c t 3 _ _ _)]
    exact q2 _ _ _ _
  · rw [dz1 e1]
    refine q43 m c t _ ?_ _ (ldckv m c t _) _ _
    intro i n
    rw [← out12B m c t h0, outsAt0_B m c t h0]
    frame_out
    rw [View.readCov_eq_canon']
    exact whole _ _ _
  · rw [dz0 (by simpa using e1)]
    refine q46 m c t _ ?_ _ (ldcq m c t _) _ _
    intro i n
    rw [← out11B m c t h0, outsAt0_B m c t h0]
    frame_out
    rw [View.readCov_eq_canon']
    exact whole _ _ _

theorem out10A (h0 : t.val % 8 = 0) (y0 : Fin 512) (y1 : Fin 1024) :
    (outsAt0 m c t.val t.isLt).1 (ix2 y0 y1) = dz (inp m c) (rowOf t y0) y1 := by
  rw [outsAt0_A m c t h0]
  frame_out
  canon_tiles x e
  all_goals
    idx_vars x
    obtain rfl : y0 = x0 := Fin.ext e0
  · rw [dz3 e1, ← s5 m c t, ← pe_at m c t _ _ _ _ _ _ (ldk m c t 0 _ _ _) (ldk m c t 1 _ _ _) (ldk m c t 2 _ _ _) (ldk m c t 3 _ _ _)]
    exact q3 _ _ _ _
  · rw [dz2 e1, ← c4 m c t, ← pe_at m c t _ _ _ _ _ _ (ldk m c t 0 _ _ _) (ldk m c t 1 _ _ _) (ldk m c t 2 _ _ _) (ldk m c t 3 _ _ _)]
    exact q2 _ _ _ _
  · rw [dz1 e1]
    refine q43 m c t _ ?_ _ (ldckv m c t _) _ _
    intro i n
    rw [← out12A m c t h0, outsAt0_A m c t h0]
    frame_out
    rw [View.readCov_eq_canon']
    exact whole _ _ _
  · rw [dz0 (by simpa using e1)]
    refine q46 m c t _ ?_ _ (ldcq m c t _) _ _
    intro i n
    rw [← out11A m c t h0, outsAt0_A m c t h0]
    frame_out
    rw [View.readCov_eq_canon']
    exact whole _ _ _

theorem ld_eq (Q : FVec Ideal S1x512 .f32) (o : ℕ) (hb : ∀ k, (![0, o] : Fin 2 → ℕ) k + (![1, 256] : Fin 2 → ℕ) k ≤ S1x512.size k)
    (x : Fin 256) (z : Fin 512) (h : z.val = o + x.val) :
    (View.ld (Val := Elt Ideal) (e' := .f32) Q (Rect.unit (s := S1x512) ![0, o] ![1, 256] hb)) (ix2 (0 : Fin 1) x) = Q (ix2 0 z) := by
  refine congrArg Q (funext fun k => Fin.ext ?_)
  fin_cases k
  · simp [Rect.unit]
  · simp [Rect.unit, h]

theorem out13B (h0 : ¬t.val % 8 = 0) (y1 : Fin 512) :
    (outsAt0 m c t.val t.isLt).2.2.2 (ix2 0 y1) = (outsAt0 m c (t.val - 1) (by omega)).2.2.2 (ix2 0 y1)
      + ∑ i, nrow (inp m c) (rowOf t i) y1 := by
  rw [outsAt0_B m c t h0]
  frame_out
  canon_tiles x e
  all_goals
    idx_vars x
    obtain rfl : x0 = 0 := Subsingleton.elim _ _
  · refine (q45 m c t _ ?_ _ (ldckv m c t _) _ x1 y1 e1).trans (congrArg (· + _) (ld_eq _ 256 _ x1 y1 e1))
    · intro i n
      rw [← out12B m c t h0, outsAt0_B m c t h0]
      frame_out
      rw [View.readCov_eq_canon']
      exact whole _ _ _
  · refine (q44 m c t _ ?_ _ (ldcq m c t _) _ x1 y1 (by simpa using e1)).trans (congrArg (· + _) (ld_eq _ 0 _ x1 y1 (by simpa using e1)))
    · intro i n
      rw [← out11B m c t h0, outsAt0_B m c t h0]
      frame_out
      rw [View.readCov_eq_canon']
      exact whole _ _ _

theorem embed (o : ℕ) (hb : ∀ k, (![0, o] : Fin 2 → ℕ) k + (![1, 256] : Fin 2 → ℕ) k ≤ S1x512.size k) (x : Fin 256) (z : Fin 512)
    (h : z.val = o + x.val) : (ix2 0 z : S1x512.Idx) = (Rect.unit (s := S1x512) ![0, o] ![1, 256] hb).emb (ix2 (0 : Fin 1) x) := by
  refine funext fun k => Fin.ext ?_
  fin_cases k
  · simp [Rect.unit, Rect.emb]
  · simp [Rect.unit, Rect.emb, h]

theorem canon_hi (w : S1x256.Idx → Elt Ideal .f32) (L : List (View.Piece (Elt Ideal) S1x512 .f32))
    (hb : ∀ k, (![0, 256] : Fin 2 → ℕ) k + (![1, 256] : Fin 2 → ℕ) k ≤ S1x512.size k) (l : Fin 256) (z : Fin 512) (h : z.val = 256 + l.val) :
    View.canon ((⟨Rect.unit (s := S1x512) ![0, 256] ![1, 256] hb, w⟩ : View.Piece (Elt Ideal) S1x512 .f32) :: L) (ix2 0 z) = w (ix2 0 l) := by
  rw [embed 256 hb l z h]
  exact View.canon_cons_emb _ _ _ _

theorem canon_lo (p : S1x256.Idx → Elt Ideal .f32) (L : List (View.Piece (Elt Ideal) S1x512 .f32))
    (hb : ∀ k, (![0, 256] : Fin 2 → ℕ) k + (![1, 256] : Fin 2 → ℕ) k ≤ S1x512.size k) (z : Fin 512) (h : z.val < 256) :
    View.canon ((⟨Rect.unit (s := S1x512) ![0, 256] ![1, 256] hb, p⟩ : View.Piece (Elt Ideal) S1x512 .f32) :: L) (ix2 0 z)
      = View.canon L (ix2 0 z) := by
  refine View.canon_cons_of_not_mem _ L ?_
  intro hm
  obtain ⟨j, -, hj⟩ := (LoadRect.mem_set _).mp hm (1 : Fin 2)
  have hj' : z.val = 256 + 1 * j := hj
  omega

theorem canon_first (w : S1x256.Idx → Elt Ideal .f32) (L : List (View.Piece (Elt Ideal) S1x512 .f32))
    (hb : ∀ k, (![0, 0] : Fin 2 → ℕ) k + (![1, 256] : Fin 2 → ℕ) k ≤ S1x512.size k) (l : Fin 256) (z : Fin 512) (h : z.val = l.val) :
    View.canon ((⟨Rect.unit (s := S1x512) ![0, 0] ![1, 256] hb, w⟩ : View.Piece (Elt Ideal) S1x512 .f32) :: L) (ix2 0 z) = w (ix2 0 l) := by
  rw [embed 0 hb l z (by omega)]
  exact View.canon_cons_emb _ _ _ _

theorem canon_skip (p : S1x256.Idx → Elt Ideal .f32) (L : List (View.Piece (Elt Ideal) S1x512 .f32))
    (hb : ∀ k, (![0, 0] : Fin 2 → ℕ) k + (![1, 256] : Fin 2 → ℕ) k ≤ S1x512.size k) (z : Fin 512) (h : 256 ≤ z.val) :
    View.canon ((⟨Rect.unit (s := S1x512) ![0, 0] ![1, 256] hb, p⟩ : View.Piece (Elt Ideal) S1x512 .f32) :: L) (ix2 0 z)
      = View.canon L (ix2 0 z) := by
  refine View.canon_cons_of_not_mem _ L ?_
  intro hm
  obtain ⟨j, hl, hj⟩ := (LoadRect.mem_set _).mp hm (1 : Fin 2)
  have hj' : z.val = 0 + 1 * j := hj
  have hl' : j < 256 := hl
  omega

theorem z4 (y : S1x512.Idx) : k0_pay4 (F := Ideal) y = 0 := by
  idx_vars y
  pointwise [k0_pay4]

theorem zero_canon (hb : ∀ k, (![0, 0] : Fin 2 → ℕ) k + (![1, 512] : Fin 2 → ℕ) k ≤ S1x512.size k) (y : S1x512.Idx) :
    View.canon [(⟨Rect.unit (s := S1x512) ![0, 0] ![1, 512] hb, k0_pay4 (F := Ideal)⟩ : View.Piece (Elt Ideal) S1x512 .f32)] y = 0 := by
  rw [View.canon_cons_unit_lit (S := S1x512) hb _ _ (by decide)]
  exact z4 y

theorem read_lo {sp : Space} {κ : Kind} (v : View sig κ sp S1x512 .f32) (hb : ∀ k, (![0, 0] : Fin 2 → ℕ) k + (![1, 512] : Fin 2 → ℕ) k ≤ S1x512.size k)
    (hr : ∀ k, (![0, 0] : Fin 2 → ℕ) k + (![1, 256] : Fin 2 → ℕ) k ≤ S1x512.size k) (y : S1x256.Idx) :
    v.readCov [(⟨Rect.unit (s := S1x512) ![0, 0] ![1, 512] hb, k0_pay4 (F := Ideal)⟩ : View.Piece (Elt Ideal) S1x512 .f32)]
      (Rect.unit (s := S1x512) ![0, 0] ![1, 256] hr).toLoadRect y = 0 := by
  rw [View.readCov_eq_canon']
  exact zero_canon _ _

theorem read_hi {sp : Space} {κ : Kind} (v : View sig κ sp S1x512 .f32) (p : S1x256.Idx → Elt Ideal .f32)
    (hb : ∀ k, (![0, 0] : Fin 2 → ℕ) k + (![1, 512] : Fin 2 → ℕ) k ≤ S1x512.size k)
    (hp : ∀ k, (![0, 0] : Fin 2 → ℕ) k + (![1, 256] : Fin 2 → ℕ) k ≤ S1x512.size k)
    (hr : ∀ k, (![0, 256] : Fin 2 → ℕ) k + (![1, 256] : Fin 2 → ℕ) k ≤ S1x512.size k) (l : Fin 256) :
    v.readCov [(⟨Rect.unit (s := S1x512) ![0, 0] ![1, 256] hp, p⟩ : View.Piece (Elt Ideal) S1x512 .f32),
        (⟨Rect.unit (s := S1x512) ![0, 0] ![1, 512] hb, k0_pay4 (F := Ideal)⟩ : View.Piece (Elt Ideal) S1x512 .f32)]
      (Rect.unit (s := S1x512) ![0, 256] ![1, 256] hr).toLoadRect (ix2 (0 : Fin 1) l) = 0 := by
  rw [View.readCov_eq_canon']
  have e : (Rect.unit (s := S1x512) ![0, 256] ![1, 256] hr).toLoadRect.idx (ix2 (0 : Fin 1) l) = ix2 0 (⟨256 + l.val, by omega⟩ : Fin 512) :=
    (embed 256 hr l ⟨256 + l.val, by omega⟩ rfl).symm
  show View.canon _ ((Rect.unit (s := S1x512) ![0, 256] ![1, 256] hr).toLoadRect.idx (ix2 (0 : Fin 1) l)) = 0
  rw [e, canon_skip _ _ _ _ (by simp only; omega)]
  exact zero_canon _ _

theorem out13A (h0 : t.val % 8 = 0) (y1 : Fin 512) :
    (outsAt0 m c t.val t.isLt).2.2.2 (ix2 0 y1) = ∑ i, nrow (inp m c) (rowOf t i) y1 := by
  rw [outsAt0_A m c t h0]
  frame_out
  by_cases h : y1.val < 256
  · refine (canon_lo _ _ _ y1 h).trans ((canon_first _ _ _ ⟨y1, h⟩ y1 rfl).trans ?_)
    refine (q44 m c t _ ?_ _ (ldcq m c t _) _ ⟨y1, h⟩ y1 rfl).trans ?_
    · intro i n
      rw [← out11A m c t h0, outsAt0_A m c t h0]
      frame_out
      rw [View.readCov_eq_canon']
      exact whole _ _ _
    · exact (congrArg (· + _) (read_lo _ _ _ _)).trans (zero_add _)
  · refine (canon_hi _ _ _ ⟨y1 - 256, by omega⟩ y1 (by simp only; omega)).trans ?_
    refine (q45 m c t _ ?_ _ (ldckv m c t _) _ ⟨y1 - 256, by omega⟩ y1 (by simp only; omega)).trans ?_
    · intro i n
      rw [← out12A m c t h0, outsAt0_A m c t h0]
      frame_out
      rw [View.readCov_eq_canon']
      exact whole _ _ _
    · exact (congrArg (· + _) (read_hi _ _ _ _ _ _)).trans (zero_add _)

end Cert.MlaSc

end
-- ==== Proof.MlaRun.lean ====
/- The MLA gradients' kernel run: its four results, entry by entry, as the functions of its arguments that `MlaSpec` names. -/
module

public import proofs.«01_k».proof.Proof.MlaSc
public import proofs.«01_k».proof.Proof.Gen.Kernel10Ideal.Value

@[expose] public section

set_option maxRecDepth 16384

noncomputable section

namespace Cert.MlaRun

open Idealize.ShloMosaic Idealize.ShloMosaic.TcCoe Idealize.SL.Sem Cert.Kernel10Ideal Cert.Kernel10Ideal.Gen Cert.MlaSpec Cert.Row Cert.MlaHost Cert.MlaOuts Cert.MlaSc

variable (m : (ℓ : Loc nD τ sig) → Buf (Elt Ideal) ℓ) (c : Dev nD)

theorem out10 (t : Fin cfg0.N) (y0 : Fin 512) (y1 : Fin 1024) :
    (outsAt0 m c t.val t.isLt).1 (ix2 y0 y1) = dz (inp m c) (rowOf t y0) y1 := by
  by_cases h0 : t.val % 8 = 0
  · exact out10A m c t h0 y0 y1
  · exact out10B m c t h0 y0 y1

theorem out11 (t : Fin cfg0.N) (y0 : Fin 512) (y1 : Fin 2048) :
    (outsAt0 m c t.val t.isLt).2.1 (ix2 y0 y1) = dqe (inp m c) (rowOf t y0) y1 := by
  by_cases h0 : t.val % 8 = 0
  · exact out11A m c t h0 y0 y1
  · exact out11B m c t h0 y0 y1

theorem out12 (t : Fin cfg0.N) (y0 : Fin 512) (y1 : Fin 1536) :
    (outsAt0 m c t.val t.isLt).2.2.1 (ix2 y0 y1) = dkve (inp m c) (rowOf t y0) y1 := by
  by_cases h0 : t.val % 8 = 0
  · exact out12A m c t h0 y0 y1
  · exact out12B m c t h0 y0 y1

/-- One block of rows' share of the norms' weights' gradients. -/
def rowBlock (z : Fin 512) (p : ℕ) : EReal :=
  if h : p < 8 then ∑ i : Fin 512, nrow (inp m c) ⟨p * 512 + i, by omega⟩ z else 0

theorem out13 (z : Fin 512) (n : ℕ) (hn : n < cfg0.N) :
    (outsAt0 m c n hn).2.2.2 (ix2 0 z) = ∑ p ∈ Finset.range (n + 1), rowBlock m c z p := by
  induction n with
  | zero =>
    refine (out13A m c ⟨0, hn⟩ rfl z).trans ?_
    rw [Finset.sum_range_one, rowBlock, dif_pos (by omega)]
  | succ n ih =>
    have h8 : n + 1 < 8 := lt8 ⟨n + 1, hn⟩
    refine (out13B m c ⟨n + 1, hn⟩ (by simp only; omega) z).trans ?_
    rw [Finset.sum_range_succ, ← ih (by omega), rowBlock, dif_pos h8]
    rfl

theorem out13_last (z : Fin 512) (n : ℕ) (hn : n < cfg0.N) (h7 : n = 7) : (outsAt0 m c n hn).2.2.2 (ix2 0 z) = dnw (inp m c) z := by
  subst h7
  refine (out13 m c z 7 hn).trans ?_
  unfold dnw
  rw [← Fin.sum_mul_add_fin 8 512, Finset.sum_range]
  refine Finset.sum_congr rfl fun p _ => ?_
  unfold rowBlock
  rw [dif_pos p.isLt]

/-- The result arrays. -/
def Gz : FVec Ideal S4096x1024 .bf16 := fun x => dz (inp m c) (x 0) (x 1)
def Gq : FVec Ideal S4096x2048 .bf16 := fun x => dqe (inp m c) (x 0) (x 1)
def Gkv : FVec Ideal S4096x1536 .bf16 := fun x => dkve (inp m c) (x 0) (x 1)
def Gnw : FVec Ideal S1x512 .f32 := fun x => dnw (inp m c) (x 1)

theorem idxO : ∀ t : Fin cfg0.N, win0_10.index t = ![t.val, 0] ∧ win0_11.index t = ![t.val, 0] ∧ win0_12.index t = ![t.val, 0] ∧ win0_13.index t = ![0, 0] :=
  (by decide +kernel : ∀ t : Fin grid0.N, _)

theorem final10 : (dats m 0 c).arrAt 10 cfg0.N = Gz m c := by
  refine (dats m 0 c).arrAt_eq_of_covers 10 (Gz m c) (by decide +kernel) fun t hf y => ?_
  blk_simp
  rw [after0_10]
  idx_vars y
  have e : ((View.whole main_v77_0).slice (win0_10.rect t)).emb (ix2 y0 y1) = ix2 (rowOf t y0) y1 := by
    blk_ext [idxO t]
  rw [e]
  exact out10 m c t y0 y1

theorem final11 : (dats m 0 c).arrAt 11 cfg0.N = Gq m c := by
  refine (dats m 0 c).arrAt_eq_of_covers 11 (Gq m c) (by decide +kernel) fun t hf y => ?_
  blk_simp
  rw [after0_11]
  idx_vars y
  have e : ((View.whole main_v77_1).slice (win0_11.rect t)).emb (ix2 y0 y1) = ix2 (rowOf t y0) y1 := by
    blk_ext [idxO t]
  rw [e]
  exact out11 m c t y0 y1

theorem final12 : (dats m 0 c).arrAt 12 cfg0.N = Gkv m c := by
  refine (dats m 0 c).arrAt_eq_of_covers 12 (Gkv m c) (by decide +kernel) fun t hf y => ?_
  blk_simp
  rw [after0_12]
  idx_vars y
  have e : ((View.whole main_v77_2).slice (win0_12.rect t)).emb (ix2 y0 y1) = ix2 (rowOf t y0) y1 := by
    blk_ext [idxO t]
  rw [e]
  exact out12 m c t y0 y1

theorem flush13 : ∀ t : Fin cfg0.N, (cfg0.win 13).flush t = true → t.val = 7 :=
  (by decide +kernel : ∀ t : Fin grid0.N, (cfg0.win 13).flush t = true → t.val = 7)

theorem final13 : (dats m 0 c).arrAt 13 cfg0.N = Gnw m c := by
  refine (dats m 0 c).arrAt_eq_of_covers 13 (Gnw m c) (by decide +kernel) fun t hf y => ?_
  have h7 := flush13 t hf
  blk_simp
  rw [after0_13]
  idx_vars y
  obtain rfl : y0 = 0 := Subsingleton.elim _ _
  have e : ((View.whole main_v77_3).slice (win0_13.rect t)).emb (ix2 0 y1) = ix2 0 y1 := by
    blk_ext [idxO t]
  rw [e]
  exact out13_last m c y1 t.val t.isLt h7

end Cert.MlaRun

end
-- ==== Proof.MlaPre.lean ====
/- What the precondition of the MLA projections' gradients says: every entry of every argument is a real number. -/
module

public import proofs.«01_k».proof.Proof.MlaHost
public import proofs.«01_k».proof.Proof.Pre
public import proofs.«01_k».proof.Proof.Gen.Pre_finite10
public import proofs.«01_k».proof.Defs

@[expose] public section

set_option maxRecDepth 16384

noncomputable section

namespace Cert.MlaPre

open Idealize.ShloMosaic Idealize.SL.Sem Cert.Pre_finite10 Cert.Row Cert.MlaSpec

instance : Subsingleton S_.Idx := ⟨fun a b => funext fun k => k.elim0⟩

/-- One argument's test, all ones: each of its entries is a real number. -/
theorem real_of_test {s : Shape} (a : FVec Ideal s .f32) (hb : S_.BroadcastsInDim s (![] : Fin 0 → Fin s.rank))
    {axes : List (Fin s.rank)} (hr : s.ReducesTo axes S_) (hu : 0 < S_.numel) (j : S_.Idx)
    (e : Host.reduce IntOp.andi (cmpf .olt (Host.absf a) (broadcastInDim s ![] hb (constant S_ .f32 0x7F800000#32)))
      (constantI S_ 1 1#1) hr hu j = 1#1) (i : s.Idx) : IsReal (show EReal from a i) :=
  Pre.real_of_test a hb hr hu j e i

theorem finite_of_pre (m : (ℓ : Loc Cert.Kernel10Ideal.nD Cert.Kernel10Ideal.τ Cert.Kernel10Ideal.sig) → Buf (Elt Ideal) ℓ)
    (h : Pre_Kernel10Ideal_finite10 m) (c : Dev Cert.Kernel10Ideal.nD) : Finite (MlaHost.inp m c) := by
  have e := congrFun (h c) (fun k => k.elim0)
  dsimp only [fn, fn_part1, fn_part2, fn_part3] at e
  clear h
  have split : ∀ (a b : IVec S_ 1) (j : S_.Idx), andi a b j = 1#1 → a j = 1#1 ∧ b j = 1#1 := fun a b j h =>
    (by decide : ∀ x y : BitVec 1, x &&& y = 1#1 → x = 1#1 ∧ y = 1#1) _ _ h
  have s := split _ _ _ e
  clear e
  obtain ⟨e, e10⟩ := s
  have s := split _ _ _ e
  clear e
  obtain ⟨e, e9⟩ := s
  have s := split _ _ _ e
  clear e
  obtain ⟨e, e8⟩ := s
  have s := split _ _ _ e
  clear e
  obtain ⟨e, e7⟩ := s
  have s := split _ _ _ e
  clear e
  obtain ⟨e, e6⟩ := s
  have s := split _ _ _ e
  clear e
  obtain ⟨e, e5⟩ := s
  have s := split _ _ _ e
  clear e
  obtain ⟨e, e4⟩ := s
  have s := split _ _ _ e
  clear e
  obtain ⟨e, e3⟩ := s
  have s := split _ _ _ e
  clear e
  obtain ⟨e, e2⟩ := s
  have s := split _ _ _ e
  clear e
  obtain ⟨e, e1⟩ := s
  have s := split _ _ _ e
  clear e
  obtain ⟨-, e0⟩ := s
  have r0 := real_of_test _ _ _ _ _ e0
  have r1 := real_of_test _ _ _ _ _ e1
  have r2 := real_of_test _ _ _ _ _ e2
  have r3 := real_of_test _ _ _ _ _ e3
  have r4 := real_of_test _ _ _ _ _ e4
  have r5 := real_of_test _ _ _ _ _ e5
  have r6 := real_of_test _ _ _ _ _ e6
  have r7 := real_of_test _ _ _ _ _ e7
  have r8 := real_of_test _ _ _ _ _ e8
  have r9 := real_of_test _ _ _ _ _ e9
  have r10 := real_of_test _ _ _ _ _ e10
  exact ⟨fun i j => r0 (ix2 i j), fun i j => r1 (ix2 i j), fun i j => r2 (ix2 i j), fun i j => r3 (ix2 i j), fun j => r4 (ix2 0 j), fun j => r5 (ix2 0 j),
    fun i j => r6 (ix2 i j), fun i j => r7 (ix2 i j), fun h i j => r8 (ix3 h i j), fun h i j => r9 (ix3 h i j), fun h i j => r10 (ix3 h i j)⟩

end Cert.MlaPre

end
-- ==== Proof.MlaBwd.lean ====
/- The frames and the value claim of the MLA projections' gradients (`Kernel10`, `Reference10`): the runs of the two programs,
   read at the shared entrywise description of `MlaSpec`. -/
module

public import proofs.«01_k».proof.Defs
public import proofs.«01_k».proof.Proof.MlaRef
public import proofs.«01_k».proof.Proof.MlaRun
public import proofs.«01_k».proof.Proof.MlaPre
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Pre_finite10
public import Idealize.ShloMosaic.Adequacy
public import Idealize.ShloMosaic.Init

@[expose] public section

noncomputable section

namespace Cert.MlaBwd

open Idealize.ShloMosaic Idealize.SL.Sem Idealize.ShloMosaic.StableHlo

/-- The reference's run keeps its arguments, and it declares no semaphore. -/
theorem frame_r : Cert.quiescent_Reference10Ideal (hReference10Ideal := Cert.Reference10Ideal.Gen.facts) := fun m ρ _ =>
  (θ_run Cert.Reference10Ideal.defs _ _).mono
    (fun r h => ⟨fun c => (h c).2.2.2.2, Idealize.ShloMosaic.sem_eq_zero_of_no_sems (by decide) r.2⟩)
    (Cert.Reference10Ideal.Value.run (F := Ideal) m ρ)

/-- Two memories that agree on the arguments give the same argument functions. -/
theorem inp_eq (m : (ℓ : Loc Cert.Kernel10Ideal.nD Cert.Kernel10Ideal.τ Cert.Kernel10Ideal.sig) → Buf (Elt Ideal) ℓ)
    (m' : (ℓ : Loc Cert.Reference10Ideal.nD Cert.Reference10Ideal.τ Cert.Reference10Ideal.sig) → Buf (Elt Ideal) ℓ) (c : Fin 1)
    (h0 : (MlaRef.arg0 (launchContents m' c)) = MlaHost.arg0 m c)
    (h1 : (MlaRef.arg1 (launchContents m' c)) = MlaHost.arg1 m c)
    (h2 : (MlaRef.arg2 (launchContents m' c)) = MlaHost.arg2 m c)
    (h3 : (MlaRef.arg3 (launchContents m' c)) = MlaHost.arg3 m c)
    (h4 : (MlaRef.arg4 (launchContents m' c)) = MlaHost.arg4 m c)
    (h5 : (MlaRef.arg5 (launchContents m' c)) = MlaHost.arg5 m c)
    (h6 : (MlaRef.arg6 (launchContents m' c)) = MlaHost.arg6 m c)
    (h7 : (MlaRef.arg7 (launchContents m' c)) = MlaHost.arg7 m c)
    (h8 : (MlaRef.arg8 (launchContents m' c)) = MlaHost.arg8 m c)
    (h9 : (MlaRef.arg9 (launchContents m' c)) = MlaHost.arg9 m c)
    (h10 : (MlaRef.arg10 (launchContents m' c)) = MlaHost.arg10 m c) :
    MlaRef.inp (launchContents m' c) = MlaHost.inp m c := by
  unfold MlaRef.inp MlaHost.inp
  rw [h0, h1, h2, h3, h4, h5, h6, h7, h8, h9, h10]

/-- The claim's values are the kernel's result arrays; entry by entry they are the reference's results. -/
theorem algebraic : Cert.algebraic_Kernel10Ideal_Reference10Ideal_pre_finite10 (hKernel10Ideal := Cert.Kernel10Ideal.Gen.facts)
    (hReference10Ideal := Cert.Reference10Ideal.Gen.facts) (hPre_finite10 := Cert.Pre_finite10.Gen.facts) := by
  intro m ρ m' ρ' hpre hag
  have hin : ∀ c : Dev Cert.Kernel10Ideal.nD, MlaRef.inp (launchContents m' c) = MlaHost.inp m c := fun c => by
    obtain ⟨h0, h1, h2, h3, h4, h5, h6, h7, h8, h9, h10⟩ := hag c
    exact inp_eq m m' c h0 h1 h2 h3 h4 h5 h6 h7 h8 h9 h10
  refine ⟨fun c => MlaRun.Gz m c, fun c => MlaRun.Gq m c, fun c => MlaRun.Gkv m c, fun c => MlaRun.Gnw m c,
    (θ_run Cert.Kernel10Ideal.defs _ _).mono (fun r h c => ?_) (Cert.Kernel10Ideal.Value.run_blocks (F := Ideal) m ρ), ?_⟩
  · obtain ⟨h0, h1, h2, h3, hk⟩ := h c
    exact ⟨h0.trans (MlaRun.final10 m c), h1.trans (MlaRun.final11 m c), h2.trans (MlaRun.final12 m c), h3.trans (MlaRun.final13 m c), hk⟩
  refine (θ_run Cert.Reference10Ideal.defs _ _).mono (fun r h c => ?_)
    (θ_run_and (Cert.Reference10Ideal.Value.run (F := Ideal) m' ρ')
      (MlaRef.run_at m' ρ' fun c => by rw [hin c]; exact MlaPre.finite_of_pre m hpre c))
  obtain ⟨hv, hr⟩ := h
  obtain ⟨r0, r1, r2, r3⟩ := hr c
  rw [hin c] at r0 r1 r2 r3
  refine ⟨?_, ?_, ?_, ?_, (hv c).2.2.2.2⟩
  · funext x
    idx_vars x
    exact r0 _ _
  · funext x
    idx_vars x
    exact r1 _ _
  · funext x
    idx_vars x
    exact r2 _ _
  · funext x
    idx_vars x
    obtain rfl : x0 = (0 : Fin 1) := Subsingleton.elim _ _
    exact r3 _

end Cert.MlaBwd

end
-- ==== Proof.AdamSpec.lean ====
/- One step of AdamW for one entry: the new moments and the weight's change, from the weight, its gradient and the moments. -/
module

public import Idealize.ShloMosaic.Lib.Pointwise

@[expose] public section

noncomputable section

namespace Cert.AdamSpec

open Idealize.ShloMosaic

/-- The first moment after the step. -/
def stepM (g m : EReal) : EReal := Ideal.ofBits .f32 0x3F666666#32 * m + Ideal.ofBits .f32 0x3DCCCCCD#32 * g

/-- The second moment after the step. -/
def stepV (g v : EReal) : EReal := Ideal.ofBits .f32 0x3F7FBE77#32 * v + Ideal.ofBits .f32 0x3A83126F#32 * (g * g)

/-- The weight's change. -/
def stepD (w g m v : EReal) : EReal :=
  Ideal.ofBits .f32 0xBA83126F#32 *
    (Ideal.div (Ideal.div (stepM g m) (Ideal.ofBits .f32 0x3F26BD02#32))
        (Ideal.sqrt (Ideal.div (stepV g v) (Ideal.ofBits .f32 0x3C231ACC#32)) + Ideal.ofBits .f32 0x322BCC77#32)
      + Ideal.ofBits .f32 0x3C23D70A#32 * w)

end Cert.AdamSpec

end
-- ==== Proof.Adam14.lean ====
/- One AdamW step of one device's rows of w_mlp_out (`Kernel14`, `Reference14`): the gradient, the weight's change and the
   new moments. -/
module

public import proofs.«01_k».proof.Defs
public import proofs.«01_k».proof.Proof.AdamSpec
public import proofs.«01_k».proof.Proof.Gen.Kernel14.Frame
public import proofs.«01_k».proof.Proof.Gen.Kernel14Ideal.Value
public import proofs.«01_k».proof.Proof.Gen.Reference14Ideal.Run
public import Idealize.ShloMosaic.Lib.StableHlo.RunRead
public import Idealize.ShloMosaic.Lib.Pipeline.ValueKit
public import Idealize.ShloMosaic.Lib.Pipeline.ValueKit.Geometry
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Adam14

open Idealize.ShloMosaic Idealize.ShloMosaic.TcCoe Idealize.SL.Sem Cert.Kernel14Ideal Cert.Kernel14Ideal.Gen Cert.Kernel14Ideal.Value Cert.AdamSpec

variable (m : (ℓ : Loc nD τ sig) → Buf (Elt Ideal) ℓ) (c : Dev nD)

abbrev slabs : FVec Ideal S8x512x1024 .bf16 := m ((c : Thread nD τ).loc main_arg0)
abbrev wt : FVec Ideal S512x1024 .f32 := m ((c : Thread nD τ).loc main_arg1)
abbrev mom : FVec Ideal S512x1024 .f32 := m ((c : Thread nD τ).loc main_arg2)
abbrev vel : FVec Ideal S512x1024 .f32 := m ((c : Thread nD τ).loc main_arg3)

/-- The gradient: the sum over the eight devices. -/
def grad (i : Fin 512) (j : Fin 1024) : EReal := ∑ s : Fin 8, (show EReal from slabs m c (ix3 s i j))

/-- The result arrays. -/
def Ggrad : FVec Ideal S512x1024 .f32 := fun x => grad m c (x 0) (x 1)
def Gdelta : FVec Ideal S512x1024 .f32 := fun x => stepD (wt m c x) (grad m c (x 0) (x 1)) (mom m c x) (vel m c x)
def Gmom : FVec Ideal S512x1024 .f32 := fun x => stepM (grad m c (x 0) (x 1)) (mom m c x)
def Gvel : FVec Ideal S512x1024 .f32 := fun x => stepV (grad m c (x 0) (x 1)) (vel m c x)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem lt_n (t : Fin cfg0.N) : t.val < 2 := lt_of_lt_of_eq t.isLt N_0

abbrev rowOf (t : Fin cfg0.N) (i : Fin 256) : Fin 512 := ⟨t.val * 256 + i, by have := lt_n t; omega⟩

variable (t : Fin cfg0.N)

theorem blk0 (s : Fin 8) (i : Fin 256) (j : Fin 1024) :
    (iblk m c 0 t : FVec Ideal S8x256x1024 .bf16) (ix3 s i j) = slabs m c (ix3 s (rowOf t i) j) := by
  blk_point [iblk, V_main_arg0, idx t]

theorem blk1 (i : Fin 256) (j : Fin 1024) : (iblk m c 1 t : FVec Ideal S256x1024 .f32) (ix2 i j) = wt m c (ix2 (rowOf t i) j) := by
  blk_point [iblk, V_main_arg1, idx t]

theorem blk2 (i : Fin 256) (j : Fin 1024) : (iblk m c 2 t : FVec Ideal S256x1024 .f32) (ix2 i j) = mom m c (ix2 (rowOf t i) j) := by
  blk_point [iblk, V_main_arg2, idx t]

theorem blk3 (i : Fin 256) (j : Fin 1024) : (iblk m c 3 t : FVec Ideal S256x1024 .f32) (ix2 i j) = vel m c (ix2 (rowOf t i) j) := by
  blk_point [iblk, V_main_arg3, idx t]

theorem pay_at (i : Fin 256) (j : Fin 1024) : k0_pay5 (F := Ideal) (iblk m c 0 t) (iblk m c 1 t) (iblk m c 2 t) (iblk m c 3 t) (ix2 i j) = grad m c (rowOf t i) j := by
  pointwise [k0_pay5, k0_pay4]
  unfold grad
  simp only [blk0]
  rw [Fin.sum_univ_eight]

theorem out4_at (i : Fin 256) (j : Fin 1024) : out0_4 (F := Ideal) (iblk m c 0 t) (iblk m c 1 t) (iblk m c 2 t) (iblk m c 3 t) (ix2 i j) = Ggrad m c (ix2 (rowOf t i) j) := by
  refine Eq.trans ?_ (pay_at m c t i j)
  frame_out

theorem out5_at (i : Fin 256) (j : Fin 1024) : out0_5 (F := Ideal) (iblk m c 0 t) (iblk m c 1 t) (iblk m c 2 t) (iblk m c 3 t) (ix2 i j) = Gdelta m c (ix2 (rowOf t i) j) := by
  frame_out
  pointwise [k0_pay3, k0_pay2, k0_pay1]
  simp only [pay_at, blk1, blk2, blk3]
  rfl

theorem out6_at (i : Fin 256) (j : Fin 1024) : out0_6 (F := Ideal) (iblk m c 0 t) (iblk m c 1 t) (iblk m c 2 t) (iblk m c 3 t) (ix2 i j) = Gmom m c (ix2 (rowOf t i) j) := by
  frame_out
  pointwise [k0_pay1]
  simp only [pay_at, blk2]
  rfl

theorem out7_at (i : Fin 256) (j : Fin 1024) : out0_7 (F := Ideal) (iblk m c 0 t) (iblk m c 1 t) (iblk m c 2 t) (iblk m c 3 t) (ix2 i j) = Gvel m c (ix2 (rowOf t i) j) := by
  frame_out
  pointwise [k0_pay2]
  simp only [pay_at, blk3]
  rfl

theorem final4 : (dats m 0 c).arrAt 4 cfg0.N = Ggrad m c := by
  refine (dats m 0 c).arrAt_eq_of_covers 4 (Ggrad m c) (by decide +kernel) fun t hf y => ?_
  blk_simp
  rw [after0_4]
  idx_vars y
  have e : ((View.whole main_v0_0).slice (win0_4.rect t)).emb (ix2 y0 y1) = ix2 (rowOf t y0) y1 := by
    blk_ext [idx t]
  rw [e]
  exact out4_at m c t y0 y1

theorem final5 : (dats m 0 c).arrAt 5 cfg0.N = Gdelta m c := by
  refine (dats m 0 c).arrAt_eq_of_covers 5 (Gdelta m c) (by decide +kernel) fun t hf y => ?_
  blk_simp
  rw [after0_5]
  idx_vars y
  have e : ((View.whole main_v0_1).slice (win0_5.rect t)).emb (ix2 y0 y1) = ix2 (rowOf t y0) y1 := by
    blk_ext [idx t]
  rw [e]
  exact out5_at m c t y0 y1

theorem final6 : (dats m 0 c).arrAt 6 cfg0.N = Gmom m c := by
  refine (dats m 0 c).arrAt_eq_of_covers 6 (Gmom m c) (by decide +kernel) fun t hf y => ?_
  blk_simp
  rw [after0_6]
  idx_vars y
  have e : ((View.whole main_v0_2).slice (win0_6.rect t)).emb (ix2 y0 y1) = ix2 (rowOf t y0) y1 := by
    blk_ext [idx t]
  rw [e]
  exact out6_at m c t y0 y1

theorem final7 : (dats m 0 c).arrAt 7 cfg0.N = Gvel m c := by
  refine (dats m 0 c).arrAt_eq_of_covers 7 (Gvel m c) (by decide +kernel) fun t hf y => ?_
  blk_simp
  rw [after0_7]
  idx_vars y
  have e : ((View.whole main_v0_3).slice (win0_7.rect t)).emb (ix2 y0 y1) = ix2 (rowOf t y0) y1 := by
    blk_ext [idx t]
  rw [e]
  exact out7_at m c t y0 y1

/-- The reference's run keeps its arguments, and it declares no semaphore. -/
theorem frame_r : Cert.quiescent_Reference14Ideal (hReference14Ideal := Cert.Reference14Ideal.Gen.facts) := fun m ρ _ =>
  (θ_run Cert.Reference14Ideal.defs _ _).mono
    (fun r h => ⟨fun c => (h c).2.2.2.2, Idealize.ShloMosaic.sem_eq_zero_of_no_sems (by decide) r.2⟩)
    (Cert.Reference14Ideal.Value.run (F := Ideal) m ρ)

/-- The claim's values are the kernel's result arrays; entry by entry they are the reference's results. -/
theorem algebraic : Cert.algebraic_Kernel14Ideal_Reference14Ideal (hKernel14Ideal := Cert.Kernel14Ideal.Gen.facts)
    (hReference14Ideal := Cert.Reference14Ideal.Gen.facts) := by
  intro m ρ m' ρ' _ hag
  refine ⟨fun c => Ggrad m c, fun c => Gdelta m c, fun c => Gmom m c, fun c => Gvel m c,
    (θ_run defs _ _).mono (fun r h c => ?_) (run_blocks (F := Ideal) m ρ), ?_⟩
  · obtain ⟨h0, h1, h2, h3, hk⟩ := h c
    exact ⟨h0.trans (final4 m c), h1.trans (final5 m c), h2.trans (final6 m c), h3.trans (final7 m c), hk⟩
  refine (θ_run Cert.Reference14Ideal.defs _ _).mono (fun r h c => ?_) (Cert.Reference14Ideal.Value.run (F := Ideal) m' ρ')
  obtain ⟨a0, a1, a2, a3⟩ := hag c
  obtain ⟨h0, h1, h2, h3, hk⟩ := h c
  refine ⟨?_, ?_, ?_, ?_, hk⟩
  · rw [h0, a0]
    funext x
    idx_vars x
    pointwise
    rfl
  · rw [h1, a0, a1, a2, a3]
    funext x
    idx_vars x
    pointwise
    rfl
  · rw [h2, a0, a2]
    funext x
    idx_vars x
    pointwise
    rfl
  · rw [h3, a0, a3]
    funext x
    idx_vars x
    pointwise
    rfl

end Cert.Adam14

end
-- ==== Proof.Adam15.lean ====
/- One AdamW step of one device's columns of w_mlp_in (`Kernel15`, `Reference15`): the gradient, the weight's change and the
   new moments. -/
module

public import proofs.«01_k».proof.Defs
public import proofs.«01_k».proof.Proof.AdamSpec
public import proofs.«01_k».proof.Proof.Gen.Kernel15.Frame
public import proofs.«01_k».proof.Proof.Gen.Kernel15Ideal.Value
public import proofs.«01_k».proof.Proof.Gen.Reference15Ideal.Run
public import Idealize.ShloMosaic.Lib.StableHlo.RunRead
public import Idealize.ShloMosaic.Lib.Pipeline.ValueKit
public import Idealize.ShloMosaic.Lib.Pipeline.ValueKit.Geometry
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Adam15

open Idealize.ShloMosaic Idealize.ShloMosaic.TcCoe Idealize.SL.Sem Cert.Kernel15Ideal Cert.Kernel15Ideal.Gen Cert.Kernel15Ideal.Value Cert.AdamSpec

variable (m : (ℓ : Loc nD τ sig) → Buf (Elt Ideal) ℓ) (c : Dev nD)

abbrev slabs : FVec Ideal S8x1024x512 .bf16 := m ((c : Thread nD τ).loc main_arg0)
abbrev wt : FVec Ideal S1024x512 .f32 := m ((c : Thread nD τ).loc main_arg1)
abbrev mom : FVec Ideal S1024x512 .f32 := m ((c : Thread nD τ).loc main_arg2)
abbrev vel : FVec Ideal S1024x512 .f32 := m ((c : Thread nD τ).loc main_arg3)

/-- The gradient: the sum over the eight devices. -/
def grad (i : Fin 1024) (j : Fin 512) : EReal := ∑ s : Fin 8, (show EReal from slabs m c (ix3 s i j))

/-- The result arrays. -/
def Ggrad : FVec Ideal S1024x512 .f32 := fun x => grad m c (x 0) (x 1)
def Gdelta : FVec Ideal S1024x512 .f32 := fun x => stepD (wt m c x) (grad m c (x 0) (x 1)) (mom m c x) (vel m c x)
def Gmom : FVec Ideal S1024x512 .f32 := fun x => stepM (grad m c (x 0) (x 1)) (mom m c x)
def Gvel : FVec Ideal S1024x512 .f32 := fun x => stepV (grad m c (x 0) (x 1)) (vel m c x)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem lt_n (t : Fin cfg0.N) : t.val < 4 := lt_of_lt_of_eq t.isLt N_0

abbrev rowOf (t : Fin cfg0.N) (i : Fin 256) : Fin 1024 := ⟨t.val * 256 + i, by have := lt_n t; omega⟩

variable (t : Fin cfg0.N)

theorem blk0 (s : Fin 8) (i : Fin 256) (j : Fin 512) :
    (iblk m c 0 t : FVec Ideal S8x256x512 .bf16) (ix3 s i j) = slabs m c (ix3 s (rowOf t i) j) := by
  blk_point [iblk, V_main_arg0, idx t]

theorem blk1 (i : Fin 256) (j : Fin 512) : (iblk m c 1 t : FVec Ideal S256x512 .f32) (ix2 i j) = wt m c (ix2 (rowOf t i) j) := by
  blk_point [iblk, V_main_arg1, idx t]

theorem blk2 (i : Fin 256) (j : Fin 512) : (iblk m c 2 t : FVec Ideal S256x512 .f32) (ix2 i j) = mom m c (ix2 (rowOf t i) j) := by
  blk_point [iblk, V_main_arg2, idx t]

theorem blk3 (i : Fin 256) (j : Fin 512) : (iblk m c 3 t : FVec Ideal S256x512 .f32) (ix2 i j) = vel m c (ix2 (rowOf t i) j) := by
  blk_point [iblk, V_main_arg3, idx t]

theorem pay_at (i : Fin 256) (j : Fin 512) : k0_pay5 (F := Ideal) (iblk m c 0 t) (iblk m c 1 t) (iblk m c 2 t) (iblk m c 3 t) (ix2 i j) = grad m c (rowOf t i) j := by
  pointwise [k0_pay5, k0_pay4]
  unfold grad
  simp only [blk0]
  rw [Fin.sum_univ_eight]

theorem out4_at (i : Fin 256) (j : Fin 512) : out0_4 (F := Ideal) (iblk m c 0 t) (iblk m c 1 t) (iblk m c 2 t) (iblk m c 3 t) (ix2 i j) = Ggrad m c (ix2 (rowOf t i) j) := by
  refine Eq.trans ?_ (pay_at m c t i j)
  frame_out

theorem out5_at (i : Fin 256) (j : Fin 512) : out0_5 (F := Ideal) (iblk m c 0 t) (iblk m c 1 t) (iblk m c 2 t) (iblk m c 3 t) (ix2 i j) = Gdelta m c (ix2 (rowOf t i) j) := by
  frame_out
  pointwise [k0_pay3, k0_pay2, k0_pay1]
  simp only [pay_at, blk1, blk2, blk3]
  rfl

theorem out6_at (i : Fin 256) (j : Fin 512) : out0_6 (F := Ideal) (iblk m c 0 t) (iblk m c 1 t) (iblk m c 2 t) (iblk m c 3 t) (ix2 i j) = Gmom m c (ix2 (rowOf t i) j) := by
  frame_out
  pointwise [k0_pay1]
  simp only [pay_at, blk2]
  rfl

theorem out7_at (i : Fin 256) (j : Fin 512) : out0_7 (F := Ideal) (iblk m c 0 t) (iblk m c 1 t) (iblk m c 2 t) (iblk m c 3 t) (ix2 i j) = Gvel m c (ix2 (rowOf t i) j) := by
  frame_out
  pointwise [k0_pay2]
  simp only [pay_at, blk3]
  rfl

theorem final4 : (dats m 0 c).arrAt 4 cfg0.N = Ggrad m c := by
  refine (dats m 0 c).arrAt_eq_of_covers 4 (Ggrad m c) (by decide +kernel) fun t hf y => ?_
  blk_simp
  rw [after0_4]
  idx_vars y
  have e : ((View.whole main_v0_0).slice (win0_4.rect t)).emb (ix2 y0 y1) = ix2 (rowOf t y0) y1 := by
    blk_ext [idx t]
  rw [e]
  exact out4_at m c t y0 y1

theorem final5 : (dats m 0 c).arrAt 5 cfg0.N = Gdelta m c := by
  refine (dats m 0 c).arrAt_eq_of_covers 5 (Gdelta m c) (by decide +kernel) fun t hf y => ?_
  blk_simp
  rw [after0_5]
  idx_vars y
  have e : ((View.whole main_v0_1).slice (win0_5.rect t)).emb (ix2 y0 y1) = ix2 (rowOf t y0) y1 := by
    blk_ext [idx t]
  rw [e]
  exact out5_at m c t y0 y1

theorem final6 : (dats m 0 c).arrAt 6 cfg0.N = Gmom m c := by
  refine (dats m 0 c).arrAt_eq_of_covers 6 (Gmom m c) (by decide +kernel) fun t hf y => ?_
  blk_simp
  rw [after0_6]
  idx_vars y
  have e : ((View.whole main_v0_2).slice (win0_6.rect t)).emb (ix2 y0 y1) = ix2 (rowOf t y0) y1 := by
    blk_ext [idx t]
  rw [e]
  exact out6_at m c t y0 y1

theorem final7 : (dats m 0 c).arrAt 7 cfg0.N = Gvel m c := by
  refine (dats m 0 c).arrAt_eq_of_covers 7 (Gvel m c) (by decide +kernel) fun t hf y => ?_
  blk_simp
  rw [after0_7]
  idx_vars y
  have e : ((View.whole main_v0_3).slice (win0_7.rect t)).emb (ix2 y0 y1) = ix2 (rowOf t y0) y1 := by
    blk_ext [idx t]
  rw [e]
  exact out7_at m c t y0 y1

/-- The reference's run keeps its arguments, and it declares no semaphore. -/
theorem frame_r : Cert.quiescent_Reference15Ideal (hReference15Ideal := Cert.Reference15Ideal.Gen.facts) := fun m ρ _ =>
  (θ_run Cert.Reference15Ideal.defs _ _).mono
    (fun r h => ⟨fun c => (h c).2.2.2.2, Idealize.ShloMosaic.sem_eq_zero_of_no_sems (by decide) r.2⟩)
    (Cert.Reference15Ideal.Value.run (F := Ideal) m ρ)

/-- The claim's values are the kernel's result arrays; entry by entry they are the reference's results. -/
theorem algebraic : Cert.algebraic_Kernel15Ideal_Reference15Ideal (hKernel15Ideal := Cert.Kernel15Ideal.Gen.facts)
    (hReference15Ideal := Cert.Reference15Ideal.Gen.facts) := by
  intro m ρ m' ρ' _ hag
  refine ⟨fun c => Ggrad m c, fun c => Gdelta m c, fun c => Gmom m c, fun c => Gvel m c,
    (θ_run defs _ _).mono (fun r h c => ?_) (run_blocks (F := Ideal) m ρ), ?_⟩
  · obtain ⟨h0, h1, h2, h3, hk⟩ := h c
    exact ⟨h0.trans (final4 m c), h1.trans (final5 m c), h2.trans (final6 m c), h3.trans (final7 m c), hk⟩
  refine (θ_run Cert.Reference15Ideal.defs _ _).mono (fun r h c => ?_) (Cert.Reference15Ideal.Value.run (F := Ideal) m' ρ')
  obtain ⟨a0, a1, a2, a3⟩ := hag c
  obtain ⟨h0, h1, h2, h3, hk⟩ := h c
  refine ⟨?_, ?_, ?_, ?_, hk⟩
  · rw [h0, a0]
    funext x
    idx_vars x
    pointwise
    rfl
  · rw [h1, a0, a1, a2, a3]
    funext x
    idx_vars x
    pointwise
    rfl
  · rw [h2, a0, a2]
    funext x
    idx_vars x
    pointwise
    rfl
  · rw [h3, a0, a3]
    funext x
    idx_vars x
    pointwise
    rfl

end Cert.Adam15

end
-- ==== Proof.Adam16.lean ====
/- One AdamW step of one device's rows of w_out (`Kernel16`, `Reference16`): the gradient, the weight's change and the
   new moments. -/
module

public import proofs.«01_k».proof.Defs
public import proofs.«01_k».proof.Proof.AdamSpec
public import proofs.«01_k».proof.Proof.Gen.Kernel16.Frame
public import proofs.«01_k».proof.Proof.Gen.Kernel16Ideal.Value
public import proofs.«01_k».proof.Proof.Gen.Reference16Ideal.Run
public import Idealize.ShloMosaic.Lib.StableHlo.RunRead
public import Idealize.ShloMosaic.Lib.Pipeline.ValueKit
public import Idealize.ShloMosaic.Lib.Pipeline.ValueKit.Geometry
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Adam16

open Idealize.ShloMosaic Idealize.ShloMosaic.TcCoe Idealize.SL.Sem Cert.Kernel16Ideal Cert.Kernel16Ideal.Gen Cert.Kernel16Ideal.Value Cert.AdamSpec

variable (m : (ℓ : Loc nD τ sig) → Buf (Elt Ideal) ℓ) (c : Dev nD)

abbrev slabs : FVec Ideal S8x128x1024 .bf16 := m ((c : Thread nD τ).loc main_arg0)
abbrev wt : FVec Ideal S128x1024 .f32 := m ((c : Thread nD τ).loc main_arg1)
abbrev mom : FVec Ideal S128x1024 .f32 := m ((c : Thread nD τ).loc main_arg2)
abbrev vel : FVec Ideal S128x1024 .f32 := m ((c : Thread nD τ).loc main_arg3)

/-- The gradient: the sum over the eight devices. -/
def grad (i : Fin 128) (j : Fin 1024) : EReal := ∑ s : Fin 8, (show EReal from slabs m c (ix3 s i j))

/-- The result arrays. -/
def Ggrad : FVec Ideal S128x1024 .f32 := fun x => grad m c (x 0) (x 1)
def Gdelta : FVec Ideal S128x1024 .f32 := fun x => stepD (wt m c x) (grad m c (x 0) (x 1)) (mom m c x) (vel m c x)
def Gmom : FVec Ideal S128x1024 .f32 := fun x => stepM (grad m c (x 0) (x 1)) (mom m c x)
def Gvel : FVec Ideal S128x1024 .f32 := fun x => stepV (grad m c (x 0) (x 1)) (vel m c x)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem lt_n (t : Fin cfg0.N) : t.val < 1 := lt_of_lt_of_eq t.isLt N_0

abbrev rowOf (t : Fin cfg0.N) (i : Fin 128) : Fin 128 := ⟨t.val * 128 + i, by have := lt_n t; omega⟩

variable (t : Fin cfg0.N)

theorem blk0 (s : Fin 8) (i : Fin 128) (j : Fin 1024) :
    (iblk m c 0 t : FVec Ideal S8x128x1024 .bf16) (ix3 s i j) = slabs m c (ix3 s (rowOf t i) j) := by
  blk_point [iblk, V_main_arg0, idx t]

theorem blk1 (i : Fin 128) (j : Fin 1024) : (iblk m c 1 t : FVec Ideal S128x1024 .f32) (ix2 i j) = wt m c (ix2 (rowOf t i) j) := by
  blk_point [iblk, V_main_arg1, idx t]

theorem blk2 (i : Fin 128) (j : Fin 1024) : (iblk m c 2 t : FVec Ideal S128x1024 .f32) (ix2 i j) = mom m c (ix2 (rowOf t i) j) := by
  blk_point [iblk, V_main_arg2, idx t]

theorem blk3 (i : Fin 128) (j : Fin 1024) : (iblk m c 3 t : FVec Ideal S128x1024 .f32) (ix2 i j) = vel m c (ix2 (rowOf t i) j) := by
  blk_point [iblk, V_main_arg3, idx t]

theorem pay_at (i : Fin 128) (j : Fin 1024) : k0_pay5 (F := Ideal) (iblk m c 0 t) (iblk m c 1 t) (iblk m c 2 t) (iblk m c 3 t) (ix2 i j) = grad m c (rowOf t i) j := by
  pointwise [k0_pay5, k0_pay4]
  unfold grad
  simp only [blk0]
  rw [Fin.sum_univ_eight]

theorem out4_at (i : Fin 128) (j : Fin 1024) : out0_4 (F := Ideal) (iblk m c 0 t) (iblk m c 1 t) (iblk m c 2 t) (iblk m c 3 t) (ix2 i j) = Ggrad m c (ix2 (rowOf t i) j) := by
  refine Eq.trans ?_ (pay_at m c t i j)
  frame_out

theorem out5_at (i : Fin 128) (j : Fin 1024) : out0_5 (F := Ideal) (iblk m c 0 t) (iblk m c 1 t) (iblk m c 2 t) (iblk m c 3 t) (ix2 i j) = Gdelta m c (ix2 (rowOf t i) j) := by
  frame_out
  pointwise [k0_pay3, k0_pay2, k0_pay1]
  simp only [pay_at, blk1, blk2, blk3]
  rfl

theorem out6_at (i : Fin 128) (j : Fin 1024) : out0_6 (F := Ideal) (iblk m c 0 t) (iblk m c 1 t) (iblk m c 2 t) (iblk m c 3 t) (ix2 i j) = Gmom m c (ix2 (rowOf t i) j) := by
  frame_out
  pointwise [k0_pay1]
  simp only [pay_at, blk2]
  rfl

theorem out7_at (i : Fin 128) (j : Fin 1024) : out0_7 (F := Ideal) (iblk m c 0 t) (iblk m c 1 t) (iblk m c 2 t) (iblk m c 3 t) (ix2 i j) = Gvel m c (ix2 (rowOf t i) j) := by
  frame_out
  pointwise [k0_pay2]
  simp only [pay_at, blk3]
  rfl

theorem final4 : (dats m 0 c).arrAt 4 cfg0.N = Ggrad m c := by
  refine (dats m 0 c).arrAt_eq_of_covers 4 (Ggrad m c) (by decide +kernel) fun t hf y => ?_
  blk_simp
  rw [after0_4]
  idx_vars y
  have e : ((View.whole main_v0_0).slice (win0_4.rect t)).emb (ix2 y0 y1) = ix2 (rowOf t y0) y1 := by
    blk_ext [idx t]
  rw [e]
  exact out4_at m c t y0 y1

theorem final5 : (dats m 0 c).arrAt 5 cfg0.N = Gdelta m c := by
  refine (dats m 0 c).arrAt_eq_of_covers 5 (Gdelta m c) (by decide +kernel) fun t hf y => ?_
  blk_simp
  rw [after0_5]
  idx_vars y
  have e : ((View.whole main_v0_1).slice (win0_5.rect t)).emb (ix2 y0 y1) = ix2 (rowOf t y0) y1 := by
    blk_ext [idx t]
  rw [e]
  exact out5_at m c t y0 y1

theorem final6 : (dats m 0 c).arrAt 6 cfg0.N = Gmom m c := by
  refine (dats m 0 c).arrAt_eq_of_covers 6 (Gmom m c) (by decide +kernel) fun t hf y => ?_
  blk_simp
  rw [after0_6]
  idx_vars y
  have e : ((View.whole main_v0_2).slice (win0_6.rect t)).emb (ix2 y0 y1) = ix2 (rowOf t y0) y1 := by
    blk_ext [idx t]
  rw [e]
  exact out6_at m c t y0 y1

theorem final7 : (dats m 0 c).arrAt 7 cfg0.N = Gvel m c := by
  refine (dats m 0 c).arrAt_eq_of_covers 7 (Gvel m c) (by decide +kernel) fun t hf y => ?_
  blk_simp
  rw [after0_7]
  idx_vars y
  have e : ((View.whole main_v0_3).slice (win0_7.rect t)).emb (ix2 y0 y1) = ix2 (rowOf t y0) y1 := by
    blk_ext [idx t]
  rw [e]
  exact out7_at m c t y0 y1

/-- The reference's run keeps its arguments, and it declares no semaphore. -/
theorem frame_r : Cert.quiescent_Reference16Ideal (hReference16Ideal := Cert.Reference16Ideal.Gen.facts) := fun m ρ _ =>
  (θ_run Cert.Reference16Ideal.defs _ _).mono
    (fun r h => ⟨fun c => (h c).2.2.2.2, Idealize.ShloMosaic.sem_eq_zero_of_no_sems (by decide) r.2⟩)
    (Cert.Reference16Ideal.Value.run (F := Ideal) m ρ)

/-- The claim's values are the kernel's result arrays; entry by entry they are the reference's results. -/
theorem algebraic : Cert.algebraic_Kernel16Ideal_Reference16Ideal (hKernel16Ideal := Cert.Kernel16Ideal.Gen.facts)
    (hReference16Ideal := Cert.Reference16Ideal.Gen.facts) := by
  intro m ρ m' ρ' _ hag
  refine ⟨fun c => Ggrad m c, fun c => Gdelta m c, fun c => Gmom m c, fun c => Gvel m c,
    (θ_run defs _ _).mono (fun r h c => ?_) (run_blocks (F := Ideal) m ρ), ?_⟩
  · obtain ⟨h0, h1, h2, h3, hk⟩ := h c
    exact ⟨h0.trans (final4 m c), h1.trans (final5 m c), h2.trans (final6 m c), h3.trans (final7 m c), hk⟩
  refine (θ_run Cert.Reference16Ideal.defs _ _).mono (fun r h c => ?_) (Cert.Reference16Ideal.Value.run (F := Ideal) m' ρ')
  obtain ⟨a0, a1, a2, a3⟩ := hag c
  obtain ⟨h0, h1, h2, h3, hk⟩ := h c
  refine ⟨?_, ?_, ?_, ?_, hk⟩
  · rw [h0, a0]
    funext x
    idx_vars x
    pointwise
    rfl
  · rw [h1, a0, a1, a2, a3]
    funext x
    idx_vars x
    pointwise
    rfl
  · rw [h2, a0, a2]
    funext x
    idx_vars x
    pointwise
    rfl
  · rw [h3, a0, a3]
    funext x
    idx_vars x
    pointwise
    rfl

end Cert.Adam16

end
-- ==== Proof.Adam17.lean ====
/- One AdamW step of one device's columns of w_kv_up (`Kernel17`, `Reference17`): the gradient, the weight's change and the
   new moments. -/
module

public import proofs.«01_k».proof.Defs
public import proofs.«01_k».proof.Proof.AdamSpec
public import proofs.«01_k».proof.Proof.Gen.Kernel17.Frame
public import proofs.«01_k».proof.Proof.Gen.Kernel17Ideal.Value
public import proofs.«01_k».proof.Proof.Gen.Reference17Ideal.Run
public import Idealize.ShloMosaic.Lib.StableHlo.RunRead
public import Idealize.ShloMosaic.Lib.Pipeline.ValueKit
public import Idealize.ShloMosaic.Lib.Pipeline.ValueKit.Geometry
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Adam17

open Idealize.ShloMosaic Idealize.ShloMosaic.TcCoe Idealize.SL.Sem Cert.Kernel17Ideal Cert.Kernel17Ideal.Gen Cert.Kernel17Ideal.Value Cert.AdamSpec

variable (m : (ℓ : Loc nD τ sig) → Buf (Elt Ideal) ℓ) (c : Dev nD)

abbrev slabs : FVec Ideal S8x256x128 .bf16 := m ((c : Thread nD τ).loc main_arg0)
abbrev wt : FVec Ideal S256x128 .f32 := m ((c : Thread nD τ).loc main_arg1)
abbrev mom : FVec Ideal S256x128 .f32 := m ((c : Thread nD τ).loc main_arg2)
abbrev vel : FVec Ideal S256x128 .f32 := m ((c : Thread nD τ).loc main_arg3)

/-- The gradient: the sum over the eight devices. -/
def grad (i : Fin 256) (j : Fin 128) : EReal := ∑ s : Fin 8, (show EReal from slabs m c (ix3 s i j))

/-- The result arrays. -/
def Ggrad : FVec Ideal S256x128 .f32 := fun x => grad m c (x 0) (x 1)
def Gdelta : FVec Ideal S256x128 .f32 := fun x => stepD (wt m c x) (grad m c (x 0) (x 1)) (mom m c x) (vel m c x)
def Gmom : FVec Ideal S256x128 .f32 := fun x => stepM (grad m c (x 0) (x 1)) (mom m c x)
def Gvel : FVec Ideal S256x128 .f32 := fun x => stepV (grad m c (x 0) (x 1)) (vel m c x)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem lt_n (t : Fin cfg0.N) : t.val < 1 := lt_of_lt_of_eq t.isLt N_0

abbrev rowOf (t : Fin cfg0.N) (i : Fin 256) : Fin 256 := ⟨t.val * 256 + i, by have := lt_n t; omega⟩

variable (t : Fin cfg0.N)

theorem blk0 (s : Fin 8) (i : Fin 256) (j : Fin 128) :
    (iblk m c 0 t : FVec Ideal S8x256x128 .bf16) (ix3 s i j) = slabs m c (ix3 s (rowOf t i) j) := by
  blk_point [iblk, V_main_arg0, idx t]

theorem blk1 (i : Fin 256) (j : Fin 128) : (iblk m c 1 t : FVec Ideal S256x128 .f32) (ix2 i j) = wt m c (ix2 (rowOf t i) j) := by
  blk_point [iblk, V_main_arg1, idx t]

theorem blk2 (i : Fin 256) (j : Fin 128) : (iblk m c 2 t : FVec Ideal S256x128 .f32) (ix2 i j) = mom m c (ix2 (rowOf t i) j) := by
  blk_point [iblk, V_main_arg2, idx t]

theorem blk3 (i : Fin 256) (j : Fin 128) : (iblk m c 3 t : FVec Ideal S256x128 .f32) (ix2 i j) = vel m c (ix2 (rowOf t i) j) := by
  blk_point [iblk, V_main_arg3, idx t]

theorem pay_at (i : Fin 256) (j : Fin 128) : k0_pay5 (F := Ideal) (iblk m c 0 t) (iblk m c 1 t) (iblk m c 2 t) (iblk m c 3 t) (ix2 i j) = grad m c (rowOf t i) j := by
  pointwise [k0_pay5, k0_pay4]
  unfold grad
  simp only [blk0]
  rw [Fin.sum_univ_eight]

theorem out4_at (i : Fin 256) (j : Fin 128) : out0_4 (F := Ideal) (iblk m c 0 t) (iblk m c 1 t) (iblk m c 2 t) (iblk m c 3 t) (ix2 i j) = Ggrad m c (ix2 (rowOf t i) j) := by
  refine Eq.trans ?_ (pay_at m c t i j)
  frame_out

theorem out5_at (i : Fin 256) (j : Fin 128) : out0_5 (F := Ideal) (iblk m c 0 t) (iblk m c 1 t) (iblk m c 2 t) (iblk m c 3 t) (ix2 i j) = Gdelta m c (ix2 (rowOf t i) j) := by
  frame_out
  pointwise [k0_pay3, k0_pay2, k0_pay1]
  simp only [pay_at, blk1, blk2, blk3]
  rfl

theorem out6_at (i : Fin 256) (j : Fin 128) : out0_6 (F := Ideal) (iblk m c 0 t) (iblk m c 1 t) (iblk m c 2 t) (iblk m c 3 t) (ix2 i j) = Gmom m c (ix2 (rowOf t i) j) := by
  frame_out
  pointwise [k0_pay1]
  simp only [pay_at, blk2]
  rfl

theorem out7_at (i : Fin 256) (j : Fin 128) : out0_7 (F := Ideal) (iblk m c 0 t) (iblk m c 1 t) (iblk m c 2 t) (iblk m c 3 t) (ix2 i j) = Gvel m c (ix2 (rowOf t i) j) := by
  frame_out
  pointwise [k0_pay2]
  simp only [pay_at, blk3]
  rfl

theorem final4 : (dats m 0 c).arrAt 4 cfg0.N = Ggrad m c := by
  refine (dats m 0 c).arrAt_eq_of_covers 4 (Ggrad m c) (by decide +kernel) fun t hf y => ?_
  blk_simp
  rw [after0_4]
  idx_vars y
  have e : ((View.whole main_v0_0).slice (win0_4.rect t)).emb (ix2 y0 y1) = ix2 (rowOf t y0) y1 := by
    blk_ext [idx t]
  rw [e]
  exact out4_at m c t y0 y1

theorem final5 : (dats m 0 c).arrAt 5 cfg0.N = Gdelta m c := by
  refine (dats m 0 c).arrAt_eq_of_covers 5 (Gdelta m c) (by decide +kernel) fun t hf y => ?_
  blk_simp
  rw [after0_5]
  idx_vars y
  have e : ((View.whole main_v0_1).slice (win0_5.rect t)).emb (ix2 y0 y1) = ix2 (rowOf t y0) y1 := by
    blk_ext [idx t]
  rw [e]
  exact out5_at m c t y0 y1

theorem final6 : (dats m 0 c).arrAt 6 cfg0.N = Gmom m c := by
  refine (dats m 0 c).arrAt_eq_of_covers 6 (Gmom m c) (by decide +kernel) fun t hf y => ?_
  blk_simp
  rw [after0_6]
  idx_vars y
  have e : ((View.whole main_v0_2).slice (win0_6.rect t)).emb (ix2 y0 y1) = ix2 (rowOf t y0) y1 := by
    blk_ext [idx t]
  rw [e]
  exact out6_at m c t y0 y1

theorem final7 : (dats m 0 c).arrAt 7 cfg0.N = Gvel m c := by
  refine (dats m 0 c).arrAt_eq_of_covers 7 (Gvel m c) (by decide +kernel) fun t hf y => ?_
  blk_simp
  rw [after0_7]
  idx_vars y
  have e : ((View.whole main_v0_3).slice (win0_7.rect t)).emb (ix2 y0 y1) = ix2 (rowOf t y0) y1 := by
    blk_ext [idx t]
  rw [e]
  exact out7_at m c t y0 y1

/-- The reference's run keeps its arguments, and it declares no semaphore. -/
theorem frame_r : Cert.quiescent_Reference17Ideal (hReference17Ideal := Cert.Reference17Ideal.Gen.facts) := fun m ρ _ =>
  (θ_run Cert.Reference17Ideal.defs _ _).mono
    (fun r h => ⟨fun c => (h c).2.2.2.2, Idealize.ShloMosaic.sem_eq_zero_of_no_sems (by decide) r.2⟩)
    (Cert.Reference17Ideal.Value.run (F := Ideal) m ρ)

/-- The claim's values are the kernel's result arrays; entry by entry they are the reference's results. -/
theorem algebraic : Cert.algebraic_Kernel17Ideal_Reference17Ideal (hKernel17Ideal := Cert.Kernel17Ideal.Gen.facts)
    (hReference17Ideal := Cert.Reference17Ideal.Gen.facts) := by
  intro m ρ m' ρ' _ hag
  refine ⟨fun c => Ggrad m c, fun c => Gdelta m c, fun c => Gmom m c, fun c => Gvel m c,
    (θ_run defs _ _).mono (fun r h c => ?_) (run_blocks (F := Ideal) m ρ), ?_⟩
  · obtain ⟨h0, h1, h2, h3, hk⟩ := h c
    exact ⟨h0.trans (final4 m c), h1.trans (final5 m c), h2.trans (final6 m c), h3.trans (final7 m c), hk⟩
  refine (θ_run Cert.Reference17Ideal.defs _ _).mono (fun r h c => ?_) (Cert.Reference17Ideal.Value.run (F := Ideal) m' ρ')
  obtain ⟨a0, a1, a2, a3⟩ := hag c
  obtain ⟨h0, h1, h2, h3, hk⟩ := h c
  refine ⟨?_, ?_, ?_, ?_, hk⟩
  · rw [h0, a0]
    funext x
    idx_vars x
    pointwise
    rfl
  · rw [h1, a0, a1, a2, a3]
    funext x
    idx_vars x
    pointwise
    rfl
  · rw [h2, a0, a2]
    funext x
    idx_vars x
    pointwise
    rfl
  · rw [h3, a0, a3]
    funext x
    idx_vars x
    pointwise
    rfl

end Cert.Adam17

end
-- ==== Proof.Adam18.lean ====
/- One AdamW step of one device's columns of w_q_up, transposed (`Kernel18`, `Reference18`): the gradient, the weight's change and the
   new moments. -/
module

public import proofs.«01_k».proof.Defs
public import proofs.«01_k».proof.Proof.AdamSpec
public import proofs.«01_k».proof.Proof.Gen.Kernel18.Frame
public import proofs.«01_k».proof.Proof.Gen.Kernel18Ideal.Value
public import proofs.«01_k».proof.Proof.Gen.Reference18Ideal.Run
public import Idealize.ShloMosaic.Lib.StableHlo.RunRead
public import Idealize.ShloMosaic.Lib.Pipeline.ValueKit
public import Idealize.ShloMosaic.Lib.Pipeline.ValueKit.Geometry
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Adam18

open Idealize.ShloMosaic Idealize.ShloMosaic.TcCoe Idealize.SL.Sem Cert.Kernel18Ideal Cert.Kernel18Ideal.Gen Cert.Kernel18Ideal.Value Cert.AdamSpec

variable (m : (ℓ : Loc nD τ sig) → Buf (Elt Ideal) ℓ) (c : Dev nD)

abbrev slabs : FVec Ideal S8x96x256 .bf16 := m ((c : Thread nD τ).loc main_arg0)
abbrev wt : FVec Ideal S96x256 .f32 := m ((c : Thread nD τ).loc main_arg1)
abbrev mom : FVec Ideal S96x256 .f32 := m ((c : Thread nD τ).loc main_arg2)
abbrev vel : FVec Ideal S96x256 .f32 := m ((c : Thread nD τ).loc main_arg3)

/-- The gradient: the sum over the eight devices. -/
def grad (i : Fin 96) (j : Fin 256) : EReal := ∑ s : Fin 8, (show EReal from slabs m c (ix3 s i j))

/-- The result arrays. -/
def Ggrad : FVec Ideal S96x256 .f32 := fun x => grad m c (x 0) (x 1)
def Gdelta : FVec Ideal S96x256 .f32 := fun x => stepD (wt m c x) (grad m c (x 0) (x 1)) (mom m c x) (vel m c x)
def Gmom : FVec Ideal S96x256 .f32 := fun x => stepM (grad m c (x 0) (x 1)) (mom m c x)
def Gvel : FVec Ideal S96x256 .f32 := fun x => stepV (grad m c (x 0) (x 1)) (vel m c x)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem lt_n (t : Fin cfg0.N) : t.val < 1 := lt_of_lt_of_eq t.isLt N_0

abbrev rowOf (t : Fin cfg0.N) (i : Fin 96) : Fin 96 := ⟨t.val * 96 + i, by have := lt_n t; omega⟩

variable (t : Fin cfg0.N)

theorem blk0 (s : Fin 8) (i : Fin 96) (j : Fin 256) :
    (iblk m c 0 t : FVec Ideal S8x96x256 .bf16) (ix3 s i j) = slabs m c (ix3 s (rowOf t i) j) := by
  blk_point [iblk, V_main_arg0, idx t]

theorem blk1 (i : Fin 96) (j : Fin 256) : (iblk m c 1 t : FVec Ideal S96x256 .f32) (ix2 i j) = wt m c (ix2 (rowOf t i) j) := by
  blk_point [iblk, V_main_arg1, idx t]

theorem blk2 (i : Fin 96) (j : Fin 256) : (iblk m c 2 t : FVec Ideal S96x256 .f32) (ix2 i j) = mom m c (ix2 (rowOf t i) j) := by
  blk_point [iblk, V_main_arg2, idx t]

theorem blk3 (i : Fin 96) (j : Fin 256) : (iblk m c 3 t : FVec Ideal S96x256 .f32) (ix2 i j) = vel m c (ix2 (rowOf t i) j) := by
  blk_point [iblk, V_main_arg3, idx t]

theorem pay_at (i : Fin 96) (j : Fin 256) : k0_pay5 (F := Ideal) (iblk m c 0 t) (iblk m c 1 t) (iblk m c 2 t) (iblk m c 3 t) (ix2 i j) = grad m c (rowOf t i) j := by
  pointwise [k0_pay5, k0_pay4]
  unfold grad
  simp only [blk0]
  rw [Fin.sum_univ_eight]

theorem out4_at (i : Fin 96) (j : Fin 256) : out0_4 (F := Ideal) (iblk m c 0 t) (iblk m c 1 t) (iblk m c 2 t) (iblk m c 3 t) (ix2 i j) = Ggrad m c (ix2 (rowOf t i) j) := by
  refine Eq.trans ?_ (pay_at m c t i j)
  frame_out

theorem out5_at (i : Fin 96) (j : Fin 256) : out0_5 (F := Ideal) (iblk m c 0 t) (iblk m c 1 t) (iblk m c 2 t) (iblk m c 3 t) (ix2 i j) = Gdelta m c (ix2 (rowOf t i) j) := by
  frame_out
  pointwise [k0_pay3, k0_pay2, k0_pay1]
  simp only [pay_at, blk1, blk2, blk3]
  rfl

theorem out6_at (i : Fin 96) (j : Fin 256) : out0_6 (F := Ideal) (iblk m c 0 t) (iblk m c 1 t) (iblk m c 2 t) (iblk m c 3 t) (ix2 i j) = Gmom m c (ix2 (rowOf t i) j) := by
  frame_out
  pointwise [k0_pay1]
  simp only [pay_at, blk2]
  rfl

theorem out7_at (i : Fin 96) (j : Fin 256) : out0_7 (F := Ideal) (iblk m c 0 t) (iblk m c 1 t) (iblk m c 2 t) (iblk m c 3 t) (ix2 i j) = Gvel m c (ix2 (rowOf t i) j) := by
  frame_out
  pointwise [k0_pay2]
  simp only [pay_at, blk3]
  rfl

theorem final4 : (dats m 0 c).arrAt 4 cfg0.N = Ggrad m c := by
  refine (dats m 0 c).arrAt_eq_of_covers 4 (Ggrad m c) (by decide +kernel) fun t hf y => ?_
  blk_simp
  rw [after0_4]
  idx_vars y
  have e : ((View.whole main_v0_0).slice (win0_4.rect t)).emb (ix2 y0 y1) = ix2 (rowOf t y0) y1 := by
    blk_ext [idx t]
  rw [e]
  exact out4_at m c t y0 y1

theorem final5 : (dats m 0 c).arrAt 5 cfg0.N = Gdelta m c := by
  refine (dats m 0 c).arrAt_eq_of_covers 5 (Gdelta m c) (by decide +kernel) fun t hf y => ?_
  blk_simp
  rw [after0_5]
  idx_vars y
  have e : ((View.whole main_v0_1).slice (win0_5.rect t)).emb (ix2 y0 y1) = ix2 (rowOf t y0) y1 := by
    blk_ext [idx t]
  rw [e]
  exact out5_at m c t y0 y1

theorem final6 : (dats m 0 c).arrAt 6 cfg0.N = Gmom m c := by
  refine (dats m 0 c).arrAt_eq_of_covers 6 (Gmom m c) (by decide +kernel) fun t hf y => ?_
  blk_simp
  rw [after0_6]
  idx_vars y
  have e : ((View.whole main_v0_2).slice (win0_6.rect t)).emb (ix2 y0 y1) = ix2 (rowOf t y0) y1 := by
    blk_ext [idx t]
  rw [e]
  exact out6_at m c t y0 y1

theorem final7 : (dats m 0 c).arrAt 7 cfg0.N = Gvel m c := by
  refine (dats m 0 c).arrAt_eq_of_covers 7 (Gvel m c) (by decide +kernel) fun t hf y => ?_
  blk_simp
  rw [after0_7]
  idx_vars y
  have e : ((View.whole main_v0_3).slice (win0_7.rect t)).emb (ix2 y0 y1) = ix2 (rowOf t y0) y1 := by
    blk_ext [idx t]
  rw [e]
  exact out7_at m c t y0 y1

/-- The reference's run keeps its arguments, and it declares no semaphore. -/
theorem frame_r : Cert.quiescent_Reference18Ideal (hReference18Ideal := Cert.Reference18Ideal.Gen.facts) := fun m ρ _ =>
  (θ_run Cert.Reference18Ideal.defs _ _).mono
    (fun r h => ⟨fun c => (h c).2.2.2.2, Idealize.ShloMosaic.sem_eq_zero_of_no_sems (by decide) r.2⟩)
    (Cert.Reference18Ideal.Value.run (F := Ideal) m ρ)

/-- The claim's values are the kernel's result arrays; entry by entry they are the reference's results. -/
theorem algebraic : Cert.algebraic_Kernel18Ideal_Reference18Ideal (hKernel18Ideal := Cert.Kernel18Ideal.Gen.facts)
    (hReference18Ideal := Cert.Reference18Ideal.Gen.facts) := by
  intro m ρ m' ρ' _ hag
  refine ⟨fun c => Ggrad m c, fun c => Gdelta m c, fun c => Gmom m c, fun c => Gvel m c,
    (θ_run defs _ _).mono (fun r h c => ?_) (run_blocks (F := Ideal) m ρ), ?_⟩
  · obtain ⟨h0, h1, h2, h3, hk⟩ := h c
    exact ⟨h0.trans (final4 m c), h1.trans (final5 m c), h2.trans (final6 m c), h3.trans (final7 m c), hk⟩
  refine (θ_run Cert.Reference18Ideal.defs _ _).mono (fun r h c => ?_) (Cert.Reference18Ideal.Value.run (F := Ideal) m' ρ')
  obtain ⟨a0, a1, a2, a3⟩ := hag c
  obtain ⟨h0, h1, h2, h3, hk⟩ := h c
  refine ⟨?_, ?_, ?_, ?_, hk⟩
  · rw [h0, a0]
    funext x
    idx_vars x
    pointwise
    rfl
  · rw [h1, a0, a1, a2, a3]
    funext x
    idx_vars x
    pointwise
    rfl
  · rw [h2, a0, a2]
    funext x
    idx_vars x
    pointwise
    rfl
  · rw [h3, a0, a3]
    funext x
    idx_vars x
    pointwise
    rfl

end Cert.Adam18

end
-- ==== Proof.Adam19.lean ====
/- One AdamW step of one device's columns of w_in, transposed (`Kernel19`, `Reference19`): the gradient, the weight's change and the
   new moments. -/
module

public import proofs.«01_k».proof.Defs
public import proofs.«01_k».proof.Proof.AdamSpec
public import proofs.«01_k».proof.Proof.Gen.Kernel19.Frame
public import proofs.«01_k».proof.Proof.Gen.Kernel19Ideal.Value
public import proofs.«01_k».proof.Proof.Gen.Reference19Ideal.Run
public import Idealize.ShloMosaic.Lib.StableHlo.RunRead
public import Idealize.ShloMosaic.Lib.Pipeline.ValueKit
public import Idealize.ShloMosaic.Lib.Pipeline.ValueKit.Geometry
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Adam19

open Idealize.ShloMosaic Idealize.ShloMosaic.TcCoe Idealize.SL.Sem Cert.Kernel19Ideal Cert.Kernel19Ideal.Gen Cert.Kernel19Ideal.Value Cert.AdamSpec

variable (m : (ℓ : Loc nD τ sig) → Buf (Elt Ideal) ℓ) (c : Dev nD)

abbrev slabs : FVec Ideal S8x336x1024 .bf16 := m ((c : Thread nD τ).loc main_arg0)
abbrev wt : FVec Ideal S328x1024 .f32 := m ((c : Thread nD τ).loc main_arg1)
abbrev mom : FVec Ideal S328x1024 .f32 := m ((c : Thread nD τ).loc main_arg2)
abbrev vel : FVec Ideal S328x1024 .f32 := m ((c : Thread nD τ).loc main_arg3)

/-- The gradient: the sum over the eight devices. -/
def grad (i : Fin 328) (j : Fin 1024) : EReal := ∑ s : Fin 8, (show EReal from slabs m c (ix3 s ⟨i, by omega⟩ j))

/-- The result arrays. -/
def Ggrad : FVec Ideal S328x1024 .f32 := fun x => grad m c (x 0) (x 1)
def Gdelta : FVec Ideal S328x1024 .f32 := fun x => stepD (wt m c x) (grad m c (x 0) (x 1)) (mom m c x) (vel m c x)
def Gmom : FVec Ideal S328x1024 .f32 := fun x => stepM (grad m c (x 0) (x 1)) (mom m c x)
def Gvel : FVec Ideal S328x1024 .f32 := fun x => stepV (grad m c (x 0) (x 1)) (vel m c x)

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem lt_n (t : Fin cfg0.N) : t.val < 1 := lt_of_lt_of_eq t.isLt N_0

abbrev rowOf (t : Fin cfg0.N) (i : Fin 328) : Fin 328 := ⟨t.val * 328 + i, by have := lt_n t; omega⟩

variable (t : Fin cfg0.N)

theorem blk0 (s : Fin 8) (i : Fin 336) (j : Fin 1024) :
    (iblk m c 0 t : FVec Ideal S8x336x1024 .bf16) (ix3 s i j) = slabs m c (ix3 s i j) := by
  have ht : t.val = 0 := by have := lt_n t; omega
  blk_point [iblk, V_main_arg0, idx t, ht]

theorem blk1 (i : Fin 328) (j : Fin 1024) : (iblk m c 1 t : FVec Ideal S328x1024 .f32) (ix2 i j) = wt m c (ix2 (rowOf t i) j) := by
  blk_point [iblk, V_main_arg1, idx t]

theorem blk2 (i : Fin 328) (j : Fin 1024) : (iblk m c 2 t : FVec Ideal S328x1024 .f32) (ix2 i j) = mom m c (ix2 (rowOf t i) j) := by
  blk_point [iblk, V_main_arg2, idx t]

theorem blk3 (i : Fin 328) (j : Fin 1024) : (iblk m c 3 t : FVec Ideal S328x1024 .f32) (ix2 i j) = vel m c (ix2 (rowOf t i) j) := by
  blk_point [iblk, V_main_arg3, idx t]

theorem pay_at (i : Fin 328) (j : Fin 1024) : k0_pay5 (F := Ideal) (iblk m c 0 t) (iblk m c 1 t) (iblk m c 2 t) (iblk m c 3 t) (ix2 i j) = grad m c (rowOf t i) j := by
  have e : rowOf t i = i := Fin.ext (by have := lt_n t; dsimp only; omega)
  rw [e]
  pointwise [k0_pay5, k0_pay4]
  unfold grad
  simp only [blk0]
  rw [Fin.sum_univ_eight]

theorem out4_at (i : Fin 328) (j : Fin 1024) : out0_4 (F := Ideal) (iblk m c 0 t) (iblk m c 1 t) (iblk m c 2 t) (iblk m c 3 t) (ix2 i j) = Ggrad m c (ix2 (rowOf t i) j) := by
  refine Eq.trans ?_ (pay_at m c t i j)
  frame_out

theorem out5_at (i : Fin 328) (j : Fin 1024) : out0_5 (F := Ideal) (iblk m c 0 t) (iblk m c 1 t) (iblk m c 2 t) (iblk m c 3 t) (ix2 i j) = Gdelta m c (ix2 (rowOf t i) j) := by
  frame_out
  pointwise [k0_pay3, k0_pay2, k0_pay1]
  simp only [pay_at, blk1, blk2, blk3]
  rfl

theorem out6_at (i : Fin 328) (j : Fin 1024) : out0_6 (F := Ideal) (iblk m c 0 t) (iblk m c 1 t) (iblk m c 2 t) (iblk m c 3 t) (ix2 i j) = Gmom m c (ix2 (rowOf t i) j) := by
  frame_out
  pointwise [k0_pay1]
  simp only [pay_at, blk2]
  rfl

theorem out7_at (i : Fin 328) (j : Fin 1024) : out0_7 (F := Ideal) (iblk m c 0 t) (iblk m c 1 t) (iblk m c 2 t) (iblk m c 3 t) (ix2 i j) = Gvel m c (ix2 (rowOf t i) j) := by
  frame_out
  pointwise [k0_pay2]
  simp only [pay_at, blk3]
  rfl

theorem final4 : (dats m 0 c).arrAt 4 cfg0.N = Ggrad m c := by
  refine (dats m 0 c).arrAt_eq_of_covers 4 (Ggrad m c) (by decide +kernel) fun t hf y => ?_
  blk_simp
  rw [after0_4]
  idx_vars y
  have e : ((View.whole main_v0_0).slice (win0_4.rect t)).emb (ix2 y0 y1) = ix2 (rowOf t y0) y1 := by
    blk_ext [idx t]
  rw [e]
  exact out4_at m c t y0 y1

theorem final5 : (dats m 0 c).arrAt 5 cfg0.N = Gdelta m c := by
  refine (dats m 0 c).arrAt_eq_of_covers 5 (Gdelta m c) (by decide +kernel) fun t hf y => ?_
  blk_simp
  rw [after0_5]
  idx_vars y
  have e : ((View.whole main_v0_1).slice (win0_5.rect t)).emb (ix2 y0 y1) = ix2 (rowOf t y0) y1 := by
    blk_ext [idx t]
  rw [e]
  exact out5_at m c t y0 y1

theorem final6 : (dats m 0 c).arrAt 6 cfg0.N = Gmom m c := by
  refine (dats m 0 c).arrAt_eq_of_covers 6 (Gmom m c) (by decide +kernel) fun t hf y => ?_
  blk_simp
  rw [after0_6]
  idx_vars y
  have e : ((View.whole main_v0_2).slice (win0_6.rect t)).emb (ix2 y0 y1) = ix2 (rowOf t y0) y1 := by
    blk_ext [idx t]
  rw [e]
  exact out6_at m c t y0 y1

theorem final7 : (dats m 0 c).arrAt 7 cfg0.N = Gvel m c := by
  refine (dats m 0 c).arrAt_eq_of_covers 7 (Gvel m c) (by decide +kernel) fun t hf y => ?_
  blk_simp
  rw [after0_7]
  idx_vars y
  have e : ((View.whole main_v0_3).slice (win0_7.rect t)).emb (ix2 y0 y1) = ix2 (rowOf t y0) y1 := by
    blk_ext [idx t]
  rw [e]
  exact out7_at m c t y0 y1

/-- The reference's run keeps its arguments, and it declares no semaphore. -/
theorem frame_r : Cert.quiescent_Reference19Ideal (hReference19Ideal := Cert.Reference19Ideal.Gen.facts) := fun m ρ _ =>
  (θ_run Cert.Reference19Ideal.defs _ _).mono
    (fun r h => ⟨fun c => (h c).2.2.2.2, Idealize.ShloMosaic.sem_eq_zero_of_no_sems (by decide) r.2⟩)
    (Cert.Reference19Ideal.Value.run (F := Ideal) m ρ)

/-- The claim's values are the kernel's result arrays; entry by entry they are the reference's results. -/
theorem algebraic : Cert.algebraic_Kernel19Ideal_Reference19Ideal (hKernel19Ideal := Cert.Kernel19Ideal.Gen.facts)
    (hReference19Ideal := Cert.Reference19Ideal.Gen.facts) := by
  intro m ρ m' ρ' _ hag
  refine ⟨fun c => Ggrad m c, fun c => Gdelta m c, fun c => Gmom m c, fun c => Gvel m c,
    (θ_run defs _ _).mono (fun r h c => ?_) (run_blocks (F := Ideal) m ρ), ?_⟩
  · obtain ⟨h0, h1, h2, h3, hk⟩ := h c
    exact ⟨h0.trans (final4 m c), h1.trans (final5 m c), h2.trans (final6 m c), h3.trans (final7 m c), hk⟩
  refine (θ_run Cert.Reference19Ideal.defs _ _).mono (fun r h c => ?_) (Cert.Reference19Ideal.Value.run (F := Ideal) m' ρ')
  obtain ⟨a0, a1, a2, a3⟩ := hag c
  obtain ⟨h0, h1, h2, h3, hk⟩ := h c
  refine ⟨?_, ?_, ?_, ?_, hk⟩
  · rw [h0, a0]
    funext x
    idx_vars x
    pointwise
    rfl
  · rw [h1, a0, a1, a2, a3]
    funext x
    idx_vars x
    pointwise
    rfl
  · rw [h2, a0, a2]
    funext x
    idx_vars x
    pointwise
    rfl
  · rw [h3, a0, a3]
    funext x
    idx_vars x
    pointwise
    rfl

end Cert.Adam19

end
-- ==== Proof.Adam20.lean ====
/- One AdamW step of one device's columns of w_ada (`Kernel20`, `Reference20`): the gradient, the weight's change and the
   new moments. -/
module

public import proofs.«01_k».proof.Defs
public import proofs.«01_k».proof.Proof.AdamSpec
public import proofs.«01_k».proof.Proof.Gen.Kernel20.Frame
public import proofs.«01_k».proof.Proof.Gen.Kernel20Ideal.Value
public import proofs.«01_k».proof.Proof.Gen.Reference20Ideal.Run
public import Idealize.ShloMosaic.Lib.StableHlo.RunRead
public import Idealize.ShloMosaic.Lib.Pipeline.ValueKit
public import Idealize.ShloMosaic.Lib.Pipeline.ValueKit.Geometry
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Adam20

open Idealize.ShloMosaic Idealize.ShloMosaic.TcCoe Idealize.SL.Sem Cert.Kernel20Ideal Cert.Kernel20Ideal.Gen Cert.Kernel20Ideal.Value Cert.AdamSpec

variable (m : (ℓ : Loc nD τ sig) → Buf (Elt Ideal) ℓ) (c : Dev nD)

abbrev cond : FVec Ideal S8x1024 .f32 := m ((c : Thread nD τ).loc main_arg0)
abbrev dmod : FVec Ideal S8x768 .f32 := m ((c : Thread nD τ).loc main_arg1)
abbrev wt : FVec Ideal S1024x768 .f32 := m ((c : Thread nD τ).loc main_arg2)
abbrev mom : FVec Ideal S1024x768 .f32 := m ((c : Thread nD τ).loc main_arg3)
abbrev vel : FVec Ideal S1024x768 .f32 := m ((c : Thread nD τ).loc main_arg4)

/-- The gradient: the product over the batch. -/
def grad (i : Fin 1024) (j : Fin 768) : EReal := ∑ s : Fin 8, (show EReal from dmod m c (ix2 s j)) * cond m c (ix2 s i)

/-- The result arrays. -/
def Ggrad : FVec Ideal S1024x768 .f32 := fun x => grad m c (x 0) (x 1)
def Gdelta : FVec Ideal S1024x768 .f32 := fun x => stepD (wt m c x) (grad m c (x 0) (x 1)) (mom m c x) (vel m c x)
def Gmom : FVec Ideal S1024x768 .f32 := fun x => stepM (grad m c (x 0) (x 1)) (mom m c x)
def Gvel : FVec Ideal S1024x768 .f32 := fun x => stepV (grad m c (x 0) (x 1)) (vel m c x)

theorem V0_at (i : Fin 1024) (s : Fin 8) : (V m c main_v0 : FVec Ideal S1024x8 .f32) (ix2 i s) = cond m c (ix2 s i) := by
  unfold V
  simp only [hostOps0, List.flatten_cons, List.flatten_nil, List.append_nil, List.cons_append, List.nil_append]
  after_reads_simp
  pointwise

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

theorem lt_n (t : Fin cfg0.N) : t.val < 4 := lt_of_lt_of_eq t.isLt N_0

abbrev rowOf (t : Fin cfg0.N) (i : Fin 256) : Fin 1024 := ⟨t.val * 256 + i, by have := lt_n t; omega⟩

variable (t : Fin cfg0.N)

theorem blk0 (i : Fin 256) (s : Fin 8) : (iblk m c 0 t : FVec Ideal S256x8 .f32) (ix2 i s) = cond m c (ix2 s (rowOf t i)) := by
  rw [← V0_at]
  blk_point [iblk, idx t]

theorem blk1 (s : Fin 8) (j : Fin 768) : (iblk m c 1 t : FVec Ideal S8x768 .f32) (ix2 s j) = dmod m c (ix2 s j) := by
  blk_point [iblk, V_main_arg1, idx t]

theorem blk2 (i : Fin 256) (j : Fin 768) : (iblk m c 2 t : FVec Ideal S256x768 .f32) (ix2 i j) = wt m c (ix2 (rowOf t i) j) := by
  blk_point [iblk, V_main_arg2, idx t]

theorem blk3 (i : Fin 256) (j : Fin 768) : (iblk m c 3 t : FVec Ideal S256x768 .f32) (ix2 i j) = mom m c (ix2 (rowOf t i) j) := by
  blk_point [iblk, V_main_arg3, idx t]

theorem blk4 (i : Fin 256) (j : Fin 768) : (iblk m c 4 t : FVec Ideal S256x768 .f32) (ix2 i j) = vel m c (ix2 (rowOf t i) j) := by
  blk_point [iblk, V_main_arg4, idx t]

theorem pay_at (x0 : Vec Ideal S256x8 .f32) (x1 : Vec Ideal S8x768 .f32) (x2 x3 x4 : Vec Ideal S256x768 .f32) (h0 : x0 = iblk m c 0 t) (h1 : x1 = iblk m c 1 t)
    (i : Fin 256) (j : Fin 768) : k0_pay4 (F := Ideal) (k0_pay9 x0 x1 x2 x3 x4) (k0_pay10 x0 x1 x2 x3 x4) (View.ld x1 r0_11) (View.ld x0 r0_12)
      (View.ld x1 r0_13) (View.ld x0 r0_14) (View.ld x1 r0_15) (ix2 i j) = grad m c (rowOf t i) j := by
  pointwise [k0_pay4, k0_pay9, k0_pay10, k0_pay2, k0_pay3]
  unfold grad
  subst h0 h1
  simp only [blk0, blk1]
  refine Eq.trans ?_ (Finset.sum_congr rfl fun s _ => mul_comm (show EReal from cond m c (ix2 s (rowOf t i))) (dmod m c (ix2 s j)))
  rw [Fin.sum_univ_eight]

theorem out5_at (i : Fin 256) (j : Fin 768) : out0_5 (F := Ideal) (iblk m c 0 t) (iblk m c 1 t) (iblk m c 2 t) (iblk m c 3 t) (iblk m c 4 t) (ix2 i j) = Ggrad m c (ix2 (rowOf t i) j) := by
  frame_out
  exact pay_at m c t _ _ _ _ _ rfl rfl i j

theorem out6_at (i : Fin 256) (j : Fin 768) : out0_6 (F := Ideal) (iblk m c 0 t) (iblk m c 1 t) (iblk m c 2 t) (iblk m c 3 t) (iblk m c 4 t) (ix2 i j) = Gdelta m c (ix2 (rowOf t i) j) := by
  frame_out
  pointwise [k0_pay1, k0_pay7, k0_pay8, k0_pay5, k0_pay6]
  simp only [pay_at m c t _ _ _ _ _ rfl rfl, blk2, blk3, blk4]
  rfl

theorem out7_at (i : Fin 256) (j : Fin 768) : out0_7 (F := Ideal) (iblk m c 0 t) (iblk m c 1 t) (iblk m c 2 t) (iblk m c 3 t) (iblk m c 4 t) (ix2 i j) = Gmom m c (ix2 (rowOf t i) j) := by
  frame_out
  pointwise [k0_pay5]
  simp only [pay_at m c t _ _ _ _ _ rfl rfl, blk3]
  rfl

theorem out8_at (i : Fin 256) (j : Fin 768) : out0_8 (F := Ideal) (iblk m c 0 t) (iblk m c 1 t) (iblk m c 2 t) (iblk m c 3 t) (iblk m c 4 t) (ix2 i j) = Gvel m c (ix2 (rowOf t i) j) := by
  frame_out
  pointwise [k0_pay6]
  simp only [pay_at m c t _ _ _ _ _ rfl rfl, blk4]
  rfl

theorem final5 : (dats m 0 c).arrAt 5 cfg0.N = Ggrad m c := by
  refine (dats m 0 c).arrAt_eq_of_covers 5 (Ggrad m c) (by decide +kernel) fun t hf y => ?_
  blk_simp
  rw [after0_5]
  idx_vars y
  have e : ((View.whole main_v1_0).slice (win0_5.rect t)).emb (ix2 y0 y1) = ix2 (rowOf t y0) y1 := by
    blk_ext [idx t]
  rw [e]
  exact out5_at m c t y0 y1

theorem final6 : (dats m 0 c).arrAt 6 cfg0.N = Gdelta m c := by
  refine (dats m 0 c).arrAt_eq_of_covers 6 (Gdelta m c) (by decide +kernel) fun t hf y => ?_
  blk_simp
  rw [after0_6]
  idx_vars y
  have e : ((View.whole main_v1_1).slice (win0_6.rect t)).emb (ix2 y0 y1) = ix2 (rowOf t y0) y1 := by
    blk_ext [idx t]
  rw [e]
  exact out6_at m c t y0 y1

theorem final7 : (dats m 0 c).arrAt 7 cfg0.N = Gmom m c := by
  refine (dats m 0 c).arrAt_eq_of_covers 7 (Gmom m c) (by decide +kernel) fun t hf y => ?_
  blk_simp
  rw [after0_7]
  idx_vars y
  have e : ((View.whole main_v1_2).slice (win0_7.rect t)).emb (ix2 y0 y1) = ix2 (rowOf t y0) y1 := by
    blk_ext [idx t]
  rw [e]
  exact out7_at m c t y0 y1

theorem final8 : (dats m 0 c).arrAt 8 cfg0.N = Gvel m c := by
  refine (dats m 0 c).arrAt_eq_of_covers 8 (Gvel m c) (by decide +kernel) fun t hf y => ?_
  blk_simp
  rw [after0_8]
  idx_vars y
  have e : ((View.whole main_v1_3).slice (win0_8.rect t)).emb (ix2 y0 y1) = ix2 (rowOf t y0) y1 := by
    blk_ext [idx t]
  rw [e]
  exact out8_at m c t y0 y1

/-- The reference's run keeps its arguments, and it declares no semaphore. -/
theorem frame_r : Cert.quiescent_Reference20Ideal (hReference20Ideal := Cert.Reference20Ideal.Gen.facts) := fun m ρ _ =>
  (θ_run Cert.Reference20Ideal.defs _ _).mono
    (fun r h => ⟨fun c => (h c).2.2.2.2, Idealize.ShloMosaic.sem_eq_zero_of_no_sems (by decide) r.2⟩)
    (Cert.Reference20Ideal.Value.run (F := Ideal) m ρ)

/-- The claim's values are the kernel's result arrays; entry by entry they are the reference's results. -/
theorem algebraic : Cert.algebraic_Kernel20Ideal_Reference20Ideal (hKernel20Ideal := Cert.Kernel20Ideal.Gen.facts)
    (hReference20Ideal := Cert.Reference20Ideal.Gen.facts) := by
  intro m ρ m' ρ' _ hag
  refine ⟨fun c => Ggrad m c, fun c => Gdelta m c, fun c => Gmom m c, fun c => Gvel m c,
    (θ_run defs _ _).mono (fun r h c => ?_) (run_blocks (F := Ideal) m ρ), ?_⟩
  · obtain ⟨h0, h1, h2, h3, hk⟩ := h c
    exact ⟨h0.trans (final5 m c), h1.trans (final6 m c), h2.trans (final7 m c), h3.trans (final8 m c), hk⟩
  refine (θ_run Cert.Reference20Ideal.defs _ _).mono (fun r h c => ?_) (Cert.Reference20Ideal.Value.run (F := Ideal) m' ρ')
  obtain ⟨a0, a1, a2, a3, a4⟩ := hag c
  obtain ⟨h0, h1, h2, h3, hk⟩ := h c
  refine ⟨?_, ?_, ?_, ?_, hk⟩
  · rw [h0, a0, a1]
    funext x
    idx_vars x
    pointwise
    rfl
  · rw [h1, a0, a1, a2, a3, a4]
    funext x
    idx_vars x
    pointwise
    rfl
  · rw [h2, a0, a1, a3]
    funext x
    idx_vars x
    pointwise
    rfl
  · rw [h3, a0, a1, a4]
    funext x
    idx_vars x
    pointwise
    rfl

end Cert.Adam20

end
-- ==== Proof.InputBwd.lean ====
/- The backward input projection (`Kernel21`, `Reference21`): the gradient of the rows, through the first residual sum and
   through the modulated projection, and the column sums that are the gradients of the scale and of the shift. -/
module

public import proofs.«01_k».proof.Defs
public import proofs.«01_k».proof.Proof.Gen.Kernel21.Frame
public import proofs.«01_k».proof.Proof.Gen.Kernel21Ideal.Value
public import proofs.«01_k».proof.Proof.Gen.Reference21Ideal.Run
public import Idealize.ShloMosaic.Lib.StableHlo.RunRead
public import Idealize.ShloMosaic.Lib.Pipeline.ValueKit
public import Idealize.ShloMosaic.Lib.Pipeline.ValueKit.Geometry
public import Idealize.ShloMosaic.Lib.Pointwise
public import Idealize.ShloMosaic.Lib.Claim
public import Idealize.ShloMosaic.Adequacy
public import Idealize.ShloMosaic.Init

@[expose] public section

set_option maxRecDepth 16384

noncomputable section

namespace Cert.InputBwd

open Idealize.ShloMosaic Idealize.ShloMosaic.TcCoe Idealize.SL.Sem Cert.Kernel21Ideal Cert.Kernel21Ideal.Gen Cert.Kernel21Ideal.Value

variable (m : (ℓ : Loc nD τ sig) → Buf (Elt Ideal) ℓ) (c : Dev nD)

abbrev arg0 : FVec Ideal S4096x1024 .f32 := m ((c : Thread nD τ).loc main_arg0)
abbrev arg1 : FVec Ideal S1x1024 .f32 := m ((c : Thread nD τ).loc main_arg1)
abbrev arg3 : FVec Ideal S1024x3072 .f32 := m ((c : Thread nD τ).loc main_arg3)
abbrev arg4 : FVec Ideal S4096x3072 .f32 := m ((c : Thread nD τ).loc main_arg4)
abbrev arg5 : FVec Ideal S4096x1024 .f32 := m ((c : Thread nD τ).loc main_arg5)

/-- The gradient of the modulated row `i`. -/
def du (i : Fin 4096) (j : Fin 1024) : EReal := ∑ q : Fin 3072, (show EReal from arg4 m c (ix2 i q)) * arg3 m c (ix2 j q)

/-- The gradient of the row. -/
def gx (i : Fin 4096) (j : Fin 1024) : EReal :=
  Ideal.ofBits .f32 0x3F9837F0#32 * arg5 m c (ix2 i j) + du m c i j * (1 + arg1 m c (ix2 0 j))

/-- The result arrays. -/
def Gx : FVec Ideal S4096x1024 .f32 := fun x => gx m c (x 0) (x 1)
def Gsc : FVec Ideal S1x1024 .f32 := fun x => ∑ i : Fin 4096, du m c i (x 1) * arg0 m c (ix2 i (x 1))
def Gsh : FVec Ideal S1x1024 .f32 := fun x => ∑ i : Fin 4096, du m c i (x 1)

theorem split (f : Fin 3072 → EReal) :
    ∑ q, f q = (∑ q : Fin 2048, f ⟨q, by omega⟩) + ∑ q : Fin 1024, f ⟨2048 + q, by omega⟩ :=
  Fin.sum_univ_add (a := 2048) (b := 1024) f

theorem V0_at (i : Fin 4096) (j : Fin 2048) : (V m c main_v0 : FVec Ideal S4096x2048 .f32) (ix2 i j) = arg4 m c (ix2 i ⟨j, by omega⟩) := by
  unfold V
  simp only [hostOps0, List.flatten_cons, List.flatten_nil, List.append_nil, List.cons_append, List.nil_append]
  after_reads_simp
  pointwise

theorem V1_at (i : Fin 4096) (j : Fin 1024) : (V m c main_v1 : FVec Ideal S4096x1024 .f32) (ix2 i j) = arg4 m c (ix2 i ⟨2048 + j, by omega⟩) := by
  unfold V
  simp only [hostOps0, List.flatten_cons, List.flatten_nil, List.append_nil, List.cons_append, List.nil_append]
  after_reads_simp
  pointwise

theorem V2_at (i : Fin 1024) (j : Fin 3072) : (V m c main_v2 : FVec Ideal S1024x3072 .bf16) (ix2 i j) = arg3 m c (ix2 i j) := by
  unfold V
  simp only [hostOps0, List.flatten_cons, List.flatten_nil, List.append_nil, List.cons_append, List.nil_append]
  after_reads_simp
  pointwise

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![t.val, 0]
    ∧ win0_7.index t = ![0, 0] ∧ win0_8.index t = ![0, 0] :=
  (by decide +kernel : ∀ t : Fin grid0.N, _)

theorem lt16 (t : Fin cfg0.N) : t.val < 16 := lt_of_lt_of_eq t.isLt N_0

abbrev rowOf (t : Fin cfg0.N) (i : Fin 256) : Fin 4096 := ⟨t.val * 256 + i, by have := lt16 t; omega⟩

variable (t : Fin cfg0.N)

theorem blk0 (i : Fin 256) (q : Fin 2048) : (iblk m c 0 t : FVec Ideal S256x2048 .f32) (ix2 i q) = arg4 m c (ix2 (rowOf t i) ⟨q, by omega⟩) := by
  rw [← V0_at]
  blk_point [iblk, idx t]

theorem blk1 (i : Fin 256) (q : Fin 1024) : (iblk m c 1 t : FVec Ideal S256x1024 .f32) (ix2 i q) = arg4 m c (ix2 (rowOf t i) ⟨2048 + q, by omega⟩) := by
  rw [← V1_at]
  blk_point [iblk, idx t]

theorem blk2 (j : Fin 1024) (q : Fin 3072) : (iblk m c 2 t : FVec Ideal S1024x3072 .bf16) (ix2 j q) = arg3 m c (ix2 j q) := by
  rw [← V2_at]
  blk_point [iblk, idx t]

theorem blk3 (i : Fin 256) (j : Fin 1024) : (iblk m c 3 t : FVec Ideal S256x1024 .f32) (ix2 i j) = arg0 m c (ix2 (rowOf t i) j) := by
  blk_point [iblk, V_main_arg0, idx t]

theorem blk4 (i : Fin 256) (j : Fin 1024) : (iblk m c 4 t : FVec Ideal S256x1024 .f32) (ix2 i j) = arg5 m c (ix2 (rowOf t i) j) := by
  blk_point [iblk, V_main_arg5, idx t]

theorem blk5 (j : Fin 1024) : (iblk m c 5 t : FVec Ideal S1x1024 .f32) (ix2 0 j) = arg1 m c (ix2 0 j) := by
  blk_point [iblk, V_main_arg1, idx t]

/-- One block's gradient of the modulated rows, from the weight's two parts. -/
theorem pay5_at (x0 : FVec Ideal S256x2048 .f32) (h0 : x0 = iblk m c 0 t) (x1 : FVec Ideal S256x1024 .f32) (h1 : x1 = iblk m c 1 t)
    (a : FVec Ideal S1024x2048 .bf16) (ha : ∀ j (q : Fin 2048), a (ix2 j q) = arg3 m c (ix2 j ⟨q, by omega⟩))
    (b : FVec Ideal S1024x1024 .bf16) (hb : ∀ j (q : Fin 1024), b (ix2 j q) = arg3 m c (ix2 j ⟨2048 + q, by omega⟩))
    (i : Fin 256) (j : Fin 1024) : k0_pay5 (F := Ideal) x0 a x1 b (ix2 i j) = du m c (rowOf t i) j := by
  subst h0 h1
  pointwise [k0_pay5]
  simp only [blk0, blk1, ha, hb]
  unfold du
  rw [split]

theorem ldA (x2 : FVec Ideal S1024x3072 .bf16) (h2 : x2 = iblk m c 2 t) (j : Fin 1024) (q : Fin 2048) :
    (View.ld (Val := Elt Ideal) (e' := .bf16) x2 (Rect.unit (s := S1024x3072) ![0, 0] ![1024, 2048] inb_S1024x3072_S1024x2048_0_0)) (ix2 j q)
      = arg3 m c (ix2 j ⟨q, by omega⟩) := by
  refine Eq.trans (b := x2 (ix2 j ⟨q, by omega⟩)) (congrArg x2 (funext fun k => Fin.ext ?_)) (by rw [h2]; exact blk2 m c t j ⟨q, by omega⟩)
  fin_cases k
  · simp [Rect.unit]
  · simp [Rect.unit]

theorem ldB (x2 : FVec Ideal S1024x3072 .bf16) (h2 : x2 = iblk m c 2 t) (j : Fin 1024) (q : Fin 1024) :
    (View.ld (Val := Elt Ideal) (e' := .bf16) x2 (Rect.unit (s := S1024x3072) ![0, 2048] ![1024, 1024] inb_S1024x3072_S1024x1024_0_2048)) (ix2 j q)
      = arg3 m c (ix2 j ⟨2048 + q, by omega⟩) := by
  refine Eq.trans (b := x2 (ix2 j ⟨2048 + q, by omega⟩)) (congrArg x2 (funext fun k => Fin.ext ?_)) (by rw [h2]; exact blk2 m c t j ⟨2048 + q, by omega⟩)
  fin_cases k
  · simp [Rect.unit]
  · simp [Rect.unit]

theorem outX (i : Fin 256) (j : Fin 1024) : (outsAt0 m c t.val t.isLt).1 (ix2 i j) = gx m c (rowOf t i) j := by
  by_cases h0 : t.val % 16 = 0
  · rw [outsAt0_A m c t h0]
    frame_out
    pointwise [k0_pay6]
    exact congrArg₂ (· + ·) (congrArg _ (blk4 m c t i j))
      (congrArg₂ (· * ·) (pay5_at m c t _ rfl _ rfl _ (ldA m c t _ rfl) _ (ldB m c t _ rfl) i j) (congrArg (1 + ·) (blk5 m c t j)))
  · rw [outsAt0_B m c t h0]
    frame_out
    pointwise [k0_pay6]
    exact congrArg₂ (· + ·) (congrArg _ (blk4 m c t i j))
      (congrArg₂ (· * ·) (pay5_at m c t _ rfl _ rfl _ (ldA m c t _ rfl) _ (ldB m c t _ rfl) i j) (congrArg (1 + ·) (blk5 m c t j)))

theorem outScA (h0 : t.val % 16 = 0) (j : Fin 1024) :
    (outsAt0 m c t.val t.isLt).2.1 (ix2 0 j) = ∑ i : Fin 256, du m c (rowOf t i) j * arg0 m c (ix2 (rowOf t i) j) := by
  rw [outsAt0_A m c t h0]
  frame_out
  pointwise [k0_pay1, k0_pay7, k0_pay8, k0_pay3]
  exact Finset.sum_congr rfl fun x _ => congrArg₂ (· * ·) (pay5_at m c t _ rfl _ rfl _ (ldA m c t _ rfl) _ (ldB m c t _ rfl) x j) (blk3 m c t x j)

theorem outScB (h0 : ¬t.val % 16 = 0) (j : Fin 1024) :
    (outsAt0 m c t.val t.isLt).2.1 (ix2 0 j) = (outsAt0 m c (t.val - 1) (by omega)).2.1 (ix2 0 j)
      + ∑ i : Fin 256, du m c (rowOf t i) j * arg0 m c (ix2 (rowOf t i) j) := by
  rw [outsAt0_B m c t h0]
  frame_out
  pointwise [k0_pay1, k0_pay7, k0_pay8]
  exact congrArg _ (Finset.sum_congr rfl fun x _ => congrArg₂ (· * ·) (pay5_at m c t _ rfl _ rfl _ (ldA m c t _ rfl) _ (ldB m c t _ rfl) x j) (blk3 m c t x j))

theorem outShA (h0 : t.val % 16 = 0) (j : Fin 1024) :
    (outsAt0 m c t.val t.isLt).2.2 (ix2 0 j) = ∑ i : Fin 256, du m c (rowOf t i) j := by
  rw [outsAt0_A m c t h0]
  frame_out
  pointwise [k0_pay2, k0_pay4]
  exact Finset.sum_congr rfl fun x _ => pay5_at m c t _ rfl _ rfl _ (ldA m c t _ rfl) _ (ldB m c t _ rfl) x j

theorem outShB (h0 : ¬t.val % 16 = 0) (j : Fin 1024) :
    (outsAt0 m c t.val t.isLt).2.2 (ix2 0 j) = (outsAt0 m c (t.val - 1) (by omega)).2.2 (ix2 0 j)
      + ∑ i : Fin 256, du m c (rowOf t i) j := by
  rw [outsAt0_B m c t h0]
  frame_out
  pointwise [k0_pay2]
  exact congrArg _ (Finset.sum_congr rfl fun x _ => pay5_at m c t _ rfl _ rfl _ (ldA m c t _ rfl) _ (ldB m c t _ rfl) x j)

/-- A running sum over the blocks. -/
theorem run_sum {N : ℕ} (f : (n : ℕ) → n < N → EReal) (b : ℕ → EReal) (h0 : ∀ h, f 0 h = b 0)
    (hB : ∀ n (h : n + 1 < N), f (n + 1) h = f n (by omega) + b (n + 1)) :
    ∀ (n : ℕ) (h : n < N), f n h = ∑ p ∈ Finset.range (n + 1), b p := by
  intro n
  induction n with
  | zero => intro h; rw [h0]; simp
  | succ n ih => intro h; rw [hB, ih, Finset.sum_range_succ _ (n + 1)]

/-- One block of rows' share of a column sum. -/
def rowBlock (g : Fin 4096 → EReal) (p : ℕ) : EReal := if h : p < 16 then ∑ i : Fin 256, g ⟨p * 256 + i, by omega⟩ else 0

theorem rowBlock_eq (g : Fin 4096 → EReal) : ∑ i : Fin 256, g (rowOf t i) = rowBlock g t.val := by
  unfold rowBlock
  rw [dif_pos (lt16 t)]

theorem rowBlock_sum (g : Fin 4096 → EReal) : ∑ p ∈ Finset.range (15 + 1), rowBlock g p = ∑ i, g i := by
  rw [← Fin.sum_mul_add_fin 16 256, Finset.sum_range]
  refine Finset.sum_congr rfl fun p _ => ?_
  unfold rowBlock
  rw [dif_pos p.isLt]

theorem sc_last (h : 15 < cfg0.N) (j : Fin 1024) :
    (outsAt0 m c 15 h).2.1 (ix2 0 j) = ∑ i : Fin 4096, du m c i j * arg0 m c (ix2 i j) := by
  rw [← rowBlock_sum fun i => du m c i j * arg0 m c (ix2 i j)]
  refine run_sum (fun n h => (outsAt0 m c n h).2.1 (ix2 0 j)) _ (fun h => ?_) (fun n h => ?_) 15 h
  · exact (outScA m c ⟨0, h⟩ rfl j).trans (rowBlock_eq ⟨0, h⟩ fun i => du m c i j * arg0 m c (ix2 i j))
  · have h16 := lt16 ⟨n + 1, h⟩
    exact (outScB m c ⟨n + 1, h⟩ (by simp only at h16 ⊢; omega) j).trans
      (congrArg _ (rowBlock_eq ⟨n + 1, h⟩ fun i => du m c i j * arg0 m c (ix2 i j)))

theorem sh_last (h : 15 < cfg0.N) (j : Fin 1024) : (outsAt0 m c 15 h).2.2 (ix2 0 j) = ∑ i : Fin 4096, du m c i j := by
  rw [← rowBlock_sum fun i => du m c i j]
  refine run_sum (fun n h => (outsAt0 m c n h).2.2 (ix2 0 j)) _ (fun h => ?_) (fun n h => ?_) 15 h
  · exact (outShA m c ⟨0, h⟩ rfl j).trans (rowBlock_eq ⟨0, h⟩ fun i => du m c i j)
  · have h16 := lt16 ⟨n + 1, h⟩
    exact (outShB m c ⟨n + 1, h⟩ (by simp only at h16 ⊢; omega) j).trans
      (congrArg _ (rowBlock_eq ⟨n + 1, h⟩ fun i => du m c i j))

theorem final6 : (dats m 0 c).arrAt 6 cfg0.N = Gx m c := by
  refine (dats m 0 c).arrAt_eq_of_covers 6 (Gx m c) (by decide +kernel) fun t hf y => ?_
  blk_simp
  rw [after0_6]
  idx_vars y
  have e : ((View.whole main_v3_0).slice (win0_6.rect t)).emb (ix2 y0 y1) = ix2 (rowOf t y0) y1 := by
    blk_ext [idx t]
  rw [e]
  exact outX m c t y0 y1

theorem flush7 : ∀ t : Fin cfg0.N, (cfg0.win 7).flush t = true → t.val = 15 := (by decide +kernel : ∀ t : Fin grid0.N, _)
theorem flush8 : ∀ t : Fin cfg0.N, (cfg0.win 8).flush t = true → t.val = 15 := (by decide +kernel : ∀ t : Fin grid0.N, _)

theorem Gsc_at (j : Fin 1024) : Gsc m c (ix2 0 j) = ∑ i : Fin 4096, du m c i j * arg0 m c (ix2 i j) := rfl

theorem sc_at (n : ℕ) (hn : n < cfg0.N) (h : n = 15) (j : Fin 1024) : (outsAt0 m c n hn).2.1 (ix2 0 j) = Gsc m c (ix2 0 j) := by
  subst h
  rw [Gsc_at]
  exact sc_last m c hn j

theorem final7 : (dats m 0 c).arrAt 7 cfg0.N = Gsc m c := by
  refine (dats m 0 c).arrAt_eq_of_covers 7 (Gsc m c) (by decide +kernel) fun t hf y => ?_
  have ht := flush7 t hf
  blk_simp
  rw [after0_7]
  idx_vars y
  obtain rfl : y0 = (0 : Fin 1) := Subsingleton.elim _ _
  have e : ((View.whole main_v3_1).slice (win0_7.rect t)).emb (ix2 0 y1) = ix2 0 y1 := by
    blk_ext [idx t]
  rw [e]
  exact sc_at m c t.val t.isLt ht y1

theorem Gsh_at (j : Fin 1024) : Gsh m c (ix2 0 j) = ∑ i : Fin 4096, du m c i j := rfl

theorem sh_at (n : ℕ) (hn : n < cfg0.N) (h : n = 15) (j : Fin 1024) : (outsAt0 m c n hn).2.2 (ix2 0 j) = Gsh m c (ix2 0 j) := by
  subst h
  rw [Gsh_at]
  exact sh_last m c hn j

theorem final8 : (dats m 0 c).arrAt 8 cfg0.N = Gsh m c := by
  refine (dats m 0 c).arrAt_eq_of_covers 8 (Gsh m c) (by decide +kernel) fun t hf y => ?_
  have ht := flush8 t hf
  blk_simp
  rw [after0_8]
  idx_vars y
  obtain rfl : y0 = (0 : Fin 1) := Subsingleton.elim _ _
  have e : ((View.whole main_v3_2).slice (win0_8.rect t)).emb (ix2 0 y1) = ix2 0 y1 := by
    blk_ext [idx t]
  rw [e]
  exact sh_at m c t.val t.isLt ht y1

/-- The reference's run keeps its arguments, and it declares no semaphore. -/
theorem frame_r : Cert.quiescent_Reference21Ideal (hReference21Ideal := Cert.Reference21Ideal.Gen.facts) := fun m ρ _ =>
  (θ_run Cert.Reference21Ideal.defs _ _).mono
    (fun r h => ⟨fun c => (h c).2.2.2, Idealize.ShloMosaic.sem_eq_zero_of_no_sems (by decide) r.2⟩)
    (Cert.Reference21Ideal.Value.run (F := Ideal) m ρ)

/-- The claim's values are the kernel's result arrays; entry by entry they are the reference's. -/
theorem algebraic : Cert.algebraic_Kernel21Ideal_Reference21Ideal (hKernel21Ideal := Cert.Kernel21Ideal.Gen.facts)
    (hReference21Ideal := Cert.Reference21Ideal.Gen.facts) := by
  intro m ρ m' ρ' _ hag
  refine ⟨fun c => Gx m c, fun c => Gsc m c, fun c => Gsh m c,
    (θ_run defs _ _).mono (fun r h c => ?_) (run_blocks (F := Ideal) m ρ), ?_⟩
  · obtain ⟨h0, h1, h2, hk⟩ := h c
    exact ⟨h0.trans (final6 m c), h1.trans (final7 m c), h2.trans (final8 m c), hk⟩
  refine (θ_run Cert.Reference21Ideal.defs _ _).mono (fun r h c => ?_) (Cert.Reference21Ideal.Value.run (F := Ideal) m' ρ')
  obtain ⟨a0, a1, a2, a3, a4, a5⟩ := hag c
  obtain ⟨h0, h1, h2, hk⟩ := h c
  refine ⟨?_, ?_, ?_, hk⟩
  · rw [h0, a1, a3, a4, a5]
    funext x
    idx_vars x
    show _ = gx m c x0 x1
    unfold gx du
    pointwise
    rw [add_comm, mul_comm (Ideal.ofBits _ _)]
  · rw [h1, a0, a3, a4]
    funext x
    idx_vars x
    pointwise
    refine Finset.sum_congr rfl fun i _ => ?_
    rw [mul_comm]
    rfl
  · rw [h2, a3, a4]
    funext x
    idx_vars x
    pointwise
    rfl

end Cert.InputBwd

end
-- ==== Proof.InProj.lean ====
/- The input projection (`Kernel22`, `Reference22`): the modulated rows times the input matrix. -/
module

public import proofs.«01_k».proof.Defs
public import proofs.«01_k».proof.Proof.Gen.Kernel22.Frame
public import proofs.«01_k».proof.Proof.Gen.Kernel22Ideal.Value
public import proofs.«01_k».proof.Proof.Gen.Reference22Ideal.Run
public import Idealize.ShloMosaic.Lib.StableHlo.RunRead
public import Idealize.ShloMosaic.Lib.Pipeline.ValueKit
public import Idealize.ShloMosaic.Lib.Pipeline.ValueKit.Geometry
public import Idealize.ShloMosaic.Lib.Pointwise
public import Idealize.ShloMosaic.Lib.Claim
public import Idealize.ShloMosaic.Adequacy
public import Idealize.ShloMosaic.Init

@[expose] public section

set_option maxRecDepth 16384

noncomputable section

namespace Cert.InProj

open Idealize.ShloMosaic Idealize.ShloMosaic.TcCoe Idealize.SL.Sem Cert.Kernel22Ideal Cert.Kernel22Ideal.Gen Cert.Kernel22Ideal.Value

variable (m : (ℓ : Loc nD τ sig) → Buf (Elt Ideal) ℓ) (c : Dev nD)

abbrev arg0 : FVec Ideal S4096x1024 .f32 := m ((c : Thread nD τ).loc main_arg0)
abbrev arg1 : FVec Ideal S1x1024 .f32 := m ((c : Thread nD τ).loc main_arg1)
abbrev arg2 : FVec Ideal S1x1024 .f32 := m ((c : Thread nD τ).loc main_arg2)
abbrev arg3 : FVec Ideal S1024x3072 .f32 := m ((c : Thread nD τ).loc main_arg3)

/-- The product's entry. -/
def entry (i : Fin 4096) (j : Fin 3072) : EReal :=
  ∑ k : Fin 1024, ((show EReal from arg0 m c (ix2 i k)) * (1 + arg1 m c (ix2 0 k)) + arg2 m c (ix2 0 k)) * arg3 m c (ix2 k j)

/-- The product, as an array. -/
def G : FVec Ideal S4096x3072 .f32 := fun x => entry m c (x 0) (x 1)

theorem G_at (i : Fin 4096) (j : Fin 3072) : G m c (ix2 i j) = entry m c i j := rfl

theorem V0_at (i : Fin 1024) (j : Fin 3072) : (V m c main_v0 : FVec Ideal S1024x3072 .bf16) (ix2 i j) = arg3 m c (ix2 i j) := by
  unfold V
  simp only [hostOps0, List.flatten_cons, List.flatten_nil, List.append_nil, List.cons_append, List.nil_append]
  after_reads_simp
  pointwise

theorem idx : ∀ t : Fin cfg0.N, win0_0.index t = ![t.val / 3, 0] ∧ win0_1.index t = ![0, t.val % 3] ∧ win0_2.index t = ![0, 0]
    ∧ win0_3.index t = ![0, 0] ∧ win0_4.index t = ![t.val / 3, t.val % 3] :=
  (by decide +kernel : ∀ t : Fin grid0.N, _)

theorem lt24 (t : Fin cfg0.N) : t.val < 24 := lt_of_lt_of_eq t.isLt N_0

abbrev rowOf (t : Fin cfg0.N) (i : Fin 512) : Fin 4096 := ⟨t.val / 3 * 512 + i, by have := lt24 t; omega⟩
abbrev colOf (t : Fin cfg0.N) (j : Fin 1024) : Fin 3072 := ⟨t.val % 3 * 1024 + j, by omega⟩

theorem blk0 (t : Fin cfg0.N) (i : Fin 512) (k : Fin 1024) :
    (iblk m c 0 t : FVec Ideal S512x1024 .f32) (ix2 i k) = arg0 m c (ix2 (rowOf t i) k) := by
  blk_point [iblk, V_main_arg0, idx t]

theorem blk1 (t : Fin cfg0.N) (k j : Fin 1024) :
    (iblk m c 1 t : FVec Ideal S1024x1024 .bf16) (ix2 k j) = arg3 m c (ix2 k (colOf t j)) := by
  rw [← V0_at]
  blk_point [iblk, idx t]

theorem blk2 (t : Fin cfg0.N) (k : Fin 1024) : (iblk m c 2 t : FVec Ideal S1x1024 .f32) (ix2 0 k) = arg1 m c (ix2 0 k) := by
  blk_point [iblk, V_main_arg1, idx t]

theorem blk3 (t : Fin cfg0.N) (k : Fin 1024) : (iblk m c 3 t : FVec Ideal S1x1024 .f32) (ix2 0 k) = arg2 m c (ix2 0 k) := by
  blk_point [iblk, V_main_arg2, idx t]

theorem out_at (t : Fin cfg0.N) (i : Fin 512) (j : Fin 1024) : outsAt0 m c t (ix2 i j) = entry m c (rowOf t i) (colOf t j) := by
  unfold outsAt0
  frame_out
  pointwise [k0_pay1, k0_pay2]
  simp only [blk0, blk1, blk2, blk3]
  rfl

theorem final : (dats m 0 c).arrAt 4 cfg0.N = G m c := by
  refine (dats m 0 c).arrAt_eq_of_covers 4 (G m c) (by decide +kernel) fun t hf y => ?_
  blk_simp
  rw [after0_4]
  idx_vars y
  rw [out_at]
  have e : ((View.whole main_v1).slice (win0_4.rect t)).emb (ix2 y0 y1) = ix2 (rowOf t y0) (colOf t y1) := by
    blk_ext [idx t]
  rw [e, G_at]

/-- The reference's run keeps its arguments, and it declares no semaphore. -/
theorem frame_r : Cert.quiescent_Reference22Ideal (hReference22Ideal := Cert.Reference22Ideal.Gen.facts) := fun m ρ _ =>
  (θ_run Cert.Reference22Ideal.defs _ _).mono
    (fun r h => ⟨fun c => (h c).2, Idealize.ShloMosaic.sem_eq_zero_of_no_sems (by decide) r.2⟩)
    (Cert.Reference22Ideal.Value.run (F := Ideal) m ρ)

/-- The claim's value is the kernel's result array; entry by entry it is the reference's. -/
theorem algebraic : Cert.algebraic_Kernel22Ideal_Reference22Ideal (hKernel22Ideal := Cert.Kernel22Ideal.Gen.facts)
    (hReference22Ideal := Cert.Reference22Ideal.Gen.facts) := by
  intro m ρ m' ρ' _ hag
  refine ⟨fun c => G m c, (θ_run defs _ _).mono (fun r h c => ⟨(h c).1.trans (final m c), (h c).2⟩) (run_blocks (F := Ideal) m ρ), ?_⟩
  refine (θ_run Cert.Reference22Ideal.defs _ _).mono (fun r h c => ⟨?_, (h c).2⟩) (Cert.Reference22Ideal.Value.run (F := Ideal) m' ρ')
  obtain ⟨h0, h1, h2, h3⟩ := hag c
  rw [(h c).1, h0, h1, h2, h3]
  funext x
  idx_vars x
  pointwise
  rfl

end Cert.InProj

end
-- ==== Proof.ModPart.lean ====
/- The conditioning and one device's columns of the modulation (`Kernel23`, `Reference23`): the conditioning's rectified
   rows times w_ada's columns, and the bias. -/
module

public import proofs.«01_k».proof.Defs
public import proofs.«01_k».proof.Proof.Gen.Kernel23.Frame
public import proofs.«01_k».proof.Proof.Gen.Kernel23Ideal.Value
public import proofs.«01_k».proof.Proof.Gen.Reference23Ideal.Run
public import Idealize.ShloMosaic.Lib.Pointwise
public import Idealize.ShloMosaic.Lib.Claim
public import Idealize.ShloMosaic.Adequacy
public import Idealize.ShloMosaic.Init

@[expose] public section

set_option maxRecDepth 16384

noncomputable section

namespace Cert.ModPart

open Idealize.ShloMosaic Idealize.ShloMosaic.TcCoe Idealize.SL.Sem Cert.Kernel23Ideal Cert.Kernel23Ideal.Gen Cert.Kernel23Ideal.Value

theorem exp_neg (x : EReal) : Ideal.exp (-x) = Ideal.exp (0 - x) := by rw [zero_sub]

/-- The reference's run keeps its arguments, and it declares no semaphore. -/
theorem frame_r : Cert.quiescent_Reference23Ideal (hReference23Ideal := Cert.Reference23Ideal.Gen.facts) := fun m ρ _ =>
  (θ_run Cert.Reference23Ideal.defs _ _).mono
    (fun r h => ⟨fun c => (h c).2.2, Idealize.ShloMosaic.sem_eq_zero_of_no_sems (by decide) r.2⟩)
    (Cert.Reference23Ideal.Value.run (F := Ideal) m ρ)

/-- The claim's values are the kernel's result arrays; entry by entry they are the reference's. -/
theorem algebraic : Cert.algebraic_Kernel23Ideal_Reference23Ideal (hKernel23Ideal := Cert.Kernel23Ideal.Gen.facts)
    (hReference23Ideal := Cert.Reference23Ideal.Gen.facts) := by
  intro m ρ m' ρ' _ hag
  refine ⟨fun c => G3 (m ((c : Thread nD τ).loc main_arg0)) (m ((c : Thread nD τ).loc main_arg1)) (m ((c : Thread nD τ).loc main_arg2)),
    fun c => G4 (m ((c : Thread nD τ).loc main_arg0)) (m ((c : Thread nD τ).loc main_arg1)) (m ((c : Thread nD τ).loc main_arg2)),
    run (F := Ideal) m ρ, ?_⟩
  refine (θ_run Cert.Reference23Ideal.defs _ _).mono (fun r h c => ?_) (Cert.Reference23Ideal.Value.run (F := Ideal) m' ρ')
  obtain ⟨a0, a1, a2⟩ := hag c
  obtain ⟨h0, h1, hk⟩ := h c
  refine ⟨?_, ?_, hk⟩
  · rw [h0, a0, a1, a2]
    funext x
    idx_vars x
    pointwise [G3, k0_pay2, k0_pay1]
    simp only [exp_neg]
  · rw [h1, a0]
    funext x
    idx_vars x
    pointwise [G4, k0_pay1]
    exact congrArg (fun z => _ * Ideal.div 1 (1 + z)) (exp_neg _)

end Cert.ModPart

end
-- ==== Proof.SmallReduce.lean ====
/- The eight devices' rows of sums added up, and the gradient of the forget gate's lower bounds (`Kernel24`,
   `Reference24`): the closed form of the softmax's gradient is the chain rule's. -/
module

public import proofs.«01_k».proof.Defs
public import proofs.«01_k».proof.Proof.Pre
public import proofs.«01_k».proof.Proof.Gen.Pre_finite24
public import proofs.«01_k».proof.Proof.Gen.Kernel24.Frame
public import proofs.«01_k».proof.Proof.Gen.Kernel24Ideal.Value
public import proofs.«01_k».proof.Proof.Gen.Reference24Ideal.Run
public import Idealize.ShloMosaic.Lib.Pipeline.ValueKit
public import Idealize.ShloMosaic.Lib.Pipeline.ValueKit.Geometry
public import Idealize.ShloMosaic.Lib.Pointwise
public import Idealize.ShloMosaic.Lib.Claim
public import Idealize.ShloMosaic.Adequacy
public import Idealize.ShloMosaic.Init

@[expose] public section

set_option maxRecDepth 16384

noncomputable section

namespace Cert.SmallReduce

open Idealize.ShloMosaic Idealize.ShloMosaic.TcCoe Idealize.SL.Sem Cert.Kernel24Ideal Cert.Kernel24Ideal.Gen Cert.Kernel24Ideal.Value Cert.Row

/-! ## The softmax's gradient -/

/-- The first of the two weights. -/
def lb (w0 w1 : EReal) : EReal :=
  Ideal.div (Ideal.exp (w0 - max w0 w1)) (Ideal.exp (w0 - max w0 w1) + Ideal.exp (w1 - max w0 w1))

/-- The gradient of the first row, the closed form. -/
def closed (g w0 w1 : EReal) : EReal := g * lb w0 w1 * (1 - lb w0 w1)

/-- The gradient through the softmax's denominator. -/
def through (g w0 w1 : EReal) : EReal :=
  -(g * Ideal.div 1 ((Ideal.exp w0 + Ideal.exp w1) * (Ideal.exp w0 + Ideal.exp w1)) * Ideal.exp w0)

theorem lb_coe (w0 w1 : ℝ) : lb (w0 : EReal) (w1 : EReal) = ((Real.exp w0 / (Real.exp w0 + Real.exp w1) : ℝ) : EReal) := by
  obtain ⟨M, hM⟩ := (isReal_coe w0).max (isReal_coe w1)
  have h0 := Real.exp_pos w0
  have h1 := Real.exp_pos w1
  have hm := Real.exp_pos M
  have hs : Real.exp (w0 - M) + Real.exp (w1 - M) ≠ 0 := (add_pos (Real.exp_pos _) (Real.exp_pos _)).ne'
  rw [lb, hM, ← EReal.coe_sub, ← EReal.coe_sub, Ideal.exp_coe, Ideal.exp_coe, ← EReal.coe_add, Ideal.div_coe hs, ← EReal.coe_mul]
  congr 1
  rw [Real.exp_sub, Real.exp_sub]
  field_simp

theorem closed_coe (g w0 w1 : ℝ) : closed (g : EReal) (w0 : EReal) (w1 : EReal)
    = ((g * Real.exp w0 * Real.exp w1 / (Real.exp w0 + Real.exp w1) ^ 2 : ℝ) : EReal) := by
  have h0 := Real.exp_pos w0
  have h1 := Real.exp_pos w1
  rw [closed, lb_coe, ← EReal.coe_one, ← EReal.coe_sub, ← EReal.coe_mul, ← EReal.coe_mul]
  congr 1
  field_simp
  ring

theorem through_coe (g w0 w1 : ℝ) : through (g : EReal) (w0 : EReal) (w1 : EReal)
    = ((-(g * Real.exp w0 / (Real.exp w0 + Real.exp w1) ^ 2) : ℝ) : EReal) := by
  have h0 := Real.exp_pos w0
  have h1 := Real.exp_pos w1
  have hs : (Real.exp w0 + Real.exp w1) * (Real.exp w0 + Real.exp w1) ≠ 0 := by positivity
  rw [through, Ideal.exp_coe, Ideal.exp_coe, ← EReal.coe_one, ← EReal.coe_add, ← EReal.coe_mul, Ideal.div_coe hs, ← EReal.coe_mul, ← EReal.coe_mul,
    ← EReal.coe_mul, ← EReal.coe_neg]
  congr 1
  field_simp

/-- The first row's gradient. -/
theorem first {g w0 w1 : EReal} (hg : IsReal g) (h0 : IsReal w0) (h1 : IsReal w1) :
    through g w0 w1 * Ideal.exp w0 + Ideal.div g (Ideal.exp w0 + Ideal.exp w1) * Ideal.exp w0 = closed g w0 w1 := by
  obtain ⟨g, rfl⟩ := hg
  obtain ⟨w0, rfl⟩ := h0
  obtain ⟨w1, rfl⟩ := h1
  have p0 := Real.exp_pos w0
  have p1 := Real.exp_pos w1
  have hs : Real.exp w0 + Real.exp w1 ≠ 0 := (add_pos p0 p1).ne'
  rw [closed_coe, through_coe, Ideal.exp_coe, Ideal.exp_coe, ← EReal.coe_add, Ideal.div_coe hs, ← EReal.coe_mul, ← EReal.coe_mul, ← EReal.coe_mul,
    ← EReal.coe_add]
  congr 1
  field_simp
  ring

/-- The second row's gradient. -/
theorem second {g w0 w1 : EReal} (hg : IsReal g) (h0 : IsReal w0) (h1 : IsReal w1) :
    through g w0 w1 * Ideal.exp w1 = 0 - closed g w0 w1 := by
  obtain ⟨g, rfl⟩ := hg
  obtain ⟨w0, rfl⟩ := h0
  obtain ⟨w1, rfl⟩ := h1
  have p0 := Real.exp_pos w0
  have p1 := Real.exp_pos w1
  rw [closed_coe, through_coe, Ideal.exp_coe, ← EReal.coe_mul, ← EReal.coe_zero, ← EReal.coe_sub]
  congr 1
  field_simp
  ring

/-! ## The kernel's results -/

/-- The sum of the eight devices' rows. -/
def tot (a0 : FVec Ideal S8x1x11904 .f32) (j : Fin 11904) : EReal := ∑ s : Fin 8, (show EReal from a0 (ix3 s 0 j))

theorem ld2 (a1 : FVec Ideal S2x512 .f32) (k : Fin 2) (hb : ∀ i, (![k.val, 0] : Fin 2 → ℕ) i + (![1, 512] : Fin 2 → ℕ) i ≤ S2x512.size i)
    (j : Fin 512) : (View.ld (Val := Elt Ideal) (e' := .f32) a1 (Rect.unit (s := S2x512) ![k.val, 0] ![1, 512] hb)) (ix2 (0 : Fin 1) j)
      = a1 (ix2 k j) := by
  refine congrArg a1 (funext fun i => Fin.ext ?_)
  fin_cases i <;> simp [Rect.unit]

theorem tot_pay (a0 : FVec Ideal S8x1x11904 .f32) (j : Fin 11904) :
    k0_pay3 (F := Ideal) (View.ld a0 r0_0) (View.ld a0 r0_1) (View.ld a0 r0_2) (View.ld a0 r0_3) (View.ld a0 r0_4) (View.ld a0 r0_5) (View.ld a0 r0_6)
      (View.ld a0 r0_7) (ix2 0 j) = tot a0 j := by
  pointwise [k0_pay3]
  rw [tot, Fin.sum_univ_eight]

abbrev col (j : Fin 512) : Fin 11904 := ⟨6144 + j, by omega⟩

theorem canon_1 (w : S1x512.Idx → Elt Ideal .f32) (L : List (View.Piece (Elt Ideal) S2x512 .f32)) (j : Fin 512) :
    View.canon ((⟨r0_10, w⟩ : View.Piece (Elt Ideal) S2x512 .f32) :: L) (ix2 1 j) = w (ix2 0 j) := by
  have e : (ix2 1 j : S2x512.Idx) = r0_10.emb (ix2 (0 : Fin 1) j) := by
    refine funext fun i => Fin.ext ?_
    fin_cases i
    · rfl
    · show j.val = 0 + 1 * j.val
      omega
  rw [e]
  exact View.canon_cons_emb _ _ _ _

theorem canon_0 (w v : S1x512.Idx → Elt Ideal .f32) (L : List (View.Piece (Elt Ideal) S2x512 .f32)) (j : Fin 512) :
    View.canon ((⟨r0_10, w⟩ : View.Piece (Elt Ideal) S2x512 .f32) :: ⟨r0_9, v⟩ :: L) (ix2 0 j) = v (ix2 0 j) := by
  have e : (ix2 0 j : S2x512.Idx) = r0_9.emb (ix2 (0 : Fin 1) j) := by
    refine funext fun i => Fin.ext ?_
    fin_cases i
    · rfl
    · show j.val = 0 + 1 * j.val
      omega
  refine (View.canon_cons_of_not_mem _ _ ?_).trans ?_
  · intro hm
    obtain ⟨k, -, hk⟩ := (LoadRect.mem_set _).mp hm (0 : Fin 2)
    have hk' : 0 = 1 + 1 * k := hk
    omega
  · rw [e]
    exact View.canon_cons_emb _ _ _ _

theorem row0 (a0 : FVec Ideal S8x1x11904 .f32) (a1 : FVec Ideal S2x512 .f32) (j : Fin 512) :
    k0_pay1 (F := Ideal) (k0_pay6 a0 a1) (View.ld a1 r0_10) (k0_pay7 a0 a1) (k0_pay8 a0 a1) (ix2 0 j)
      = closed (tot a0 (col j)) (a1 (ix2 0 j)) (a1 (ix2 1 j)) := by
  rw [closed, lb, ← tot_pay, ← ld2 a1 0 inb_S2x512_S1x512_0_0 j, ← ld2 a1 1 inb_S2x512_S1x512_1_0 j]
  pointwise [k0_pay1, k0_pay6, k0_pay7, k0_pay8, k0_pay4, k0_pay5]

theorem g3_0 (a0 : FVec Ideal S8x1x11904 .f32) (a1 : FVec Ideal S2x512 .f32) (j : Fin 512) :
    G3 (F := Ideal) a0 a1 (ix2 0 j) = closed (tot a0 (col j)) (a1 (ix2 0 j)) (a1 (ix2 1 j)) := by
  rw [← row0]
  exact canon_0 _ _ _ j

theorem g3_1 (a0 : FVec Ideal S8x1x11904 .f32) (a1 : FVec Ideal S2x512 .f32) (j : Fin 512) :
    G3 (F := Ideal) a0 a1 (ix2 1 j) = 0 - closed (tot a0 (col j)) (a1 (ix2 0 j)) (a1 (ix2 1 j)) := by
  rw [← row0]
  refine (canon_1 _ _ j).trans ?_
  pointwise [k0_pay2]

/-! ## The precondition -/

theorem finite_of_pre (m : (ℓ : Loc nD τ sig) → Buf (Elt Ideal) ℓ)
    (h : Pre_Kernel24Ideal_finite24 (hPre_finite24 := Cert.Pre_finite24.Gen.facts) m) (c : Dev nD) :
    (∀ x, IsReal (show EReal from (m ((c : Thread nD τ).loc main_arg0) : FVec Ideal S8x1x11904 .f32) x))
      ∧ ∀ x, IsReal (show EReal from (m ((c : Thread nD τ).loc main_arg1) : FVec Ideal S2x512 .f32) x) := by
  have e := congrFun (h c) (fun k => k.elim0)
  dsimp only [Cert.Pre_finite24.fn] at e
  obtain ⟨e0, e1⟩ := (by decide : ∀ x y : BitVec 1, x &&& y = 1#1 → x = 1#1 ∧ y = 1#1) _ _ e
  exact ⟨fun x => Pre.real_of_test _ _ _ _ _ e0 x, fun x => Pre.real_of_test _ _ _ _ _ e1 x⟩

/-! ## The claims -/

/-- The reference's run keeps its arguments, and it declares no semaphore. -/
theorem frame_r : Cert.quiescent_Reference24Ideal (hReference24Ideal := Cert.Reference24Ideal.Gen.facts) := fun m ρ _ =>
  (θ_run Cert.Reference24Ideal.defs _ _).mono
    (fun r h => ⟨fun c => (h c).2.2, Idealize.ShloMosaic.sem_eq_zero_of_no_sems (by decide) r.2⟩)
    (Cert.Reference24Ideal.Value.run (F := Ideal) m ρ)

/-- The claim's values are the kernel's result arrays; entry by entry they are the reference's. -/
theorem algebraic : Cert.algebraic_Kernel24Ideal_Reference24Ideal_pre_finite24 (hKernel24Ideal := Cert.Kernel24Ideal.Gen.facts)
    (hReference24Ideal := Cert.Reference24Ideal.Gen.facts) (hPre_finite24 := Cert.Pre_finite24.Gen.facts) := by
  intro m ρ m' ρ' hpre hag
  refine ⟨fun c => G2 (m ((c : Thread nD τ).loc main_arg0)) (m ((c : Thread nD τ).loc main_arg1)),
    fun c => G3 (m ((c : Thread nD τ).loc main_arg0)) (m ((c : Thread nD τ).loc main_arg1)), run (F := Ideal) m ρ, ?_⟩
  refine (θ_run Cert.Reference24Ideal.defs _ _).mono (fun r h c => ?_) (Cert.Reference24Ideal.Value.run (F := Ideal) m' ρ')
  obtain ⟨a0, a1⟩ := hag c
  obtain ⟨h0, h1, hk⟩ := h c
  obtain ⟨f0, f1⟩ := finite_of_pre m hpre c
  have ft : ∀ j, IsReal (tot (m ((c : Thread nD τ).loc main_arg0)) j) := fun j => IsReal.sum _ fun s => f0 _
  refine ⟨?_, ?_, hk⟩
  · rw [h0, a0]
    funext x
    idx_vars x
    obtain rfl : x0 = 0 := Subsingleton.elim _ _
    refine Eq.trans ?_ (tot_pay _ x1).symm
    pointwise
    rfl
  · rw [h1, a0, a1]
    funext x
    idx_vars x
    have two : x0 = 0 ∨ x0 = 1 := by
      fin_cases x0
      · exact Or.inl rfl
      · exact Or.inr rfl
    obtain rfl | rfl := two
    · refine Eq.trans ?_ ((first (ft (col x1)) (f1 (ix2 0 x1)) (f1 (ix2 1 x1))).trans (g3_0 _ _ x1).symm)
      pointwise
      rw [Fin.sum_univ_one, Fin.sum_univ_two]
      rfl
    · refine Eq.trans ?_ ((second (ft (col x1)) (f1 (ix2 0 x1)) (f1 (ix2 1 x1))).trans (g3_1 _ _ x1).symm)
      pointwise
      rw [Fin.sum_univ_one, Fin.sum_univ_two]
      rfl

end Cert.SmallReduce

end
-- ==== Proof.AdamRow.lean ====
/- One AdamW step of the nine small parameters side by side in one row (`Kernel25`, `Reference25`): the gradient, the
   row's change and the new moments. -/
module

public import proofs.«01_k».proof.Defs
public import proofs.«01_k».proof.Proof.Gen.Kernel25.Frame
public import proofs.«01_k».proof.Proof.Gen.Kernel25Ideal.Value
public import proofs.«01_k».proof.Proof.Gen.Reference25Ideal.Run
public import Idealize.ShloMosaic.Lib.Pointwise
public import Idealize.ShloMosaic.Lib.Claim
public import Idealize.ShloMosaic.Adequacy
public import Idealize.ShloMosaic.Init

@[expose] public section

set_option maxRecDepth 16384

noncomputable section

namespace Cert.AdamRow

open Idealize.ShloMosaic Idealize.ShloMosaic.TcCoe Idealize.SL.Sem Cert.Kernel25Ideal Cert.Kernel25Ideal.Gen Cert.Kernel25Ideal.Value

/-- The reference's run keeps its arguments, and it declares no semaphore. -/
theorem frame_r : Cert.quiescent_Reference25Ideal (hReference25Ideal := Cert.Reference25Ideal.Gen.facts) := fun m ρ _ =>
  (θ_run Cert.Reference25Ideal.defs _ _).mono
    (fun r h => ⟨fun c => (h c).2.2.2.2, Idealize.ShloMosaic.sem_eq_zero_of_no_sems (by decide) r.2⟩)
    (Cert.Reference25Ideal.Value.run (F := Ideal) m ρ)

/-- The claim's values are the kernel's result arrays; entry by entry they are the reference's. -/
theorem algebraic : Cert.algebraic_Kernel25Ideal_Reference25Ideal (hKernel25Ideal := Cert.Kernel25Ideal.Gen.facts)
    (hReference25Ideal := Cert.Reference25Ideal.Gen.facts) := by
  intro m ρ m' ρ' _ hag
  refine ⟨fun c => G4 (m ((c : Thread nD τ).loc main_arg0)) (m ((c : Thread nD τ).loc main_arg1)) (m ((c : Thread nD τ).loc main_arg2)) (m ((c : Thread nD τ).loc main_arg3)),
    fun c => G5 (m ((c : Thread nD τ).loc main_arg0)) (m ((c : Thread nD τ).loc main_arg1)) (m ((c : Thread nD τ).loc main_arg2)) (m ((c : Thread nD τ).loc main_arg3)),
    fun c => G6 (m ((c : Thread nD τ).loc main_arg0)) (m ((c : Thread nD τ).loc main_arg1)) (m ((c : Thread nD τ).loc main_arg2)) (m ((c : Thread nD τ).loc main_arg3)),
    fun c => G7 (m ((c : Thread nD τ).loc main_arg0)) (m ((c : Thread nD τ).loc main_arg1)) (m ((c : Thread nD τ).loc main_arg2)) (m ((c : Thread nD τ).loc main_arg3)),
    run (F := Ideal) m ρ, ?_⟩
  refine (θ_run Cert.Reference25Ideal.defs _ _).mono (fun r h c => ?_) (Cert.Reference25Ideal.Value.run (F := Ideal) m' ρ')
  obtain ⟨a0, a1, a2, a3⟩ := hag c
  obtain ⟨h0, h1, h2, h3, hk⟩ := h c
  refine ⟨?_, ?_, ?_, ?_, hk⟩
  · rw [h0, a0]
    rfl
  · rw [h1, a0, a1, a2, a3]
    rfl
  · rw [h2, a0, a2]
    rfl
  · rw [h3, a0, a3]
    rfl

end Cert.AdamRow

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.MlpBwd
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Pre_finite9
public import Idealize.ShloMosaic.Adequacy
public import Idealize.ShloMosaic.Init
public import proofs.«01_k».proof.Proof.Wgrad2
public import proofs.«01_k».proof.Proof.Wgrad3
public import proofs.«01_k».proof.Proof.Wgrad4
public import proofs.«01_k».proof.Proof.Wgrad5
public import proofs.«01_k».proof.Proof.Wgrad6
public import proofs.«01_k».proof.Proof.Wgrad7
public import proofs.«01_k».proof.Proof.Wgrad8
public import proofs.«01_k».proof.Proof.MlpFwd
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.MixLn1
public import proofs.«01_k».proof.Proof.Wgrad12
public import proofs.«01_k».proof.Proof.Wgrad13
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Pre_finite10
public import proofs.«01_k».proof.Proof.MlaBwd
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Adam14
public import proofs.«01_k».proof.Proof.Adam15
public import proofs.«01_k».proof.Proof.Adam16
public import proofs.«01_k».proof.Proof.Adam17
public import proofs.«01_k».proof.Proof.Adam18
public import proofs.«01_k».proof.Proof.Adam19
public import proofs.«01_k».proof.Proof.Adam20
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.InputBwd
public import proofs.«01_k».proof.Proof.InProj
public import proofs.«01_k».proof.Proof.ModPart
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Pre_finite24
public import proofs.«01_k».proof.Proof.SmallReduce
public import proofs.«01_k».proof.Proof.AdamRow

@[expose] public section

noncomputable section

namespace Cert.Proof

open Idealize.ShloMosaic Idealize.SL.Sem Cert.Kernel

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel10.Gen.facts, Cert.Kernel10Ideal.Gen.facts, Cert.Reference10Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Pre_finite.Gen.facts,
  Cert.Pre_finite9.Gen.facts,
  Cert.Pre_finite10.Gen.facts,
  Cert.Pre_finite24.Gen.facts,
  fun m ρ _ => Cert.Kernel.Gen.frame m ρ, fun m ρ _ => Cert.KernelIdeal.Gen.frame m ρ, fun m ρ _ => Cert.KernelIdeal.Gen.frame m ρ, MlpBwd.frame_r, fun m ρ _ => MlpBwd.frame_r m ρ trivial,
  fun m ρ _ => Cert.Kernel2.Gen.frame m ρ, fun m ρ _ => Cert.Kernel2Ideal.Gen.frame m ρ, Wgrad2.frame_r,
  fun m ρ _ => Cert.Kernel3.Gen.frame m ρ, fun m ρ _ => Cert.Kernel3Ideal.Gen.frame m ρ, Wgrad3.frame_r,
  fun m ρ _ => Cert.Kernel4.Gen.frame m ρ, fun m ρ _ => Cert.Kernel4Ideal.Gen.frame m ρ, Wgrad4.frame_r,
  fun m ρ _ => Cert.Kernel5.Gen.frame m ρ, fun m ρ _ => Cert.Kernel5Ideal.Gen.frame m ρ, Wgrad5.frame_r,
  fun m ρ _ => Cert.Kernel6.Gen.frame m ρ, fun m ρ _ => Cert.Kernel6Ideal.Gen.frame m ρ, Wgrad6.frame_r,
  fun m ρ _ => Cert.Kernel7.Gen.frame m ρ, fun m ρ _ => Cert.Kernel7Ideal.Gen.frame m ρ, Wgrad7.frame_r,
  fun m ρ _ => Cert.Kernel8.Gen.frame m ρ, fun m ρ _ => Cert.Kernel8Ideal.Gen.frame m ρ, Wgrad8.frame_r,
  fun m ρ _ => Cert.Kernel9.Gen.frame m ρ, fun m ρ _ => Cert.Kernel9Ideal.Gen.frame m ρ, fun m ρ _ => Cert.Kernel9Ideal.Gen.frame m ρ, MlpFwd.frame_r, fun m ρ _ => MlpFwd.frame_r m ρ trivial,
  fun m ρ _ => Cert.Kernel11.Gen.frame m ρ, fun m ρ _ => Cert.Kernel11Ideal.Gen.frame m ρ, MixLn1.frame_r,
  fun m ρ _ => Cert.Kernel12.Gen.frame m ρ, fun m ρ _ => Cert.Kernel12Ideal.Gen.frame m ρ, Wgrad12.frame_r,
  fun m ρ _ => Cert.Kernel13.Gen.frame m ρ, fun m ρ _ => Cert.Kernel13Ideal.Gen.frame m ρ, Wgrad13.frame_r,
  fun m ρ _ => Cert.Kernel10.Gen.frame m ρ, fun m ρ _ => Cert.Kernel10Ideal.Gen.frame m ρ, fun m ρ _ => Cert.Kernel10Ideal.Gen.frame m ρ, MlaBwd.frame_r, fun m ρ _ => MlaBwd.frame_r m ρ trivial,
  fun m ρ _ => Cert.Kernel14.Gen.frame m ρ, fun m ρ _ => Cert.Kernel14Ideal.Gen.frame m ρ, Adam14.frame_r,
  fun m ρ _ => Cert.Kernel15.Gen.frame m ρ, fun m ρ _ => Cert.Kernel15Ideal.Gen.frame m ρ, Adam15.frame_r,
  fun m ρ _ => Cert.Kernel16.Gen.frame m ρ, fun m ρ _ => Cert.Kernel16Ideal.Gen.frame m ρ, Adam16.frame_r,
  fun m ρ _ => Cert.Kernel17.Gen.frame m ρ, fun m ρ _ => Cert.Kernel17Ideal.Gen.frame m ρ, Adam17.frame_r,
  fun m ρ _ => Cert.Kernel18.Gen.frame m ρ, fun m ρ _ => Cert.Kernel18Ideal.Gen.frame m ρ, Adam18.frame_r,
  fun m ρ _ => Cert.Kernel19.Gen.frame m ρ, fun m ρ _ => Cert.Kernel19Ideal.Gen.frame m ρ, Adam19.frame_r,
  fun m ρ _ => Cert.Kernel20.Gen.frame m ρ, fun m ρ _ => Cert.Kernel20Ideal.Gen.frame m ρ, Adam20.frame_r,
  fun m ρ _ => Cert.Kernel21.Gen.frame m ρ, fun m ρ _ => Cert.Kernel21Ideal.Gen.frame m ρ, InputBwd.frame_r,
  fun m ρ _ => Cert.Kernel22.Gen.frame m ρ, fun m ρ _ => Cert.Kernel22Ideal.Gen.frame m ρ, InProj.frame_r,
  fun m ρ _ => Cert.Kernel23.Gen.frame m ρ, fun m ρ _ => Cert.Kernel23Ideal.Gen.frame m ρ, ModPart.frame_r,
  fun m ρ _ => Cert.Kernel24.Gen.frame m ρ, fun m ρ _ => Cert.Kernel24Ideal.Gen.frame m ρ, fun m ρ _ => Cert.Kernel24Ideal.Gen.frame m ρ, SmallReduce.frame_r, fun m ρ _ => SmallReduce.frame_r m ρ trivial,
  fun m ρ _ => Cert.Kernel25.Gen.frame m ρ, fun m ρ _ => Cert.Kernel25Ideal.Gen.frame m ρ, AdamRow.frame_r,
  trivial, MlpBwd.algebraic,
  trivial, Wgrad2.algebraic,
  trivial, Wgrad3.algebraic,
  trivial, Wgrad4.algebraic,
  trivial, Wgrad5.algebraic,
  trivial, Wgrad6.algebraic,
  trivial, Wgrad7.algebraic,
  trivial, Wgrad8.algebraic,
  trivial, MlpFwd.algebraic,
  trivial, MixLn1.algebraic,
  trivial, Wgrad12.algebraic,
  trivial, Wgrad13.algebraic,
  trivial, MlaBwd.algebraic,
  trivial, Adam14.algebraic,
  trivial, Adam15.algebraic,
  trivial, Adam16.algebraic,
  trivial, Adam17.algebraic,
  trivial, Adam18.algebraic,
  trivial, Adam19.algebraic,
  trivial, Adam20.algebraic,
  trivial, InputBwd.algebraic,
  trivial, InProj.algebraic,
  trivial, ModPart.algebraic,
  trivial, SmallReduce.algebraic,
  trivial, AdamRow.algebraic⟩

end Cert.Proof

end
